-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_cotangent [hPre_finite_cotangent : Cert.Pre_finite_cotangent.Facts] (m : (ℓ : Loc Cert.KernelIdeal.nD Cert.KernelIdeal.τ Cert.KernelIdeal.sig) → Buf (Elt Ideal) ℓ) : Prop :=
  ∀ c : Dev Cert.KernelIdeal.nD,
    (Cert.Pre_finite_cotangent.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_cotangent.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_cotangent.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_cotangent [hPre_finite_cotangent : Cert.Pre_finite_cotangent.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_cotangent.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_cotangent.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_cotangent.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_finite_gradient [hPre_finite_gradient : Cert.Pre_finite_gradient.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_finite_gradient.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3))).1 = (fun _ => 1#1)
    ∧ (Cert.Pre_finite_gradient.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3))).2.1 = (fun _ => 1#1)
    ∧ (Cert.Pre_finite_gradient.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3))).2.2 = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_finite_gradient [hPre_finite_gradient : Cert.Pre_finite_gradient.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_finite_gradient.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3))).1 = (fun _ => 1#1)
    ∧ (Cert.Pre_finite_gradient.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3))).2.1 = (fun _ => 1#1)
    ∧ (Cert.Pre_finite_gradient.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3))).2.2 = (fun _ => 1#1)

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Kernel16Ideal_finite_target [hPre_finite_target : Cert.Pre_finite_target.Facts] (m : (ℓ : Loc Cert.Kernel16Ideal.nD Cert.Kernel16Ideal.τ Cert.Kernel16Ideal.sig) → Buf (Elt Ideal) ℓ) : Prop :=
  ∀ c : Dev Cert.Kernel16Ideal.nD,
    (Cert.Pre_finite_target.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4)) (m ((c.tc : Thread Cert.Kernel16Ideal.nD Cert.Kernel16Ideal.τ).loc Cert.Kernel16Ideal.main_arg5)) (m ((c.tc : Thread Cert.Kernel16Ideal.nD Cert.Kernel16Ideal.τ).loc Cert.Kernel16Ideal.main_arg6)) (m ((c.tc : Thread Cert.Kernel16Ideal.nD Cert.Kernel16Ideal.τ).loc Cert.Kernel16Ideal.main_arg7))).1 = (fun _ => 1#1)
    ∧ (Cert.Pre_finite_target.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4)) (m ((c.tc : Thread Cert.Kernel16Ideal.nD Cert.Kernel16Ideal.τ).loc Cert.Kernel16Ideal.main_arg5)) (m ((c.tc : Thread Cert.Kernel16Ideal.nD Cert.Kernel16Ideal.τ).loc Cert.Kernel16Ideal.main_arg6)) (m ((c.tc : Thread Cert.Kernel16Ideal.nD Cert.Kernel16Ideal.τ).loc Cert.Kernel16Ideal.main_arg7))).2.1 = (fun _ => 1#1)
    ∧ (Cert.Pre_finite_target.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4)) (m ((c.tc : Thread Cert.Kernel16Ideal.nD Cert.Kernel16Ideal.τ).loc Cert.Kernel16Ideal.main_arg5)) (m ((c.tc : Thread Cert.Kernel16Ideal.nD Cert.Kernel16Ideal.τ).loc Cert.Kernel16Ideal.main_arg6)) (m ((c.tc : Thread Cert.Kernel16Ideal.nD Cert.Kernel16Ideal.τ).loc Cert.Kernel16Ideal.main_arg7))).2.2 = (fun _ => 1#1)

def Pre_Reference16Ideal (m : (ℓ : Loc Cert.Reference16Ideal.nD Cert.Reference16Ideal.τ Cert.Reference16Ideal.sig) → Buf (Elt Ideal) ℓ) : Prop :=
  True

def Pre_Reference16Ideal_finite_target [hPre_finite_target : Cert.Pre_finite_target.Facts] (m : (ℓ : Loc Cert.Reference16Ideal.nD Cert.Reference16Ideal.τ Cert.Reference16Ideal.sig) → Buf (Elt Ideal) ℓ) : Prop :=
  ∀ c : Dev Cert.Reference16Ideal.nD,
    (Cert.Pre_finite_target.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3)) (m ((c.tc : Thread Cert.Reference16Ideal.nD Cert.Reference16Ideal.τ).loc Cert.Reference16Ideal.main_arg4)) (m ((c.tc : Thread Cert.Reference16Ideal.nD Cert.Reference16Ideal.τ).loc Cert.Reference16Ideal.main_arg5)) (m ((c.tc : Thread Cert.Reference16Ideal.nD Cert.Reference16Ideal.τ).loc Cert.Reference16Ideal.main_arg6)) (m ((c.tc : Thread Cert.Reference16Ideal.nD Cert.Reference16Ideal.τ).loc Cert.Reference16Ideal.main_arg7))).1 = (fun _ => 1#1)
    ∧ (Cert.Pre_finite_target.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3)) (m ((c.tc : Thread Cert.Reference16Ideal.nD Cert.Reference16Ideal.τ).loc Cert.Reference16Ideal.main_arg4)) (m ((c.tc : Thread Cert.Reference16Ideal.nD Cert.Reference16Ideal.τ).loc Cert.Reference16Ideal.main_arg5)) (m ((c.tc : Thread Cert.Reference16Ideal.nD Cert.Reference16Ideal.τ).loc Cert.Reference16Ideal.main_arg6)) (m ((c.tc : Thread Cert.Reference16Ideal.nD Cert.Reference16Ideal.τ).loc Cert.Reference16Ideal.main_arg7))).2.1 = (fun _ => 1#1)
    ∧ (Cert.Pre_finite_target.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3)) (m ((c.tc : Thread Cert.Reference16Ideal.nD Cert.Reference16Ideal.τ).loc Cert.Reference16Ideal.main_arg4)) (m ((c.tc : Thread Cert.Reference16Ideal.nD Cert.Reference16Ideal.τ).loc Cert.Reference16Ideal.main_arg5)) (m ((c.tc : Thread Cert.Reference16Ideal.nD Cert.Reference16Ideal.τ).loc Cert.Reference16Ideal.main_arg6)) (m ((c.tc : Thread Cert.Reference16Ideal.nD Cert.Reference16Ideal.τ).loc Cert.Reference16Ideal.main_arg7))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_cotangent [hKernelIdeal : Cert.KernelIdeal.Facts] [hPre_finite_cotangent : Cert.Pre_finite_cotangent.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_cotangent m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_cotangent [hReferenceIdeal : Cert.ReferenceIdeal.Facts] [hPre_finite_cotangent : Cert.Pre_finite_cotangent.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_cotangent m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Kernel15Ideal_pre_finite_gradient [hKernel15Ideal : Cert.Kernel15Ideal.Facts] [hPre_finite_gradient : Cert.Pre_finite_gradient.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_finite_gradient m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Reference15Ideal_pre_finite_gradient [hReference15Ideal : Cert.Reference15Ideal.Facts] [hPre_finite_gradient : Cert.Pre_finite_gradient.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_finite_gradient m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6)
      ∧ r.2.mem ((c.tc : Thread Cert.Kernel16.nD Cert.Kernel16.τ).loc Cert.Kernel16.main_arg7) = m ((c.tc : Thread Cert.Kernel16.nD Cert.Kernel16.τ).loc Cert.Kernel16.main_arg7))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
      ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7))
      ∧ r.2.sem = fun _ => 0)

def quiescent_Kernel16Ideal_pre_finite_target [hKernel16Ideal : Cert.Kernel16Ideal.Facts] [hPre_finite_target : Cert.Pre_finite_target.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal_finite_target m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
      ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6)
      ∧ r.2.mem ((c.tc : Thread Cert.Reference16Ideal.nD Cert.Reference16Ideal.τ).loc Cert.Reference16Ideal.main_arg7) = m ((c.tc : Thread Cert.Reference16Ideal.nD Cert.Reference16Ideal.τ).loc Cert.Reference16Ideal.main_arg7))
      ∧ r.2.sem = fun _ => 0)

def quiescent_Reference16Ideal_pre_finite_target [hReference16Ideal : Cert.Reference16Ideal.Facts] [hPre_finite_target : Cert.Pre_finite_target.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal_finite_target m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6)
      ∧ r.2.mem ((c.tc : Thread Cert.Reference16Ideal.nD Cert.Reference16Ideal.τ).loc Cert.Reference16Ideal.main_arg7) = m ((c.tc : Thread Cert.Reference16Ideal.nD Cert.Reference16Ideal.τ).loc Cert.Reference16Ideal.main_arg7))
      ∧ r.2.sem = fun _ => 0)

def preserves_Kernel_KernelIdeal : Prop :=
  True

def algebraic_KernelIdeal_ReferenceIdeal_pre_finite_cotangent [hKernelIdeal : Cert.KernelIdeal.Facts] [hReferenceIdeal : Cert.ReferenceIdeal.Facts] [hPre_finite_cotangent : Cert.Pre_finite_cotangent.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_cotangent m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v129_0)) (v1 : (c : Dev Cert.KernelIdeal.nD) → Buf (Elt Ideal) ((c.tc : Thread Cert.KernelIdeal.nD Cert.KernelIdeal.τ).loc Cert.KernelIdeal.main_v129_1)) (v2 : (c : Dev Cert.KernelIdeal.nD) → Buf (Elt Ideal) ((c.tc : Thread Cert.KernelIdeal.nD Cert.KernelIdeal.τ).loc Cert.KernelIdeal.main_v129_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v129_0) = v0 c
          ∧ r.2.mem ((c.tc : Thread Cert.KernelIdeal.nD Cert.KernelIdeal.τ).loc Cert.KernelIdeal.main_v129_1) = v1 c
          ∧ r.2.mem ((c.tc : Thread Cert.KernelIdeal.nD Cert.KernelIdeal.τ).loc Cert.KernelIdeal.main_v129_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v211) = v0 c
          ∧ r.2.mem ((c.tc : Thread Cert.ReferenceIdeal.nD Cert.ReferenceIdeal.τ).loc Cert.ReferenceIdeal.main_v212) = v1 c
          ∧ r.2.mem ((c.tc : Thread Cert.ReferenceIdeal.nD Cert.ReferenceIdeal.τ).loc Cert.ReferenceIdeal.main_v213) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v9_0)) (v1 : (c : Dev Cert.Kernel2Ideal.nD) → Buf (Elt Ideal) ((c.tc : Thread Cert.Kernel2Ideal.nD Cert.Kernel2Ideal.τ).loc Cert.Kernel2Ideal.main_v9_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9_0) = v0 c
          ∧ r.2.mem ((c.tc : Thread Cert.Kernel2Ideal.nD Cert.Kernel2Ideal.τ).loc Cert.Kernel2Ideal.main_v9_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v24) = v0 c
          ∧ r.2.mem ((c.tc : Thread Cert.Reference2Ideal.nD Cert.Reference2Ideal.τ).loc Cert.Reference2Ideal.main_v25) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v18) = v0 c
          ∧ r.2.mem ((c.tc : Thread Cert.Reference4Ideal.nD Cert.Reference4Ideal.τ).loc Cert.Reference4Ideal.main_v19) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v12) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v11) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v25) = v0 c
          ∧ r.2.mem ((c.tc : Thread Cert.Reference10Ideal.nD Cert.Reference10Ideal.τ).loc Cert.Reference10Ideal.main_v26) = v1 c
          ∧ r.2.mem ((c.tc : Thread Cert.Reference10Ideal.nD Cert.Reference10Ideal.τ).loc Cert.Reference10Ideal.main_v27) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v37) = v0 c
          ∧ r.2.mem ((c.tc : Thread Cert.Reference11Ideal.nD Cert.Reference11Ideal.τ).loc Cert.Reference11Ideal.main_v38) = v1 c
          ∧ r.2.mem ((c.tc : Thread Cert.Reference11Ideal.nD Cert.Reference11Ideal.τ).loc Cert.Reference11Ideal.main_v39) = v2 c
          ∧ r.2.mem ((c.tc : Thread Cert.Reference11Ideal.nD Cert.Reference11Ideal.τ).loc Cert.Reference11Ideal.main_v40) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v30) = v1 c
          ∧ r.2.mem ((c.tc : Thread Cert.Reference14Ideal.nD Cert.Reference14Ideal.τ).loc Cert.Reference14Ideal.main_v21) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5))

def preserves_Kernel15_Kernel15Ideal : Prop :=
  True

def algebraic_Kernel15Ideal_Reference15Ideal_pre_finite_gradient [hKernel15Ideal : Cert.Kernel15Ideal.Facts] [hReference15Ideal : Cert.Reference15Ideal.Facts] [hPre_finite_gradient : Cert.Pre_finite_gradient.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_finite_gradient m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v16_0)) (v1 : (c : Dev Cert.Kernel15Ideal.nD) → Buf (Elt Ideal) ((c.tc : Thread Cert.Kernel15Ideal.nD Cert.Kernel15Ideal.τ).loc Cert.Kernel15Ideal.main_v16_1)) (v2 : (c : Dev Cert.Kernel15Ideal.nD) → Buf (Elt Ideal) ((c.tc : Thread Cert.Kernel15Ideal.nD Cert.Kernel15Ideal.τ).loc Cert.Kernel15Ideal.main_v16_2)) (v3 : (c : Dev Cert.Kernel15Ideal.nD) → Buf (Elt Ideal) ((c.tc : Thread Cert.Kernel15Ideal.nD Cert.Kernel15Ideal.τ).loc Cert.Kernel15Ideal.main_v16_3)) (v4 : (c : Dev Cert.Kernel15Ideal.nD) → Buf (Elt Ideal) ((c.tc : Thread Cert.Kernel15Ideal.nD Cert.Kernel15Ideal.τ).loc Cert.Kernel15Ideal.main_v16_4)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v16_0) = v0 c
          ∧ r.2.mem ((c.tc : Thread Cert.Kernel15Ideal.nD Cert.Kernel15Ideal.τ).loc Cert.Kernel15Ideal.main_v16_1) = v1 c
          ∧ r.2.mem ((c.tc : Thread Cert.Kernel15Ideal.nD Cert.Kernel15Ideal.τ).loc Cert.Kernel15Ideal.main_v16_2) = v2 c
          ∧ r.2.mem ((c.tc : Thread Cert.Kernel15Ideal.nD Cert.Kernel15Ideal.τ).loc Cert.Kernel15Ideal.main_v16_3) = v3 c
          ∧ r.2.mem ((c.tc : Thread Cert.Kernel15Ideal.nD Cert.Kernel15Ideal.τ).loc Cert.Kernel15Ideal.main_v16_4) = v4 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v60) = v0 c
          ∧ r.2.mem ((c.tc : Thread Cert.Reference15Ideal.nD Cert.Reference15Ideal.τ).loc Cert.Reference15Ideal.main_v63) = v1 c
          ∧ r.2.mem ((c.tc : Thread Cert.Reference15Ideal.nD Cert.Reference15Ideal.τ).loc Cert.Reference15Ideal.main_v36) = v2 c
          ∧ r.2.mem ((c.tc : Thread Cert.Reference15Ideal.nD Cert.Reference15Ideal.τ).loc Cert.Reference15Ideal.main_v33) = v3 c
          ∧ r.2.mem ((c.tc : Thread Cert.Reference15Ideal.nD Cert.Reference15Ideal.τ).loc Cert.Reference15Ideal.main_v62) = v4 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal_pre_finite_target [hKernel16Ideal : Cert.Kernel16Ideal.Facts] [hReference16Ideal : Cert.Reference16Ideal.Facts] [hPre_finite_target : Cert.Pre_finite_target.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal_finite_target m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)
      ∧ m' ((c.tc : Thread Cert.Reference16Ideal.nD Cert.Reference16Ideal.τ).loc Cert.Reference16Ideal.main_arg7) = m ((c.tc : Thread Cert.Kernel16Ideal.nD Cert.Kernel16Ideal.τ).loc Cert.Kernel16Ideal.main_arg7)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)) (v4 : (c : Dev Cert.Kernel16Ideal.nD) → Buf (Elt Ideal) ((c.tc : Thread Cert.Kernel16Ideal.nD Cert.Kernel16Ideal.τ).loc Cert.Kernel16Ideal.main_v0_4)) (v5 : (c : Dev Cert.Kernel16Ideal.nD) → Buf (Elt Ideal) ((c.tc : Thread Cert.Kernel16Ideal.nD Cert.Kernel16Ideal.τ).loc Cert.Kernel16Ideal.main_v0_5)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_v0_4) = v4 c
          ∧ r.2.mem ((c.tc : Thread Cert.Kernel16Ideal.nD Cert.Kernel16Ideal.τ).loc Cert.Kernel16Ideal.main_v0_5) = v5 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
          ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v87) = v0 c
          ∧ r.2.mem ((c.tc : Thread Cert.Reference16Ideal.nD Cert.Reference16Ideal.τ).loc Cert.Reference16Ideal.main_v91) = v1 c
          ∧ r.2.mem ((c.tc : Thread Cert.Reference16Ideal.nD Cert.Reference16Ideal.τ).loc Cert.Reference16Ideal.main_v92) = v2 c
          ∧ r.2.mem ((c.tc : Thread Cert.Reference16Ideal.nD Cert.Reference16Ideal.τ).loc Cert.Reference16Ideal.main_v93) = v3 c
          ∧ r.2.mem ((c.tc : Thread Cert.Reference16Ideal.nD Cert.Reference16Ideal.τ).loc Cert.Reference16Ideal.main_v94) = v4 c
          ∧ r.2.mem ((c.tc : Thread Cert.Reference16Ideal.nD Cert.Reference16Ideal.τ).loc Cert.Reference16Ideal.main_v95) = v5 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6)
          ∧ r.2.mem ((c.tc : Thread Cert.Reference16Ideal.nD Cert.Reference16Ideal.τ).loc Cert.Reference16Ideal.main_arg7) = m' ((c.tc : Thread Cert.Reference16Ideal.nD Cert.Reference16Ideal.τ).loc Cert.Reference16Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite_cotangent : Cert.Pre_finite_cotangent.Facts) (hPre_finite_gradient : Cert.Pre_finite_gradient.Facts) (hPre_finite_target : Cert.Pre_finite_target.Facts),
    quiescent_Kernel (hKernel := hKernel)
    ∧ quiescent_KernelIdeal (hKernelIdeal := hKernelIdeal)
    ∧ quiescent_KernelIdeal_pre_finite_cotangent (hKernelIdeal := hKernelIdeal) (hPre_finite_cotangent := hPre_finite_cotangent)
    ∧ quiescent_ReferenceIdeal (hReferenceIdeal := hReferenceIdeal)
    ∧ quiescent_ReferenceIdeal_pre_finite_cotangent (hReferenceIdeal := hReferenceIdeal) (hPre_finite_cotangent := hPre_finite_cotangent)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Kernel15Ideal_pre_finite_gradient (hKernel15Ideal := hKernel15Ideal) (hPre_finite_gradient := hPre_finite_gradient)
    ∧ quiescent_Reference15Ideal (hReference15Ideal := hReference15Ideal)
    ∧ quiescent_Reference15Ideal_pre_finite_gradient (hReference15Ideal := hReference15Ideal) (hPre_finite_gradient := hPre_finite_gradient)
    ∧ quiescent_Kernel16 (hKernel16 := hKernel16)
    ∧ quiescent_Kernel16Ideal (hKernel16Ideal := hKernel16Ideal)
    ∧ quiescent_Kernel16Ideal_pre_finite_target (hKernel16Ideal := hKernel16Ideal) (hPre_finite_target := hPre_finite_target)
    ∧ quiescent_Reference16Ideal (hReference16Ideal := hReference16Ideal)
    ∧ quiescent_Reference16Ideal_pre_finite_target (hReference16Ideal := hReference16Ideal) (hPre_finite_target := hPre_finite_target)
    ∧ preserves_Kernel_KernelIdeal
    ∧ algebraic_KernelIdeal_ReferenceIdeal_pre_finite_cotangent (hKernelIdeal := hKernelIdeal) (hReferenceIdeal := hReferenceIdeal) (hPre_finite_cotangent := hPre_finite_cotangent)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal_pre_finite_gradient (hKernel15Ideal := hKernel15Ideal) (hReference15Ideal := hReference15Ideal) (hPre_finite_gradient := hPre_finite_gradient)
    ∧ preserves_Kernel16_Kernel16Ideal
    ∧ algebraic_Kernel16Ideal_Reference16Ideal_pre_finite_target (hKernel16Ideal := hKernel16Ideal) (hReference16Ideal := hReference16Ideal) (hPre_finite_target := hPre_finite_target)
-- ==== Pre_finite_cotangent.lean ====
abbrev S1x4096x2048 : Shape := ⟨3, ![1, 4096, 2048]⟩
abbrev S4x512x512 : Shape := ⟨3, ![4, 512, 512]⟩
abbrev S1x2048 : Shape := ⟨2, ![1, 2048]⟩
abbrev S_ : Shape := ⟨0, ![]⟩

class Facts : Prop where
  bitsLt_bf16_f32 : FTy.bits .bf16 < FTy.bits .f32
  bcast_S_S4x512x512 : S_.BroadcastsInDim S4x512x512 (![] : Fin 0 → Fin S4x512x512.rank)
  bcast_S_S1x2048 : S_.BroadcastsInDim S1x2048 (![] : Fin 0 → Fin S1x2048.rank)
  bcast_S_S1x4096x2048 : S_.BroadcastsInDim S1x4096x2048 (![] : Fin 0 → Fin S1x4096x2048.rank)

variable [Facts]

def fn {F : FTy → Type} [FloatOps F] (main_arg0 : FVec F S1x4096x2048 .bf16) (main_arg1 : FVec F S4x512x512 .bf16) (main_arg2 : FVec F S1x2048 .f32) (main_arg3 : FVec F S1x4096x2048 .bf16) : IVec S4x512x512 1 × IVec S1x2048 1 × IVec S1x4096x2048 1 :=
  let main_v0 : FVec F S4x512x512 .f32 := (extf .f32 · bitsLt_bf16_f32) main_arg1
  let main_v1 : FVec F S4x512x512 .f32 := Host.absf main_v0
  let main_cst : FVec F S_ .f32 := constant S_ .f32 0x7F800000#32
  let main_v2 : FVec F S4x512x512 .f32 := broadcastInDim S4x512x512 ![] bcast_S_S4x512x512 main_cst
  let main_v3 : IVec S4x512x512 1 := cmpf .olt main_v1 main_v2
  let main_v4 : FVec F S1x2048 .f32 := Host.absf main_arg2
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_v7 : FVec F S1x4096x2048 .f32 := (extf .f32 · bitsLt_bf16_f32) main_arg3
  let main_v8 : FVec F S1x4096x2048 .f32 := Host.absf main_v7
  let main_cst_1 : FVec F S_ .f32 := constant S_ .f32 0x7F800000#32
  let main_v9 : FVec F S1x4096x2048 .f32 := broadcastInDim S1x4096x2048 ![] bcast_S_S1x4096x2048 main_cst_1
  let main_v10 : IVec S1x4096x2048 1 := cmpf .olt main_v8 main_v9
  (main_v3, main_v6, main_v10)
-- ==== Pre_finite_gradient.lean ====
abbrev S4096x2048 : Shape := ⟨2, ![4096, 2048]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  bcast_S_S1x2048 : S_.BroadcastsInDim S1x2048 (![] : Fin 0 → Fin S1x2048.rank)

variable [Facts]

def fn {F : FTy → Type} [FloatOps F] (main_arg0 : FVec F S4096x2048 .f32) (main_arg1 : FVec F S4096x2048 .f32) (main_arg2 : FVec F S4096x2048 .f32) (main_arg3 : FVec F S1x2048 .f32) : IVec S4096x2048 1 × IVec S4096x2048 1 × IVec S1x2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S4096x2048 .f32 := Host.absf main_arg1
  let main_cst_0 : FVec F S_ .f32 := constant S_ .f32 0x7F800000#32
  let main_v4 : FVec F S4096x2048 .f32 := broadcastInDim S4096x2048 ![] bcast_S_S4096x2048 main_cst_0
  let main_v5 : IVec S4096x2048 1 := cmpf .olt main_v3 main_v4
  let main_v6 : FVec F S1x2048 .f32 := Host.absf main_arg3
  let main_cst_1 : FVec F S_ .f32 := constant S_ .f32 0x7F800000#32
  let main_v7 : FVec F S1x2048 .f32 := broadcastInDim S1x2048 ![] bcast_S_S1x2048 main_cst_1
  let main_v8 : IVec S1x2048 1 := cmpf .olt main_v6 main_v7
  (main_v2, main_v5, main_v8)
-- ==== Pre_finite_target.lean ====
abbrev S4096x2048 : Shape := ⟨2, ![4096, 2048]⟩
abbrev S1x2048 : Shape := ⟨2, ![1, 2048]⟩
abbrev S_ : Shape := ⟨0, ![]⟩

class Facts : Prop where
  bcast_S_S1x2048 : S_.BroadcastsInDim S1x2048 (![] : Fin 0 → Fin S1x2048.rank)
  bcast_S_S4096x2048 : S_.BroadcastsInDim S4096x2048 (![] : Fin 0 → Fin S4096x2048.rank)

variable [Facts]

def fn {F : FTy → Type} [FloatOps F] (main_arg0 : FVec F S4096x2048 .f32) (main_arg1 : FVec F S4096x2048 .f32) (main_arg2 : FVec F S1x2048 .f32) (main_arg3 : FVec F S1x2048 .f32) (main_arg4 : FVec F S1x2048 .f32) (main_arg5 : FVec F S1x2048 .f32) (main_arg6 : FVec F S1x2048 .f32) (main_arg7 : FVec F S4096x2048 .f32) : IVec S1x2048 1 × IVec S1x2048 1 × IVec S4096x2048 1 :=
  let main_v0 : FVec F S1x2048 .f32 := Host.absf main_arg5
  let main_cst : FVec F S_ .f32 := constant S_ .f32 0x7F800000#32
  let main_v1 : FVec F S1x2048 .f32 := broadcastInDim S1x2048 ![] bcast_S_S1x2048 main_cst
  let main_v2 : IVec S1x2048 1 := cmpf .olt main_v0 main_v1
  let main_v3 : FVec F S1x2048 .f32 := Host.absf main_arg6
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S4096x2048 .f32 := Host.absf main_arg7
  let main_cst_1 : FVec F S_ .f32 := constant S_ .f32 0x7F800000#32
  let main_v7 : FVec F S4096x2048 .f32 := broadcastInDim S4096x2048 ![] bcast_S_S4096x2048 main_cst_1
  let main_v8 : IVec S4096x2048 1 := cmpf .olt main_v6 main_v7
  (main_v2, main_v5, main_v8)
-- ==== Kernel.lean ====
abbrev S1x4096x2048 : Shape := ⟨3, ![1, 4096, 2048]⟩
abbrev S4x512x512 : Shape := ⟨3, ![4, 512, 512]⟩
abbrev S1x2048 : Shape := ⟨2, ![1, 2048]⟩
abbrev S_ : Shape := ⟨0, ![]⟩
abbrev S1x1x2048 : Shape := ⟨3, ![1, 1, 2048]⟩
abbrev S1x4097x2048 : Shape := ⟨3, ![1, 4097, 2048]⟩
abbrev S4096 : Shape := ⟨1, ![4096]⟩
abbrev S1x4097x512 : Shape := ⟨3, ![1, 4097, 512]⟩
abbrev S4096x1 : Shape := ⟨2, ![4096, 1]⟩
abbrev S1x4096x512 : Shape := ⟨3, ![1, 4096, 512]⟩
abbrev S1x4096x1 : Shape := ⟨3, ![1, 4096, 1]⟩
abbrev S1x4096x1x512 : Shape := ⟨4, ![1, 4096, 1, 512]⟩
abbrev S1x4096x4x512 : Shape := ⟨4, ![1, 4096, 4, 512]⟩
abbrev S4096x2048 : Shape := ⟨2, ![4096, 2048]⟩
abbrev S4096x512 : Shape := ⟨2, ![4096, 512]⟩
abbrev S1x512x512 : Shape := ⟨3, ![1, 512, 512]⟩
abbrev S1x512 : Shape := ⟨2, ![1, 512]⟩
abbrev S4112x512 : Shape := ⟨2, ![4112, 512]⟩
abbrev S512x512 : Shape := ⟨2, ![512, 512]⟩
abbrev S8x512 : Shape := ⟨2, ![8, 512]⟩
abbrev S512x1 : Shape := ⟨2, ![512, 1]⟩
abbrev S512 : Shape := ⟨1, ![512]⟩
abbrev S528x512 : Shape := ⟨2, ![528, 512]⟩

abbrev nBuf : Space → Nat
  | .hbm => 219
  | .vmem => 16
  | .smem => 0
  | _ => 0

abbrev hbmTy0_0 (i : Nat) : BufTy := match i % 128 with
  | 0 => ⟨S1x4096x2048, .bf16⟩
  | 1 => ⟨S4x512x512, .bf16⟩
  | 2 => ⟨S1x2048, .f32⟩
  | 3 => ⟨S1x4096x2048, .bf16⟩
  | 4 => ⟨S1x4096x2048, .f32⟩
  | 5 => ⟨S_, .f32⟩
  | 6 => ⟨S1x1x2048, .f32⟩
  | 7 => ⟨S_, .f32⟩
  | 8 => ⟨S_, .f32⟩
  | 9 => ⟨S1x4096x2048, .f32⟩
  | 10 => ⟨S1x4097x2048, .f32⟩
  | 11 => ⟨S4096, .i32⟩
  | 12 => ⟨S_, .i32⟩
  | 13 => ⟨S4096, .i32⟩
  | 14 => ⟨S4096, .i32⟩
  | 15 => ⟨S_, .i32⟩
  | 16 => ⟨S_, .i32⟩
  | 17 => ⟨S_, .i32⟩
  | 18 => ⟨S4096, .i32⟩
  | 19 => ⟨S4096, .i32⟩
  | 20 => ⟨S_, .i32⟩
  | 21 => ⟨S4096, .i32⟩
  | 22 => ⟨S4096, .i32⟩
  | 23 => ⟨S_, .i32⟩
  | 24 => ⟨S4096, .i32⟩
  | 25 => ⟨S4096, .i32⟩
  | 26 => ⟨S_, .i32⟩
  | 27 => ⟨S_, .i32⟩
  | 28 => ⟨S_, .i32⟩
  | 29 => ⟨S4096, .i32⟩
  | 30 => ⟨S4096, .i32⟩
  | 31 => ⟨S_, .i32⟩
  | 32 => ⟨S4096, .i32⟩
  | 33 => ⟨S4096, .i32⟩
  | 34 => ⟨S1x4097x512, .f32⟩
  | 35 => ⟨S_, .i32⟩
  | 36 => ⟨S4096, .i32⟩
  | 37 => ⟨S4096, .i1⟩
  | 38 => ⟨S_, .i32⟩
  | 39 => ⟨S4096, .i32⟩
  | 40 => ⟨S4096, .i32⟩
  | 41 => ⟨S4096, .i32⟩
  | 42 => ⟨S4096x1, .i32⟩
  | 43 => ⟨S1x4096x512, .f32⟩
  | 44 => ⟨S_, .i32⟩
  | 45 => ⟨S4096, .i32⟩
  | 46 => ⟨S4096, .i1⟩
  | 47 => ⟨S_, .i32⟩
  | 48 => ⟨S4096, .i32⟩
  | 49 => ⟨S4096, .i32⟩
  | 50 => ⟨S4096, .i32⟩
  | 51 => ⟨S4096x1, .i32⟩
  | 52 => ⟨S1x4096x512, .f32⟩
  | 53 => ⟨S1x4096x512, .f32⟩
  | 54 => ⟨S4096, .i32⟩
  | 55 => ⟨S4096, .f32⟩
  | 56 => ⟨S1x4096x1, .f32⟩
  | 57 => ⟨S1x4096x512, .f32⟩
  | 58 => ⟨S1x4096x512, .f32⟩
  | 59 => ⟨S1x4096x512, .f32⟩
  | 60 => ⟨S1x4096x512, .f32⟩
  | 61 => ⟨S_, .i32⟩
  | 62 => ⟨S4096, .i32⟩
  | 63 => ⟨S4096, .i32⟩
  | 64 => ⟨S_, .i32⟩
  | 65 => ⟨S_, .i32⟩
  | 66 => ⟨S_, .i32⟩
  | 67 => ⟨S4096, .i32⟩
  | 68 => ⟨S4096, .i32⟩
  | 69 => ⟨S_, .i32⟩
  | 70 => ⟨S4096, .i32⟩
  | 71 => ⟨S4096, .i32⟩
  | 72 => ⟨S_, .i32⟩
  | 73 => ⟨S4096, .i32⟩
  | 74 => ⟨S4096, .i32⟩
  | 75 => ⟨S_, .i32⟩
  | 76 => ⟨S_, .i32⟩
  | 77 => ⟨S_, .i32⟩
  | 78 => ⟨S4096, .i32⟩
  | 79 => ⟨S4096, .i32⟩
  | 80 => ⟨S_, .i32⟩
  | 81 => ⟨S4096, .i32⟩
  | 82 => ⟨S4096, .i32⟩
  | 83 => ⟨S1x4097x512, .f32⟩
  | 84 => ⟨S_, .i32⟩
  | 85 => ⟨S4096, .i32⟩
  | 86 => ⟨S4096, .i1⟩
  | 87 => ⟨S_, .i32⟩
  | 88 => ⟨S4096, .i32⟩
  | 89 => ⟨S4096, .i32⟩
  | 90 => ⟨S4096, .i32⟩
  | 91 => ⟨S4096x1, .i32⟩
  | 92 => ⟨S1x4096x512, .f32⟩
  | 93 => ⟨S_, .i32⟩
  | 94 => ⟨S4096, .i32⟩
  | 95 => ⟨S4096, .i1⟩
  | 96 => ⟨S_, .i32⟩
  | 97 => ⟨S4096, .i32⟩
  | 98 => ⟨S4096, .i32⟩
  | 99 => ⟨S4096, .i32⟩
  | 100 => ⟨S4096x1, .i32⟩
  | 101 => ⟨S1x4096x512, .f32⟩
  | 102 => ⟨S1x4096x512, .f32⟩
  | 103 => ⟨S4096, .i32⟩
  | 104 => ⟨S4096, .f32⟩
  | 105 => ⟨S1x4096x1, .f32⟩
  | 106 => ⟨S1x4096x512, .f32⟩
  | 107 => ⟨S1x4096x512, .f32⟩
  | 108 => ⟨S1x4096x512, .f32⟩
  | 109 => ⟨S1x4096x512, .f32⟩
  | 110 => ⟨S_, .i32⟩
  | 111 => ⟨S4096, .i32⟩
  | 112 => ⟨S4096, .i32⟩
  | 113 => ⟨S_, .i32⟩
  | 114 => ⟨S_, .i32⟩
  | 115 => ⟨S_, .i32⟩
  | 116 => ⟨S4096, .i32⟩
  | 117 => ⟨S4096, .i32⟩
  | 118 => ⟨S_, .i32⟩
  | 119 => ⟨S4096, .i32⟩
  | 120 => ⟨S4096, .i32⟩
  | 121 => ⟨S_, .i32⟩
  | 122 => ⟨S4096, .i32⟩
  | 123 => ⟨S4096, .i32⟩
  | 124 => ⟨S_, .i32⟩
  | 125 => ⟨S_, .i32⟩
  | 126 => ⟨S_, .i32⟩
  | 127 => ⟨S4096, .i32⟩
  | _ => ⟨S1x4096x2048, .bf16⟩

abbrev hbmTy0_1 (i : Nat) : BufTy := match i % 128 with
  | 0 => ⟨S4096, .i32⟩
  | 1 => ⟨S_, .i32⟩
  | 2 => ⟨S4096, .i32⟩
  | 3 => ⟨S4096, .i32⟩
  | 4 => ⟨S1x4097x512, .f32⟩
  | 5 => ⟨S_, .i32⟩
  | 6 => ⟨S4096, .i32⟩
  | 7 => ⟨S4096, .i1⟩
  | 8 => ⟨S_, .i32⟩
  | 9 => ⟨S4096, .i32⟩
  | 10 => ⟨S4096, .i32⟩
  | 11 => ⟨S4096, .i32⟩
  | 12 => ⟨S4096x1, .i32⟩
  | 13 => ⟨S1x4096x512, .f32⟩
  | 14 => ⟨S_, .i32⟩
  | 15 => ⟨S4096, .i32⟩
  | 16 => ⟨S4096, .i1⟩
  | 17 => ⟨S_, .i32⟩
  | 18 => ⟨S4096, .i32⟩
  | 19 => ⟨S4096, .i32⟩
  | 20 => ⟨S4096, .i32⟩
  | 21 => ⟨S4096x1, .i32⟩
  | 22 => ⟨S1x4096x512, .f32⟩
  | 23 => ⟨S1x4096x512, .f32⟩
  | 24 => ⟨S4096, .i32⟩
  | 25 => ⟨S4096, .f32⟩
  | 26 => ⟨S1x4096x1, .f32⟩
  | 27 => ⟨S1x4096x512, .f32⟩
  | 28 => ⟨S1x4096x512, .f32⟩
  | 29 => ⟨S1x4096x512, .f32⟩
  | 30 => ⟨S1x4096x512, .f32⟩
  | 31 => ⟨S_, .i32⟩
  | 32 => ⟨S4096, .i32⟩
  | 33 => ⟨S4096, .i32⟩
  | 34 => ⟨S_, .i32⟩
  | 35 => ⟨S_, .i32⟩
  | 36 => ⟨S_, .i32⟩
  | 37 => ⟨S4096, .i32⟩
  | 38 => ⟨S4096, .i32⟩
  | 39 => ⟨S_, .i32⟩
  | 40 => ⟨S4096, .i32⟩
  | 41 => ⟨S4096, .i32⟩
  | 42 => ⟨S_, .i32⟩
  | 43 => ⟨S4096, .i32⟩
  | 44 => ⟨S4096, .i32⟩
  | 45 => ⟨S_, .i32⟩
  | 46 => ⟨S_, .i32⟩
  | 47 => ⟨S_, .i32⟩
  | 48 => ⟨S4096, .i32⟩
  | 49 => ⟨S4096, .i32⟩
  | 50 => ⟨S_, .i32⟩
  | 51 => ⟨S4096, .i32⟩
  | 52 => ⟨S4096, .i32⟩
  | 53 => ⟨S1x4097x512, .f32⟩
  | 54 => ⟨S_, .i32⟩
  | 55 => ⟨S4096, .i32⟩
  | 56 => ⟨S4096, .i1⟩
  | 57 => ⟨S_, .i32⟩
  | 58 => ⟨S4096, .i32⟩
  | 59 => ⟨S4096, .i32⟩
  | 60 => ⟨S4096, .i32⟩
  | 61 => ⟨S4096x1, .i32⟩
  | 62 => ⟨S1x4096x512, .f32⟩
  | 63 => ⟨S_, .i32⟩
  | 64 => ⟨S4096, .i32⟩
  | 65 => ⟨S4096, .i1⟩
  | 66 => ⟨S_, .i32⟩
  | 67 => ⟨S4096, .i32⟩
  | 68 => ⟨S4096, .i32⟩
  | 69 => ⟨S4096, .i32⟩
  | 70 => ⟨S4096x1, .i32⟩
  | 71 => ⟨S1x4096x512, .f32⟩
  | 72 => ⟨S1x4096x512, .f32⟩
  | 73 => ⟨S4096, .i32⟩
  | 74 => ⟨S4096, .f32⟩
  | 75 => ⟨S1x4096x1, .f32⟩
  | 76 => ⟨S1x4096x512, .f32⟩
  | 77 => ⟨S1x4096x512, .f32⟩
  | 78 => ⟨S1x4096x512, .f32⟩
  | 79 => ⟨S1x4096x512, .f32⟩
  | 80 => ⟨S1x4096x1x512, .f32⟩
  | 81 => ⟨S1x4096x1x512, .f32⟩
  | 82 => ⟨S1x4096x1x512, .f32⟩
  | 83 => ⟨S1x4096x1x512, .f32⟩
  | 84 => ⟨S1x4096x4x512, .f32⟩
  | 85 => ⟨S4096x2048, .f32⟩
  | 86 => ⟨S4096x2048, .bf16⟩
  | 87 => ⟨S4096x2048, .bf16⟩
  | 88 => ⟨S4096x2048, .bf16⟩
  | 89 => ⟨S4x512x512, .bf16⟩
  | 90 => ⟨S1x2048, .f32⟩
  | _ => ⟨S1x4096x2048, .bf16⟩

abbrev hbmTy (i : Nat) : BufTy := match i / 128 with
  | 0 => hbmTy0_0 i
  | 1 => hbmTy0_1 i
  | _ => ⟨S1x4096x2048, .bf16⟩

abbrev bufTy : (tb : Table) → Fin (tcTables nBuf tb) → BufTy
  | .hbm, ⟨i, _⟩ => hbmTy i
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512, .f32⟩
  | .local _ .vmem, ⟨7, _⟩ => ⟨S1x512, .f32⟩
  | .local _ .vmem, ⟨8, _⟩ => ⟨S4096x512, .bf16⟩
  | .local _ .vmem, ⟨9, _⟩ => ⟨S4096x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x512, .f32⟩
  | .local _ .vmem, ⟨13, _⟩ => ⟨S1x512, .f32⟩
  | .local _ .vmem, ⟨14, _⟩ => ⟨S4112x512, .f32⟩
  | .local _ .vmem, ⟨15, _⟩ => ⟨S512x512, .f32⟩
  | _, _ => ⟨S1x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_call0_call0_cst : Ref sig .tc := ⟨.hbm, 7, rfl⟩
abbrev main_call0_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_c_1 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v7 : Ref sig .tc := ⟨.hbm, 22, rfl⟩
abbrev main_c_2 : Ref sig .tc := ⟨.hbm, 23, rfl⟩
abbrev main_v8 : Ref sig .tc := ⟨.hbm, 24, rfl⟩
abbrev main_v9 : Ref sig .tc := ⟨.hbm, 25, rfl⟩
abbrev main_c_3 : Ref sig .tc := ⟨.hbm, 26, rfl⟩
abbrev main_c_4 : Ref sig .tc := ⟨.hbm, 27, rfl⟩
abbrev main_call2_v0 : Ref sig .tc := ⟨.hbm, 28, rfl⟩
abbrev main_call2_v1 : Ref sig .tc := ⟨.hbm, 29, rfl⟩
abbrev main_call2_v2 : Ref sig .tc := ⟨.hbm, 30, rfl⟩
abbrev main_call2_v3 : Ref sig .tc := ⟨.hbm, 31, rfl⟩
abbrev main_call2_v4 : Ref sig .tc := ⟨.hbm, 32, rfl⟩
abbrev main_v10 : Ref sig .tc := ⟨.hbm, 33, rfl⟩
abbrev main_v11 : Ref sig .tc := ⟨.hbm, 34, rfl⟩
abbrev main_c_5 : Ref sig .tc := ⟨.hbm, 35, rfl⟩
abbrev main_v12 : Ref sig .tc := ⟨.hbm, 36, rfl⟩
abbrev main_v13 : Ref sig .tc := ⟨.hbm, 37, rfl⟩
abbrev main_c_6 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_c_7 : Ref sig .tc := ⟨.hbm, 44, rfl⟩
abbrev main_v19 : Ref sig .tc := ⟨.hbm, 45, rfl⟩
abbrev main_v20 : Ref sig .tc := ⟨.hbm, 46, rfl⟩
abbrev main_c_8 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_c_9 : Ref sig .tc := ⟨.hbm, 61, rfl⟩
abbrev main_v34 : Ref sig .tc := ⟨.hbm, 62, rfl⟩
abbrev main_v35 : Ref sig .tc := ⟨.hbm, 63, rfl⟩
abbrev main_c_10 : Ref sig .tc := ⟨.hbm, 64, rfl⟩
abbrev main_c_11 : Ref sig .tc := ⟨.hbm, 65, rfl⟩
abbrev main_call3_v0 : Ref sig .tc := ⟨.hbm, 66, rfl⟩
abbrev main_call3_v1 : Ref sig .tc := ⟨.hbm, 67, rfl⟩
abbrev main_call3_v2 : Ref sig .tc := ⟨.hbm, 68, rfl⟩
abbrev main_call3_v3 : Ref sig .tc := ⟨.hbm, 69, rfl⟩
abbrev main_call3_v4 : Ref sig .tc := ⟨.hbm, 70, rfl⟩
abbrev main_v36 : Ref sig .tc := ⟨.hbm, 71, rfl⟩
abbrev main_c_12 : Ref sig .tc := ⟨.hbm, 72, rfl⟩
abbrev main_v37 : Ref sig .tc := ⟨.hbm, 73, rfl⟩
abbrev main_v38 : Ref sig .tc := ⟨.hbm, 74, rfl⟩
abbrev main_c_13 : Ref sig .tc := ⟨.hbm, 75, rfl⟩
abbrev main_c_14 : Ref sig .tc := ⟨.hbm, 76, rfl⟩
abbrev main_call4_v0 : Ref sig .tc := ⟨.hbm, 77, rfl⟩
abbrev main_call4_v1 : Ref sig .tc := ⟨.hbm, 78, rfl⟩
abbrev main_call4_v2 : Ref sig .tc := ⟨.hbm, 79, rfl⟩
abbrev main_call4_v3 : Ref sig .tc := ⟨.hbm, 80, rfl⟩
abbrev main_call4_v4 : Ref sig .tc := ⟨.hbm, 81, rfl⟩
abbrev main_v39 : Ref sig .tc := ⟨.hbm, 82, rfl⟩
abbrev main_v40 : Ref sig .tc := ⟨.hbm, 83, rfl⟩
abbrev main_c_15 : Ref sig .tc := ⟨.hbm, 84, rfl⟩
abbrev main_v41 : Ref sig .tc := ⟨.hbm, 85, rfl⟩
abbrev main_v42 : Ref sig .tc := ⟨.hbm, 86, rfl⟩
abbrev main_c_16 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_c_17 : Ref sig .tc := ⟨.hbm, 93, rfl⟩
abbrev main_v48 : Ref sig .tc := ⟨.hbm, 94, rfl⟩
abbrev main_v49 : Ref sig .tc := ⟨.hbm, 95, rfl⟩
abbrev main_c_18 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_c_19 : Ref sig .tc := ⟨.hbm, 110, rfl⟩
abbrev main_v63 : Ref sig .tc := ⟨.hbm, 111, rfl⟩
abbrev main_v64 : Ref sig .tc := ⟨.hbm, 112, rfl⟩
abbrev main_c_20 : Ref sig .tc := ⟨.hbm, 113, rfl⟩
abbrev main_c_21 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_call5_v3 : Ref sig .tc := ⟨.hbm, 118, rfl⟩
abbrev main_call5_v4 : Ref sig .tc := ⟨.hbm, 119, rfl⟩
abbrev main_v65 : Ref sig .tc := ⟨.hbm, 120, rfl⟩
abbrev main_c_22 : Ref sig .tc := ⟨.hbm, 121, rfl⟩
abbrev main_v66 : Ref sig .tc := ⟨.hbm, 122, rfl⟩
abbrev main_v67 : Ref sig .tc := ⟨.hbm, 123, rfl⟩
abbrev main_c_23 : Ref sig .tc := ⟨.hbm, 124, rfl⟩
abbrev main_c_24 : Ref sig .tc := ⟨.hbm, 125, rfl⟩
abbrev main_call6_v0 : Ref sig .tc := ⟨.hbm, 126, rfl⟩
abbrev main_call6_v1 : Ref sig .tc := ⟨.hbm, 127, rfl⟩
abbrev main_call6_v2 : Ref sig .tc := ⟨.hbm, 128, rfl⟩
abbrev main_call6_v3 : Ref sig .tc := ⟨.hbm, 129, rfl⟩
abbrev main_call6_v4 : Ref sig .tc := ⟨.hbm, 130, rfl⟩
abbrev main_v68 : Ref sig .tc := ⟨.hbm, 131, rfl⟩
abbrev main_v69 : Ref sig .tc := ⟨.hbm, 132, rfl⟩
abbrev main_c_25 : Ref sig .tc := ⟨.hbm, 133, rfl⟩
abbrev main_v70 : Ref sig .tc := ⟨.hbm, 134, rfl⟩
abbrev main_v71 : Ref sig .tc := ⟨.hbm, 135, rfl⟩
abbrev main_c_26 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_c_27 : Ref sig .tc := ⟨.hbm, 142, rfl⟩
abbrev main_v77 : Ref sig .tc := ⟨.hbm, 143, rfl⟩
abbrev main_v78 : Ref sig .tc := ⟨.hbm, 144, rfl⟩
abbrev main_c_28 : Ref sig .tc := ⟨.hbm, 145, rfl⟩
abbrev main_v79 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩
abbrev main_v84 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_c_29 : Ref sig .tc := ⟨.hbm, 159, rfl⟩
abbrev main_v92 : Ref sig .tc := ⟨.hbm, 160, rfl⟩
abbrev main_v93 : Ref sig .tc := ⟨.hbm, 161, rfl⟩
abbrev main_c_30 : Ref sig .tc := ⟨.hbm, 162, rfl⟩
abbrev main_c_31 : Ref sig .tc := ⟨.hbm, 163, rfl⟩
abbrev main_call7_v0 : Ref sig .tc := ⟨.hbm, 164, rfl⟩
abbrev main_call7_v1 : Ref sig .tc := ⟨.hbm, 165, rfl⟩
abbrev main_call7_v2 : Ref sig .tc := ⟨.hbm, 166, rfl⟩
abbrev main_call7_v3 : Ref sig .tc := ⟨.hbm, 167, rfl⟩
abbrev main_call7_v4 : Ref sig .tc := ⟨.hbm, 168, rfl⟩
abbrev main_v94 : Ref sig .tc := ⟨.hbm, 169, rfl⟩
abbrev main_c_32 : Ref sig .tc := ⟨.hbm, 170, rfl⟩
abbrev main_v95 : Ref sig .tc := ⟨.hbm, 171, rfl⟩
abbrev main_v96 : Ref sig .tc := ⟨.hbm, 172, rfl⟩
abbrev main_c_33 : Ref sig .tc := ⟨.hbm, 173, rfl⟩
abbrev main_c_34 : Ref sig .tc := ⟨.hbm, 174, rfl⟩
abbrev main_call8_v0 : Ref sig .tc := ⟨.hbm, 175, rfl⟩
abbrev main_call8_v1 : Ref sig .tc := ⟨.hbm, 176, rfl⟩
abbrev main_call8_v2 : Ref sig .tc := ⟨.hbm, 177, rfl⟩
abbrev main_call8_v3 : Ref sig .tc := ⟨.hbm, 178, rfl⟩
abbrev main_call8_v4 : Ref sig .tc := ⟨.hbm, 179, rfl⟩
abbrev main_v97 : Ref sig .tc := ⟨.hbm, 180, rfl⟩
abbrev main_v98 : Ref sig .tc := ⟨.hbm, 181, rfl⟩
abbrev main_c_35 : Ref sig .tc := ⟨.hbm, 182, rfl⟩
abbrev main_v99 : Ref sig .tc := ⟨.hbm, 183, rfl⟩
abbrev main_v100 : Ref sig .tc := ⟨.hbm, 184, rfl⟩
abbrev main_c_36 : Ref sig .tc := ⟨.hbm, 185, rfl⟩
abbrev main_v101 : Ref sig .tc := ⟨.hbm, 186, rfl⟩
abbrev main_v102 : Ref sig .tc := ⟨.hbm, 187, rfl⟩
abbrev main_v103 : Ref sig .tc := ⟨.hbm, 188, rfl⟩
abbrev main_v104 : Ref sig .tc := ⟨.hbm, 189, rfl⟩
abbrev main_v105 : Ref sig .tc := ⟨.hbm, 190, rfl⟩
abbrev main_c_37 : Ref sig .tc := ⟨.hbm, 191, rfl⟩
abbrev main_v106 : Ref sig .tc := ⟨.hbm, 192, rfl⟩
abbrev main_v107 : Ref sig .tc := ⟨.hbm, 193, rfl⟩
abbrev main_c_38 : Ref sig .tc := ⟨.hbm, 194, rfl⟩
abbrev main_v108 : Ref sig .tc := ⟨.hbm, 195, rfl⟩
abbrev main_v109 : Ref sig .tc := ⟨.hbm, 196, rfl⟩
abbrev main_v110 : Ref sig .tc := ⟨.hbm, 197, rfl⟩
abbrev main_v111 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_v115 : Ref sig .tc := ⟨.hbm, 202, rfl⟩
abbrev main_v116 : Ref sig .tc := ⟨.hbm, 203, rfl⟩
abbrev main_v117 : Ref sig .tc := ⟨.hbm, 204, rfl⟩
abbrev main_v118 : Ref sig .tc := ⟨.hbm, 205, rfl⟩
abbrev main_v119 : Ref sig .tc := ⟨.hbm, 206, rfl⟩
abbrev main_v120 : Ref sig .tc := ⟨.hbm, 207, rfl⟩
abbrev main_v121 : Ref sig .tc := ⟨.hbm, 208, rfl⟩
abbrev main_v122 : Ref sig .tc := ⟨.hbm, 209, rfl⟩
abbrev main_v123 : Ref sig .tc := ⟨.hbm, 210, rfl⟩
abbrev main_v124 : Ref sig .tc := ⟨.hbm, 211, rfl⟩
abbrev main_v125 : Ref sig .tc := ⟨.hbm, 212, rfl⟩
abbrev main_v126 : Ref sig .tc := ⟨.hbm, 213, rfl⟩
abbrev main_v127 : Ref sig .tc := ⟨.hbm, 214, rfl⟩
abbrev main_v128 : Ref sig .tc := ⟨.hbm, 215, rfl⟩
abbrev main_v129_0 : Ref sig .tc := ⟨.hbm, 216, rfl⟩
abbrev main_v129_1 : Ref sig .tc := ⟨.hbm, 217, rfl⟩
abbrev main_v129_2 : Ref sig .tc := ⟨.hbm, 218, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v11 : BitVec 1 := Scalar.cmpi .eq arg0 c0_i32
  let v12 : BitVec 32 := Scalar.extui v11
  let c0_i32_5 : BitVec 32 := 0#32
  let v13 : BitVec 1 := Scalar.cmpi .ne v12 c0_i32_5
  v13

@[reducible] def k0_t1_loop : Scf.Loop 32 :=
  let c0_i32_15 : BitVec 32 := 0#32
  let c8_i32 : BitVec 32 := 8#32
  let v29 : BitVec 32 := Scalar.addi c0_i32_15 c8_i32
  let c1_i32_16 : BitVec 32 := 1#32
  ⟨c0_i32_15, v29, c1_i32_16⟩
def k0_mult1 (k0_t1 : Fin k0_t1_loop.trips) : BitVec 32 :=
  let c0_i32_15 : BitVec 32 := 0#32
  let c1_i32_16 : BitVec 32 := 1#32
  let arg10 : BitVec 32 := Scf.iv c0_i32_15 c1_i32_16 k0_t1
  let c512_i32 : BitVec 32 := 512#32
  let v33 : BitVec 32 := Scalar.muli arg10 c512_i32
  v33
def k0_off1 (k0_t1 : Fin k0_t1_loop.trips) : Fin 2 → Nat :=
  let c0_i32_15 : BitVec 32 := 0#32
  let c1_i32_16 : BitVec 32 := 1#32
  let arg10 : BitVec 32 := Scf.iv c0_i32_15 c1_i32_16 k0_t1
  let c512_i32 : BitVec 32 := 512#32
  let v33 : BitVec 32 := Scalar.muli arg10 c512_i32
  let v34 : BitVec 32 := v33
  let v35 : Index := Scalar.indexCast v34
  let c0_24 : Index := 0#32
  ![v35.toNat, 0]
def k0_mult2 (k0_t1 : Fin k0_t1_loop.trips) : BitVec 32 :=
  let c8_i32_42 : BitVec 32 := 8#32
  let c0_i32_15 : BitVec 32 := 0#32
  let c1_i32_16 : BitVec 32 := 1#32
  let arg10 : BitVec 32 := Scf.iv c0_i32_15 c1_i32_16 k0_t1
  let c512_i32 : BitVec 32 := 512#32
  let v33 : BitVec 32 := Scalar.muli arg10 c512_i32
  let v34 : BitVec 32 := v33
  let v73 : BitVec 32 := Scalar.addi c8_i32_42 v34
  v73
def k0_off2 (k0_t1 : Fin k0_t1_loop.trips) : Fin 2 → Nat :=
  let c8_i32_42 : BitVec 32 := 8#32
  let c0_i32_15 : BitVec 32 := 0#32
  let c1_i32_16 : BitVec 32 := 1#32
  let arg10 : BitVec 32 := Scf.iv c0_i32_15 c1_i32_16 k0_t1
  let c512_i32 : BitVec 32 := 512#32
  let v33 : BitVec 32 := Scalar.muli arg10 c512_i32
  let v34 : BitVec 32 := v33
  let v73 : BitVec 32 := Scalar.addi c8_i32_42 v34
  let v74 : BitVec 32 := v73
  let v75 : Index := Scalar.indexCast v74
  let c0_43 : Index := 0#32
  ![v75.toNat, 0]
@[reducible] def k0_t2_loop : Scf.Loop 32 :=
  let c0_i32_20 : BitVec 32 := 0#32
  let c8_i32_21 : BitVec 32 := 8#32
  let v32 : BitVec 32 := Scalar.addi c0_i32_20 c8_i32_21
  let c1_i32_22 : BitVec 32 := 1#32
  ⟨c0_i32_20, v32, c1_i32_22⟩
def k0_mult3 (k0_t2 : Fin k0_t2_loop.trips) : BitVec 32 :=
  let c0_i32_20 : BitVec 32 := 0#32
  let c1_i32_22 : BitVec 32 := 1#32
  let arg10 : BitVec 32 := Scf.iv c0_i32_20 c1_i32_22 k0_t2
  let c512_i32 : BitVec 32 := 512#32
  let v33 : BitVec 32 := Scalar.muli arg10 c512_i32
  v33
def k0_off3 (k0_t2 : Fin k0_t2_loop.trips) : Fin 2 → Nat :=
  let c0_i32_20 : BitVec 32 := 0#32
  let c1_i32_22 : BitVec 32 := 1#32
  let arg10 : BitVec 32 := Scf.iv c0_i32_20 c1_i32_22 k0_t2
  let c512_i32 : BitVec 32 := 512#32
  let v33 : BitVec 32 := Scalar.muli arg10 c512_i32
  let v34 : BitVec 32 := v33
  let v35 : Index := Scalar.indexCast v34
  let c0_24 : Index := 0#32
  ![v35.toNat, 0]
def k0_off4 (k0_t2 : Fin k0_t2_loop.trips) : Fin 2 → Nat :=
  let c0_i32_20 : BitVec 32 := 0#32
  let c1_i32_22 : BitVec 32 := 1#32
  let arg10 : BitVec 32 := Scf.iv c0_i32_20 c1_i32_22 k0_t2
  let c512_i32 : BitVec 32 := 512#32
  let v33 : BitVec 32 := Scalar.muli arg10 c512_i32
  let v34 : BitVec 32 := v33
  let v58 : Index := Scalar.indexCast v34
  let c0_28 : Index := 0#32
  ![v58.toNat, 0]
def k0_cond2 (i : grid0.Coords) : BitVec 1 :=
  let arg0 : BitVec 32 := BitVec.ofNat 32 (i 0).val
  let c1_i32 : BitVec 32 := 1#32
  let v14 : BitVec 1 := Scalar.cmpi .eq arg0 c1_i32
  let v15 : BitVec 32 := Scalar.extui v14
  let c0_i32_6 : BitVec 32 := 0#32
  let v16 : BitVec 1 := Scalar.cmpi .ne v15 c0_i32_6
  v16

@[reducible] def k0_t3_loop : Scf.Loop 32 :=
  let c0_i32_15 : BitVec 32 := 0#32
  let c8_i32 : BitVec 32 := 8#32
  let v29 : BitVec 32 := Scalar.addi c0_i32_15 c8_i32
  let c1_i32_16 : BitVec 32 := 1#32
  ⟨c0_i32_15, v29, c1_i32_16⟩
def k0_mult4 (k0_t3 : Fin k0_t3_loop.trips) : BitVec 32 :=
  let c0_i32_15 : BitVec 32 := 0#32
  let c1_i32_16 : BitVec 32 := 1#32
  let arg10 : BitVec 32 := Scf.iv c0_i32_15 c1_i32_16 k0_t3
  let c512_i32 : BitVec 32 := 512#32
  let v33 : BitVec 32 := Scalar.muli arg10 c512_i32
  v33
def k0_off5 (k0_t3 : Fin k0_t3_loop.trips) : Fin 2 → Nat :=
  let c0_i32_15 : BitVec 32 := 0#32
  let c1_i32_16 : BitVec 32 := 1#32
  let arg10 : BitVec 32 := Scf.iv c0_i32_15 c1_i32_16 k0_t3
  let c512_i32 : BitVec 32 := 512#32
  let v33 : BitVec 32 := Scalar.muli arg10 c512_i32
  let v34 : BitVec 32 := v33
  let v35 : Index := Scalar.indexCast v34
  let c0_24 : Index := 0#32
  ![v35.toNat, 0]
def k0_mult5 (k0_t3 : Fin k0_t3_loop.trips) : BitVec 32 :=
  let c8_i32_42 : BitVec 32 := 8#32
  let c0_i32_15 : BitVec 32 := 0#32
  let c1_i32_16 : BitVec 32 := 1#32
  let arg10 : BitVec 32 := Scf.iv c0_i32_15 c1_i32_16 k0_t3
  let c512_i32 : BitVec 32 := 512#32
  let v33 : BitVec 32 := Scalar.muli arg10 c512_i32
  let v34 : BitVec 32 := v33
  let v73 : BitVec 32 := Scalar.addi c8_i32_42 v34
  v73
def k0_off6 (k0_t3 : Fin k0_t3_loop.trips) : Fin 2 → Nat :=
  let c8_i32_42 : BitVec 32 := 8#32
  let c0_i32_15 : BitVec 32 := 0#32
  let c1_i32_16 : BitVec 32 := 1#32
  let arg10 : BitVec 32 := Scf.iv c0_i32_15 c1_i32_16 k0_t3
  let c512_i32 : BitVec 32 := 512#32
  let v33 : BitVec 32 := Scalar.muli arg10 c512_i32
  let v34 : BitVec 32 := v33
  let v73 : BitVec 32 := Scalar.addi c8_i32_42 v34
  let v74 : BitVec 32 := v73
  let v75 : Index := Scalar.indexCast v74
  let c0_43 : Index := 0#32
  ![v75.toNat, 0]
@[reducible] def k0_t4_loop : Scf.Loop 32 :=
  let c0_i32_20 : BitVec 32 := 0#32
  let c8_i32_21 : BitVec 32 := 8#32
  let v32 : BitVec 32 := Scalar.addi c0_i32_20 c8_i32_21
  let c1_i32_22 : BitVec 32 := 1#32
  ⟨c0_i32_20, v32, c1_i32_22⟩
def k0_mult6 (k0_t4 : Fin k0_t4_loop.trips) : BitVec 32 :=
  let c0_i32_20 : BitVec 32 := 0#32
  let c1_i32_22 : BitVec 32 := 1#32
  let arg10 : BitVec 32 := Scf.iv c0_i32_20 c1_i32_22 k0_t4
  let c512_i32 : BitVec 32 := 512#32
  let v33 : BitVec 32 := Scalar.muli arg10 c512_i32
  v33
def k0_off7 (k0_t4 : Fin k0_t4_loop.trips) : Fin 2 → Nat :=
  let c0_i32_20 : BitVec 32 := 0#32
  let c1_i32_22 : BitVec 32 := 1#32
  let arg10 : BitVec 32 := Scf.iv c0_i32_20 c1_i32_22 k0_t4
  let c512_i32 : BitVec 32 := 512#32
  let v33 : BitVec 32 := Scalar.muli arg10 c512_i32
  let v34 : BitVec 32 := v33
  let v35 : Index := Scalar.indexCast v34
  let c0_24 : Index := 0#32
  ![v35.toNat, 0]
def k0_off8 (k0_t4 : Fin k0_t4_loop.trips) : Fin 2 → Nat :=
  let c0_i32_20 : BitVec 32 := 0#32
  let c1_i32_22 : BitVec 32 := 1#32
  let arg10 : BitVec 32 := Scf.iv c0_i32_20 c1_i32_22 k0_t4
  let c512_i32 : BitVec 32 := 512#32
  let v33 : BitVec 32 := Scalar.muli arg10 c512_i32
  let v34 : BitVec 32 := v33
  let v62 : Index := Scalar.indexCast v34
  let c0_28 : Index := 0#32
  ![v62.toNat, 0]
def k0_cond3 (i : grid0.Coords) : BitVec 1 :=
  let arg0 : BitVec 32 := BitVec.ofNat 32 (i 0).val
  let c2_i32 : BitVec 32 := 2#32
  let v17 : BitVec 1 := Scalar.cmpi .eq arg0 c2_i32
  let v18 : BitVec 32 := Scalar.extui v17
  let c0_i32_7 : BitVec 32 := 0#32
  let v19 : BitVec 1 := Scalar.cmpi .ne v18 c0_i32_7
  v19

@[reducible] def k0_t5_loop : Scf.Loop 32 :=
  let c0_i32_15 : BitVec 32 := 0#32
  let c8_i32 : BitVec 32 := 8#32
  let v29 : BitVec 32 := Scalar.addi c0_i32_15 c8_i32
  let c1_i32_16 : BitVec 32 := 1#32
  ⟨c0_i32_15, v29, c1_i32_16⟩
def k0_mult7 (k0_t5 : Fin k0_t5_loop.trips) : BitVec 32 :=
  let c0_i32_15 : BitVec 32 := 0#32
  let c1_i32_16 : BitVec 32 := 1#32
  let arg10 : BitVec 32 := Scf.iv c0_i32_15 c1_i32_16 k0_t5
  let c512_i32 : BitVec 32 := 512#32
  let v33 : BitVec 32 := Scalar.muli arg10 c512_i32
  v33
def k0_off9 (k0_t5 : Fin k0_t5_loop.trips) : Fin 2 → Nat :=
  let c0_i32_15 : BitVec 32 := 0#32
  let c1_i32_16 : BitVec 32 := 1#32
  let arg10 : BitVec 32 := Scf.iv c0_i32_15 c1_i32_16 k0_t5
  let c512_i32 : BitVec 32 := 512#32
  let v33 : BitVec 32 := Scalar.muli arg10 c512_i32
  let v34 : BitVec 32 := v33
  let v35 : Index := Scalar.indexCast v34
  let c0_24 : Index := 0#32
  ![v35.toNat, 0]
def k0_mult8 (k0_t5 : Fin k0_t5_loop.trips) : BitVec 32 :=
  let c8_i32_41 : BitVec 32 := 8#32
  let c0_i32_15 : BitVec 32 := 0#32
  let c1_i32_16 : BitVec 32 := 1#32
  let arg10 : BitVec 32 := Scf.iv c0_i32_15 c1_i32_16 k0_t5
  let c512_i32 : BitVec 32 := 512#32
  let v33 : BitVec 32 := Scalar.muli arg10 c512_i32
  let v34 : BitVec 32 := v33
  let v73 : BitVec 32 := Scalar.addi c8_i32_41 v34
  v73
def k0_off10 (k0_t5 : Fin k0_t5_loop.trips) : Fin 2 → Nat :=
  let c8_i32_41 : BitVec 32 := 8#32
  let c0_i32_15 : BitVec 32 := 0#32
  let c1_i32_16 : BitVec 32 := 1#32
  let arg10 : BitVec 32 := Scf.iv c0_i32_15 c1_i32_16 k0_t5
  let c512_i32 : BitVec 32 := 512#32
  let v33 : BitVec 32 := Scalar.muli arg10 c512_i32
  let v34 : BitVec 32 := v33
  let v73 : BitVec 32 := Scalar.addi c8_i32_41 v34
  let v74 : BitVec 32 := v73
  let v75 : Index := Scalar.indexCast v74
  let c0_42 : Index := 0#32
  ![v75.toNat, 0]
@[reducible] def k0_t6_loop : Scf.Loop 32 :=
  let c0_i32_20 : BitVec 32 := 0#32
  let c8_i32_21 : BitVec 32 := 8#32
  let v32 : BitVec 32 := Scalar.addi c0_i32_20 c8_i32_21
  let c1_i32_22 : BitVec 32 := 1#32
  ⟨c0_i32_20, v32, c1_i32_22⟩
def k0_mult9 (k0_t6 : Fin k0_t6_loop.trips) : BitVec 32 :=
  let c0_i32_20 : BitVec 32 := 0#32
  let c1_i32_22 : BitVec 32 := 1#32
  let arg10 : BitVec 32 := Scf.iv c0_i32_20 c1_i32_22 k0_t6
  let c512_i32 : BitVec 32 := 512#32
  let v33 : BitVec 32 := Scalar.muli arg10 c512_i32
  v33
def k0_off11 (k0_t6 : Fin k0_t6_loop.trips) : Fin 2 → Nat :=
  let c0_i32_20 : BitVec 32 := 0#32
  let c1_i32_22 : BitVec 32 := 1#32
  let arg10 : BitVec 32 := Scf.iv c0_i32_20 c1_i32_22 k0_t6
  let c512_i32 : BitVec 32 := 512#32
  let v33 : BitVec 32 := Scalar.muli arg10 c512_i32
  let v34 : BitVec 32 := v33
  let v35 : Index := Scalar.indexCast v34
  let c0_24 : Index := 0#32
  ![v35.toNat, 0]
def k0_off12 (k0_t6 : Fin k0_t6_loop.trips) : Fin 2 → Nat :=
  let c0_i32_20 : BitVec 32 := 0#32
  let c1_i32_22 : BitVec 32 := 1#32
  let arg10 : BitVec 32 := Scf.iv c0_i32_20 c1_i32_22 k0_t6
  let c512_i32 : BitVec 32 := 512#32
  let v33 : BitVec 32 := Scalar.muli arg10 c512_i32
  let v34 : BitVec 32 := v33
  let v70 : Index := Scalar.indexCast v34
  let c0_27 : Index := 0#32
  ![v70.toNat, 0]
def k0_cond4 (i : grid0.Coords) : BitVec 1 :=
  let arg0 : BitVec 32 := BitVec.ofNat 32 (i 0).val
  let c3_i32 : BitVec 32 := 3#32
  let v20 : BitVec 1 := Scalar.cmpi .eq arg0 c3_i32
  let v21 : BitVec 32 := Scalar.extui v20
  let c0_i32_8 : BitVec 32 := 0#32
  let v22 : BitVec 1 := Scalar.cmpi .ne v21 c0_i32_8
  v22

@[reducible] def k0_t7_loop : Scf.Loop 32 :=
  let c0_i32_15 : BitVec 32 := 0#32
  let c8_i32 : BitVec 32 := 8#32
  let v29 : BitVec 32 := Scalar.addi c0_i32_15 c8_i32
  let c1_i32_16 : BitVec 32 := 1#32
  ⟨c0_i32_15, v29, c1_i32_16⟩
def k0_mult10 (k0_t7 : Fin k0_t7_loop.trips) : BitVec 32 :=
  let c0_i32_15 : BitVec 32 := 0#32
  let c1_i32_16 : BitVec 32 := 1#32
  let arg10 : BitVec 32 := Scf.iv c0_i32_15 c1_i32_16 k0_t7
  let c512_i32 : BitVec 32 := 512#32
  let v33 : BitVec 32 := Scalar.muli arg10 c512_i32
  v33
def k0_off13 (k0_t7 : Fin k0_t7_loop.trips) : Fin 2 → Nat :=
  let c0_i32_15 : BitVec 32 := 0#32
  let c1_i32_16 : BitVec 32 := 1#32
  let arg10 : BitVec 32 := Scf.iv c0_i32_15 c1_i32_16 k0_t7
  let c512_i32 : BitVec 32 := 512#32
  let v33 : BitVec 32 := Scalar.muli arg10 c512_i32
  let v34 : BitVec 32 := v33
  let v35 : Index := Scalar.indexCast v34
  let c0_24 : Index := 0#32
  ![v35.toNat, 0]
def k0_mult11 (k0_t7 : Fin k0_t7_loop.trips) : BitVec 32 :=
  let c8_i32_42 : BitVec 32 := 8#32
  let c0_i32_15 : BitVec 32 := 0#32
  let c1_i32_16 : BitVec 32 := 1#32
  let arg10 : BitVec 32 := Scf.iv c0_i32_15 c1_i32_16 k0_t7
  let c512_i32 : BitVec 32 := 512#32
  let v33 : BitVec 32 := Scalar.muli arg10 c512_i32
  let v34 : BitVec 32 := v33
  let v73 : BitVec 32 := Scalar.addi c8_i32_42 v34
  v73
def k0_off14 (k0_t7 : Fin k0_t7_loop.trips) : Fin 2 → Nat :=
  let c8_i32_42 : BitVec 32 := 8#32
  let c0_i32_15 : BitVec 32 := 0#32
  let c1_i32_16 : BitVec 32 := 1#32
  let arg10 : BitVec 32 := Scf.iv c0_i32_15 c1_i32_16 k0_t7
  let c512_i32 : BitVec 32 := 512#32
  let v33 : BitVec 32 := Scalar.muli arg10 c512_i32
  let v34 : BitVec 32 := v33
  let v73 : BitVec 32 := Scalar.addi c8_i32_42 v34
  let v74 : BitVec 32 := v73
  let v75 : Index := Scalar.indexCast v74
  let c0_43 : Index := 0#32
  ![v75.toNat, 0]
@[reducible] def k0_t8_loop : Scf.Loop 32 :=
  let c0_i32_20 : BitVec 32 := 0#32
  let c8_i32_21 : BitVec 32 := 8#32
  let v32 : BitVec 32 := Scalar.addi c0_i32_20 c8_i32_21
  let c1_i32_22 : BitVec 32 := 1#32
  ⟨c0_i32_20, v32, c1_i32_22⟩
def k0_mult12 (k0_t8 : Fin k0_t8_loop.trips) : BitVec 32 :=
  let c0_i32_20 : BitVec 32 := 0#32
  let c1_i32_22 : BitVec 32 := 1#32
  let arg10 : BitVec 32 := Scf.iv c0_i32_20 c1_i32_22 k0_t8
  let c512_i32 : BitVec 32 := 512#32
  let v33 : BitVec 32 := Scalar.muli arg10 c512_i32
  v33
def k0_off15 (k0_t8 : Fin k0_t8_loop.trips) : Fin 2 → Nat :=
  let c0_i32_20 : BitVec 32 := 0#32
  let c1_i32_22 : BitVec 32 := 1#32
  let arg10 : BitVec 32 := Scf.iv c0_i32_20 c1_i32_22 k0_t8
  let c512_i32 : BitVec 32 := 512#32
  let v33 : BitVec 32 := Scalar.muli arg10 c512_i32
  let v34 : BitVec 32 := v33
  let v35 : Index := Scalar.indexCast v34
  let c0_24 : Index := 0#32
  ![v35.toNat, 0]
def k0_off16 (k0_t8 : Fin k0_t8_loop.trips) : Fin 2 → Nat :=
  let c0_i32_20 : BitVec 32 := 0#32
  let c1_i32_22 : BitVec 32 := 1#32
  let arg10 : BitVec 32 := Scf.iv c0_i32_20 c1_i32_22 k0_t8
  let c512_i32 : BitVec 32 := 512#32
  let v33 : BitVec 32 := Scalar.muli arg10 c512_i32
  let v34 : BitVec 32 := v33
  let v86 : Index := Scalar.indexCast v34
  let c0_28 : Index := 0#32
  ![v86.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S1x4096x2048 : Shape := ⟨3, ![1, 4096, 2048]⟩
abbrev S4x512x512 : Shape := ⟨3, ![4, 512, 512]⟩
abbrev S1x2048 : Shape := ⟨2, ![1, 2048]⟩
abbrev S2048 : Shape := ⟨1, ![2048]⟩
abbrev S_ : Shape := ⟨0, ![]⟩
abbrev S1x1x2048 : Shape := ⟨3, ![1, 1, 2048]⟩
abbrev S1x4097x2048 : Shape := ⟨3, ![1, 4097, 2048]⟩
abbrev S4096 : Shape := ⟨1, ![4096]⟩
abbrev S1x4097x512 : Shape := ⟨3, ![1, 4097, 512]⟩
abbrev S4096x1 : Shape := ⟨2, ![4096, 1]⟩
abbrev S1x4096x512 : Shape := ⟨3, ![1, 4096, 512]⟩
abbrev S1x4096x1 : Shape := ⟨3, ![1, 4096, 1]⟩
abbrev S1x4096x1x512 : Shape := ⟨4, ![1, 4096, 1, 512]⟩
abbrev S1x4096x4x512 : Shape := ⟨4, ![1, 4096, 4, 512]⟩
abbrev S4x512x1x4096 : Shape := ⟨4, ![4, 512, 1, 4096]⟩
abbrev S4x1x4096x512 : Shape := ⟨4, ![4, 1, 4096, 512]⟩
abbrev S4096x2048 : Shape := ⟨2, ![4096, 2048]⟩

abbrev nBuf : Space → Nat
  | .hbm => 322
  | .vmem => 0
  | .smem => 0
  | _ => 0

abbrev hbmTy0_0 (i : Nat) : BufTy := match i % 128 with
  | 0 => ⟨S1x4096x2048, .bf16⟩
  | 1 => ⟨S4x512x512, .bf16⟩
  | 2 => ⟨S1x2048, .f32⟩
  | 3 => ⟨S1x4096x2048, .bf16⟩
  | 4 => ⟨S1x4096x2048, .f32⟩
  | 5 => ⟨S4x512x512, .f32⟩
  | 6 => ⟨S2048, .f32⟩
  | 7 => ⟨S_, .f32⟩
  | 8 => ⟨S1x1x2048, .f32⟩
  | 9 => ⟨S_, .f32⟩
  | 10 => ⟨S_, .f32⟩
  | 11 => ⟨S1x4096x2048, .f32⟩
  | 12 => ⟨S1x4097x2048, .f32⟩
  | 13 => ⟨S_, .f32⟩
  | 14 => ⟨S1x1x2048, .f32⟩
  | 15 => ⟨S4096, .i32⟩
  | 16 => ⟨S_, .i32⟩
  | 17 => ⟨S4096, .i32⟩
  | 18 => ⟨S4096, .i32⟩
  | 19 => ⟨S_, .i32⟩
  | 20 => ⟨S_, .i32⟩
  | 21 => ⟨S_, .i32⟩
  | 22 => ⟨S4096, .i32⟩
  | 23 => ⟨S4096, .i32⟩
  | 24 => ⟨S_, .i32⟩
  | 25 => ⟨S4096, .i32⟩
  | 26 => ⟨S4096, .i32⟩
  | 27 => ⟨S_, .i32⟩
  | 28 => ⟨S4096, .i32⟩
  | 29 => ⟨S4096, .i32⟩
  | 30 => ⟨S_, .i32⟩
  | 31 => ⟨S_, .i32⟩
  | 32 => ⟨S_, .i32⟩
  | 33 => ⟨S4096, .i32⟩
  | 34 => ⟨S4096, .i32⟩
  | 35 => ⟨S_, .i32⟩
  | 36 => ⟨S4096, .i32⟩
  | 37 => ⟨S4096, .i32⟩
  | 38 => ⟨S1x4097x512, .f32⟩
  | 39 => ⟨S_, .i32⟩
  | 40 => ⟨S4096, .i32⟩
  | 41 => ⟨S4096, .i1⟩
  | 42 => ⟨S_, .i32⟩
  | 43 => ⟨S4096, .i32⟩
  | 44 => ⟨S4096, .i32⟩
  | 45 => ⟨S4096, .i32⟩
  | 46 => ⟨S4096x1, .i32⟩
  | 47 => ⟨S1x4096x512, .f32⟩
  | 48 => ⟨S_, .i32⟩
  | 49 => ⟨S4096, .i32⟩
  | 50 => ⟨S4096, .i1⟩
  | 51 => ⟨S_, .i32⟩
  | 52 => ⟨S4096, .i32⟩
  | 53 => ⟨S4096, .i32⟩
  | 54 => ⟨S4096, .i32⟩
  | 55 => ⟨S4096x1, .i32⟩
  | 56 => ⟨S1x4096x512, .f32⟩
  | 57 => ⟨S1x4096x512, .f32⟩
  | 58 => ⟨S4096, .i32⟩
  | 59 => ⟨S4096, .f32⟩
  | 60 => ⟨S1x4096x1, .f32⟩
  | 61 => ⟨S1x4096x512, .f32⟩
  | 62 => ⟨S1x4096x512, .f32⟩
  | 63 => ⟨S1x4096x512, .f32⟩
  | 64 => ⟨S1x4096x512, .f32⟩
  | 65 => ⟨S_, .i32⟩
  | 66 => ⟨S4096, .i32⟩
  | 67 => ⟨S4096, .i32⟩
  | 68 => ⟨S_, .i32⟩
  | 69 => ⟨S_, .i32⟩
  | 70 => ⟨S_, .i32⟩
  | 71 => ⟨S4096, .i32⟩
  | 72 => ⟨S4096, .i32⟩
  | 73 => ⟨S_, .i32⟩
  | 74 => ⟨S4096, .i32⟩
  | 75 => ⟨S4096, .i32⟩
  | 76 => ⟨S_, .i32⟩
  | 77 => ⟨S4096, .i32⟩
  | 78 => ⟨S4096, .i32⟩
  | 79 => ⟨S_, .i32⟩
  | 80 => ⟨S_, .i32⟩
  | 81 => ⟨S_, .i32⟩
  | 82 => ⟨S4096, .i32⟩
  | 83 => ⟨S4096, .i32⟩
  | 84 => ⟨S_, .i32⟩
  | 85 => ⟨S4096, .i32⟩
  | 86 => ⟨S4096, .i32⟩
  | 87 => ⟨S1x4097x512, .f32⟩
  | 88 => ⟨S_, .i32⟩
  | 89 => ⟨S4096, .i32⟩
  | 90 => ⟨S4096, .i1⟩
  | 91 => ⟨S_, .i32⟩
  | 92 => ⟨S4096, .i32⟩
  | 93 => ⟨S4096, .i32⟩
  | 94 => ⟨S4096, .i32⟩
  | 95 => ⟨S4096x1, .i32⟩
  | 96 => ⟨S1x4096x512, .f32⟩
  | 97 => ⟨S_, .i32⟩
  | 98 => ⟨S4096, .i32⟩
  | 99 => ⟨S4096, .i1⟩
  | 100 => ⟨S_, .i32⟩
  | 101 => ⟨S4096, .i32⟩
  | 102 => ⟨S4096, .i32⟩
  | 103 => ⟨S4096, .i32⟩
  | 104 => ⟨S4096x1, .i32⟩
  | 105 => ⟨S1x4096x512, .f32⟩
  | 106 => ⟨S1x4096x512, .f32⟩
  | 107 => ⟨S4096, .i32⟩
  | 108 => ⟨S4096, .f32⟩
  | 109 => ⟨S1x4096x1, .f32⟩
  | 110 => ⟨S1x4096x512, .f32⟩
  | 111 => ⟨S1x4096x512, .f32⟩
  | 112 => ⟨S1x4096x512, .f32⟩
  | 113 => ⟨S1x4096x512, .f32⟩
  | 114 => ⟨S_, .i32⟩
  | 115 => ⟨S4096, .i32⟩
  | 116 => ⟨S4096, .i32⟩
  | 117 => ⟨S_, .i32⟩
  | 118 => ⟨S_, .i32⟩
  | 119 => ⟨S_, .i32⟩
  | 120 => ⟨S4096, .i32⟩
  | 121 => ⟨S4096, .i32⟩
  | 122 => ⟨S_, .i32⟩
  | 123 => ⟨S4096, .i32⟩
  | 124 => ⟨S4096, .i32⟩
  | 125 => ⟨S_, .i32⟩
  | 126 => ⟨S4096, .i32⟩
  | 127 => ⟨S4096, .i32⟩
  | _ => ⟨S1x4096x2048, .bf16⟩

abbrev hbmTy0_1 (i : Nat) : BufTy := match i % 128 with
  | 0 => ⟨S_, .i32⟩
  | 1 => ⟨S_, .i32⟩
  | 2 => ⟨S_, .i32⟩
  | 3 => ⟨S4096, .i32⟩
  | 4 => ⟨S4096, .i32⟩
  | 5 => ⟨S_, .i32⟩
  | 6 => ⟨S4096, .i32⟩
  | 7 => ⟨S4096, .i32⟩
  | 8 => ⟨S1x4097x512, .f32⟩
  | 9 => ⟨S_, .i32⟩
  | 10 => ⟨S4096, .i32⟩
  | 11 => ⟨S4096, .i1⟩
  | 12 => ⟨S_, .i32⟩
  | 13 => ⟨S4096, .i32⟩
  | 14 => ⟨S4096, .i32⟩
  | 15 => ⟨S4096, .i32⟩
  | 16 => ⟨S4096x1, .i32⟩
  | 17 => ⟨S1x4096x512, .f32⟩
  | 18 => ⟨S_, .i32⟩
  | 19 => ⟨S4096, .i32⟩
  | 20 => ⟨S4096, .i1⟩
  | 21 => ⟨S_, .i32⟩
  | 22 => ⟨S4096, .i32⟩
  | 23 => ⟨S4096, .i32⟩
  | 24 => ⟨S4096, .i32⟩
  | 25 => ⟨S4096x1, .i32⟩
  | 26 => ⟨S1x4096x512, .f32⟩
  | 27 => ⟨S1x4096x512, .f32⟩
  | 28 => ⟨S4096, .i32⟩
  | 29 => ⟨S4096, .f32⟩
  | 30 => ⟨S1x4096x1, .f32⟩
  | 31 => ⟨S1x4096x512, .f32⟩
  | 32 => ⟨S1x4096x512, .f32⟩
  | 33 => ⟨S1x4096x512, .f32⟩
  | 34 => ⟨S1x4096x512, .f32⟩
  | 35 => ⟨S_, .i32⟩
  | 36 => ⟨S4096, .i32⟩
  | 37 => ⟨S4096, .i32⟩
  | 38 => ⟨S_, .i32⟩
  | 39 => ⟨S_, .i32⟩
  | 40 => ⟨S_, .i32⟩
  | 41 => ⟨S4096, .i32⟩
  | 42 => ⟨S4096, .i32⟩
  | 43 => ⟨S_, .i32⟩
  | 44 => ⟨S4096, .i32⟩
  | 45 => ⟨S4096, .i32⟩
  | 46 => ⟨S_, .i32⟩
  | 47 => ⟨S4096, .i32⟩
  | 48 => ⟨S4096, .i32⟩
  | 49 => ⟨S_, .i32⟩
  | 50 => ⟨S_, .i32⟩
  | 51 => ⟨S_, .i32⟩
  | 52 => ⟨S4096, .i32⟩
  | 53 => ⟨S4096, .i32⟩
  | 54 => ⟨S_, .i32⟩
  | 55 => ⟨S4096, .i32⟩
  | 56 => ⟨S4096, .i32⟩
  | 57 => ⟨S1x4097x512, .f32⟩
  | 58 => ⟨S_, .i32⟩
  | 59 => ⟨S4096, .i32⟩
  | 60 => ⟨S4096, .i1⟩
  | 61 => ⟨S_, .i32⟩
  | 62 => ⟨S4096, .i32⟩
  | 63 => ⟨S4096, .i32⟩
  | 64 => ⟨S4096, .i32⟩
  | 65 => ⟨S4096x1, .i32⟩
  | 66 => ⟨S1x4096x512, .f32⟩
  | 67 => ⟨S_, .i32⟩
  | 68 => ⟨S4096, .i32⟩
  | 69 => ⟨S4096, .i1⟩
  | 70 => ⟨S_, .i32⟩
  | 71 => ⟨S4096, .i32⟩
  | 72 => ⟨S4096, .i32⟩
  | 73 => ⟨S4096, .i32⟩
  | 74 => ⟨S4096x1, .i32⟩
  | 75 => ⟨S1x4096x512, .f32⟩
  | 76 => ⟨S1x4096x512, .f32⟩
  | 77 => ⟨S4096, .i32⟩
  | 78 => ⟨S4096, .f32⟩
  | 79 => ⟨S1x4096x1, .f32⟩
  | 80 => ⟨S1x4096x512, .f32⟩
  | 81 => ⟨S1x4096x512, .f32⟩
  | 82 => ⟨S1x4096x512, .f32⟩
  | 83 => ⟨S1x4096x512, .f32⟩
  | 84 => ⟨S1x4096x1x512, .f32⟩
  | 85 => ⟨S1x4096x1x512, .f32⟩
  | 86 => ⟨S1x4096x1x512, .f32⟩
  | 87 => ⟨S1x4096x1x512, .f32⟩
  | 88 => ⟨S1x4096x4x512, .f32⟩
  | 89 => ⟨S4x512x1x4096, .f32⟩
  | 90 => ⟨S1x4096x4x512, .f32⟩
  | 91 => ⟨S1x4096x2048, .f32⟩
  | 92 => ⟨S1x1x2048, .f32⟩
  | 93 => ⟨S1x4096x2048, .f32⟩
  | 94 => ⟨S1x4096x2048, .f32⟩
  | 95 => ⟨S1x4096x2048, .f32⟩
  | 96 => ⟨S1x4096x2048, .f32⟩
  | 97 => ⟨S_, .f32⟩
  | 98 => ⟨S1x2048, .f32⟩
  | 99 => ⟨S1x1x2048, .f32⟩
  | 100 => ⟨S1x4096x2048, .f32⟩
  | 101 => ⟨S1x4096x2048, .f32⟩
  | 102 => ⟨S_, .f32⟩
  | 103 => ⟨S2048, .f32⟩
  | 104 => ⟨S1x4096x4x512, .f32⟩
  | 105 => ⟨S4x512x1x4096, .f32⟩
  | 106 => ⟨S4x1x4096x512, .f32⟩
  | 107 => ⟨S1x4096x4x512, .f32⟩
  | 108 => ⟨S4x512x512, .f32⟩
  | 109 => ⟨S4x512x512, .f32⟩
  | 110 => ⟨S1x4096x1x512, .f32⟩
  | 111 => ⟨S1x4096x512, .f32⟩
  | 112 => ⟨S1x4096x1x512, .f32⟩
  | 113 => ⟨S1x4096x512, .f32⟩
  | 114 => ⟨S1x4096x1x512, .f32⟩
  | 115 => ⟨S1x4096x512, .f32⟩
  | 116 => ⟨S1x4096x1x512, .f32⟩
  | 117 => ⟨S1x4096x512, .f32⟩
  | 118 => ⟨S1x4096x512, .f32⟩
  | 119 => ⟨S_, .f32⟩
  | 120 => ⟨S1x4096x2048, .f32⟩
  | 121 => ⟨S1x4096x512, .f32⟩
  | 122 => ⟨S1x4096x512, .f32⟩
  | 123 => ⟨S1x4096x512, .f32⟩
  | 124 => ⟨S_, .f32⟩
  | 125 => ⟨S1x4097x512, .f32⟩
  | 126 => ⟨S1x4097x512, .f32⟩
  | 127 => ⟨S_, .f32⟩
  | _ => ⟨S1x4096x2048, .bf16⟩

abbrev hbmTy0_2 (i : Nat) : BufTy := match i % 128 with
  | 0 => ⟨S1x4097x512, .f32⟩
  | 1 => ⟨S1x4097x512, .f32⟩
  | 2 => ⟨S1x4097x512, .f32⟩
  | 3 => ⟨S_, .f32⟩
  | 4 => ⟨S1x4097x2048, .f32⟩
  | 5 => ⟨S1x4096x512, .f32⟩
  | 6 => ⟨S_, .f32⟩
  | 7 => ⟨S1x4096x2048, .f32⟩
  | 8 => ⟨S1x4096x2048, .f32⟩
  | 9 => ⟨S1x4096x512, .f32⟩
  | 10 => ⟨S1x4096x512, .f32⟩
  | 11 => ⟨S1x4096x512, .f32⟩
  | 12 => ⟨S_, .f32⟩
  | 13 => ⟨S1x4097x512, .f32⟩
  | 14 => ⟨S1x4097x512, .f32⟩
  | 15 => ⟨S_, .f32⟩
  | 16 => ⟨S1x4097x512, .f32⟩
  | 17 => ⟨S1x4097x512, .f32⟩
  | 18 => ⟨S1x4097x512, .f32⟩
  | 19 => ⟨S_, .f32⟩
  | 20 => ⟨S1x4097x2048, .f32⟩
  | 21 => ⟨S1x4097x2048, .f32⟩
  | 22 => ⟨S1x4096x512, .f32⟩
  | 23 => ⟨S_, .f32⟩
  | 24 => ⟨S1x4096x2048, .f32⟩
  | 25 => ⟨S1x4096x2048, .f32⟩
  | 26 => ⟨S1x4096x512, .f32⟩
  | 27 => ⟨S1x4096x512, .f32⟩
  | 28 => ⟨S1x4096x512, .f32⟩
  | 29 => ⟨S_, .f32⟩
  | 30 => ⟨S1x4097x512, .f32⟩
  | 31 => ⟨S1x4097x512, .f32⟩
  | 32 => ⟨S_, .f32⟩
  | 33 => ⟨S1x4097x512, .f32⟩
  | 34 => ⟨S1x4097x512, .f32⟩
  | 35 => ⟨S1x4097x512, .f32⟩
  | 36 => ⟨S_, .f32⟩
  | 37 => ⟨S1x4097x2048, .f32⟩
  | 38 => ⟨S1x4097x2048, .f32⟩
  | 39 => ⟨S1x4096x512, .f32⟩
  | 40 => ⟨S_, .f32⟩
  | 41 => ⟨S1x4096x2048, .f32⟩
  | 42 => ⟨S1x4096x2048, .f32⟩
  | 43 => ⟨S1x4096x512, .f32⟩
  | 44 => ⟨S1x4096x512, .f32⟩
  | 45 => ⟨S1x4096x512, .f32⟩
  | 46 => ⟨S_, .f32⟩
  | 47 => ⟨S1x4097x512, .f32⟩
  | 48 => ⟨S1x4097x512, .f32⟩
  | 49 => ⟨S_, .f32⟩
  | 50 => ⟨S1x4097x512, .f32⟩
  | 51 => ⟨S1x4097x512, .f32⟩
  | 52 => ⟨S1x4097x512, .f32⟩
  | 53 => ⟨S_, .f32⟩
  | 54 => ⟨S1x4097x2048, .f32⟩
  | 55 => ⟨S1x4097x2048, .f32⟩
  | 56 => ⟨S1x1x2048, .f32⟩
  | 57 => ⟨S1x4096x2048, .f32⟩
  | 58 => ⟨S_, .f32⟩
  | 59 => ⟨S_, .f32⟩
  | 60 => ⟨S1x4096x2048, .f32⟩
  | 61 => ⟨S1x4096x2048, .f32⟩
  | 62 => ⟨S4096x2048, .f32⟩
  | 63 => ⟨S4096x2048, .bf16⟩
  | 64 => ⟨S4x512x512, .bf16⟩
  | 65 => ⟨S1x2048, .f32⟩
  | _ => ⟨S1x4096x2048, .bf16⟩

abbrev hbmTy (i : Nat) : BufTy := match i / 128 with
  | 0 => hbmTy0_0 i
  | 1 => hbmTy0_1 i
  | 2 => hbmTy0_2 i
  | _ => ⟨S1x4096x2048, .bf16⟩

abbrev bufTy : (tb : Table) → Fin (tcTables nBuf tb) → BufTy
  | .hbm, ⟨i, _⟩ => hbmTy i
  | _, _ => ⟨S1x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_call0_call0_cst : Ref sig .tc := ⟨.hbm, 9, rfl⟩
abbrev main_call0_call0_v0 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_c_2 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v10 : Ref sig .tc := ⟨.hbm, 26, rfl⟩
abbrev main_c_3 : Ref sig .tc := ⟨.hbm, 27, rfl⟩
abbrev main_v11 : Ref sig .tc := ⟨.hbm, 28, rfl⟩
abbrev main_v12 : Ref sig .tc := ⟨.hbm, 29, rfl⟩
abbrev main_c_4 : Ref sig .tc := ⟨.hbm, 30, rfl⟩
abbrev main_c_5 : Ref sig .tc := ⟨.hbm, 31, rfl⟩
abbrev main_call2_v0 : Ref sig .tc := ⟨.hbm, 32, rfl⟩
abbrev main_call2_v1 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_v13 : Ref sig .tc := ⟨.hbm, 37, rfl⟩
abbrev main_v14 : Ref sig .tc := ⟨.hbm, 38, rfl⟩
abbrev main_c_6 : Ref sig .tc := ⟨.hbm, 39, rfl⟩
abbrev main_v15 : Ref sig .tc := ⟨.hbm, 40, rfl⟩
abbrev main_v16 : Ref sig .tc := ⟨.hbm, 41, rfl⟩
abbrev main_c_7 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_c_8 : Ref sig .tc := ⟨.hbm, 48, rfl⟩
abbrev main_v22 : Ref sig .tc := ⟨.hbm, 49, rfl⟩
abbrev main_v23 : Ref sig .tc := ⟨.hbm, 50, rfl⟩
abbrev main_c_9 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_c_10 : Ref sig .tc := ⟨.hbm, 65, rfl⟩
abbrev main_v37 : Ref sig .tc := ⟨.hbm, 66, rfl⟩
abbrev main_v38 : Ref sig .tc := ⟨.hbm, 67, rfl⟩
abbrev main_c_11 : Ref sig .tc := ⟨.hbm, 68, rfl⟩
abbrev main_c_12 : Ref sig .tc := ⟨.hbm, 69, rfl⟩
abbrev main_call3_v0 : Ref sig .tc := ⟨.hbm, 70, rfl⟩
abbrev main_call3_v1 : Ref sig .tc := ⟨.hbm, 71, rfl⟩
abbrev main_call3_v2 : Ref sig .tc := ⟨.hbm, 72, rfl⟩
abbrev main_call3_v3 : Ref sig .tc := ⟨.hbm, 73, rfl⟩
abbrev main_call3_v4 : Ref sig .tc := ⟨.hbm, 74, rfl⟩
abbrev main_v39 : Ref sig .tc := ⟨.hbm, 75, rfl⟩
abbrev main_c_13 : Ref sig .tc := ⟨.hbm, 76, rfl⟩
abbrev main_v40 : Ref sig .tc := ⟨.hbm, 77, rfl⟩
abbrev main_v41 : Ref sig .tc := ⟨.hbm, 78, rfl⟩
abbrev main_c_14 : Ref sig .tc := ⟨.hbm, 79, rfl⟩
abbrev main_c_15 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_call4_v3 : Ref sig .tc := ⟨.hbm, 84, rfl⟩
abbrev main_call4_v4 : Ref sig .tc := ⟨.hbm, 85, rfl⟩
abbrev main_v42 : Ref sig .tc := ⟨.hbm, 86, rfl⟩
abbrev main_v43 : Ref sig .tc := ⟨.hbm, 87, rfl⟩
abbrev main_c_16 : Ref sig .tc := ⟨.hbm, 88, rfl⟩
abbrev main_v44 : Ref sig .tc := ⟨.hbm, 89, rfl⟩
abbrev main_v45 : Ref sig .tc := ⟨.hbm, 90, rfl⟩
abbrev main_c_17 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_c_18 : Ref sig .tc := ⟨.hbm, 97, rfl⟩
abbrev main_v51 : Ref sig .tc := ⟨.hbm, 98, rfl⟩
abbrev main_v52 : Ref sig .tc := ⟨.hbm, 99, rfl⟩
abbrev main_c_19 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_c_20 : Ref sig .tc := ⟨.hbm, 114, rfl⟩
abbrev main_v66 : Ref sig .tc := ⟨.hbm, 115, rfl⟩
abbrev main_v67 : Ref sig .tc := ⟨.hbm, 116, rfl⟩
abbrev main_c_21 : Ref sig .tc := ⟨.hbm, 117, rfl⟩
abbrev main_c_22 : Ref sig .tc := ⟨.hbm, 118, rfl⟩
abbrev main_call5_v0 : Ref sig .tc := ⟨.hbm, 119, rfl⟩
abbrev main_call5_v1 : Ref sig .tc := ⟨.hbm, 120, rfl⟩
abbrev main_call5_v2 : Ref sig .tc := ⟨.hbm, 121, rfl⟩
abbrev main_call5_v3 : Ref sig .tc := ⟨.hbm, 122, rfl⟩
abbrev main_call5_v4 : Ref sig .tc := ⟨.hbm, 123, rfl⟩
abbrev main_v68 : Ref sig .tc := ⟨.hbm, 124, rfl⟩
abbrev main_c_23 : Ref sig .tc := ⟨.hbm, 125, rfl⟩
abbrev main_v69 : Ref sig .tc := ⟨.hbm, 126, rfl⟩
abbrev main_v70 : Ref sig .tc := ⟨.hbm, 127, rfl⟩
abbrev main_c_24 : Ref sig .tc := ⟨.hbm, 128, rfl⟩
abbrev main_c_25 : Ref sig .tc := ⟨.hbm, 129, rfl⟩
abbrev main_call6_v0 : Ref sig .tc := ⟨.hbm, 130, rfl⟩
abbrev main_call6_v1 : Ref sig .tc := ⟨.hbm, 131, rfl⟩
abbrev main_call6_v2 : Ref sig .tc := ⟨.hbm, 132, rfl⟩
abbrev main_call6_v3 : Ref sig .tc := ⟨.hbm, 133, rfl⟩
abbrev main_call6_v4 : Ref sig .tc := ⟨.hbm, 134, rfl⟩
abbrev main_v71 : Ref sig .tc := ⟨.hbm, 135, rfl⟩
abbrev main_v72 : Ref sig .tc := ⟨.hbm, 136, rfl⟩
abbrev main_c_26 : Ref sig .tc := ⟨.hbm, 137, rfl⟩
abbrev main_v73 : Ref sig .tc := ⟨.hbm, 138, rfl⟩
abbrev main_v74 : Ref sig .tc := ⟨.hbm, 139, rfl⟩
abbrev main_c_27 : Ref sig .tc := ⟨.hbm, 140, rfl⟩
abbrev main_v75 : Ref sig .tc := ⟨.hbm, 141, rfl⟩
abbrev main_v76 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_c_28 : Ref sig .tc := ⟨.hbm, 146, rfl⟩
abbrev main_v80 : Ref sig .tc := ⟨.hbm, 147, rfl⟩
abbrev main_v81 : Ref sig .tc := ⟨.hbm, 148, rfl⟩
abbrev main_c_29 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_v88 : Ref sig .tc := ⟨.hbm, 156, rfl⟩
abbrev main_v89 : Ref sig .tc := ⟨.hbm, 157, rfl⟩
abbrev main_v90 : Ref sig .tc := ⟨.hbm, 158, rfl⟩
abbrev main_v91 : Ref sig .tc := ⟨.hbm, 159, rfl⟩
abbrev main_v92 : Ref sig .tc := ⟨.hbm, 160, rfl⟩
abbrev main_v93 : Ref sig .tc := ⟨.hbm, 161, rfl⟩
abbrev main_v94 : Ref sig .tc := ⟨.hbm, 162, rfl⟩
abbrev main_c_30 : Ref sig .tc := ⟨.hbm, 163, rfl⟩
abbrev main_v95 : Ref sig .tc := ⟨.hbm, 164, rfl⟩
abbrev main_v96 : Ref sig .tc := ⟨.hbm, 165, rfl⟩
abbrev main_c_31 : Ref sig .tc := ⟨.hbm, 166, rfl⟩
abbrev main_c_32 : Ref sig .tc := ⟨.hbm, 167, rfl⟩
abbrev main_call7_v0 : Ref sig .tc := ⟨.hbm, 168, rfl⟩
abbrev main_call7_v1 : Ref sig .tc := ⟨.hbm, 169, rfl⟩
abbrev main_call7_v2 : Ref sig .tc := ⟨.hbm, 170, rfl⟩
abbrev main_call7_v3 : Ref sig .tc := ⟨.hbm, 171, rfl⟩
abbrev main_call7_v4 : Ref sig .tc := ⟨.hbm, 172, rfl⟩
abbrev main_v97 : Ref sig .tc := ⟨.hbm, 173, rfl⟩
abbrev main_c_33 : Ref sig .tc := ⟨.hbm, 174, rfl⟩
abbrev main_v98 : Ref sig .tc := ⟨.hbm, 175, rfl⟩
abbrev main_v99 : Ref sig .tc := ⟨.hbm, 176, rfl⟩
abbrev main_c_34 : Ref sig .tc := ⟨.hbm, 177, rfl⟩
abbrev main_c_35 : Ref sig .tc := ⟨.hbm, 178, rfl⟩
abbrev main_call8_v0 : Ref sig .tc := ⟨.hbm, 179, rfl⟩
abbrev main_call8_v1 : Ref sig .tc := ⟨.hbm, 180, rfl⟩
abbrev main_call8_v2 : Ref sig .tc := ⟨.hbm, 181, rfl⟩
abbrev main_call8_v3 : Ref sig .tc := ⟨.hbm, 182, rfl⟩
abbrev main_call8_v4 : Ref sig .tc := ⟨.hbm, 183, rfl⟩
abbrev main_v100 : Ref sig .tc := ⟨.hbm, 184, rfl⟩
abbrev main_v101 : Ref sig .tc := ⟨.hbm, 185, rfl⟩
abbrev main_c_36 : Ref sig .tc := ⟨.hbm, 186, rfl⟩
abbrev main_v102 : Ref sig .tc := ⟨.hbm, 187, rfl⟩
abbrev main_v103 : Ref sig .tc := ⟨.hbm, 188, rfl⟩
abbrev main_c_37 : Ref sig .tc := ⟨.hbm, 189, rfl⟩
abbrev main_v104 : Ref sig .tc := ⟨.hbm, 190, rfl⟩
abbrev main_v105 : Ref sig .tc := ⟨.hbm, 191, rfl⟩
abbrev main_v106 : Ref sig .tc := ⟨.hbm, 192, rfl⟩
abbrev main_v107 : Ref sig .tc := ⟨.hbm, 193, rfl⟩
abbrev main_v108 : Ref sig .tc := ⟨.hbm, 194, rfl⟩
abbrev main_c_38 : Ref sig .tc := ⟨.hbm, 195, rfl⟩
abbrev main_v109 : Ref sig .tc := ⟨.hbm, 196, rfl⟩
abbrev main_v110 : Ref sig .tc := ⟨.hbm, 197, rfl⟩
abbrev main_c_39 : Ref sig .tc := ⟨.hbm, 198, rfl⟩
abbrev main_v111 : Ref sig .tc := ⟨.hbm, 199, rfl⟩
abbrev main_v112 : Ref sig .tc := ⟨.hbm, 200, rfl⟩
abbrev main_v113 : Ref sig .tc := ⟨.hbm, 201, rfl⟩
abbrev main_v114 : Ref sig .tc := ⟨.hbm, 202, rfl⟩
abbrev main_v115 : Ref sig .tc := ⟨.hbm, 203, rfl⟩
abbrev main_v116 : Ref sig .tc := ⟨.hbm, 204, rfl⟩
abbrev main_v117 : Ref sig .tc := ⟨.hbm, 205, rfl⟩
abbrev main_v118 : Ref sig .tc := ⟨.hbm, 206, rfl⟩
abbrev main_v119 : Ref sig .tc := ⟨.hbm, 207, rfl⟩
abbrev main_v120 : Ref sig .tc := ⟨.hbm, 208, rfl⟩
abbrev main_v121 : Ref sig .tc := ⟨.hbm, 209, rfl⟩
abbrev main_v122 : Ref sig .tc := ⟨.hbm, 210, rfl⟩
abbrev main_v123 : Ref sig .tc := ⟨.hbm, 211, rfl⟩
abbrev main_v124 : Ref sig .tc := ⟨.hbm, 212, rfl⟩
abbrev main_v125 : Ref sig .tc := ⟨.hbm, 213, rfl⟩
abbrev main_v126 : Ref sig .tc := ⟨.hbm, 214, rfl⟩
abbrev main_v127 : Ref sig .tc := ⟨.hbm, 215, rfl⟩
abbrev main_v128 : Ref sig .tc := ⟨.hbm, 216, rfl⟩
abbrev main_v129 : Ref sig .tc := ⟨.hbm, 217, rfl⟩
abbrev main_v130 : Ref sig .tc := ⟨.hbm, 218, rfl⟩
abbrev main_v131 : Ref sig .tc := ⟨.hbm, 219, rfl⟩
abbrev main_v132 : Ref sig .tc := ⟨.hbm, 220, rfl⟩
abbrev main_v133 : Ref sig .tc := ⟨.hbm, 221, rfl⟩
abbrev main_v134 : Ref sig .tc := ⟨.hbm, 222, rfl⟩
abbrev main_v135 : Ref sig .tc := ⟨.hbm, 223, rfl⟩
abbrev main_v136 : Ref sig .tc := ⟨.hbm, 224, rfl⟩
abbrev main_cst_40 : Ref sig .tc := ⟨.hbm, 225, rfl⟩
abbrev main_v137 : Ref sig .tc := ⟨.hbm, 226, rfl⟩
abbrev main_v138 : Ref sig .tc := ⟨.hbm, 227, rfl⟩
abbrev main_v139 : Ref sig .tc := ⟨.hbm, 228, rfl⟩
abbrev main_v140 : Ref sig .tc := ⟨.hbm, 229, rfl⟩
abbrev main_cst_41 : Ref sig .tc := ⟨.hbm, 230, rfl⟩
abbrev main_v141 : Ref sig .tc := ⟨.hbm, 231, rfl⟩
abbrev main_v142 : Ref sig .tc := ⟨.hbm, 232, rfl⟩
abbrev main_v143 : Ref sig .tc := ⟨.hbm, 233, rfl⟩
abbrev main_v144 : Ref sig .tc := ⟨.hbm, 234, rfl⟩
abbrev main_v145 : Ref sig .tc := ⟨.hbm, 235, rfl⟩
abbrev main_v146 : Ref sig .tc := ⟨.hbm, 236, rfl⟩
abbrev main_v147 : Ref sig .tc := ⟨.hbm, 237, rfl⟩
abbrev main_v148 : Ref sig .tc := ⟨.hbm, 238, rfl⟩
abbrev main_v149 : Ref sig .tc := ⟨.hbm, 239, rfl⟩
abbrev main_v150 : Ref sig .tc := ⟨.hbm, 240, rfl⟩
abbrev main_v151 : Ref sig .tc := ⟨.hbm, 241, rfl⟩
abbrev main_v152 : Ref sig .tc := ⟨.hbm, 242, rfl⟩
abbrev main_v153 : Ref sig .tc := ⟨.hbm, 243, rfl⟩
abbrev main_v154 : Ref sig .tc := ⟨.hbm, 244, rfl⟩
abbrev main_v155 : Ref sig .tc := ⟨.hbm, 245, rfl⟩
abbrev main_v156 : Ref sig .tc := ⟨.hbm, 246, rfl⟩
abbrev main_cst_42 : Ref sig .tc := ⟨.hbm, 247, rfl⟩
abbrev main_v157 : Ref sig .tc := ⟨.hbm, 248, rfl⟩
abbrev main_v158 : Ref sig .tc := ⟨.hbm, 249, rfl⟩
abbrev main_v159 : Ref sig .tc := ⟨.hbm, 250, rfl⟩
abbrev main_v160 : Ref sig .tc := ⟨.hbm, 251, rfl⟩
abbrev main_cst_43 : Ref sig .tc := ⟨.hbm, 252, rfl⟩
abbrev main_v161 : Ref sig .tc := ⟨.hbm, 253, rfl⟩
abbrev main_v162 : Ref sig .tc := ⟨.hbm, 254, rfl⟩
abbrev main_cst_44 : Ref sig .tc := ⟨.hbm, 255, rfl⟩
abbrev main_v163 : Ref sig .tc := ⟨.hbm, 256, rfl⟩
abbrev main_v164 : Ref sig .tc := ⟨.hbm, 257, rfl⟩
abbrev main_v165 : Ref sig .tc := ⟨.hbm, 258, rfl⟩
abbrev main_cst_45 : Ref sig .tc := ⟨.hbm, 259, rfl⟩
abbrev main_v166 : Ref sig .tc := ⟨.hbm, 260, rfl⟩
abbrev main_v167 : Ref sig .tc := ⟨.hbm, 261, rfl⟩
abbrev main_cst_46 : Ref sig .tc := ⟨.hbm, 262, rfl⟩
abbrev main_v168 : Ref sig .tc := ⟨.hbm, 263, rfl⟩
abbrev main_v169 : Ref sig .tc := ⟨.hbm, 264, rfl⟩
abbrev main_v170 : Ref sig .tc := ⟨.hbm, 265, rfl⟩
abbrev main_v171 : Ref sig .tc := ⟨.hbm, 266, rfl⟩
abbrev main_v172 : Ref sig .tc := ⟨.hbm, 267, rfl⟩
abbrev main_cst_47 : Ref sig .tc := ⟨.hbm, 268, rfl⟩
abbrev main_v173 : Ref sig .tc := ⟨.hbm, 269, rfl⟩
abbrev main_v174 : Ref sig .tc := ⟨.hbm, 270, rfl⟩
abbrev main_cst_48 : Ref sig .tc := ⟨.hbm, 271, rfl⟩
abbrev main_v175 : Ref sig .tc := ⟨.hbm, 272, rfl⟩
abbrev main_v176 : Ref sig .tc := ⟨.hbm, 273, rfl⟩
abbrev main_v177 : Ref sig .tc := ⟨.hbm, 274, rfl⟩
abbrev main_cst_49 : Ref sig .tc := ⟨.hbm, 275, rfl⟩
abbrev main_v178 : Ref sig .tc := ⟨.hbm, 276, rfl⟩
abbrev main_v179 : Ref sig .tc := ⟨.hbm, 277, rfl⟩
abbrev main_v180 : Ref sig .tc := ⟨.hbm, 278, rfl⟩
abbrev main_cst_50 : Ref sig .tc := ⟨.hbm, 279, rfl⟩
abbrev main_v181 : Ref sig .tc := ⟨.hbm, 280, rfl⟩
abbrev main_v182 : Ref sig .tc := ⟨.hbm, 281, rfl⟩
abbrev main_v183 : Ref sig .tc := ⟨.hbm, 282, rfl⟩
abbrev main_v184 : Ref sig .tc := ⟨.hbm, 283, rfl⟩
abbrev main_v185 : Ref sig .tc := ⟨.hbm, 284, rfl⟩
abbrev main_cst_51 : Ref sig .tc := ⟨.hbm, 285, rfl⟩
abbrev main_v186 : Ref sig .tc := ⟨.hbm, 286, rfl⟩
abbrev main_v187 : Ref sig .tc := ⟨.hbm, 287, rfl⟩
abbrev main_cst_52 : Ref sig .tc := ⟨.hbm, 288, rfl⟩
abbrev main_v188 : Ref sig .tc := ⟨.hbm, 289, rfl⟩
abbrev main_v189 : Ref sig .tc := ⟨.hbm, 290, rfl⟩
abbrev main_v190 : Ref sig .tc := ⟨.hbm, 291, rfl⟩
abbrev main_cst_53 : Ref sig .tc := ⟨.hbm, 292, rfl⟩
abbrev main_v191 : Ref sig .tc := ⟨.hbm, 293, rfl⟩
abbrev main_v192 : Ref sig .tc := ⟨.hbm, 294, rfl⟩
abbrev main_v193 : Ref sig .tc := ⟨.hbm, 295, rfl⟩
abbrev main_cst_54 : Ref sig .tc := ⟨.hbm, 296, rfl⟩
abbrev main_v194 : Ref sig .tc := ⟨.hbm, 297, rfl⟩
abbrev main_v195 : Ref sig .tc := ⟨.hbm, 298, rfl⟩
abbrev main_v196 : Ref sig .tc := ⟨.hbm, 299, rfl⟩
abbrev main_v197 : Ref sig .tc := ⟨.hbm, 300, rfl⟩
abbrev main_v198 : Ref sig .tc := ⟨.hbm, 301, rfl⟩
abbrev main_cst_55 : Ref sig .tc := ⟨.hbm, 302, rfl⟩
abbrev main_v199 : Ref sig .tc := ⟨.hbm, 303, rfl⟩
abbrev main_v200 : Ref sig .tc := ⟨.hbm, 304, rfl⟩
abbrev main_cst_56 : Ref sig .tc := ⟨.hbm, 305, rfl⟩
abbrev main_v201 : Ref sig .tc := ⟨.hbm, 306, rfl⟩
abbrev main_v202 : Ref sig .tc := ⟨.hbm, 307, rfl⟩
abbrev main_v203 : Ref sig .tc := ⟨.hbm, 308, rfl⟩
abbrev main_cst_57 : Ref sig .tc := ⟨.hbm, 309, rfl⟩
abbrev main_v204 : Ref sig .tc := ⟨.hbm, 310, rfl⟩
abbrev main_v205 : Ref sig .tc := ⟨.hbm, 311, rfl⟩
abbrev main_v206 : Ref sig .tc := ⟨.hbm, 312, rfl⟩
abbrev main_v207 : Ref sig .tc := ⟨.hbm, 313, rfl⟩
abbrev main_call9_call0_cst : Ref sig .tc := ⟨.hbm, 314, rfl⟩
abbrev main_call9_call0_v0 : Ref sig .tc := ⟨.hbm, 315, rfl⟩
abbrev main_v208 : Ref sig .tc := ⟨.hbm, 316, rfl⟩
abbrev main_v209 : Ref sig .tc := ⟨.hbm, 317, rfl⟩
abbrev main_v210 : Ref sig .tc := ⟨.hbm, 318, rfl⟩
abbrev main_v211 : Ref sig .tc := ⟨.hbm, 319, rfl⟩
abbrev main_v212 : Ref sig .tc := ⟨.hbm, 320, rfl⟩
abbrev main_v213 : Ref sig .tc := ⟨.hbm, 321, rfl⟩

abbrev nD : Nat := 1
abbrev τ : Topo := Topo.v7x

variable {F : FTy → Type} [FloatOps F]
-- ==== Kernel2.lean ====
abbrev S4096x2048 : Shape := ⟨2, ![4096, 2048]⟩
abbrev S2048x8192 : Shape := ⟨2, ![2048, 8192]⟩
abbrev S1x8192 : Shape := ⟨2, ![1, 8192]⟩
abbrev S8192x2048 : Shape := ⟨2, ![8192, 2048]⟩
abbrev S4096x8192 : Shape := ⟨2, ![4096, 8192]⟩
abbrev S_ : Shape := ⟨0, ![]⟩
abbrev S1024x2048 : Shape := ⟨2, ![1024, 2048]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 19
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S1x8192, .f32⟩
  | .hbm, ⟨3, _⟩ => ⟨S8192x2048, .bf16⟩
  | .hbm, ⟨4, _⟩ => ⟨S4096x2048, .bf16⟩
  | .hbm, ⟨5, _⟩ => ⟨S4096x2048, .f32⟩
  | .hbm, ⟨6, _⟩ => ⟨S2048x8192, .f32⟩
  | .hbm, ⟨7, _⟩ => ⟨S4096x8192, .f32⟩
  | .hbm, ⟨8, _⟩ => ⟨S4096x8192, .f32⟩
  | .hbm, ⟨9, _⟩ => ⟨S4096x8192, .f32⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S4096x8192, .bf16⟩
  | .hbm, ⟨17, _⟩ => ⟨S4096x8192, .bf16⟩
  | .hbm, ⟨18, _⟩ => ⟨S1x8192, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_cst : Ref sig .tc := ⟨.hbm, 10, rfl⟩
abbrev main_call0_v0 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 1], ![false, false, false]⟩

def k0_cond1 (i : grid0.Coords) : BitVec 1 :=
  let arg1 : BitVec 32 := BitVec.ofNat 32 (i 1).val
  let c0_i32 : BitVec 32 := 0#32
  let v11 : BitVec 1 := Scalar.cmpi .eq arg1 c0_i32
  let v12 : BitVec 32 := Scalar.extui v11
  let c0_i32_8 : BitVec 32 := 0#32
  let v13 : BitVec 1 := Scalar.cmpi .ne v12 c0_i32_8
  v13

def k0_cond2 (i : grid0.Coords) : BitVec 1 :=
  let arg1 : BitVec 32 := BitVec.ofNat 32 (i 1).val
  let c0_i32 : BitVec 32 := 0#32
  let v11 : BitVec 1 := Scalar.cmpi .eq arg1 c0_i32
  let v_true : BitVec 1 := 1#1
  let v14 : BitVec 1 := Scalar.xori v11 v_true
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== Reference2Ideal.lean ====
abbrev S4096x2048 : Shape := ⟨2, ![4096, 2048]⟩
abbrev S2048x8192 : Shape := ⟨2, ![2048, 8192]⟩
abbrev S1x8192 : Shape := ⟨2, ![1, 8192]⟩
abbrev S8192x2048 : Shape := ⟨2, ![8192, 2048]⟩
abbrev S4096x8192 : Shape := ⟨2, ![4096, 8192]⟩
abbrev S8192 : Shape := ⟨1, ![8192]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S1x8192, .f32⟩
  | .hbm, ⟨3, _⟩ => ⟨S8192x2048, .bf16⟩
  | .hbm, ⟨4, _⟩ => ⟨S4096x2048, .bf16⟩
  | .hbm, ⟨5, _⟩ => ⟨S4096x2048, .f32⟩
  | .hbm, ⟨6, _⟩ => ⟨S2048x8192, .f32⟩
  | .hbm, ⟨7, _⟩ => ⟨S4096x8192, .f32⟩
  | .hbm, ⟨8, _⟩ => ⟨S8192, .f32⟩
  | .hbm, ⟨9, _⟩ => ⟨S1x8192, .f32⟩
  | .hbm, ⟨10, _⟩ => ⟨S4096x8192, .f32⟩
  | .hbm, ⟨11, _⟩ => ⟨S4096x8192, .f32⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S_, .f32⟩
  | .hbm, ⟨16, _⟩ => ⟨S4096x8192, .f32⟩
  | .hbm, ⟨17, _⟩ => ⟨S4096x8192, .i1⟩
  | .hbm, ⟨18, _⟩ => ⟨S_, .f32⟩
  | .hbm, ⟨19, _⟩ => ⟨S4096x8192, .f32⟩
  | .hbm, ⟨20, _⟩ => ⟨S4096x8192, .f32⟩
  | .hbm, ⟨21, _⟩ => ⟨S_, .f32⟩
  | .hbm, ⟨22, _⟩ => ⟨S4096x8192, .f32⟩
  | .hbm, ⟨23, _⟩ => ⟨S4096x8192, .f32⟩
  | .hbm, ⟨24, _⟩ => ⟨S8192x2048, .f32⟩
  | .hbm, ⟨25, _⟩ => ⟨S4096x2048, .f32⟩
  | .hbm, ⟨26, _⟩ => ⟨S4096x2048, .f32⟩
  | .hbm, ⟨27, _⟩ => ⟨S4096x8192, .f32⟩
  | .hbm, ⟨28, _⟩ => ⟨S4096x8192, .f32⟩
  | .hbm, ⟨29, _⟩ => ⟨S_, .f32⟩
  | .hbm, ⟨30, _⟩ => ⟨S4096x8192, .f32⟩
  | .hbm, ⟨31, _⟩ => ⟨S4096x8192, .f32⟩
  | .hbm, ⟨32, _⟩ => ⟨S_, .f32⟩
  | .hbm, ⟨33, _⟩ => ⟨S8192, .f32⟩
  | .hbm, ⟨34, _⟩ => ⟨S1x8192, .f32⟩
  | .hbm, ⟨35, _⟩ => ⟨S_, .f32⟩
  | .hbm, ⟨36, _⟩ => ⟨S8192, .f32⟩
  | .hbm, ⟨37, _⟩ => ⟨S4096x8192, .bf16⟩
  | .hbm, ⟨38, _⟩ => ⟨S1x8192, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_cst : Ref sig .tc := ⟨.hbm, 12, rfl⟩
abbrev main_call0_v0 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Kernel3.lean ====
abbrev S4096x2048 : Shape := ⟨2, ![4096, 2048]⟩
abbrev S4096x8192 : Shape := ⟨2, ![4096, 8192]⟩
abbrev S4x2048x2048 : Shape := ⟨3, ![4, 2048, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S4x2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S8192x2048 : Shape := ⟨2, ![8192, 2048]⟩
abbrev S2048x4x2048 : Shape := ⟨3, ![2048, 4, 2048]⟩
abbrev S4x2048x2048 : Shape := ⟨3, ![4, 2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S_, .f32⟩
  | .hbm, ⟨3, _⟩ => ⟨S2048x8192, .f32⟩
  | .hbm, ⟨4, _⟩ => ⟨S4096x2048, .f32⟩
  | .hbm, ⟨5, _⟩ => ⟨S4096x8192, .f32⟩
  | .hbm, ⟨6, _⟩ => ⟨S4096x8192, .f32⟩
  | .hbm, ⟨7, _⟩ => ⟨S8192x2048, .f32⟩
  | .hbm, ⟨8, _⟩ => ⟨S2048x8192, .f32⟩
  | .hbm, ⟨9, _⟩ => ⟨S2048x8192, .bf16⟩
  | .hbm, ⟨10, _⟩ => ⟨S2048x4x2048, .bf16⟩
  | .hbm, ⟨11, _⟩ => ⟨S4x2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S4096x2048 : Shape := ⟨2, ![4096, 2048]⟩
abbrev S4x2048x2048 : Shape := ⟨3, ![4, 2048, 2048]⟩
abbrev S1x8192 : Shape := ⟨2, ![1, 8192]⟩
abbrev S4096x8192 : Shape := ⟨2, ![4096, 8192]⟩
abbrev S1024x2048 : Shape := ⟨2, ![1024, 2048]⟩
abbrev S1x2048x1024 : Shape := ⟨3, ![1, 2048, 1024]⟩
abbrev S1x1024 : Shape := ⟨2, ![1, 1024]⟩
abbrev S1024x1024 : Shape := ⟨2, ![1024, 1024]⟩
abbrev S2048x1024 : Shape := ⟨2, ![2048, 1024]⟩

abbrev nBuf : Space → Nat
  | .hbm => 5
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S4x2048x2048, .bf16⟩
  | .hbm, ⟨2, _⟩ => ⟨S1x8192, .f32⟩
  | .hbm, ⟨3, _⟩ => ⟨S4096x8192, .bf16⟩
  | .hbm, ⟨4, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference4Ideal.lean ====
abbrev S4096x2048 : Shape := ⟨2, ![4096, 2048]⟩
abbrev S4x2048x2048 : Shape := ⟨3, ![4, 2048, 2048]⟩
abbrev S1x8192 : Shape := ⟨2, ![1, 8192]⟩
abbrev S2048x4x2048 : Shape := ⟨3, ![2048, 4, 2048]⟩
abbrev S2048x8192 : Shape := ⟨2, ![2048, 8192]⟩
abbrev S4096x8192 : Shape := ⟨2, ![4096, 8192]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x2048, .bf16⟩
  | .hbm, ⟨2, _⟩ => ⟨S1x8192, .f32⟩
  | .hbm, ⟨3, _⟩ => ⟨S4x2048x2048, .f32⟩
  | .hbm, ⟨4, _⟩ => ⟨S2048x4x2048, .f32⟩
  | .hbm, ⟨5, _⟩ => ⟨S2048x8192, .f32⟩
  | .hbm, ⟨6, _⟩ => ⟨S4096x2048, .f32⟩
  | .hbm, ⟨7, _⟩ => ⟨S4096x8192, .f32⟩
  | .hbm, ⟨8, _⟩ => ⟨S4096x8192, .f32⟩
  | .hbm, ⟨9, _⟩ => ⟨S4096x8192, .f32⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .i1⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S_, .f32⟩
  | .hbm, ⟨20, _⟩ => ⟨S4096x8192, .f32⟩
  | .hbm, ⟨21, _⟩ => ⟨S4096x8192, .f32⟩
  | .hbm, ⟨22, _⟩ => ⟨S_, .f32⟩
  | .hbm, ⟨23, _⟩ => ⟨S4096x8192, .f32⟩
  | .hbm, ⟨24, _⟩ => ⟨S4096x8192, .f32⟩
  | .hbm, ⟨25, _⟩ => ⟨S_, .f32⟩
  | .hbm, ⟨26, _⟩ => ⟨S4096x8192, .f32⟩
  | .hbm, ⟨27, _⟩ => ⟨S4096x8192, .f32⟩
  | .hbm, ⟨28, _⟩ => ⟨S4096x8192, .bf16⟩
  | .hbm, ⟨29, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_cst : Ref sig .tc := ⟨.hbm, 10, rfl⟩
abbrev main_call0_v0 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== Kernel5.lean ====
abbrev S4096x2048 : Shape := ⟨2, ![4096, 2048]⟩
abbrev S2048x8192 : Shape := ⟨2, ![2048, 8192]⟩
abbrev S1x8192 : Shape := ⟨2, ![1, 8192]⟩
abbrev S4096x8192 : Shape := ⟨2, ![4096, 8192]⟩
abbrev S_ : Shape := ⟨0, ![]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 15
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S1x8192, .f32⟩
  | .hbm, ⟨3, _⟩ => ⟨S4096x2048, .bf16⟩
  | .hbm, ⟨4, _⟩ => ⟨S4096x2048, .f32⟩
  | .hbm, ⟨5, _⟩ => ⟨S2048x8192, .f32⟩
  | .hbm, ⟨6, _⟩ => ⟨S4096x8192, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S4096x8192, .f32⟩
  | .hbm, ⟨11, _⟩ => ⟨S4096x8192, .f32⟩
  | .hbm, ⟨12, _⟩ => ⟨S4096x8192, .f32⟩
  | .hbm, ⟨13, _⟩ => ⟨S4096x8192, .bf16⟩
  | .hbm, ⟨14, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x2048 : Shape := ⟨2, ![4096, 2048]⟩
abbrev S2048x8192 : Shape := ⟨2, ![2048, 8192]⟩
abbrev S1x8192 : Shape := ⟨2, ![1, 8192]⟩
abbrev S4096x8192 : Shape := ⟨2, ![4096, 8192]⟩
abbrev S_ : Shape := ⟨0, ![]⟩
abbrev S8192x2048 : Shape := ⟨2, ![8192, 2048]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S1x8192, .f32⟩
  | .hbm, ⟨3, _⟩ => ⟨S4096x2048, .bf16⟩
  | .hbm, ⟨4, _⟩ => ⟨S4096x2048, .f32⟩
  | .hbm, ⟨5, _⟩ => ⟨S2048x8192, .f32⟩
  | .hbm, ⟨6, _⟩ => ⟨S4096x8192, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S8192x2048, .f32⟩
  | .hbm, ⟨11, _⟩ => ⟨S_, .f32⟩
  | .hbm, ⟨12, _⟩ => ⟨S4096x8192, .f32⟩
  | .hbm, ⟨13, _⟩ => ⟨S4096x8192, .f32⟩
  | .hbm, ⟨14, _⟩ => ⟨S4096x8192, .f32⟩
  | .hbm, ⟨15, _⟩ => ⟨S4096x2048, .f32⟩
  | .hbm, ⟨16, _⟩ => ⟨S4096x2048, .f32⟩
  | .hbm, ⟨17, _⟩ => ⟨S2048x8192, .f32⟩
  | .hbm, ⟨18, _⟩ => ⟨S8192x2048, .f32⟩
  | .hbm, ⟨19, _⟩ => ⟨S8192x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_call0_cst : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]
-- ==== Kernel6.lean ====
abbrev S4096x8192 : Shape := ⟨2, ![4096, 8192]⟩
abbrev S8192x2048 : Shape := ⟨2, ![8192, 2048]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x8192 : Shape := ⟨2, ![4096, 8192]⟩
abbrev S8192x2048 : Shape := ⟨2, ![8192, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x8192, .f32⟩
  | .hbm, ⟨3, _⟩ => ⟨S8192x2048, .f32⟩
  | .hbm, ⟨4, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel7.lean ====
abbrev S4096x8192 : Shape := ⟨2, ![4096, 8192]⟩
abbrev S4x2048x2048 : Shape := ⟨3, ![4, 2048, 2048]⟩
abbrev S4096x2048 : Shape := ⟨2, ![4096, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S4x2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x8192 : Shape := ⟨2, ![4096, 8192]⟩
abbrev S4x2048x2048 : Shape := ⟨3, ![4, 2048, 2048]⟩
abbrev S_ : Shape := ⟨0, ![]⟩
abbrev S4096x2048 : Shape := ⟨2, ![4096, 2048]⟩
abbrev S2048x4x2048 : Shape := ⟨3, ![2048, 4, 2048]⟩
abbrev S2048x8192 : Shape := ⟨2, ![2048, 8192]⟩

abbrev nBuf : Space → Nat
  | .hbm => 10
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4x2048x2048, .bf16⟩
  | .hbm, ⟨2, _⟩ => ⟨S_, .f32⟩
  | .hbm, ⟨3, _⟩ => ⟨S4096x2048, .f32⟩
  | .hbm, ⟨4, _⟩ => ⟨S4x2048x2048, .f32⟩
  | .hbm, ⟨5, _⟩ => ⟨S2048x4x2048, .f32⟩
  | .hbm, ⟨6, _⟩ => ⟨S2048x8192, .f32⟩
  | .hbm, ⟨7, _⟩ => ⟨S4096x8192, .f32⟩
  | .hbm, ⟨8, _⟩ => ⟨S4096x8192, .f32⟩
  | .hbm, ⟨9, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S4096x10240 : Shape := ⟨2, ![4096, 10240]⟩
abbrev S4x2048x2560 : Shape := ⟨3, ![4, 2048, 2560]⟩
abbrev S4096x2048 : Shape := ⟨2, ![4096, 2048]⟩
abbrev S1024x2560 : Shape := ⟨2, ![1024, 2560]⟩
abbrev S1x1024x2560 : Shape := ⟨3, ![1, 1024, 2560]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x10240, .bf16⟩
  | .hbm, ⟨1, _⟩ => ⟨S4x2048x2560, .bf16⟩
  | .hbm, ⟨2, _⟩ => ⟨S4096x2048, .f32⟩
  | .hbm, ⟨3, _⟩ => ⟨S4096x2048, .f32⟩
  | .local _ .vmem, ⟨0, _⟩ => ⟨S1024x2560, .bf16⟩
  | .local _ .vmem, ⟨1, _⟩ => ⟨S1024x2560, .bf16⟩
  | .local _ .vmem, ⟨2, _⟩ => ⟨S1x1024x2560, .bf16⟩
  | .local _ .vmem, ⟨3, _⟩ => ⟨S1x1024x2560, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S4096x10240 : Shape := ⟨2, ![4096, 10240]⟩
abbrev S4x2048x2560 : Shape := ⟨3, ![4, 2048, 2560]⟩
abbrev S4096x2048 : Shape := ⟨2, ![4096, 2048]⟩
abbrev S_ : Shape := ⟨0, ![]⟩
abbrev S2048x4x2560 : Shape := ⟨3, ![2048, 4, 2560]⟩
abbrev S2048x10240 : Shape := ⟨2, ![2048, 10240]⟩

abbrev nBuf : Space → Nat
  | .hbm => 18
  | .vmem => 0
  | .smem => 0
  | _ => 0

abbrev bufTy : (tb : Table) → Fin (tcTables nBuf tb) → BufTy
  | .hbm, ⟨0, _⟩ => ⟨S4096x10240, .bf16⟩
  | .hbm, ⟨1, _⟩ => ⟨S4x2048x2560, .bf16⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4x2048x2560, .f32⟩
  | .hbm, ⟨6, _⟩ => ⟨S2048x4x2560, .f32⟩
  | .hbm, ⟨7, _⟩ => ⟨S2048x10240, .f32⟩
  | .hbm, ⟨8, _⟩ => ⟨S4096x10240, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S4096x10240, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | _, _ => ⟨S4096x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Kernel10.lean ====
abbrev S4096x2048 : Shape := ⟨2, ![4096, 2048]⟩
abbrev S2048x2048 : Shape := ⟨2, ![2048, 2048]⟩
abbrev S4096x10240 : Shape := ⟨2, ![4096, 10240]⟩
abbrev S1024x1024 : Shape := ⟨2, ![1024, 1024]⟩

abbrev nBuf : Space → Nat
  | .hbm => 8
  | .vmem => 20
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .hbm, ⟨3, _⟩ => ⟨S2048x2048, .bf16⟩
  | .hbm, ⟨4, _⟩ => ⟨S4096x10240, .bf16⟩
  | .hbm, ⟨5, _⟩ => ⟨S4096x2048, .bf16⟩
  | .hbm, ⟨6, _⟩ => ⟨S4096x2048, .bf16⟩
  | .hbm, ⟨7, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .f32⟩
  | .local _ .vmem, ⟨19, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v19 : BitVec 1 := Scalar.cmpi .eq arg2 c1_i32
  let v20 : BitVec 32 := Scalar.extui v19
  let c0_i32_17 : BitVec 32 := 0#32
  let v21 : BitVec 1 := Scalar.cmpi .ne v20 c0_i32_17
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== Reference10Ideal.lean ====
abbrev S4096x2048 : Shape := ⟨2, ![4096, 2048]⟩
abbrev S2048x2048 : Shape := ⟨2, ![2048, 2048]⟩
abbrev S4096x10240 : Shape := ⟨2, ![4096, 10240]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .hbm, ⟨3, _⟩ => ⟨S2048x2048, .bf16⟩
  | .hbm, ⟨4, _⟩ => ⟨S4096x10240, .bf16⟩
  | .hbm, ⟨5, _⟩ => ⟨S4096x2048, .f32⟩
  | .hbm, ⟨6, _⟩ => ⟨S2048x2048, .f32⟩
  | .hbm, ⟨7, _⟩ => ⟨S4096x2048, .f32⟩
  | .hbm, ⟨8, _⟩ => ⟨S4096x2048, .f32⟩
  | .hbm, ⟨9, _⟩ => ⟨S2048x2048, .f32⟩
  | .hbm, ⟨10, _⟩ => ⟨S4096x2048, .f32⟩
  | .hbm, ⟨11, _⟩ => ⟨S4096x2048, .bf16⟩
  | .hbm, ⟨12, _⟩ => ⟨S4096x2048, .f32⟩
  | .hbm, ⟨13, _⟩ => ⟨S4096x2048, .bf16⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .bf16⟩
  | .hbm, ⟨35, _⟩ => ⟨S4096x2048, .bf16⟩
  | .hbm, ⟨36, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Kernel11.lean ====
abbrev S4096x2048 : Shape := ⟨2, ![4096, 2048]⟩
abbrev S2048x2048 : Shape := ⟨2, ![2048, 2048]⟩
abbrev S4096x10240 : Shape := ⟨2, ![4096, 10240]⟩
abbrev S1024x2048 : Shape := ⟨2, ![1024, 2048]⟩
abbrev S1024x1024 : Shape := ⟨2, ![1024, 1024]⟩

abbrev nBuf : Space → Nat
  | .hbm => 9
  | .vmem => 20
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x10240, .bf16⟩
  | .hbm, ⟨3, _⟩ => ⟨S4096x2048, .bf16⟩
  | .hbm, ⟨4, _⟩ => ⟨S4096x2048, .bf16⟩
  | .hbm, ⟨5, _⟩ => ⟨S4096x2048, .bf16⟩
  | .hbm, ⟨6, _⟩ => ⟨S4096x2048, .bf16⟩
  | .hbm, ⟨7, _⟩ => ⟨S4096x2048, .bf16⟩
  | .hbm, ⟨8, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== Reference11Ideal.lean ====
abbrev S4096x2048 : Shape := ⟨2, ![4096, 2048]⟩
abbrev S2048x2048 : Shape := ⟨2, ![2048, 2048]⟩
abbrev S4096x10240 : Shape := ⟨2, ![4096, 10240]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x10240, .bf16⟩
  | .hbm, ⟨3, _⟩ => ⟨S4096x2048, .bf16⟩
  | .hbm, ⟨4, _⟩ => ⟨S4096x2048, .bf16⟩
  | .hbm, ⟨5, _⟩ => ⟨S4096x2048, .bf16⟩
  | .hbm, ⟨6, _⟩ => ⟨S4096x2048, .f32⟩
  | .hbm, ⟨7, _⟩ => ⟨S4096x2048, .bf16⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S2048x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .bf16⟩
  | .hbm, ⟨49, _⟩ => ⟨S4096x2048, .bf16⟩
  | .hbm, ⟨50, _⟩ => ⟨S4096x2048, .bf16⟩
  | .hbm, ⟨51, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩

abbrev nD : Nat := 1
abbrev τ : Topo := Topo.v7x

variable {F : FTy → Type} [FloatOps F]
-- ==== Kernel12.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel14.lean ====
abbrev S4096x2048 : Shape := ⟨2, ![4096, 2048]⟩
abbrev S2048x2048 : Shape := ⟨2, ![2048, 2048]⟩
abbrev S1x2048 : Shape := ⟨2, ![1, 2048]⟩
abbrev S4096x1 : Shape := ⟨2, ![4096, 1]⟩
abbrev S512x2048 : Shape := ⟨2, ![512, 2048]⟩
abbrev S512x1 : Shape := ⟨2, ![512, 1]⟩
abbrev S512 : Shape := ⟨1, ![512]⟩

abbrev nBuf : Space → Nat
  | .hbm => 9
  | .vmem => 14
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S4096x2048, .f32⟩
  | .hbm, ⟨7, _⟩ => ⟨S4096x2048, .bf16⟩
  | .hbm, ⟨8, _⟩ => ⟨S4096x1, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S512x1, .f32⟩
  | .local _ .vmem, ⟨13, _⟩ => ⟨S512x1, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== Reference14Ideal.lean ====
abbrev S4096x2048 : Shape := ⟨2, ![4096, 2048]⟩
abbrev S2048x2048 : Shape := ⟨2, ![2048, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 43
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S4096x2048, .f32⟩
  | .hbm, ⟨7, _⟩ => ⟨S2048x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Kernel15.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S256x2048 : Shape := ⟨2, ![256, 2048]⟩
abbrev S256x1 : Shape := ⟨2, ![256, 1]⟩
abbrev S256 : Shape := ⟨1, ![256]⟩
abbrev S2048 : Shape := ⟨1, ![2048]⟩

abbrev nBuf : Space → Nat
  | .hbm => 30
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .bf16⟩
  | .hbm, ⟨27, _⟩ => ⟨S1x2048, .f32⟩
  | .hbm, ⟨28, _⟩ => ⟨S1x2048, .f32⟩
  | .hbm, ⟨29, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x1, .f32⟩
  | .local _ .vmem, ⟨7, _⟩ => ⟨S256x1, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S1x2048, .f32⟩
  | .local _ .vmem, ⟨14, _⟩ => ⟨S1x2048, .f32⟩
  | .local _ .vmem, ⟨15, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev main_v16_3 : Ref sig .tc := ⟨.hbm, 28, rfl⟩
abbrev main_v16_4 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v35 : BitVec 32 := Scalar.extui v1
  let c0_i32_18 : BitVec 32 := 0#32
  let v36 : BitVec 1 := Scalar.cmpi .ne v35 c0_i32_18
  v36

def k0_cond2 (i : grid0.Coords) : BitVec 1 :=
  let arg0 : BitVec 32 := BitVec.ofNat 32 (i 0).val
  let c0_i32 : BitVec 32 := 0#32
  let v1 : BitVec 1 := Scalar.cmpi .eq arg0 c0_i32
  let v_true : BitVec 1 := 1#1
  let v37 : BitVec 1 := Scalar.xori v1 v_true
  let v38 : BitVec 32 := Scalar.extui v37
  let c0_i32_19 : BitVec 32 := 0#32
  let v39 : BitVec 1 := Scalar.cmpi .ne v38 c0_i32_19
  v39

def k0_cond3 (i : grid0.Coords) : BitVec 1 :=
  let arg0 : BitVec 32 := BitVec.ofNat 32 (i 0).val
  let c0_i32 : BitVec 32 := 0#32
  let v1 : BitVec 1 := Scalar.cmpi .eq arg0 c0_i32
  let v42 : BitVec 32 := Scalar.extui v1
  let c0_i32_21 : BitVec 32 := 0#32
  let v43 : BitVec 1 := Scalar.cmpi .ne v42 c0_i32_21
  v43

def k0_cond4 (i : grid0.Coords) : BitVec 1 :=
  let arg0 : BitVec 32 := BitVec.ofNat 32 (i 0).val
  let c0_i32 : BitVec 32 := 0#32
  let v1 : BitVec 1 := Scalar.cmpi .eq arg0 c0_i32
  let true_22 : BitVec 1 := 1#1
  let v44 : BitVec 1 := Scalar.xori v1 true_22
  let v45 : BitVec 32 := Scalar.extui v44
  let c0_i32_23 : BitVec 32 := 0#32
  let v46 : BitVec 1 := Scalar.cmpi .ne v45 c0_i32_23
  v46

def k0_cond5 (i : grid0.Coords) : BitVec 1 :=
  let arg0 : BitVec 32 := BitVec.ofNat 32 (i 0).val
  let c0_i32 : BitVec 32 := 0#32
  let v1 : BitVec 1 := Scalar.cmpi .eq arg0 c0_i32
  let v49 : BitVec 32 := Scalar.extui v1
  let c0_i32_25 : BitVec 32 := 0#32
  let v50 : BitVec 1 := Scalar.cmpi .ne v49 c0_i32_25
  v50

def k0_cond6 (i : grid0.Coords) : BitVec 1 :=
  let arg0 : BitVec 32 := BitVec.ofNat 32 (i 0).val
  let c0_i32 : BitVec 32 := 0#32
  let v1 : BitVec 1 := Scalar.cmpi .eq arg0 c0_i32
  let true_26 : BitVec 1 := 1#1
  let v51 : BitVec 1 := Scalar.xori v1 true_26
  let v52 : BitVec 32 := Scalar.extui v51
  let c0_i32_27 : BitVec 32 := 0#32
  let v53 : BitVec 1 := Scalar.cmpi .ne v52 c0_i32_27
  v53

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference15Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 86
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S4096x2048, .f32⟩
  | .hbm, ⟨39, _⟩ => ⟨S4096x2048, .f32⟩
  | .hbm, ⟨40, _⟩ => ⟨S_, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S_, .f32⟩
  | .hbm, ⟨46, _⟩ => ⟨S2048, .f32⟩
  | .hbm, ⟨47, _⟩ => ⟨S1x2048, .f32⟩
  | .hbm, ⟨48, _⟩ => ⟨S4096x2048, .f32⟩
  | .hbm, ⟨49, _⟩ => ⟨S_, .f32⟩
  | .hbm, ⟨50, _⟩ => ⟨S2048, .f32⟩
  | .hbm, ⟨51, _⟩ => ⟨S1x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x2048, .f32⟩
  | .hbm, ⟨59, _⟩ => ⟨S4096x2048, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S4096x2048, .f32⟩
  | .hbm, ⟨72, _⟩ => ⟨S_, .f32⟩
  | .hbm, ⟨73, _⟩ => ⟨S4096, .f32⟩
  | .hbm, ⟨74, _⟩ => ⟨S4096x1, .f32⟩
  | .hbm, ⟨75, _⟩ => ⟨S_, .f32⟩
  | .hbm, ⟨76, _⟩ => ⟨S4096x1, .f32⟩
  | .hbm, ⟨77, _⟩ => ⟨S4096x1, .f32⟩
  | .hbm, ⟨78, _⟩ => ⟨S_, .f32⟩
  | .hbm, ⟨79, _⟩ => ⟨S4096, .f32⟩
  | .hbm, ⟨80, _⟩ => ⟨S4096x2048, .f32⟩
  | .hbm, ⟨81, _⟩ => ⟨S4096x2048, .f32⟩
  | .hbm, ⟨82, _⟩ => ⟨S_, .f32⟩
  | .hbm, ⟨83, _⟩ => ⟨S2048, .f32⟩
  | .hbm, ⟨84, _⟩ => ⟨S1x2048, .f32⟩
  | .hbm, ⟨85, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_11 : Ref sig .tc := ⟨.hbm, 61, rfl⟩
abbrev main_v45 : Ref sig .tc := ⟨.hbm, 62, rfl⟩
abbrev main_v46 : Ref sig .tc := ⟨.hbm, 63, rfl⟩
abbrev main_cst_12 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_13 : Ref sig .tc := ⟨.hbm, 72, rfl⟩
abbrev main_v54 : Ref sig .tc := ⟨.hbm, 73, rfl⟩
abbrev main_v55 : Ref sig .tc := ⟨.hbm, 74, rfl⟩
abbrev main_cst_14 : Ref sig .tc := ⟨.hbm, 75, rfl⟩
abbrev main_v56 : Ref sig .tc := ⟨.hbm, 76, rfl⟩
abbrev main_v57 : Ref sig .tc := ⟨.hbm, 77, rfl⟩
abbrev main_cst_15 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_16 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩

abbrev nD : Nat := 1
abbrev τ : Topo := Topo.v7x

variable {F : FTy → Type} [FloatOps F]
-- ==== Kernel16.lean ====
abbrev S4096x2048 : Shape := ⟨2, ![4096, 2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S2048 : Shape := ⟨1, ![2048]⟩

abbrev nBuf : Space → Nat
  | .hbm => 14
  | .vmem => 19
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S4096x2048, .f32⟩
  | .hbm, ⟨8, _⟩ => ⟨S4096x2048, .f32⟩
  | .hbm, ⟨9, _⟩ => ⟨S4096x2048, .bf16⟩
  | .hbm, ⟨10, _⟩ => ⟨S1x2048, .f32⟩
  | .hbm, ⟨11, _⟩ => ⟨S1x2048, .f32⟩
  | .hbm, ⟨12, _⟩ => ⟨S1x2048, .f32⟩
  | .hbm, ⟨13, _⟩ => ⟨S1x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .bf16⟩
  | .local _ .vmem, ⟨14, _⟩ => ⟨S256x2048, .bf16⟩
  | .local _ .vmem, ⟨15, _⟩ => ⟨S1x2048, .f32⟩
  | .local _ .vmem, ⟨16, _⟩ => ⟨S1x2048, .f32⟩
  | .local _ .vmem, ⟨17, _⟩ => ⟨S1x2048, .f32⟩
  | .local _ .vmem, ⟨18, _⟩ => ⟨S1x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17
abbrev cc0_sem13_0 : DmaSem sig := 18

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v74 : BitVec 32 := Scalar.extui v1
  let c0_i32_34 : BitVec 32 := 0#32
  let v75 : BitVec 1 := Scalar.cmpi .ne v74 c0_i32_34
  v75

def k0_cond2 (i : grid0.Coords) : BitVec 1 :=
  let arg0 : BitVec 32 := BitVec.ofNat 32 (i 0).val
  let c0_i32 : BitVec 32 := 0#32
  let v1 : BitVec 1 := Scalar.cmpi .eq arg0 c0_i32
  let v_true : BitVec 1 := 1#1
  let v76 : BitVec 1 := Scalar.xori v1 v_true
  let v77 : BitVec 32 := Scalar.extui v76
  let c0_i32_35 : BitVec 32 := 0#32
  let v78 : BitVec 1 := Scalar.cmpi .ne v77 c0_i32_35
  v78

def k0_cond3 (i : grid0.Coords) : BitVec 1 :=
  let arg0 : BitVec 32 := BitVec.ofNat 32 (i 0).val
  let c0_i32 : BitVec 32 := 0#32
  let v1 : BitVec 1 := Scalar.cmpi .eq arg0 c0_i32
  let v81 : BitVec 32 := Scalar.extui v1
  let c0_i32_37 : BitVec 32 := 0#32
  let v82 : BitVec 1 := Scalar.cmpi .ne v81 c0_i32_37
  v82

def k0_cond4 (i : grid0.Coords) : BitVec 1 :=
  let arg0 : BitVec 32 := BitVec.ofNat 32 (i 0).val
  let c0_i32 : BitVec 32 := 0#32
  let v1 : BitVec 1 := Scalar.cmpi .eq arg0 c0_i32
  let true_38 : BitVec 1 := 1#1
  let v83 : BitVec 1 := Scalar.xori v1 true_38
  let v84 : BitVec 32 := Scalar.extui v83
  let c0_i32_39 : BitVec 32 := 0#32
  let v85 : BitVec 1 := Scalar.cmpi .ne v84 c0_i32_39
  v85

def k0_cond5 (i : grid0.Coords) : BitVec 1 :=
  let arg0 : BitVec 32 := BitVec.ofNat 32 (i 0).val
  let c0_i32 : BitVec 32 := 0#32
  let v1 : BitVec 1 := Scalar.cmpi .eq arg0 c0_i32
  let v88 : BitVec 32 := Scalar.extui v1
  let c0_i32_41 : BitVec 32 := 0#32
  let v89 : BitVec 1 := Scalar.cmpi .ne v88 c0_i32_41
  v89

def k0_cond6 (i : grid0.Coords) : BitVec 1 :=
  let arg0 : BitVec 32 := BitVec.ofNat 32 (i 0).val
  let c0_i32 : BitVec 32 := 0#32
  let v1 : BitVec 1 := Scalar.cmpi .eq arg0 c0_i32
  let true_42 : BitVec 1 := 1#1
  let v90 : BitVec 1 := Scalar.xori v1 true_42
  let v91 : BitVec 32 := Scalar.extui v90
  let c0_i32_43 : BitVec 32 := 0#32
  let v92 : BitVec 1 := Scalar.cmpi .ne v91 c0_i32_43
  v92

def k0_cond7 (i : grid0.Coords) : BitVec 1 :=
  let arg0 : BitVec 32 := BitVec.ofNat 32 (i 0).val
  let c0_i32 : BitVec 32 := 0#32
  let v1 : BitVec 1 := Scalar.cmpi .eq arg0 c0_i32
  let v95 : BitVec 32 := Scalar.extui v1
  let c0_i32_44 : BitVec 32 := 0#32
  let v96 : BitVec 1 := Scalar.cmpi .ne v95 c0_i32_44
  v96

def k0_cond8 (i : grid0.Coords) : BitVec 1 :=
  let arg0 : BitVec 32 := BitVec.ofNat 32 (i 0).val
  let c0_i32 : BitVec 32 := 0#32
  let v1 : BitVec 1 := Scalar.cmpi .eq arg0 c0_i32
  let true_45 : BitVec 1 := 1#1
  let v97 : BitVec 1 := Scalar.xori v1 true_45
  let v98 : BitVec 32 := Scalar.extui v97
  let c0_i32_46 : BitVec 32 := 0#32
  let v99 : BitVec 1 := Scalar.cmpi .ne v98 c0_i32_46
  v99

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference16Ideal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x128 : Shape := ⟨2, ![1, 128]⟩

abbrev nBuf : Space → Nat
  | .hbm => 131
  | .vmem => 0
  | .smem => 0
  | _ => 0

abbrev hbmTy0_0 (i : Nat) : BufTy := match i % 128 with
  | 0 => ⟨S4096x2048, .f32⟩
  | 1 => ⟨S4096x2048, .f32⟩
  | 2 => ⟨S1x2048, .f32⟩
  | 3 => ⟨S1x2048, .f32⟩
  | 4 => ⟨S1x2048, .f32⟩
  | 5 => ⟨S1x2048, .f32⟩
  | 6 => ⟨S1x2048, .f32⟩
  | 7 => ⟨S4096x2048, .f32⟩
  | 8 => ⟨S2048, .f32⟩
  | 9 => ⟨S2048, .f32⟩
  | 10 => ⟨S2048, .f32⟩
  | 11 => ⟨S2048, .f32⟩
  | 12 => ⟨S1x2048, .f32⟩
  | 13 => ⟨S4096x2048, .f32⟩
  | 14 => ⟨S4096x2048, .f32⟩
  | 15 => ⟨S2048, .f32⟩
  | 16 => ⟨S1x2048, .f32⟩
  | 17 => ⟨S4096x2048, .f32⟩
  | 18 => ⟨S4096x2048, .f32⟩
  | 19 => ⟨S_, .f32⟩
  | 20 => ⟨S4096x2048, .f32⟩
  | 21 => ⟨S4096x2048, .f32⟩
  | 22 => ⟨S1x2048, .f32⟩
  | 23 => ⟨S4096x2048, .f32⟩
  | 24 => ⟨S4096x2048, .f32⟩
  | 25 => ⟨S4096x2048, .f32⟩
  | 26 => ⟨S_, .f32⟩
  | 27 => ⟨S4096, .f32⟩
  | 28 => ⟨S4096x1, .f32⟩
  | 29 => ⟨S_, .f32⟩
  | 30 => ⟨S4096x1, .f32⟩
  | 31 => ⟨S4096x1, .f32⟩
  | 32 => ⟨S4096x2048, .f32⟩
  | 33 => ⟨S4096x2048, .f32⟩
  | 34 => ⟨S4096x2048, .f32⟩
  | 35 => ⟨S_, .f32⟩
  | 36 => ⟨S4096, .f32⟩
  | 37 => ⟨S4096x1, .f32⟩
  | 38 => ⟨S_, .f32⟩
  | 39 => ⟨S4096x1, .f32⟩
  | 40 => ⟨S4096x1, .f32⟩
  | 41 => ⟨S_, .f32⟩
  | 42 => ⟨S4096x1, .f32⟩
  | 43 => ⟨S4096x1, .f32⟩
  | 44 => ⟨S4096x1, .f32⟩
  | 45 => ⟨S4096x1, .f32⟩
  | 46 => ⟨S_, .f32⟩
  | 47 => ⟨S4096x1, .f32⟩
  | 48 => ⟨S4096x1, .f32⟩
  | 49 => ⟨S4096x2048, .f32⟩
  | 50 => ⟨S4096x2048, .f32⟩
  | 51 => ⟨S1x2048, .f32⟩
  | 52 => ⟨S4096x2048, .f32⟩
  | 53 => ⟨S4096x2048, .f32⟩
  | 54 => ⟨S1x2048, .f32⟩
  | 55 => ⟨S4096x2048, .f32⟩
  | 56 => ⟨S4096x2048, .f32⟩
  | 57 => ⟨S4096x2048, .f32⟩
  | 58 => ⟨S4096x2048, .f32⟩
  | 59 => ⟨S_, .f32⟩
  | 60 => ⟨S4096x2048, .f32⟩
  | 61 => ⟨S4096x2048, .f32⟩
  | 62 => ⟨S_, .f32⟩
  | 63 => ⟨S4096, .f32⟩
  | 64 => ⟨S_, .f32⟩
  | 65 => ⟨S4096, .f32⟩
  | 66 => ⟨S4096, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S4096, .f32⟩
  | 75 => ⟨S_, .f32⟩
  | 76 => ⟨S4096, .f32⟩
  | 77 => ⟨S4096, .f32⟩
  | 78 => ⟨S4096x2048, .f32⟩
  | 79 => ⟨S4096x2048, .f32⟩
  | 80 => ⟨S_, .f32⟩
  | 81 => ⟨S2048, .f32⟩
  | 82 => ⟨S1x2048, .f32⟩
  | 83 => ⟨S_, .f32⟩
  | 84 => ⟨S2048, .f32⟩
  | 85 => ⟨S4096x2048, .f32⟩
  | 86 => ⟨S_, .f32⟩
  | 87 => ⟨S2048, .f32⟩
  | 88 => ⟨S1x2048, .f32⟩
  | 89 => ⟨S4096x2048, .f32⟩
  | 90 => ⟨S4096x2048, .f32⟩
  | 91 => ⟨S_, .f32⟩
  | 92 => ⟨S2048, .f32⟩
  | 93 => ⟨S4096x2048, .f32⟩
  | 94 => ⟨S_, .f32⟩
  | 95 => ⟨S4096, .f32⟩
  | 96 => ⟨S4096x1, .f32⟩
  | 97 => ⟨S4096x2048, .f32⟩
  | 98 => ⟨S4096x2048, .f32⟩
  | 99 => ⟨S4096x1, .f32⟩
  | 100 => ⟨S_, .f32⟩
  | 101 => ⟨S4096x1, .f32⟩
  | 102 => ⟨S4096x1, .f32⟩
  | 103 => ⟨S_, .f32⟩
  | 104 => ⟨S4096, .f32⟩
  | 105 => ⟨S4096x2048, .f32⟩
  | 106 => ⟨S4096x2048, .f32⟩
  | 107 => ⟨S4096x2048, .f32⟩
  | 108 => ⟨S4096x2048, .f32⟩
  | 109 => ⟨S4096x2048, .f32⟩
  | 110 => ⟨S4096x2048, .f32⟩
  | 111 => ⟨S_, .f32⟩
  | 112 => ⟨S4096, .f32⟩
  | 113 => ⟨S4096x1, .f32⟩
  | 114 => ⟨S_, .f32⟩
  | 115 => ⟨S4096x1, .f32⟩
  | 116 => ⟨S4096x1, .f32⟩
  | 117 => ⟨S_, .f32⟩
  | 118 => ⟨S4096, .f32⟩
  | 119 => ⟨S4096x2048, .f32⟩
  | 120 => ⟨S4096x2048, .f32⟩
  | 121 => ⟨S_, .f32⟩
  | 122 => ⟨S2048, .f32⟩
  | 123 => ⟨S1x2048, .f32⟩
  | 124 => ⟨S_, .f32⟩
  | 125 => ⟨S2048, .f32⟩
  | 126 => ⟨S4096x2048, .bf16⟩
  | 127 => ⟨S1x2048, .f32⟩
  | _ => ⟨S4096x2048, .f32⟩

abbrev hbmTy0_1 (i : Nat) : BufTy := match i % 128 with
  | 0 => ⟨S1x2048, .f32⟩
  | 1 => ⟨S1x2048, .f32⟩
  | 2 => ⟨S1x128, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_6 : Ref sig .tc := ⟨.hbm, 59, rfl⟩
abbrev main_v44 : Ref sig .tc := ⟨.hbm, 60, rfl⟩
abbrev main_v45 : Ref sig .tc := ⟨.hbm, 61, rfl⟩
abbrev main_cst_7 : Ref sig .tc := ⟨.hbm, 62, rfl⟩
abbrev main_v46 : Ref sig .tc := ⟨.hbm, 63, rfl⟩
abbrev main_cst_8 : Ref sig .tc := ⟨.hbm, 64, rfl⟩
abbrev main_v47 : Ref sig .tc := ⟨.hbm, 65, rfl⟩
abbrev main_v48 : Ref sig .tc := ⟨.hbm, 66, rfl⟩
abbrev main_cst_9 : Ref sig .tc := ⟨.hbm, 67, rfl⟩
abbrev main_v49 : Ref sig .tc := ⟨.hbm, 68, rfl⟩
abbrev main_cst_10 : Ref sig .tc := ⟨.hbm, 69, rfl⟩
abbrev main_v50 : Ref sig .tc := ⟨.hbm, 70, rfl⟩
abbrev main_cst_11 : Ref sig .tc := ⟨.hbm, 71, rfl⟩
abbrev main_cst_12 : Ref sig .tc := ⟨.hbm, 72, rfl⟩
abbrev main_v51 : Ref sig .tc := ⟨.hbm, 73, rfl⟩
abbrev main_v52 : Ref sig .tc := ⟨.hbm, 74, rfl⟩
abbrev main_cst_13 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_14 : Ref sig .tc := ⟨.hbm, 80, rfl⟩
abbrev main_v57 : Ref sig .tc := ⟨.hbm, 81, rfl⟩
abbrev main_v58 : Ref sig .tc := ⟨.hbm, 82, rfl⟩
abbrev main_cst_15 : Ref sig .tc := ⟨.hbm, 83, rfl⟩
abbrev main_v59 : Ref sig .tc := ⟨.hbm, 84, rfl⟩
abbrev main_v60 : Ref sig .tc := ⟨.hbm, 85, rfl⟩
abbrev main_cst_16 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_17 : Ref sig .tc := ⟨.hbm, 91, rfl⟩
abbrev main_v65 : Ref sig .tc := ⟨.hbm, 92, rfl⟩
abbrev main_v66 : Ref sig .tc := ⟨.hbm, 93, rfl⟩
abbrev main_cst_18 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_19 : Ref sig .tc := ⟨.hbm, 100, rfl⟩
abbrev main_v72 : Ref sig .tc := ⟨.hbm, 101, rfl⟩
abbrev main_v73 : Ref sig .tc := ⟨.hbm, 102, rfl⟩
abbrev main_cst_20 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_21 : Ref sig .tc := ⟨.hbm, 111, rfl⟩
abbrev main_v81 : Ref sig .tc := ⟨.hbm, 112, rfl⟩
abbrev main_v82 : Ref sig .tc := ⟨.hbm, 113, rfl⟩
abbrev main_cst_22 : Ref sig .tc := ⟨.hbm, 114, rfl⟩
abbrev main_v83 : Ref sig .tc := ⟨.hbm, 115, rfl⟩
abbrev main_v84 : Ref sig .tc := ⟨.hbm, 116, rfl⟩
abbrev main_cst_23 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_24 : Ref sig .tc := ⟨.hbm, 121, rfl⟩
abbrev main_v88 : Ref sig .tc := ⟨.hbm, 122, rfl⟩
abbrev main_v89 : Ref sig .tc := ⟨.hbm, 123, rfl⟩
abbrev main_cst_25 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩

abbrev nD : Nat := 1
abbrev τ : Topo := Topo.v7x

variable {F : FTy → Type} [FloatOps F]
-- ==== Proof.BitsRun.lean ====
/-
  The body of the backward pooling kernel as it is compiled, run at a point of its grid: whatever branch the point
  takes, it hands its input windows back as they were and leaves its outputs and scratch at some contents.
-/
module

public import proofs.«01_k».proof.Proof.Gen.Kernel.Frame.Runs

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body run at a point that takes exactly one of the four branches. -/
theorem body_run (c : Dev nD) (i : grid0.Coords) (arg1 : Memref sig .tc .vmem S4096x512 .bf16) (harg1 : arg1.IsWhole) (arg2 : Memref sig .tc .vmem S4096x512 .bf16) (harg2 : arg2.IsWhole) (arg3 : Memref sig .tc .vmem S1x512x512 .bf16) (harg3 : arg3.IsWhole) (arg4 : Memref sig .tc .vmem S1x512 .f32) (harg4 : arg4.IsWhole) (arg5 : Memref sig .tc .vmem S4096x512 .bf16) (harg5 : arg5.IsWhole) (arg6 : Memref sig .tc .vmem S1x512x512 .bf16) (harg6 : arg6.IsWhole) (arg7 : Memref sig .tc .vmem S1x512 .f32) (harg7 : arg7.IsWhole) (arg8 : Memref sig .tc .vmem S4112x512 .f32) (harg8 : arg8.IsWhole) (arg9 : Memref sig .tc .vmem S512x512 .f32) (harg9 : arg9.IsWhole)
    (hc : (cond0_0 i ∧ ¬cond0_1 i ∧ ¬cond0_2 i ∧ ¬cond0_3 i) ∨ (¬cond0_0 i ∧ cond0_1 i ∧ ¬cond0_2 i ∧ ¬cond0_3 i)
      ∨ (¬cond0_0 i ∧ ¬cond0_1 i ∧ cond0_2 i ∧ ¬cond0_3 i) ∨ (¬cond0_0 i ∧ ¬cond0_1 i ∧ ¬cond0_2 i ∧ cond0_3 i))
    (x0 : Vec F S4096x512 .bf16) (x1 : Vec F S4096x512 .bf16) (x2 : Vec F S1x512x512 .bf16) (x3 : Vec F S1x512 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_pool_bwd i arg1 harg1 arg2 harg2 arg3 harg3 arg4 harg4 arg5 harg5 arg6 harg6 arg7 harg7 arg8 harg8 arg9 harg9) K := by
    intro E K
    simp only [cc0_pool_bwd_eq_skeleton]; unfold cc0_pool_bwd_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    obtain ⟨hc0, hc1, hc2, hc3⟩ | ⟨hc0, hc1, hc2, hc3⟩ | ⟨hc0, hc1, hc2, hc3⟩ | ⟨hc0, hc1, hc2, hc3⟩ := hc
    all_goals
      sl_exec (disch := first | sl_exact hc0 | sl_exact hc1 | sl_exact hc2 | sl_exact hc3)
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _, _; isplitr; swap; · iexact H4
        ipureintro; rfl
      isplitl [H5]
      · iexists _, _; isplitr; swap; · iexact H5
        ipureintro; rfl
      isplitl [H6]
      · iexists _, _; isplitr; swap; · iexact H6
        ipureintro; rfl
      isplitl [HS0]
      · iexists _, _; isplitr; swap; · iexact HS0
        ipureintro; rfl
      iexists _, _; isplitr; swap; · iexact HS1
      ipureintro; rfl

end Cert.Kernel.Gen

end
-- ==== Proof.BitsFrame.lean ====
/-
  The backward pooling program as it is compiled terminates with its arguments unchanged; of what it writes nothing is
  said here.
-/
module

public import proofs.«01_k».proof.Proof.BitsRun
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The three output windows, of whose contents nothing is said. -/
def forgets0 : Fin 7 → Bool := fun w => w.val == 4 || w.val == 5 || w.val == 6

/-- The arrays as the launch finds them, and each input's buffer at its block after every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

/-- The arrays are those the launch finds. -/
theorem A_eq (c : Dev nD) (w : Fin cfg0.W) : (dats m 0 c).A w = V m c (Pipeline.arrRef spec0 w) := by
  dsimp only [dats]

/-- What the body leaves in each input window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with, window by window. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare d))

/-- What the body returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (∃ d, owns (c : Thread nD τ) (ms0_4 t) fullShare d)
    ∗ (∃ d, owns (c : Thread nD τ) (ms0_5 t) fullShare d)
    ∗ (∃ d, owns (c : Thread nD τ) (ms0_6 t) fullShare d))

set_option maxHeartbeats 3200000 in
/-- The body at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 4 := lt_of_lt_of_eq t.isLt (show cfg0.N = 4 from N_0)
  have hc : (cond0_0 (grid0.coords t) ∧ ¬cond0_1 (grid0.coords t) ∧ ¬cond0_2 (grid0.coords t) ∧ ¬cond0_3 (grid0.coords t))
      ∨ (¬cond0_0 (grid0.coords t) ∧ cond0_1 (grid0.coords t) ∧ ¬cond0_2 (grid0.coords t) ∧ ¬cond0_3 (grid0.coords t))
      ∨ (¬cond0_0 (grid0.coords t) ∧ ¬cond0_1 (grid0.coords t) ∧ cond0_2 (grid0.coords t) ∧ ¬cond0_3 (grid0.coords t))
      ∨ (¬cond0_0 (grid0.coords t) ∧ ¬cond0_1 (grid0.coords t) ∧ ¬cond0_2 (grid0.coords t) ∧ cond0_3 (grid0.coords t)) := by
    rw [hcond0_0, hcond0_1, hcond0_2, hcond0_3]; omega
  rw [show (dats m 0 c).leavesExact 0 t = owns (c : Thread nD τ) (ms0_0 t) fullShare ((dats m 0 c).after 0 t) from by
            unfold Dat.leavesExact; rw [liveAt0_0 t], after0_0]
  rw [show (dats m 0 c).leavesExact 1 t = owns (c : Thread nD τ) (ms0_1 t) fullShare ((dats m 0 c).after 1 t) from by
            unfold Dat.leavesExact; rw [liveAt0_1 t], after0_1]
  rw [show (dats m 0 c).leavesExact 2 t = owns (c : Thread nD τ) (ms0_2 t) fullShare ((dats m 0 c).after 2 t) from by
            unfold Dat.leavesExact; rw [liveAt0_2 t], after0_2]
  rw [show (dats m 0 c).leavesExact 3 t = owns (c : Thread nD τ) (ms0_3 t) fullShare ((dats m 0 c).after 3 t) from by
            unfold Dat.leavesExact; rw [liveAt0_3 t], after0_3]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply ((body_run c (grid0.coords t) _ _ _ _ _ _ _ _ _ _ _ _ _ _ _ _ _ _ hc (iblk m c 0 t) (iblk m c 1 t) (iblk m c 2 t) (iblk m c 3 t)) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS0]; · iexact HS0
  isplitl [HS1]; · iexact HS1
  iintro ⟨H0, H1, H2, H3, H4, H5, H6, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The table's entry at a point is the body there. -/
theorem defs₀_row (t : Fin cfg0.N) :
    defs₀ (F := F) .tc cfg0.body (cfg0.bodyArgs t (cfg0.slots t)) = bodyAt0 t := by
  unfold defs₀; rw [Defs.onTc_tc]

/-- The obligation on the body, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- The launch ends with the inputs as they were and every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch ends with the inputs as they were. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- A run that leaves the input arrays as they were leaves the arguments as they were. -/
theorem frame_of_inputs (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      (Pipeline.RDat.FramePost.arr_in h c 2 rfl).trans ((hA c 2).trans (V_main_arg1 m c)),
      (Pipeline.RDat.FramePost.arr_in h c 3 rfl).trans ((hA c 3).trans (V_main_arg2 m c)),
      ((h c).2 main_arg3 (Pipeline.mem_restRefs_of main_arg3 (by decide) (by decide))).trans (V_main_arg3 m c)⟩) h

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of_inputs m ρ (fun c => (dats m 0 c).toRForget forgets0) (A_eq m) (run_main m ρ)

/-- The program terminates with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Gen

end
-- ==== Proof.PoolCount.lean ====
/-
  The number of positions in a window, as the words the kernel computes it by: at every position, for the four
  half-widths.
-/
module
public import proofs.«01_k».proof.Proof.Gen.KernelIdeal.Skeleton
public import Idealize.ShloMosaic.PureOps.Ideal.Laws
@[expose] public section
set_option maxRecDepth 16384
noncomputable section
namespace Cert.KernelIdeal.Gen
open Idealize.ShloMosaic

/-! ## The words that count -/

theorem count_word1 : ∀ k : Fin 8, ∀ r : Fin 512,
    (IntOp.subi (IntOp.minsi (IntOp.addi (IntOp.addi (Scalar.muli (Scf.iv 0#32 1#32 k.val) 512#32) (BitVec.ofNat 32 r.val)) 1#32) 4096#32)
      (IntOp.maxsi (IntOp.subi (IntOp.addi (Scalar.muli (Scf.iv 0#32 1#32 k.val) 512#32) (BitVec.ofNat 32 r.val)) 1#32) 0#32)).toInt
      = ((min (512 * k.val + r.val + 1) 4096 - (512 * k.val + r.val - 1) : ℕ) : ℤ) := by decide +kernel
theorem count_word2 : ∀ k : Fin 8, ∀ r : Fin 512,
    (IntOp.subi (IntOp.minsi (IntOp.addi (IntOp.addi (Scalar.muli (Scf.iv 0#32 1#32 k.val) 512#32) (BitVec.ofNat 32 r.val)) 2#32) 4096#32)
      (IntOp.maxsi (IntOp.subi (IntOp.addi (Scalar.muli (Scf.iv 0#32 1#32 k.val) 512#32) (BitVec.ofNat 32 r.val)) 2#32) 0#32)).toInt
      = ((min (512 * k.val + r.val + 2) 4096 - (512 * k.val + r.val - 2) : ℕ) : ℤ) := by decide +kernel
theorem count_word4 : ∀ k : Fin 8, ∀ r : Fin 512,
    (IntOp.subi (IntOp.minsi (IntOp.addi (IntOp.addi (Scalar.muli (Scf.iv 0#32 1#32 k.val) 512#32) (BitVec.ofNat 32 r.val)) 4#32) 4096#32)
      (IntOp.maxsi (IntOp.subi (IntOp.addi (Scalar.muli (Scf.iv 0#32 1#32 k.val) 512#32) (BitVec.ofNat 32 r.val)) 4#32) 0#32)).toInt
      = ((min (512 * k.val + r.val + 4) 4096 - (512 * k.val + r.val - 4) : ℕ) : ℤ) := by decide +kernel
theorem count_word8 : ∀ k : Fin 8, ∀ r : Fin 512,
    (IntOp.subi (IntOp.minsi (IntOp.addi (IntOp.addi (Scalar.muli (Scf.iv 0#32 1#32 k.val) 512#32) (BitVec.ofNat 32 r.val)) 8#32) 4096#32)
      (IntOp.maxsi (IntOp.subi (IntOp.addi (Scalar.muli (Scf.iv 0#32 1#32 k.val) 512#32) (BitVec.ofNat 32 r.val)) 8#32) 0#32)).toInt
      = ((min (512 * k.val + r.val + 8) 4096 - (512 * k.val + r.val - 8) : ℕ) : ℤ) := by decide +kernel

/-- A word whose integer is a count is that count as a real. -/
theorem count_real {b : BitVec 32} {n : ℕ} (h : b.toInt = (n : ℤ)) :
    (FloatOps.sitofp .f32 b : Ideal .f32) = ((n : ℝ) : EReal) := by
  show (((b.toInt : ℝ)) : EReal) = _
  rw [h]; norm_num

end Cert.KernelIdeal.Gen
-- ==== Proof.PoolSpec.lean ====
/-
  What the gradient of the pool computes of one group of 512 columns, as plain sums, and the loop bodies' vector
  operations read as those sums. `d` is what the pool makes of the input (local means less the input), `y` the
  cotangent, `w` the group's matrix, `s` its row of scales, `h` the half-width of the group's window.
-/
module
public import proofs.«01_k».proof.Proof.Gen.KernelIdeal.Skeleton
public import proofs.«01_k».proof.Proof.PoolCount
public import Idealize.ShloMosaic.Lib.Pipeline.Value
public import Idealize.ShloMosaic.Lib.Pointwise
public import Idealize.ShloMosaic.PureOps.Ideal.Laws
@[expose] public section
set_option maxRecDepth 16384
noncomputable section
namespace Cert.KernelIdeal.Gen
open Idealize.ShloMosaic Idealize.ShloMosaic.TcCoe Idealize.ShloMosaic.Tactic

/-! ## The sums -/

/-- Row 512 k + r. -/
def row (k : Fin 8) (r : Fin 512) : Fin 4096 := ⟨512 * k.val + r.val, by omega⟩

/-- How many positions the window of half-width `h` holds at position `t`: those from `t - h` to `t + h - 1`. -/
def cnt (h t : ℕ) : EReal := (((min (t + h) 4096 - (t - h) : ℕ) : ℝ) : EReal)

/-- The cotangent of `d` at row `t`, column `i`. -/
def ctD (y : Vec Ideal S4096x512 .bf16) (w : Vec Ideal S1x512x512 .bf16) (s : Vec Ideal S1x512 .f32)
    (t : Fin 4096) (i : Fin 512) : EReal := ∑ j : Fin 512, y (ix2 t j) * s (ix2 0 j) * w (ix3 0 i j)

/-- That over the number of positions in the window. -/
def quo (h : ℕ) (y : Vec Ideal S4096x512 .bf16) (w : Vec Ideal S1x512x512 .bf16) (s : Vec Ideal S1x512 .f32)
    (t : Fin 4096) (i : Fin 512) : EReal := ctD y w s t i * Ideal.div 1 (cnt h t.val)

/-- The product of `d` with the group's matrix. -/
def prod (d : Vec Ideal S4096x512 .bf16) (w : Vec Ideal S1x512x512 .bf16) (t : Fin 4096) (j : Fin 512) : EReal :=
  ∑ i : Fin 512, d (ix2 t i) * w (ix3 0 i j)

/-- The quotient with eight rows of zeros before and after it. -/
def padded (h : ℕ) (y : Vec Ideal S4096x512 .bf16) (w : Vec Ideal S1x512x512 .bf16) (s : Vec Ideal S1x512 .f32)
    (p : ℕ) (i : Fin 512) : EReal := if hp : 8 ≤ p ∧ p < 4104 then quo h y w s ⟨p - 8, by omega⟩ i else 0

/-! ## One chunk of 512 rows -/

/-- Rows 512 k … 512 k + 511. -/
def chunk {e : EltTy} (x : Vec Ideal S4096x512 e) (k : Fin 8) : Vec Ideal S512x512 e :=
  fun z => x (ix2 (row k (z 0)) (z 1))

/-- The scale's gradient with chunk `k` added. -/
def accV (acc : FVec Ideal S1x512 .f32) (d y : Vec Ideal S4096x512 .bf16) (w : Vec Ideal S1x512x512 .bf16) (k : Fin 8) :
    FVec Ideal S1x512 .f32 := fun z => acc z + ∑ r : Fin 512, y (ix2 (row k r) (z 1)) * prod d w (row k r) (z 1)

/-- The weight's gradient with chunk `k` added. -/
def dwV (acc : Vec Ideal S512x512 .f32) (d y : Vec Ideal S4096x512 .bf16) (s : Vec Ideal S1x512 .f32) (k : Fin 8) :
    Vec Ideal S512x512 .f32 :=
  fun z => acc z + ∑ r : Fin 512, d (ix2 (row k r) (z 0)) * (y (ix2 (row k r) (z 1)) * s (ix2 0 (z 1)))

/-- Chunk `k` of the quotient. -/
def quoV (h : ℕ) (y : Vec Ideal S4096x512 .bf16) (w : Vec Ideal S1x512x512 .bf16) (s : Vec Ideal S1x512 .f32) (k : Fin 8) :
    Vec Ideal S512x512 .f32 := fun z => quo h y w s (row k (z 0)) (z 1)

/-- From 528 rows of the padded quotient, row `r` of chunk `k` of the input's gradient: the window's sum, less the
cotangent. -/
def duAt (h : ℕ) (hh : h ≤ 8) (e : Vec Ideal S528x512 .f32) (k : Fin 8) (r i : Fin 512) : EReal :=
  (∑ o : Fin (2 * h), e (ix2 (⟨9 - h + o.val + r.val, by have := o.isLt; omega⟩ : Fin 528) i))
    - e (ix2 (⟨8 + r.val, by omega⟩ : Fin 528) i) * cnt h (512 * k.val + r.val)
def duV (h : ℕ) (hh : h ≤ 8) (e : Vec Ideal S528x512 .f32) (k : Fin 8) : Vec Ideal S512x512 .bf16 :=
  fun z => duAt h hh e k (z 0) (z 1)

/-! ## The bodies' vector operations -/

theorem pay_acc (acc : FVec Ideal S1x512 .f32) (d y : Vec Ideal S4096x512 .bf16) (w : Vec Ideal S1x512x512 .bf16) (k : Fin 8) :
    k0_pay7 acc (k0_pay22 (chunk y k)) (k0_pay24 (chunk d k) w) = accV acc d y w k := by
  funext z
  idx_vars z
  unfold_payloads
  pointwise [chunk, accV, prod]

theorem pay_dw (acc : Vec Ideal S512x512 .f32) (d y : Vec Ideal S4096x512 .bf16) (s : Vec Ideal S1x512 .f32) (k : Fin 8) :
    k0_pay26 (chunk d k) (chunk y k) s acc = dwV acc d y s k := by
  funext z
  idx_vars z
  unfold_payloads
  pointwise [chunk, dwV]

theorem pay_quo (y : Vec Ideal S4096x512 .bf16) (w : Vec Ideal S1x512x512 .bf16) (s : Vec Ideal S1x512 .f32) (k : Fin 8)
    (h : ℕ) (c : FVec Ideal S512x1 .f32) (hc : ∀ r : Fin 512, c (ix2 r 0) = Ideal.div 1 (cnt h (512 * k.val + r.val))) :
    k0_pay6 (k0_pay27 (chunk y k) w s) c = quoV h y w s k := by
  funext z
  idx_vars z
  unfold_payloads
  pointwise [chunk, quoV, quo, ctD, row]
  rw [hc]

theorem pay_count1 (k : Fin 8) (k' : Fin k0_t1_loop.trips) (hk : k'.val = k.val) (r : Fin 512) :
    k0_pay28 (F := Ideal) 0#32 1#32 k' (ix2 r 0) = Ideal.div 1 (cnt 1 (512 * k.val + r.val)) := by
  unfold_payloads
  pointwise
  rw [hk, count_real (count_word1 k r)]
  rfl
theorem pay_count2 (k : Fin 8) (k' : Fin k0_t3_loop.trips) (hk : k'.val = k.val) (r : Fin 512) :
    k0_pay36 (F := Ideal) 0#32 1#32 k' (ix2 r 0) = Ideal.div 1 (cnt 2 (512 * k.val + r.val)) := by
  unfold_payloads
  pointwise
  rw [hk, count_real (count_word2 k r)]
  rfl
theorem pay_count4 (k : Fin 8) (k' : Fin k0_t5_loop.trips) (hk : k'.val = k.val) (r : Fin 512) :
    k0_pay44 (F := Ideal) 0#32 1#32 k' (ix2 r 0) = Ideal.div 1 (cnt 4 (512 * k.val + r.val)) := by
  unfold_payloads
  pointwise
  rw [hk, count_real (count_word4 k r)]
  rfl
theorem pay_count8 (k : Fin 8) (k' : Fin k0_t7_loop.trips) (hk : k'.val = k.val) (r : Fin 512) :
    k0_pay52 (F := Ideal) 0#32 1#32 k' (ix2 r 0) = Ideal.div 1 (cnt 8 (512 * k.val + r.val)) := by
  unfold_payloads
  pointwise
  rw [hk, count_real (count_word8 k r)]
  rfl

theorem pay_du1 (k : Fin 8) (k' : Fin k0_t2_loop.trips) (hk : k'.val = k.val) (e : Vec Ideal S528x512 .f32) :
    k0_pay8 (F := Ideal) k' e = duV 1 (by decide) e k := by
  funext z
  idx_vars z
  unfold_payloads
  pointwise [duV]
  rw [hk, count_real (count_word1 k z0)]
  simp only [duAt, Finset.sum_fin_eq_sum_range, Finset.sum_range_succ, Finset.sum_range_zero, zero_add]
  rfl
theorem pay_du2 (k : Fin 8) (k' : Fin k0_t4_loop.trips) (hk : k'.val = k.val) (e : Vec Ideal S528x512 .f32) :
    k0_pay12 (F := Ideal) k' e = duV 2 (by decide) e k := by
  funext z
  idx_vars z
  unfold_payloads
  pointwise [duV]
  rw [hk, count_real (count_word2 k z0)]
  simp only [duAt, Finset.sum_fin_eq_sum_range, Finset.sum_range_succ, Finset.sum_range_zero, zero_add]
  rfl
theorem pay_du4 (k : Fin 8) (k' : Fin k0_t6_loop.trips) (hk : k'.val = k.val) (e : Vec Ideal S528x512 .f32) :
    k0_pay16 (F := Ideal) k' e = duV 4 (by decide) e k := by
  funext z
  idx_vars z
  unfold_payloads
  pointwise [duV]
  rw [hk, count_real (count_word4 k z0)]
  simp only [duAt, Finset.sum_fin_eq_sum_range, Finset.sum_range_succ, Finset.sum_range_zero, zero_add]
  rfl
theorem pay_du8 (k : Fin 8) (k' : Fin k0_t8_loop.trips) (hk : k'.val = k.val) (e : Vec Ideal S528x512 .f32) :
    k0_pay53 (F := Ideal) 0#32 1#32 k' e = duV 8 (by decide) e k := by
  funext z
  idx_vars z
  unfold_payloads
  pointwise [duV]
  rw [hk, count_real (count_word8 k z0)]
  simp only [duAt, Finset.sum_fin_eq_sum_range, Finset.sum_range_succ, Finset.sum_range_zero, zero_add]
  rfl

end Cert.KernelIdeal.Gen
-- ==== Proof.PoolTrip.lean ====
/-
  One trip of each of the eight counted loops, as an equation between the state after it and the state before it. The
  first loop of a branch adds a chunk's contribution to the scale's gradient, stores the chunk's rows of the padded
  quotient and adds to the weight's gradient; the second stores a chunk of rows of the input's gradient.
-/
module
public import proofs.«01_k».proof.Proof.Gen.KernelIdeal.Loops
public import proofs.«01_k».proof.Proof.PoolSpec
@[expose] public section
set_option maxRecDepth 16384
noncomputable section
namespace Cert.KernelIdeal.Gen
open Idealize.ShloMosaic Idealize.ShloMosaic.TcCoe Idealize.ShloMosaic.Tactic
open Idealize.SL Idealize.SL.RA Idealize.SL.BI Idealize.SL.Sem

theorem zero_off2 : (![0, 0] : Fin 2 → Nat) = fun _ => 0 := by decide
theorem zero_off3 : (![0, 0, 0] : Fin 3 → Nat) = fun _ => 0 := by decide

/-- Rows 512 k … 512 k + 527 of the padded quotient. -/
def window (e : Vec Ideal S4112x512 .f32) (k : Fin 8) : Vec Ideal S528x512 .f32 :=
  extractStridedSlice S528x512 ![512 * k.val, 0] e
    ⟨rfl, Fin.forall_fin_two.mpr ⟨by show 512 * k.val + 528 ≤ 4112; omega, by show 0 + 512 ≤ 512; omega⟩⟩

theorem window_apply (e : Vec Ideal S4112x512 .f32) (k : Fin 8) (r : Fin 528) (i : Fin 512) :
    window e k (ix2 r i) = e (ix2 ⟨512 * k.val + r.val, by omega⟩ i) := by
  unfold window
  pointwise

section
variable (arg8 : Memref sig .tc .vmem S4112x512 .f32) (arg9 : Memref sig .tc .vmem S512x512 .f32)

/-- A sequence of states steps as the first loop does: per chunk, the scale's gradient, the rows of the quotient
stored from row 8 on, and the weight's gradient, which is read back and stored again. -/
def First (h : ℕ) (d y : Vec Ideal S4096x512 .bf16) (w : Vec Ideal S1x512x512 .bf16) (s : Vec Ideal S1x512 .f32)
    (G9 : BufTy.Contents (Elt Ideal) arg9.view.ty)
    (S : ℕ → FVec Ideal S1x512 .f32 × List (View.Piece (Elt Ideal) S4112x512 .f32) × List (View.Piece (Elt Ideal) S512x512 .f32)) : Prop :=
  ∀ k : Fin 8, ∃ (off : Fin 2 → ℕ) (inb : ∀ a, off a + S512x512.size a ≤ S4112x512.size a), off = ![512 * k.val + 8, 0] ∧
    S (k.val + 1) = (accV (S k.val).1 d y w k,
      (⟨Rect.unit (s := S4112x512) off S512x512.size inb, quoV h y w s k⟩ : View.Piece (Elt Ideal) S4112x512 .f32) :: (S k.val).2.1,
      (⟨Rect.unit (s := S512x512) ![0, 0] S512x512.size inb_S512x512_S512x512_0_0,
        dwV (arg9.view.read (Elt Ideal) (arg9.view.writes (Elt Ideal) G9 (S k.val).2.2)) d y s k⟩ : View.Piece (Elt Ideal) S512x512 .f32) :: (S k.val).2.2)

/-- A sequence of piece lists steps as the second loop does: per chunk, the rows of the input's gradient. -/
def Second (h : ℕ) (hh : h ≤ 8) (X8 : BufTy.Contents (Elt Ideal) arg8.view.ty)
    (S : ℕ → List (View.Piece (Elt Ideal) S4096x512 .bf16)) : Prop :=
  ∀ k : Fin 8, ∃ (off : Fin 2 → ℕ) (inb : ∀ a, off a + S512x512.size a ≤ S4096x512.size a), off = ![512 * k.val, 0] ∧
    S (k.val + 1) = (⟨Rect.unit (s := S4096x512) off S512x512.size inb, duV h hh (window (arg8.view.read (Elt Ideal) X8) k) k⟩ : View.Piece (Elt Ideal) S4096x512 .bf16) :: S k.val
end

section
variable (𝒱 : Variants) (c : Dev nD) (bd : Option 𝒱.V) (i : grid0.Coords) (arg1 : Memref sig .tc .vmem S4096x512 .bf16) (harg1 : arg1.IsWhole) (arg2 : Memref sig .tc .vmem S4096x512 .bf16) (harg2 : arg2.IsWhole) (arg3 : Memref sig .tc .vmem S1x512x512 .bf16) (harg3 : arg3.IsWhole) (arg4 : Memref sig .tc .vmem S1x512 .f32) (harg4 : arg4.IsWhole) (arg5 : Memref sig .tc .vmem S4096x512 .bf16) (harg5 : arg5.IsWhole) (arg6 : Memref sig .tc .vmem S1x512x512 .bf16) (harg6 : arg6.IsWhole) (arg7 : Memref sig .tc .vmem S1x512 .f32) (harg7 : arg7.IsWhole) (arg8 : Memref sig .tc .vmem S4112x512 .f32) (harg8 : arg8.IsWhole) (arg9 : Memref sig .tc .vmem S512x512 .f32) (harg9 : arg9.IsWhole)
  (x0 : Vec Ideal S4096x512 .bf16) (x1 : Vec Ideal S4096x512 .bf16) (x2 : Vec Ideal S1x512x512 .bf16) (x3 : Vec Ideal S1x512 .f32)
  (G8 X8 : BufTy.Contents (Elt Ideal) arg8.view.ty) (G9 : BufTy.Contents (Elt Ideal) arg9.view.ty) (init : FVec Ideal S1x512 .f32)

theorem load_chunk (arg : Memref sig .tc .vmem S4096x512 .bf16) (harg : arg.IsWhole) (x : Vec Ideal S4096x512 .bf16)
    (k : Fin 8) {off : Fin 2 → Nat} (h : off = ![512 * k.val, 0]) (inb : ∀ a, off a + S512x512.size a ≤ S4096x512.size a) :
    arg.view.readAt (Elt Ideal) (Rect.unit (s := S4096x512) off S512x512.size inb).toLoadRect (harg.unread x) = chunk x k := by
  subst h
  rw [View.readAt_eq_ld, harg.read_unread, View.ld_unit]
  funext z
  idx_vars z
  pointwise [chunk, row]

theorem load_window (k : Fin 8) {off : Fin 2 → Nat} (h : off = ![512 * k.val, 0])
    (inb : ∀ a, off a + S528x512.size a ≤ S4112x512.size a) :
    arg8.view.readAt (Elt Ideal) (Rect.unit (s := S4112x512) off S528x512.size inb).toLoadRect X8
      = window (arg8.view.read (Elt Ideal) X8) k := by
  subst h
  rw [View.readAt_eq_ld, View.ld_unit]
  rfl

theorem first_t1 (k0_h1 : k0_cond1 i = 1#1) :
    First arg9 1 x0 x1 x2 x3 G9 (st_k0_t1 (F := Ideal) 𝒱 c bd i arg1 harg1 arg2 harg2 arg3 harg3 arg4 harg4 arg5 harg5 arg6 harg6 arg7 harg7 arg8 harg8 arg9 harg9 k0_h1 (harg1.unread x0) (harg2.unread x1) (harg3.unread x2) (harg4.unread x3) G8 G9 init) := by
  intro k
  obtain ⟨k', hk⟩ : ∃ k' : Fin k0_t1_loop.trips, k'.val = k.val := ⟨⟨k.val, k.isLt⟩, rfl⟩
  refine ⟨k0_off2 k', k0_off2_inb i k' k0_h1, by rw [k0_off2_eq, hk], ?_⟩
  rw [← hk, st_k0_t1_succ, hk]
  generalize st_k0_t1 (F := Ideal) 𝒱 c bd i arg1 harg1 arg2 harg2 arg3 harg3 arg4 harg4 arg5 harg5 arg6 harg6 arg7 harg7 arg8 harg8 arg9 harg9 k0_h1 (harg1.unread x0) (harg2.unread x1) (harg3.unread x2) (harg4.unread x3) G8 G9 init k.val = S
  unfold tripR_k0_t1 tripL_k0_t1 trip_k0_t1
  dsimp only
  unfold trip_k0_t1.sl.r trip_k0_t1.sl.r_1 trip_k0_t1.sl.r_2 trip_k0_t1.sl.r_3
  have e1 := fun inb => load_chunk arg1 harg1 x0 k (off := k0_off1 k') (by rw [k0_off1_eq, hk]) inb
  have e2 := fun inb => load_chunk arg2 harg2 x1 k (off := k0_off1 k') (by rw [k0_off1_eq, hk]) inb
  have e3 : arg3.view.readAt (Elt Ideal) (Rect.unit (s := S1x512x512) ![0, 0, 0] S1x512x512.size inb_S1x512x512_S1x512x512_0_0_0).toLoadRect (harg3.unread x2) = x2 := by
    rw [View.readAt_eq_ld, harg3.read_unread, View.ld_unit_zero zero_off3]
  have e4 : arg4.view.readAt (Elt Ideal) (Rect.unit (s := S1x512) ![0, 0] S1x512.size inb_S1x512_S1x512_0_0).toLoadRect (harg4.unread x3) = x3 := by
    rw [View.readAt_eq_ld, harg4.read_unread, View.ld_unit_zero zero_off2]
  have e9 := fun X => (View.readAt_eq_ld arg9.view X (Rect.unit (s := S512x512) ![0, 0] S512x512.size inb_S512x512_S512x512_0_0)).trans
    (View.ld_unit_zero zero_off2 inb_S512x512_S512x512_0_0 (arg9.view.read (Elt Ideal) X))
  rw [← pay_acc, ← pay_quo x1 x2 x3 k 1 _ (pay_count1 k k' hk), ← pay_dw]
  rw [← e1 (k0_off1_inb i k' k0_h1), ← e2 (k0_off1_inb i k' k0_h1), ← e9]
  conv_rhs => rw [← e3, ← e4]
  rfl

theorem second_t2 (k0_h1 : k0_cond1 i = 1#1) :
    Second arg8 1 (by decide) X8 (pb_k0_t2 (F := Ideal) 𝒱 c bd i arg1 harg1 arg2 harg2 arg3 harg3 arg4 harg4 arg5 harg5 arg6 harg6 arg7 harg7 arg8 harg8 arg9 harg9 k0_h1 X8) := by
  intro k
  obtain ⟨k', hk⟩ : ∃ k' : Fin k0_t2_loop.trips, k'.val = k.val := ⟨⟨k.val, k.isLt⟩, rfl⟩
  refine ⟨k0_off4 k', k0_off4_inb i k' k0_h1, by rw [k0_off4_eq, hk], ?_⟩
  rw [← hk, pb_k0_t2_succ, hk]
  unfold tripL_k0_t2 trip_k0_t2
  dsimp only
  rw [← pay_du1 k k' hk, ← load_window arg8 X8 k (off := k0_off3 k') (by rw [k0_off3_eq, hk]) (k0_off3_inb i k' k0_h1)]
  rfl

theorem first_t3 (k0_h2 : k0_cond2 i = 1#1) :
    First arg9 2 x0 x1 x2 x3 G9 (st_k0_t3 (F := Ideal) 𝒱 c bd i arg1 harg1 arg2 harg2 arg3 harg3 arg4 harg4 arg5 harg5 arg6 harg6 arg7 harg7 arg8 harg8 arg9 harg9 k0_h2 (harg1.unread x0) (harg2.unread x1) (harg3.unread x2) (harg4.unread x3) G8 G9 init) := by
  intro k
  obtain ⟨k', hk⟩ : ∃ k' : Fin k0_t3_loop.trips, k'.val = k.val := ⟨⟨k.val, k.isLt⟩, rfl⟩
  refine ⟨k0_off6 k', k0_off6_inb i k' k0_h2, by rw [k0_off6_eq, hk], ?_⟩
  rw [← hk, st_k0_t3_succ, hk]
  generalize st_k0_t3 (F := Ideal) 𝒱 c bd i arg1 harg1 arg2 harg2 arg3 harg3 arg4 harg4 arg5 harg5 arg6 harg6 arg7 harg7 arg8 harg8 arg9 harg9 k0_h2 (harg1.unread x0) (harg2.unread x1) (harg3.unread x2) (harg4.unread x3) G8 G9 init k.val = S
  unfold tripR_k0_t3 tripL_k0_t3 trip_k0_t3
  dsimp only
  unfold trip_k0_t3.sl.r trip_k0_t3.sl.r_1 trip_k0_t3.sl.r_2 trip_k0_t3.sl.r_3
  have e1 := fun inb => load_chunk arg1 harg1 x0 k (off := k0_off5 k') (by rw [k0_off5_eq, hk]) inb
  have e2 := fun inb => load_chunk arg2 harg2 x1 k (off := k0_off5 k') (by rw [k0_off5_eq, hk]) inb
  have e3 : arg3.view.readAt (Elt Ideal) (Rect.unit (s := S1x512x512) ![0, 0, 0] S1x512x512.size inb_S1x512x512_S1x512x512_0_0_0).toLoadRect (harg3.unread x2) = x2 := by
    rw [View.readAt_eq_ld, harg3.read_unread, View.ld_unit_zero zero_off3]
  have e4 : arg4.view.readAt (Elt Ideal) (Rect.unit (s := S1x512) ![0, 0] S1x512.size inb_S1x512_S1x512_0_0).toLoadRect (harg4.unread x3) = x3 := by
    rw [View.readAt_eq_ld, harg4.read_unread, View.ld_unit_zero zero_off2]
  have e9 := fun X => (View.readAt_eq_ld arg9.view X (Rect.unit (s := S512x512) ![0, 0] S512x512.size inb_S512x512_S512x512_0_0)).trans
    (View.ld_unit_zero zero_off2 inb_S512x512_S512x512_0_0 (arg9.view.read (Elt Ideal) X))
  rw [← pay_acc, ← pay_quo x1 x2 x3 k 2 _ (pay_count2 k k' hk), ← pay_dw]
  rw [← e1 (k0_off5_inb i k' k0_h2), ← e2 (k0_off5_inb i k' k0_h2), ← e9]
  conv_rhs => rw [← e3, ← e4]
  rfl

theorem second_t4 (k0_h2 : k0_cond2 i = 1#1) :
    Second arg8 2 (by decide) X8 (pb_k0_t4 (F := Ideal) 𝒱 c bd i arg1 harg1 arg2 harg2 arg3 harg3 arg4 harg4 arg5 harg5 arg6 harg6 arg7 harg7 arg8 harg8 arg9 harg9 k0_h2 X8) := by
  intro k
  obtain ⟨k', hk⟩ : ∃ k' : Fin k0_t4_loop.trips, k'.val = k.val := ⟨⟨k.val, k.isLt⟩, rfl⟩
  refine ⟨k0_off8 k', k0_off8_inb i k' k0_h2, by rw [k0_off8_eq, hk], ?_⟩
  rw [← hk, pb_k0_t4_succ, hk]
  unfold tripL_k0_t4 trip_k0_t4
  dsimp only
  rw [← pay_du2 k k' hk, ← load_window arg8 X8 k (off := k0_off7 k') (by rw [k0_off7_eq, hk]) (k0_off7_inb i k' k0_h2)]
  rfl

theorem first_t5 (k0_h3 : k0_cond3 i = 1#1) :
    First arg9 4 x0 x1 x2 x3 G9 (st_k0_t5 (F := Ideal) 𝒱 c bd i arg1 harg1 arg2 harg2 arg3 harg3 arg4 harg4 arg5 harg5 arg6 harg6 arg7 harg7 arg8 harg8 arg9 harg9 k0_h3 (harg1.unread x0) (harg2.unread x1) (harg3.unread x2) (harg4.unread x3) G8 G9 init) := by
  intro k
  obtain ⟨k', hk⟩ : ∃ k' : Fin k0_t5_loop.trips, k'.val = k.val := ⟨⟨k.val, k.isLt⟩, rfl⟩
  refine ⟨k0_off10 k', k0_off10_inb i k' k0_h3, by rw [k0_off10_eq, hk], ?_⟩
  rw [← hk, st_k0_t5_succ, hk]
  generalize st_k0_t5 (F := Ideal) 𝒱 c bd i arg1 harg1 arg2 harg2 arg3 harg3 arg4 harg4 arg5 harg5 arg6 harg6 arg7 harg7 arg8 harg8 arg9 harg9 k0_h3 (harg1.unread x0) (harg2.unread x1) (harg3.unread x2) (harg4.unread x3) G8 G9 init k.val = S
  unfold tripR_k0_t5 tripL_k0_t5 trip_k0_t5
  dsimp only
  unfold trip_k0_t5.sl.r trip_k0_t5.sl.r_1 trip_k0_t5.sl.r_2 trip_k0_t5.sl.r_3
  have e1 := fun inb => load_chunk arg1 harg1 x0 k (off := k0_off9 k') (by rw [k0_off9_eq, hk]) inb
  have e2 := fun inb => load_chunk arg2 harg2 x1 k (off := k0_off9 k') (by rw [k0_off9_eq, hk]) inb
  have e3 : arg3.view.readAt (Elt Ideal) (Rect.unit (s := S1x512x512) ![0, 0, 0] S1x512x512.size inb_S1x512x512_S1x512x512_0_0_0).toLoadRect (harg3.unread x2) = x2 := by
    rw [View.readAt_eq_ld, harg3.read_unread, View.ld_unit_zero zero_off3]
  have e4 : arg4.view.readAt (Elt Ideal) (Rect.unit (s := S1x512) ![0, 0] S1x512.size inb_S1x512_S1x512_0_0).toLoadRect (harg4.unread x3) = x3 := by
    rw [View.readAt_eq_ld, harg4.read_unread, View.ld_unit_zero zero_off2]
  have e9 := fun X => (View.readAt_eq_ld arg9.view X (Rect.unit (s := S512x512) ![0, 0] S512x512.size inb_S512x512_S512x512_0_0)).trans
    (View.ld_unit_zero zero_off2 inb_S512x512_S512x512_0_0 (arg9.view.read (Elt Ideal) X))
  rw [← pay_acc, ← pay_quo x1 x2 x3 k 4 _ (pay_count4 k k' hk), ← pay_dw]
  rw [← e1 (k0_off9_inb i k' k0_h3), ← e2 (k0_off9_inb i k' k0_h3), ← e9]
  conv_rhs => rw [← e3, ← e4]
  rfl

theorem second_t6 (k0_h3 : k0_cond3 i = 1#1) :
    Second arg8 4 (by decide) X8 (pb_k0_t6 (F := Ideal) 𝒱 c bd i arg1 harg1 arg2 harg2 arg3 harg3 arg4 harg4 arg5 harg5 arg6 harg6 arg7 harg7 arg8 harg8 arg9 harg9 k0_h3 X8) := by
  intro k
  obtain ⟨k', hk⟩ : ∃ k' : Fin k0_t6_loop.trips, k'.val = k.val := ⟨⟨k.val, k.isLt⟩, rfl⟩
  refine ⟨k0_off12 k', k0_off12_inb i k' k0_h3, by rw [k0_off12_eq, hk], ?_⟩
  rw [← hk, pb_k0_t6_succ, hk]
  unfold tripL_k0_t6 trip_k0_t6
  dsimp only
  rw [← pay_du4 k k' hk, ← load_window arg8 X8 k (off := k0_off11 k') (by rw [k0_off11_eq, hk]) (k0_off11_inb i k' k0_h3)]
  rfl

theorem first_t7 (k0_h4 : k0_cond4 i = 1#1) :
    First arg9 8 x0 x1 x2 x3 G9 (st_k0_t7 (F := Ideal) 𝒱 c bd i arg1 harg1 arg2 harg2 arg3 harg3 arg4 harg4 arg5 harg5 arg6 harg6 arg7 harg7 arg8 harg8 arg9 harg9 k0_h4 (harg1.unread x0) (harg2.unread x1) (harg3.unread x2) (harg4.unread x3) G8 G9 init) := by
  intro k
  obtain ⟨k', hk⟩ : ∃ k' : Fin k0_t7_loop.trips, k'.val = k.val := ⟨⟨k.val, k.isLt⟩, rfl⟩
  refine ⟨k0_off14 k', k0_off14_inb i k' k0_h4, by rw [k0_off14_eq, hk], ?_⟩
  rw [← hk, st_k0_t7_succ, hk]
  generalize st_k0_t7 (F := Ideal) 𝒱 c bd i arg1 harg1 arg2 harg2 arg3 harg3 arg4 harg4 arg5 harg5 arg6 harg6 arg7 harg7 arg8 harg8 arg9 harg9 k0_h4 (harg1.unread x0) (harg2.unread x1) (harg3.unread x2) (harg4.unread x3) G8 G9 init k.val = S
  unfold tripR_k0_t7 tripL_k0_t7 trip_k0_t7
  dsimp only
  unfold trip_k0_t7.sl.r trip_k0_t7.sl.r_1 trip_k0_t7.sl.r_2 trip_k0_t7.sl.r_3
  have e1 := fun inb => load_chunk arg1 harg1 x0 k (off := k0_off13 k') (by rw [k0_off13_eq, hk]) inb
  have e2 := fun inb => load_chunk arg2 harg2 x1 k (off := k0_off13 k') (by rw [k0_off13_eq, hk]) inb
  have e3 : arg3.view.readAt (Elt Ideal) (Rect.unit (s := S1x512x512) ![0, 0, 0] S1x512x512.size inb_S1x512x512_S1x512x512_0_0_0).toLoadRect (harg3.unread x2) = x2 := by
    rw [View.readAt_eq_ld, harg3.read_unread, View.ld_unit_zero zero_off3]
  have e4 : arg4.view.readAt (Elt Ideal) (Rect.unit (s := S1x512) ![0, 0] S1x512.size inb_S1x512_S1x512_0_0).toLoadRect (harg4.unread x3) = x3 := by
    rw [View.readAt_eq_ld, harg4.read_unread, View.ld_unit_zero zero_off2]
  have e9 := fun X => (View.readAt_eq_ld arg9.view X (Rect.unit (s := S512x512) ![0, 0] S512x512.size inb_S512x512_S512x512_0_0)).trans
    (View.ld_unit_zero zero_off2 inb_S512x512_S512x512_0_0 (arg9.view.read (Elt Ideal) X))
  rw [← pay_acc, ← pay_quo x1 x2 x3 k 8 _ (pay_count8 k k' hk), ← pay_dw]
  rw [← e1 (k0_off13_inb i k' k0_h4), ← e2 (k0_off13_inb i k' k0_h4), ← e9]
  conv_rhs => rw [← e3, ← e4]
  rfl

theorem second_t8 (k0_h4 : k0_cond4 i = 1#1) :
    Second arg8 8 (by decide) X8 (pb_k0_t8 (F := Ideal) 𝒱 c bd i arg1 harg1 arg2 harg2 arg3 harg3 arg4 harg4 arg5 harg5 arg6 harg6 arg7 harg7 arg8 harg8 arg9 harg9 k0_h4 X8) := by
  intro k
  obtain ⟨k', hk⟩ : ∃ k' : Fin k0_t8_loop.trips, k'.val = k.val := ⟨⟨k.val, k.isLt⟩, rfl⟩
  refine ⟨k0_off16 k', k0_off16_inb i k' k0_h4, by rw [k0_off16_eq, hk], ?_⟩
  rw [← hk, pb_k0_t8_succ, hk]
  unfold tripL_k0_t8 trip_k0_t8
  dsimp only
  rw [← pay_du8 k k' hk, ← load_window arg8 X8 k (off := k0_off15 k') (by rw [k0_off15_eq, hk]) (k0_off15_inb i k' k0_h4)]
  rfl

end
end Cert.KernelIdeal.Gen
-- ==== Proof.PoolLoop.lean ====
/-
  What the two loops of a branch leave, from what each trip does: the scale's and the weight's gradients as sums over all
  4096 rows, the padded quotient row by row, and the input's gradient row by row.
-/
module
public import proofs.«01_k».proof.Proof.PoolTrip
public import Idealize.ShloMosaic.Lib.WritesUnit
@[expose] public section
set_option maxRecDepth 16384
noncomputable section
namespace Cert.KernelIdeal.Gen
open Idealize.ShloMosaic Idealize.ShloMosaic.TcCoe Idealize.ShloMosaic.Tactic

/-- A sum over 4096 rows is the sum over eight chunks of 512 rows. -/
theorem sum_rows (f : Fin 4096 → EReal) : ∑ t, f t = ∑ k : Fin 8, ∑ r : Fin 512, f (row k r) := by
  rw [← Fintype.sum_prod_type' (f := fun k r => f (row k r))]
  refine (Fintype.sum_equiv (finProdFinEquiv (m := 8) (n := 512)) _ _ fun x => ?_).symm
  refine congrArg f (Fin.ext ?_)
  show 512 * x.1.val + x.2.val = x.2.val + 512 * x.1.val
  omega

/-- A row is a chunk and a row of it. -/
theorem row_surj (t : Fin 4096) : ∃ (k : Fin 8) (r : Fin 512), t = row k r :=
  ⟨⟨t.val / 512, by omega⟩, ⟨t.val % 512, by omega⟩, Fin.ext (by show t.val = 512 * (t.val / 512) + t.val % 512; omega)⟩

section
variable {arg5 : Memref sig .tc .vmem S4096x512 .bf16} {arg8 : Memref sig .tc .vmem S4112x512 .f32} {arg9 : Memref sig .tc .vmem S512x512 .f32}
  {h : ℕ} {d y : Vec Ideal S4096x512 .bf16} {w : Vec Ideal S1x512x512 .bf16} {s : Vec Ideal S1x512 .f32}
  {G8 : BufTy.Contents (Elt Ideal) arg8.view.ty} {G9 : BufTy.Contents (Elt Ideal) arg9.view.ty}
  {S : ℕ → FVec Ideal S1x512 .f32 × List (View.Piece (Elt Ideal) S4112x512 .f32) × List (View.Piece (Elt Ideal) S512x512 .f32)}

/-- The scale's gradient after `n` chunks. -/
theorem first_acc (hS : First arg9 h d y w s G9 S) (j : Fin 512) (n : ℕ) (hn : n ≤ 8) :
    (S n).1 (ix2 0 j) = (S 0).1 (ix2 0 j)
      + ∑ k ∈ Finset.univ.filter (fun k : Fin 8 => k.val < n), ∑ r : Fin 512, y (ix2 (row k r) j) * prod d w (row k r) j := by
  induction n with
  | zero => simp
  | succ n ih =>
    obtain ⟨off, inb, -, e⟩ := hS ⟨n, hn⟩
    have hs : (Finset.univ.filter fun k : Fin 8 => k.val < n + 1)
        = insert (⟨n, hn⟩ : Fin 8) (Finset.univ.filter fun k => k.val < n) := by
      ext k; simp only [Finset.mem_filter, Finset.mem_univ, true_and, Finset.mem_insert, Fin.ext_iff]; omega
    rw [show S (n + 1) = _ from e, hs, Finset.sum_insert (by simp)]
    show accV (S n).1 d y w ⟨n, hn⟩ (ix2 0 j) = _
    unfold accV
    rw [ih (by omega)]
    show _ + ∑ r : Fin 512, y (ix2 (row ⟨n, hn⟩ r) j) * prod d w (row ⟨n, hn⟩ r) j = _
    rw [add_assoc, add_comm (∑ r : Fin 512, y (ix2 (row ⟨n, hn⟩ r) j) * prod d w (row ⟨n, hn⟩ r) j)]

/-- … after all of them. -/
theorem first_dsc (hS : First arg9 h d y w s G9 S) (h0 : ∀ j, (S 0).1 (ix2 0 j) = 0) (j : Fin 512) :
    (S 8).1 (ix2 0 j) = ∑ t : Fin 4096, y (ix2 t j) * prod d w t j := by
  rw [first_acc hS j 8 le_rfl, h0, zero_add, sum_rows, Finset.filter_true_of_mem fun k _ => k.isLt]

/-- The weight's gradient after `n` chunks. -/
theorem first_dw_n (hS : First arg9 h d y w s G9 S) (h0 : (S 0).2.2 = []) (i j : Fin 512) (n : ℕ) (hn : n ≤ 8) :
    arg9.view.read (Elt Ideal) (arg9.view.writes (Elt Ideal) G9 (S n).2.2) (ix2 i j)
      = arg9.view.read (Elt Ideal) G9 (ix2 i j)
      + ∑ k ∈ Finset.univ.filter (fun k : Fin 8 => k.val < n), ∑ r : Fin 512, d (ix2 (row k r) i) * (y (ix2 (row k r) j) * s (ix2 0 j)) := by
  induction n with
  | zero => rw [h0]; simp
  | succ n ih =>
    obtain ⟨off, inb, -, e⟩ := hS ⟨n, hn⟩
    have hs : (Finset.univ.filter fun k : Fin 8 => k.val < n + 1)
        = insert (⟨n, hn⟩ : Fin 8) (Finset.univ.filter fun k => k.val < n) := by
      ext k; simp only [Finset.mem_filter, Finset.mem_univ, true_and, Finset.mem_insert, Fin.ext_iff]; omega
    rw [show S (n + 1) = _ from e, hs, Finset.sum_insert (by simp)]
    dsimp only
    rw [View.read_writes_cons_unit_of_mem arg9.view G9 inb_S512x512_S512x512_0_0 _ _ (ix2 i j) (ix2 i j) zero_off2
      (fun a => (Nat.zero_add _).symm)]
    unfold dwV
    rw [ih (by omega)]
    show _ + ∑ r : Fin 512, d (ix2 (row ⟨n, hn⟩ r) i) * (y (ix2 (row ⟨n, hn⟩ r) j) * s (ix2 0 j)) = _
    rw [add_assoc, add_comm (∑ r : Fin 512, d (ix2 (row ⟨n, hn⟩ r) i) * (y (ix2 (row ⟨n, hn⟩ r) j) * s (ix2 0 j)))]

/-- … after all of them. -/
theorem first_dw (hS : First arg9 h d y w s G9 S) (h0 : (S 0).2.2 = []) (hG : ∀ i j, arg9.view.read (Elt Ideal) G9 (ix2 i j) = 0)
    (i j : Fin 512) :
    arg9.view.read (Elt Ideal) (arg9.view.writes (Elt Ideal) G9 (S 8).2.2) (ix2 i j)
      = ∑ t : Fin 4096, d (ix2 t i) * (y (ix2 t j) * s (ix2 0 j)) := by
  rw [first_dw_n hS h0 i j 8 le_rfl, hG, zero_add, sum_rows, Finset.filter_true_of_mem fun k _ => k.isLt]

/-- The quotient's buffer after `n` chunks: rows 8 … 512 n + 7 hold the quotient, the others what they held. -/
theorem first_quo_n (hS : First arg9 h d y w s G9 S) (h0 : (S 0).2.1 = []) (p : Fin 4112) (i : Fin 512) (n : ℕ) (hn : n ≤ 8) :
    arg8.view.read (Elt Ideal) (arg8.view.writes (Elt Ideal) G8 (S n).2.1) (ix2 p i)
      = if hp : 8 ≤ p.val ∧ p.val < 512 * n + 8 then quo h y w s ⟨p.val - 8, by omega⟩ i
        else arg8.view.read (Elt Ideal) G8 (ix2 p i) := by
  induction n with
  | zero =>
    rw [h0, dif_neg (by omega)]
    rfl
  | succ n ih =>
    obtain ⟨off, inb, ho, e⟩ := hS ⟨n, hn⟩
    rw [show S (n + 1) = _ from e]
    dsimp only
    by_cases hp : 512 * n + 8 ≤ p.val ∧ p.val < 512 * n + 8 + 512
    · rw [View.read_writes_cons_rows_of_mem arg8.view G8 inb _ _ (ix2 p i)
        (ix2 (⟨p.val - (512 * n + 8), by omega⟩ : Fin 512) i) ho (by show p.val = 512 * n + 8 + (p.val - (512 * n + 8)); omega) rfl,
        dif_pos (by omega)]
      show quo h y w s (row ⟨n, hn⟩ (⟨p.val - (512 * n + 8), _⟩ : Fin 512)) i = _
      refine congrArg (fun t => quo h y w s t i) (Fin.ext ?_)
      show 512 * n + (p.val - (512 * n + 8)) = p.val - 8
      omega
    · rw [View.read_writes_cons_rows_of_not_mem arg8.view G8 inb _ _ (ix2 p i) ho (W := 512) rfl
        (by show p.val < 512 * n + 8 ∨ 512 * n + 8 + 512 ≤ p.val; omega), ih (by omega)]
      by_cases hp' : 8 ≤ p.val ∧ p.val < 512 * n + 8
      · rw [dif_pos hp', dif_pos (by omega)]
      · rw [dif_neg hp', dif_neg (by omega)]

/-- … after all of them, when the first and the last eight rows held zeros. -/
theorem first_quo (hS : First arg9 h d y w s G9 S) (h0 : (S 0).2.1 = [])
    (hG : ∀ (p : Fin 4112) (i : Fin 512), p.val < 8 ∨ 4104 ≤ p.val → arg8.view.read (Elt Ideal) G8 (ix2 p i) = 0)
    (p : Fin 4112) (i : Fin 512) :
    arg8.view.read (Elt Ideal) (arg8.view.writes (Elt Ideal) G8 (S 8).2.1) (ix2 p i) = padded h y w s p.val i := by
  rw [first_quo_n hS h0 p i 8 le_rfl]
  unfold padded
  by_cases hp : 8 ≤ p.val ∧ p.val < 4104
  · rw [dif_pos hp, dif_pos (by omega)]
  · rw [dif_neg hp, dif_neg (by omega), hG p i (by omega)]

/-- The input's gradient at row `t`, column `i`: the window's sum of the quotient, less the cotangent. -/
def duB (h : ℕ) (y : Vec Ideal S4096x512 .bf16) (w : Vec Ideal S1x512x512 .bf16) (s : Vec Ideal S1x512 .f32)
    (t : Fin 4096) (i : Fin 512) : EReal :=
  (∑ o : Fin (2 * h), padded h y w s (9 - h + o.val + t.val) i) - padded h y w s (8 + t.val) i * cnt h t.val

/-- The input's gradient after `n` chunks. -/
theorem second_n {hh : h ≤ 8} {X8 : BufTy.Contents (Elt Ideal) arg8.view.ty} {f5 : BufTy.Contents (Elt Ideal) arg5.view.ty}
    {L : ℕ → List (View.Piece (Elt Ideal) S4096x512 .bf16)} (hL : Second arg8 h hh X8 L)
    (hX : ∀ (p : Fin 4112) (i : Fin 512), arg8.view.read (Elt Ideal) X8 (ix2 p i) = padded h y w s p.val i)
    (k : Fin 8) (r i : Fin 512) (n : ℕ) (hn : n ≤ 8) (hk : k.val < n) :
    arg5.view.read (Elt Ideal) (arg5.view.writes (Elt Ideal) f5 (L n)) (ix2 (row k r) i) = duB h y w s (row k r) i := by
  induction n with
  | zero => exact absurd hk (Nat.not_lt_zero _)
  | succ n ih =>
    obtain ⟨off, inb, ho, e⟩ := hL ⟨n, hn⟩
    rw [show L (n + 1) = _ from e]
    by_cases hkn : k.val = n
    · obtain rfl : k = ⟨n, hn⟩ := Fin.ext hkn
      rw [View.read_writes_cons_rows_of_mem arg5.view f5 inb _ _ (ix2 (row ⟨n, hn⟩ r) i) (ix2 r i) ho rfl rfl]
      show duAt h hh _ ⟨n, hn⟩ r i = _
      unfold duAt duB
      simp only [window_apply, hX]
      have e1 (o : ℕ) : 512 * n + (9 - h + o + r.val) = 9 - h + o + (512 * n + r.val) := by omega
      have e2 : 512 * n + (8 + r.val) = 8 + (512 * n + r.val) := by omega
      simp only [e1, e2]
      rfl
    · rw [View.read_writes_cons_rows_of_not_mem arg5.view f5 inb _ _ (ix2 (row k r) i) ho (W := 512) rfl
        (by show 512 * k.val + r.val < 512 * n ∨ 512 * n + 512 ≤ 512 * k.val + r.val; omega)]
      exact ih (by omega) (by omega)
end

end Cert.KernelIdeal.Gen
-- ==== Proof.PoolRun.lean ====
/-
  The body of the pool's gradient in each branch: what the three results hold afterwards.
-/
module
public import proofs.«01_k».proof.Proof.PoolLoop
public import proofs.«01_k».proof.Proof.Gen.KernelIdeal.Frame.Runs
@[expose] public section
set_option maxRecDepth 16384
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
local notation "𝕄" => MT nD τ sig Unit (Elt Ideal) ℕ (UR sig nD τ) ℕ

/-- The input's gradient, a group's block. -/
def duBlk (h : ℕ) (y : Vec Ideal S4096x512 .bf16) (w : Vec Ideal S1x512x512 .bf16) (s : Vec Ideal S1x512 .f32) : Vec Ideal S4096x512 .bf16 :=
  fun z => duB h y w s (z 0) (z 1)
/-- The weight's gradient, a group's block. -/
def dwBlk (d y : Vec Ideal S4096x512 .bf16) (s : Vec Ideal S1x512 .f32) : Vec Ideal S1x512x512 .bf16 :=
  fun z => ∑ t : Fin 4096, d (ix2 t (z 1)) * (y (ix2 t (z 2)) * s (ix2 0 (z 2)))
/-- The scale's gradient, a group's block. -/
def dscBlk (d y : Vec Ideal S4096x512 .bf16) (w : Vec Ideal S1x512x512 .bf16) : Vec Ideal S1x512 .f32 :=
  fun z => ∑ t : Fin 4096, y (ix2 t (z 1)) * prod d w t (z 1)

theorem pay2_zero (r : Fin 8) (i : Fin 512) : k0_pay2 (F := Ideal) (ix2 r i) = 0 := by
  unfold k0_pay2 k0_pay1; pointwise []
theorem pay3_zero (r : Fin 8) (i : Fin 512) : k0_pay3 (F := Ideal) (ix2 r i) = 0 := by
  unfold k0_pay3 k0_pay1; pointwise []
theorem pay4_zero (r i : Fin 512) : k0_pay4 (F := Ideal) (ix2 r i) = 0 := by
  unfold k0_pay4; pointwise []

theorem pay5_zero (i : Fin 512) : k0_pay5 (F := Ideal) (ix2 0 i) = 0 := by
  unfold k0_pay5; pointwise []
theorem pay9_zero (i : Fin 512) : k0_pay9 (F := Ideal) (ix2 0 i) = 0 := by
  unfold k0_pay9; pointwise []
theorem pay13_zero (i : Fin 512) : k0_pay13 (F := Ideal) (ix2 0 i) = 0 := by
  unfold k0_pay13; pointwise []
theorem pay17_zero (i : Fin 512) : k0_pay17 (F := Ideal) (ix2 0 i) = 0 := by
  unfold k0_pay17; pointwise []

/-- The first and the last eight rows of the padded buffer hold zeros once they are cleared. -/
theorem pads_zero (arg8 : Memref sig .tc .vmem S4112x512 .f32) (f : BufTy.Contents (Elt Ideal) arg8.view.ty) (p : Fin 4112) (i : Fin 512)
    (hp : p.val < 8 ∨ 4104 ≤ p.val) :
    arg8.view.read (Elt Ideal) (arg8.view.writes (Elt Ideal) f
      [⟨Rect.unit (s := S4112x512) ![4104, 0] S8x512.size inb_S4112x512_S8x512_4104_0, k0_pay3 (F := Ideal)⟩,
        ⟨Rect.unit (s := S4112x512) ![0, 0] S8x512.size inb_S4112x512_S8x512_0_0, k0_pay2 (F := Ideal)⟩]) (ix2 p i) = 0 := by
  by_cases h : 4104 ≤ p.val
  · rw [View.read_writes_cons_rows_of_mem arg8.view f inb_S4112x512_S8x512_4104_0 _ _ (ix2 p i)
      (ix2 (⟨p.val - 4104, by omega⟩ : Fin 8) i) (o := 4104) rfl (by show p.val = 4104 + (p.val - 4104); omega) rfl]
    exact pay3_zero _ _
  · rw [View.read_writes_cons_rows_of_not_mem arg8.view f inb_S4112x512_S8x512_4104_0 _ _ (ix2 p i) (o := 4104) rfl (W := 8) rfl
      (by show p.val < 4104 ∨ 4104 + 8 ≤ p.val; omega),
      View.read_writes_cons_rows_of_mem arg8.view f inb_S4112x512_S8x512_0_0 _ _ (ix2 p i)
      (ix2 (⟨p.val, by omega⟩ : Fin 8) i) (o := 0) rfl (by show p.val = 0 + p.val; omega) rfl]
    exact pay2_zero _ _

/-- The weight's gradient's accumulator holds zeros once it is cleared. -/
theorem clear_zero (arg9 : Memref sig .tc .vmem S512x512 .f32) (f : BufTy.Contents (Elt Ideal) arg9.view.ty) (r i : Fin 512) :
    arg9.view.read (Elt Ideal) (arg9.view.writes (Elt Ideal) f
      [⟨Rect.unit (s := S512x512) ![0, 0] S512x512.size inb_S512x512_S512x512_0_0, k0_pay4 (F := Ideal)⟩]) (ix2 r i) = 0 := by
  rw [View.read_writes_cons_unit_of_mem arg9.view f inb_S512x512_S512x512_0_0 _ _ (ix2 r i) (ix2 r i) zero_off2
      (fun a => (Nat.zero_add _).symm)]
  exact pay4_zero _ _

section
variable {arg5 : Memref sig .tc .vmem S4096x512 .bf16} {arg6 : Memref sig .tc .vmem S1x512x512 .bf16} {arg7 : Memref sig .tc .vmem S1x512 .f32}
  {arg8 : Memref sig .tc .vmem S4112x512 .f32} {arg9 : Memref sig .tc .vmem S512x512 .f32}
  {h : ℕ} {d y : Vec Ideal S4096x512 .bf16} {w : Vec Ideal S1x512x512 .bf16} {s : Vec Ideal S1x512 .f32}
  {S : ℕ → FVec Ideal S1x512 .f32 × List (View.Piece (Elt Ideal) S4112x512 .f32) × List (View.Piece (Elt Ideal) S512x512 .f32)}

/-- The second loop over what the first left leaves the input's gradient. -/
theorem du_left {G9 : BufTy.Contents (Elt Ideal) arg9.view.ty} (hS : First arg9 h d y w s G9 S) (h0 : (S 0).2.1 = [])
    {f8 : BufTy.Contents (Elt Ideal) arg8.view.ty} {hh : h ≤ 8} {L : ℕ → List (View.Piece (Elt Ideal) S4096x512 .bf16)}
    (hL : Second arg8 h hh (arg8.view.writes (Elt Ideal) f8 ((S 8).2.1 ++
      [⟨Rect.unit (s := S4112x512) ![4104, 0] S8x512.size inb_S4112x512_S8x512_4104_0, k0_pay3 (F := Ideal)⟩,
        ⟨Rect.unit (s := S4112x512) ![0, 0] S8x512.size inb_S4112x512_S8x512_0_0, k0_pay2 (F := Ideal)⟩])) L)
    (f5 : BufTy.Contents (Elt Ideal) arg5.view.ty) :
    arg5.view.read (Elt Ideal) (arg5.view.writes (Elt Ideal) f5 (L 8)) = duBlk h y w s := by
  rw [View.writes_append] at hL
  funext z; idx_vars z
  obtain ⟨k, r, rfl⟩ := row_surj z0
  exact second_n hL (fun p i => first_quo hS h0 (fun p i hp => pads_zero arg8 f8 p i hp) p i) k r z1 8 le_rfl k.isLt

/-- The first loop leaves the weight's gradient, stored at the end. -/
theorem dw_left {f6 : BufTy.Contents (Elt Ideal) arg6.view.ty}
    (hS : First arg9 h d y w s (arg9.view.writes (Elt Ideal) arg9.view.junk
      [⟨Rect.unit (s := S512x512) ![0, 0] S512x512.size inb_S512x512_S512x512_0_0, k0_pay4 (F := Ideal)⟩]) S) (h0 : (S 0).2.2 = []) :
    arg6.view.read (Elt Ideal) (arg6.view.writes (Elt Ideal) f6
        [⟨Rect.unit (s := S1x512x512) ![0, 0, 0] S1x512x512.size inb_S1x512x512_S1x512x512_0_0_0,
            k0_pay20 (F := Ideal)
              (arg9.view.readCov ((S 8).2.2 ++
                  [⟨Rect.unit (s := S512x512) ![0, 0] S512x512.size inb_S512x512_S512x512_0_0, k0_pay4 (F := Ideal)⟩])
                (Rect.unit (s := S512x512) ![0, 0] S512x512.size inb_S512x512_S512x512_0_0).toLoadRect)⟩]) =
    dwBlk d y s := by
  funext z; idx_vars z
  rw [View.read_writes_cons_unit_of_mem arg6.view f6 inb_S1x512x512_S1x512x512_0_0_0 _ _ (ix3 z0 z1 z2) (ix3 z0 z1 z2) zero_off3
    (fun a => (Nat.zero_add _).symm)]
  unfold View.readCov
  rw [View.readAt_eq_ld, View.ld_unit_zero zero_off2, View.writes_append]
  have e := first_dw hS h0 (clear_zero arg9 _) z1 z2
  generalize arg9.view.read (Elt Ideal) _ = X at e ⊢
  unfold k0_pay20
  refine Eq.trans ?_ e
  pointwise []

/-- The first loop leaves the scale's gradient. -/
theorem dsc_left {G9 : BufTy.Contents (Elt Ideal) arg9.view.ty} (hS : First arg9 h d y w s G9 S) {init : FVec Ideal S1x512 .f32} (h1 : ∀ j, init (ix2 0 j) = 0) (h0 : (S 0).1 = init)
    {f7 : BufTy.Contents (Elt Ideal) arg7.view.ty} :
    arg7.view.read (Elt Ideal) (arg7.view.writes (Elt Ideal) f7
        [⟨Rect.unit (s := S1x512) ![0, 0] S1x512.size inb_S1x512_S1x512_0_0, (S 8).1⟩]) = dscBlk d y w := by
  funext z; idx_vars z
  rw [View.read_writes_cons_unit_of_mem arg7.view f7 inb_S1x512_S1x512_0_0 _ _ (ix2 z0 z1) (ix2 z0 z1) zero_off2
    (fun a => (Nat.zero_add _).symm)]
  obtain rfl : z0 = 0 := Subsingleton.elim _ _
  exact first_dsc hS (fun j => by rw [h0]; exact h1 j) z1
end

section
variable (c : Dev nD) (i : grid0.Coords) (arg1 : Memref sig .tc .vmem S4096x512 .bf16) (harg1 : arg1.IsWhole) (arg2 : Memref sig .tc .vmem S4096x512 .bf16) (harg2 : arg2.IsWhole) (arg3 : Memref sig .tc .vmem S1x512x512 .bf16) (harg3 : arg3.IsWhole) (arg4 : Memref sig .tc .vmem S1x512 .f32) (harg4 : arg4.IsWhole) (arg5 : Memref sig .tc .vmem S4096x512 .bf16) (harg5 : arg5.IsWhole) (arg6 : Memref sig .tc .vmem S1x512x512 .bf16) (harg6 : arg6.IsWhole) (arg7 : Memref sig .tc .vmem S1x512 .f32) (harg7 : arg7.IsWhole) (arg8 : Memref sig .tc .vmem S4112x512 .f32) (harg8 : arg8.IsWhole) (arg9 : Memref sig .tc .vmem S512x512 .f32) (harg9 : arg9.IsWhole)
  (x0 x1 : Vec Ideal S4096x512 .bf16) (x2 : Vec Ideal S1x512x512 .bf16) (x3 : Vec Ideal S1x512 .f32)

/-- What the body is called with: the four inputs' blocks, and the three results' and the two scratch buffers at anything. -/
def poolPre : sProp 𝕄 := iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d))

/-- What it hands back: the inputs as they were and the three gradients of a group of half width `h`. -/
def poolPost (h : ℕ) : sProp 𝕄 := iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (duBlk h x1 x2 x3) ∗ owns (c : Thread nD τ) arg6 fullShare (dwBlk x0 x1 x3) ∗ owns (c : Thread nD τ) arg7 fullShare (dscBlk x0 x1 x2) ∗ (∃ d, owns (c : Thread nD τ) arg8 fullShare d) ∗ (∃ d, owns (c : Thread nD τ) arg9 fullShare d))

variable {arg1 arg2 arg3 arg4 arg5 arg6 arg7 arg8 arg9} {x0 x1 x2 x3} in
/-- Buffers that read the gradients are handed back as such. -/
theorem pool_back (h : ℕ) {f4 f5 f6 f8 f9} (e4 : arg5.view.read (Elt Ideal) f4 = duBlk h x1 x2 x3)
    (e5 : arg6.view.read (Elt Ideal) f5 = dwBlk x0 x1 x3) (e6 : arg7.view.read (Elt Ideal) f6 = dscBlk x0 x1 x2) :
    iprop((arg1.view.loc (c : Thread nD τ) ↦[arg1.view.set]{fullShare} (harg1.unread x0)) ∗ (arg2.view.loc (c : Thread nD τ) ↦[arg2.view.set]{fullShare} (harg2.unread x1)) ∗ (arg3.view.loc (c : Thread nD τ) ↦[arg3.view.set]{fullShare} (harg3.unread x2)) ∗ (arg4.view.loc (c : Thread nD τ) ↦[arg4.view.set]{fullShare} (harg4.unread x3))
      ∗ (arg5.view.loc (c : Thread nD τ) ↦[arg5.view.set]{fullShare} f4) ∗ (arg6.view.loc (c : Thread nD τ) ↦[arg6.view.set]{fullShare} f5) ∗ (arg7.view.loc (c : Thread nD τ) ↦[arg7.view.set]{fullShare} f6) ∗ (arg8.view.loc (c : Thread nD τ) ↦[arg8.view.set]{fullShare} f8) ∗ (arg9.view.loc (c : Thread nD τ) ↦[arg9.view.set]{fullShare} f9))
    ⊢ poolPost c arg1 arg2 arg3 arg4 arg5 arg6 arg7 arg8 arg9 x0 x1 x2 x3 h := by
  unfold poolPost owns
  iintro ⟨H0, H1, H2, H3, H4, H5, H6, HS0, HS1⟩
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact e4
    iexact H4
  isplitl [H5]
  · iexists _; isplitr; · ipureintro; exact e5
    iexact H5
  isplitl [H6]
  · iexists _; isplitr; · ipureintro; exact e6
    iexact H6
  isplitl [HS0]
  · iexists _, _; isplitr; swap; · iexact HS0
    ipureintro; rfl
  iexists _, _; isplitr; swap; · iexact HS1
  ipureintro; rfl

set_option maxHeartbeats 1000000 in
/-- The body where the half width is 1. -/
theorem poolRunA (hc0 : cond0_0 i) (hc1 : ¬cond0_1 i) (hc2 : ¬cond0_2 i) (hc3 : ¬cond0_3 i) (E : Set ℕ) (K : PUnit → sProp 𝕄) :
    iprop(poolPre c arg1 arg2 arg3 arg4 arg5 arg6 arg7 arg8 arg9 x0 x1 x2 x3 ∗ (poolPost c arg1 arg2 arg3 arg4 arg5 arg6 arg7 arg8 arg9 x0 x1 x2 x3 1 -∗ K ⟨⟩))
      ⊢ wp frame (wpE (defs₀ (F := Ideal)) Variants.none c none) E (cc0_pool_bwd i arg1 harg1 arg2 harg2 arg3 harg3 arg4 harg4 arg5 harg5 arg6 harg6 arg7 harg7 arg8 harg8 arg9 harg9) K := by
  simp only [cc0_pool_bwd_eq_skeleton]; unfold cc0_pool_bwd_skel
  unfold poolPre owns
  iintro ⟨⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩⟩, Hk⟩
  obtain rfl := harg1.eq_unread hf0; obtain rfl := harg2.eq_unread hf1; obtain rfl := harg3.eq_unread hf2; obtain rfl := harg4.eq_unread hf3
  sl_exec (disch := first | sl_exact hc0 | sl_exact hc1 | sl_exact hc2 | sl_exact hc3)
  sl_step
  sl_unfold_words
  iapply Hk
  iapply (pool_back c harg1 harg2 harg3 harg4 1 (du_left (first_t1 _ _ _ _ _ _ _ _ _ _ _ _ _ _ _ _ _ _ _ _ _ _ _ _ _ _ _ _ _ _) rfl (second_t2 _ _ _ _ _ _ _ _ _ _ _ _ _ _ _ _ _ _ _ _ _ _ _ _) _) (dw_left (first_t1 _ _ _ _ _ _ _ _ _ _ _ _ _ _ _ _ _ _ _ _ _ _ _ _ _ _ _ _ _ _) rfl)
    (dsc_left (first_t1 _ _ _ _ _ _ _ _ _ _ _ _ _ _ _ _ _ _ _ _ _ _ _ _ _ _ _ _ _ _) pay5_zero rfl))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  iexact HS1

set_option maxHeartbeats 1000000 in
/-- The body where the half width is 2. -/
theorem poolRunB (hc0 : ¬cond0_0 i) (hc1 : cond0_1 i) (hc2 : ¬cond0_2 i) (hc3 : ¬cond0_3 i) (E : Set ℕ) (K : PUnit → sProp 𝕄) :
    iprop(poolPre c arg1 arg2 arg3 arg4 arg5 arg6 arg7 arg8 arg9 x0 x1 x2 x3 ∗ (poolPost c arg1 arg2 arg3 arg4 arg5 arg6 arg7 arg8 arg9 x0 x1 x2 x3 2 -∗ K ⟨⟩))
      ⊢ wp frame (wpE (defs₀ (F := Ideal)) Variants.none c none) E (cc0_pool_bwd i arg1 harg1 arg2 harg2 arg3 harg3 arg4 harg4 arg5 harg5 arg6 harg6 arg7 harg7 arg8 harg8 arg9 harg9) K := by
  simp only [cc0_pool_bwd_eq_skeleton]; unfold cc0_pool_bwd_skel
  unfold poolPre owns
  iintro ⟨⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩⟩, Hk⟩
  obtain rfl := harg1.eq_unread hf0; obtain rfl := harg2.eq_unread hf1; obtain rfl := harg3.eq_unread hf2; obtain rfl := harg4.eq_unread hf3
  sl_exec (disch := first | sl_exact hc0 | sl_exact hc1 | sl_exact hc2 | sl_exact hc3)
  sl_step
  sl_unfold_words
  iapply Hk
  iapply (pool_back c harg1 harg2 harg3 harg4 2 (du_left (first_t3 _ _ _ _ _ _ _ _ _ _ _ _ _ _ _ _ _ _ _ _ _ _ _ _ _ _ _ _ _ _) rfl (second_t4 _ _ _ _ _ _ _ _ _ _ _ _ _ _ _ _ _ _ _ _ _ _ _ _) _) (dw_left (first_t3 _ _ _ _ _ _ _ _ _ _ _ _ _ _ _ _ _ _ _ _ _ _ _ _ _ _ _ _ _ _) rfl)
    (dsc_left (first_t3 _ _ _ _ _ _ _ _ _ _ _ _ _ _ _ _ _ _ _ _ _ _ _ _ _ _ _ _ _ _) pay9_zero rfl))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  iexact HS1

set_option maxHeartbeats 1000000 in
/-- The body where the half width is 4. -/
theorem poolRunC (hc0 : ¬cond0_0 i) (hc1 : ¬cond0_1 i) (hc2 : cond0_2 i) (hc3 : ¬cond0_3 i) (E : Set ℕ) (K : PUnit → sProp 𝕄) :
    iprop(poolPre c arg1 arg2 arg3 arg4 arg5 arg6 arg7 arg8 arg9 x0 x1 x2 x3 ∗ (poolPost c arg1 arg2 arg3 arg4 arg5 arg6 arg7 arg8 arg9 x0 x1 x2 x3 4 -∗ K ⟨⟩))
      ⊢ wp frame (wpE (defs₀ (F := Ideal)) Variants.none c none) E (cc0_pool_bwd i arg1 harg1 arg2 harg2 arg3 harg3 arg4 harg4 arg5 harg5 arg6 harg6 arg7 harg7 arg8 harg8 arg9 harg9) K := by
  simp only [cc0_pool_bwd_eq_skeleton]; unfold cc0_pool_bwd_skel
  unfold poolPre owns
  iintro ⟨⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩⟩, Hk⟩
  obtain rfl := harg1.eq_unread hf0; obtain rfl := harg2.eq_unread hf1; obtain rfl := harg3.eq_unread hf2; obtain rfl := harg4.eq_unread hf3
  sl_exec (disch := first | sl_exact hc0 | sl_exact hc1 | sl_exact hc2 | sl_exact hc3)
  sl_step
  sl_unfold_words
  iapply Hk
  iapply (pool_back c harg1 harg2 harg3 harg4 4 (du_left (first_t5 _ _ _ _ _ _ _ _ _ _ _ _ _ _ _ _ _ _ _ _ _ _ _ _ _ _ _ _ _ _) rfl (second_t6 _ _ _ _ _ _ _ _ _ _ _ _ _ _ _ _ _ _ _ _ _ _ _ _) _) (dw_left (first_t5 _ _ _ _ _ _ _ _ _ _ _ _ _ _ _ _ _ _ _ _ _ _ _ _ _ _ _ _ _ _) rfl)
    (dsc_left (first_t5 _ _ _ _ _ _ _ _ _ _ _ _ _ _ _ _ _ _ _ _ _ _ _ _ _ _ _ _ _ _) pay13_zero rfl))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  iexact HS1

set_option maxHeartbeats 1000000 in
/-- The body where the half width is 8. -/
theorem poolRunD (hc0 : ¬cond0_0 i) (hc1 : ¬cond0_1 i) (hc2 : ¬cond0_2 i) (hc3 : cond0_3 i) (E : Set ℕ) (K : PUnit → sProp 𝕄) :
    iprop(poolPre c arg1 arg2 arg3 arg4 arg5 arg6 arg7 arg8 arg9 x0 x1 x2 x3 ∗ (poolPost c arg1 arg2 arg3 arg4 arg5 arg6 arg7 arg8 arg9 x0 x1 x2 x3 8 -∗ K ⟨⟩))
      ⊢ wp frame (wpE (defs₀ (F := Ideal)) Variants.none c none) E (cc0_pool_bwd i arg1 harg1 arg2 harg2 arg3 harg3 arg4 harg4 arg5 harg5 arg6 harg6 arg7 harg7 arg8 harg8 arg9 harg9) K := by
  simp only [cc0_pool_bwd_eq_skeleton]; unfold cc0_pool_bwd_skel
  unfold poolPre owns
  iintro ⟨⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩⟩, Hk⟩
  obtain rfl := harg1.eq_unread hf0; obtain rfl := harg2.eq_unread hf1; obtain rfl := harg3.eq_unread hf2; obtain rfl := harg4.eq_unread hf3
  sl_exec (disch := first | sl_exact hc0 | sl_exact hc1 | sl_exact hc2 | sl_exact hc3)
  sl_step
  sl_unfold_words
  iapply Hk
  iapply (pool_back c harg1 harg2 harg3 harg4 8 (du_left (first_t7 _ _ _ _ _ _ _ _ _ _ _ _ _ _ _ _ _ _ _ _ _ _ _ _ _ _ _ _ _ _) rfl (second_t8 _ _ _ _ _ _ _ _ _ _ _ _ _ _ _ _ _ _ _ _ _ _ _ _) _) (dw_left (first_t7 _ _ _ _ _ _ _ _ _ _ _ _ _ _ _ _ _ _ _ _ _ _ _ _ _ _ _ _ _ _) rfl)
    (dsc_left (first_t7 _ _ _ _ _ _ _ _ _ _ _ _ _ _ _ _ _ _ _ _ _ _ _ _ _ _ _ _ _ _) pay17_zero rfl))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  iexact HS1

end
end Cert.KernelIdeal.Gen
-- ==== Proof.PoolFrame.lean ====
/-
  The launch of the pool's gradient at the values: what its three arrays hold at the end.
-/
module
public import proofs.«01_k».proof.Proof.PoolRun
public import Idealize.ShloMosaic.Lib.Claim
public import Idealize.ShloMosaic.Lib.Pipeline.ValueKit
@[expose] public section
set_option maxRecDepth 16384
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
local notation "𝕄" => MT nD τ sig Unit (Elt Ideal) ℕ (UR sig nD τ) ℕ
variable (m : (ℓ : Loc nD τ sig) → Buf (Elt Ideal) ℓ) (ρ : Dev nD → PrngReg)

/-- The proof data: the arrays as the region finds them, and after the body at group `t` the three gradients of the
    group, whose window's half width is 2 to the power `t`. -/
def poolDats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => duBlk (2 ^ t.val) (iblk m c 1 t) (iblk m c 2 t) (iblk m c 3 t)
    | ⟨5, _⟩ => dwBlk (iblk m c 0 t) (iblk m c 1 t) (iblk m c 3 t)
    | ⟨6, _⟩ => dscBlk (iblk m c 0 t) (iblk m c 1 t) (iblk m c 2 t)
  Φ _ := Pipeline.ΦA spec0 c
  q _ := fullShare
  owed _ := 0

theorem poolA_eq (c : Dev nD) (w : Fin cfg0.W) : (poolDats m 0 c).A w = V m c (Pipeline.arrRef spec0 w) := by
  dsimp only [poolDats]

theorem poolAfter0 (c : Dev nD) (t : Fin cfg0.N) : (poolDats m 0 c).after 0 t = iblk m c 0 t := by dsimp only [poolDats]
theorem poolAfter1 (c : Dev nD) (t : Fin cfg0.N) : (poolDats m 0 c).after 1 t = iblk m c 1 t := by dsimp only [poolDats]
theorem poolAfter2 (c : Dev nD) (t : Fin cfg0.N) : (poolDats m 0 c).after 2 t = iblk m c 2 t := by dsimp only [poolDats]
theorem poolAfter3 (c : Dev nD) (t : Fin cfg0.N) : (poolDats m 0 c).after 3 t = iblk m c 3 t := by dsimp only [poolDats]
theorem poolAfter4 (c : Dev nD) (t : Fin cfg0.N) : (poolDats m 0 c).after 4 t = duBlk (2 ^ t.val) (iblk m c 1 t) (iblk m c 2 t) (iblk m c 3 t) := by
  dsimp only [poolDats]
theorem poolAfter5 (c : Dev nD) (t : Fin cfg0.N) : (poolDats m 0 c).after 5 t = dwBlk (iblk m c 0 t) (iblk m c 1 t) (iblk m c 3 t) := by
  dsimp only [poolDats]
theorem poolAfter6 (c : Dev nD) (t : Fin cfg0.N) : (poolDats m 0 c).after 6 t = dscBlk (iblk m c 0 t) (iblk m c 1 t) (iblk m c 2 t) := by
  dsimp only [poolDats]
theorem poolBefore0 (c : Dev nD) (t : Fin cfg0.N) (d) : (poolDats m 0 c).before 0 t d = iblk m c 0 t :=
  before0_0_of m (poolDats m 0 c) (poolA_eq m c 0) (poolAfter0 m c) t d
theorem poolBefore1 (c : Dev nD) (t : Fin cfg0.N) (d) : (poolDats m 0 c).before 1 t d = iblk m c 1 t :=
  before0_1_of m (poolDats m 0 c) (poolA_eq m c 1) (poolAfter1 m c) t d
theorem poolBefore2 (c : Dev nD) (t : Fin cfg0.N) (d) : (poolDats m 0 c).before 2 t d = iblk m c 2 t :=
  before0_2_of m (poolDats m 0 c) (poolA_eq m c 2) (poolAfter2 m c) t d
theorem poolBefore3 (c : Dev nD) (t : Fin cfg0.N) (d) : (poolDats m 0 c).before 3 t d = iblk m c 3 t :=
  before0_3_of m (poolDats m 0 c) (poolA_eq m c 3) (poolAfter3 m c) t d

/-- No result is idle at any group. -/
theorem live4 : ∀ t : Fin cfg0.N, cfg0.idle 4 (grid0.coords t) = false := (by decide +kernel : ∀ t : Fin grid0.N, idle0 4 (grid0.coords t) = false)
theorem live5 : ∀ t : Fin cfg0.N, cfg0.idle 5 (grid0.coords t) = false := fun _ => rfl
theorem live6 : ∀ t : Fin cfg0.N, cfg0.idle 6 (grid0.coords t) = false := (by decide +kernel : ∀ t : Fin grid0.N, idle0 6 (grid0.coords t) = false)

/-- The body at any group, over the buffers alone: the group says which branch is taken. -/
theorem pool_point (c : Dev nD) (t : Fin cfg0.N) (K : PUnit → sProp 𝕄) :
    iprop(poolPre c (ms0_0 t) (ms0_1 t) (ms0_2 t) (ms0_3 t) (ms0_4 t) (ms0_5 t) (ms0_6 t) scM0_0 scM0_1 (iblk m c 0 t) (iblk m c 1 t) (iblk m c 2 t) (iblk m c 3 t)
        ∗ (poolPost c (ms0_0 t) (ms0_1 t) (ms0_2 t) (ms0_3 t) (ms0_4 t) (ms0_5 t) (ms0_6 t) scM0_0 scM0_1 (iblk m c 0 t) (iblk m c 1 t) (iblk m c 2 t) (iblk m c 3 t) (2 ^ t.val) -∗ K ⟨⟩))
      ⊢ wp frame (wpE (defs₀ (F := Ideal)) Variants.none c none) Set.univ (bodyAt0 t) K := by
  have hN : t.val < 4 := lt_of_lt_of_eq t.isLt (show cfg0.N = 4 from N_0)
  unfold bodyAt0
  obtain ht | ht | ht | ht : t.val = 0 ∨ t.val = 1 ∨ t.val = 2 ∨ t.val = 3 := by omega
  · rw [ht]
    exact poolRunA c (grid0.coords t) _ _ _ _ _ _ _ _ _ _ _ _ _ _ _ _ _ _ (iblk m c 0 t) (iblk m c 1 t) (iblk m c 2 t) (iblk m c 3 t) ((hcond0_0 t).mpr (by omega)) (fun h => absurd ((hcond0_1 t).mp h) (by omega)) (fun h => absurd ((hcond0_2 t).mp h) (by omega)) (fun h => absurd ((hcond0_3 t).mp h) (by omega)) Set.univ K
  · rw [ht]
    exact poolRunB c (grid0.coords t) _ _ _ _ _ _ _ _ _ _ _ _ _ _ _ _ _ _ (iblk m c 0 t) (iblk m c 1 t) (iblk m c 2 t) (iblk m c 3 t) (fun h => absurd ((hcond0_0 t).mp h) (by omega)) ((hcond0_1 t).mpr (by omega)) (fun h => absurd ((hcond0_2 t).mp h) (by omega)) (fun h => absurd ((hcond0_3 t).mp h) (by omega)) Set.univ K
  · rw [ht]
    exact poolRunC c (grid0.coords t) _ _ _ _ _ _ _ _ _ _ _ _ _ _ _ _ _ _ (iblk m c 0 t) (iblk m c 1 t) (iblk m c 2 t) (iblk m c 3 t) (fun h => absurd ((hcond0_0 t).mp h) (by omega)) (fun h => absurd ((hcond0_1 t).mp h) (by omega)) ((hcond0_2 t).mpr (by omega)) (fun h => absurd ((hcond0_3 t).mp h) (by omega)) Set.univ K
  · rw [ht]
    exact poolRunD c (grid0.coords t) _ _ _ _ _ _ _ _ _ _ _ _ _ _ _ _ _ _ (iblk m c 0 t) (iblk m c 1 t) (iblk m c 2 t) (iblk m c 3 t) (fun h => absurd ((hcond0_0 t).mp h) (by omega)) (fun h => absurd ((hcond0_1 t).mp h) (by omega)) (fun h => absurd ((hcond0_2 t).mp h) (by omega)) ((hcond0_3 t).mpr (by omega)) Set.univ K

def poolBodyPre (c : Dev nD) (t : Fin cfg0.N) : sProp 𝕄 :=
  iprop((poolDats m 0 c).Φ t.castSucc ∗ (poolDats m 0 c).owesAt () t.castSucc
    ∗ (∃ d, owns (c : Thread nD τ) (ms0_0 t) fullShare ((poolDats m 0 c).before 0 t d))
    ∗ (∃ d, owns (c : Thread nD τ) (ms0_1 t) fullShare ((poolDats m 0 c).before 1 t d))
    ∗ (∃ d, owns (c : Thread nD τ) (ms0_2 t) fullShare ((poolDats m 0 c).before 2 t d))
    ∗ (∃ d, owns (c : Thread nD τ) (ms0_3 t) fullShare ((poolDats m 0 c).before 3 t d))
    ∗ (∃ d, owns (c : Thread nD τ) (ms0_4 t) fullShare ((poolDats m 0 c).before 4 t d))
    ∗ (∃ d, owns (c : Thread nD τ) (ms0_5 t) fullShare ((poolDats m 0 c).before 5 t d))
    ∗ (∃ d, owns (c : Thread nD τ) (ms0_6 t) fullShare ((poolDats m 0 c).before 6 t d)))

def poolBodyPost (c : Dev nD) (t : Fin cfg0.N) : sProp 𝕄 :=
  iprop((poolDats m 0 c).Φ t.succ ∗ (poolDats m 0 c).owesAt () t.succ
    ∗ (poolDats m 0 c).leavesExact 0 t
    ∗ (poolDats m 0 c).leavesExact 1 t
    ∗ (poolDats m 0 c).leavesExact 2 t
    ∗ (poolDats m 0 c).leavesExact 3 t
    ∗ (poolDats m 0 c).leavesExact 4 t
    ∗ (poolDats m 0 c).leavesExact 5 t
    ∗ (poolDats m 0 c).leavesExact 6 t)

set_option maxHeartbeats 1600000 in
/-- The body at any group, as the pipeline calls it. -/
theorem pool_sound (c : Dev nD) (t : Fin cfg0.N) :
    poolBodyPre m c t ⊢ wp frame (wpE (defs₀ (F := Ideal)) Variants.none c none) Set.univ (bodyAt0 t) (fun _ => poolBodyPost m c t) := by
  unfold poolBodyPre poolBodyPost
  simp only [poolBefore0, poolBefore1, poolBefore2, poolBefore3]
  rw [show (poolDats m 0 c).Φ t.succ = (poolDats m 0 c).Φ t.castSucc from rfl,
    show (poolDats m 0 c).owesAt () t.succ = (poolDats m 0 c).owesAt () t.castSucc from rfl]
  rw [show (poolDats m 0 c).Φ t.castSucc = Pipeline.ΦA spec0 c from rfl, PhiA0_eq]
  rw [show (poolDats m 0 c).leavesExact 0 t = owns (c : Thread nD τ) (ms0_0 t) fullShare ((poolDats m 0 c).after 0 t) from by
    unfold Dat.leavesExact; rw [liveAt0_0 t], poolAfter0]
  rw [show (poolDats m 0 c).leavesExact 1 t = owns (c : Thread nD τ) (ms0_1 t) fullShare ((poolDats m 0 c).after 1 t) from by
    unfold Dat.leavesExact; rw [liveAt0_1 t], poolAfter1]
  rw [show (poolDats m 0 c).leavesExact 2 t = owns (c : Thread nD τ) (ms0_2 t) fullShare ((poolDats m 0 c).after 2 t) from by
    unfold Dat.leavesExact; rw [liveAt0_2 t], poolAfter2]
  rw [show (poolDats m 0 c).leavesExact 3 t = owns (c : Thread nD τ) (ms0_3 t) fullShare ((poolDats m 0 c).after 3 t) from by
    unfold Dat.leavesExact; rw [liveAt0_3 t], poolAfter3]
  rw [show (poolDats m 0 c).leavesExact 4 t = owns (c : Thread nD τ) (ms0_4 t) fullShare ((poolDats m 0 c).after 4 t) from by
    unfold Dat.leavesExact; rw [live4 t], poolAfter4]
  rw [show (poolDats m 0 c).leavesExact 5 t = owns (c : Thread nD τ) (ms0_5 t) fullShare ((poolDats m 0 c).after 5 t) from by
    unfold Dat.leavesExact; rw [live5 t], poolAfter5]
  rw [show (poolDats m 0 c).leavesExact 6 t = owns (c : Thread nD τ) (ms0_6 t) fullShare ((poolDats m 0 c).after 6 t) from by
    unfold Dat.leavesExact; rw [live6 t], poolAfter6]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply (pool_point m c t _)
  unfold poolPre poolPost
  isplitl [H0 H1 H2 H3 H4 H5 H6 HS0 HS1]
  · isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    iexact HS1
  iintro ⟨H0, H1, H2, H3, H4, H5, H6, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem pool_defs_row (t : Fin cfg0.N) :
    defs₀ (F := Ideal) .tc cfg0.body (cfg0.bodyArgs t (cfg0.slots t)) = bodyAt0 t := by
  unfold defs₀; rw [Defs.onTc_tc]

theorem pool_obligation (c : Dev nD) : BodyObligation (poolDats m 0 c) (defs₀ (F := Ideal)) Variants.none () Set.univ := fun t => by
  rw [bigSep_W0, bigSep_W0, pool_defs_row]
  exact triple_restated (pool_sound m c t) rfl .rfl fun _ => .rfl

-- the launch theorem's implicit arguments are found by unifying its conclusion with this one
set_option backward.isDefEq.respectTransparency.types false in
/-- Every run ends with every array of the pipeline at what the proof data compute, and every counter at zero. -/
theorem pool_launch : θ_run defs (onTc (τ := τ) (main (F := Ideal))) (s₀ m ρ)
    (fun r => (Pipeline.FramePost cfgs (poolDats m) 0 (V m)) r ∧ r.2.sem = fun _ => 0) :=
  Pipeline.θ_run_frame (Q' := _) cfgs (poolDats m) (0 : Fin 1) launch0 defs₀ Variants.none m ρ main
    (hbody := fun c => (pool_obligation m c).loose) (hshare := fun c => (poolDats m 0 c).share_full fun _ => rfl)
    (howed := fun _ _ => rfl) (V := V m) (hmain := hmain m Variants.none) (hA := poolA_eq m) (hΦ := fun _ _ => rfl)

/-- A group's columns. -/
def col (g : Fin 4) (i : Fin 512) : Fin 2048 := ⟨512 * g.val + i.val, by omega⟩
/-- A group's block of a 4096x2048 array. -/
def rowsOf (D : Vec Ideal S4096x2048 .bf16) (g : Fin 4) : Vec Ideal S4096x512 .bf16 := fun z => D (ix2 (z 0) (col g (z 1)))
/-- A group's matrix. -/
def matOf (W : Vec Ideal S4x512x512 .bf16) (g : Fin 4) : Vec Ideal S1x512x512 .bf16 := fun z => W (ix3 g (z 1) (z 2))
/-- A group's scales. -/
def sclOf (S : Vec Ideal S1x2048 .f32) (g : Fin 4) : Vec Ideal S1x512 .f32 := fun z => S (ix2 0 (col g (z 1)))
/-- The group of a column, and the column within it. -/
def grp (j : Fin 2048) : Fin 4 := ⟨j.val / 512, by omega⟩
def lane (j : Fin 2048) : Fin 512 := ⟨j.val % 512, by omega⟩

/-- The whole input's gradient. -/
def duAll (Y : Vec Ideal S4096x2048 .bf16) (W : Vec Ideal S4x512x512 .bf16) (S : Vec Ideal S1x2048 .f32) : Vec Ideal S4096x2048 .bf16 :=
  fun z => duB (2 ^ (grp (z 1)).val) (rowsOf Y (grp (z 1))) (matOf W (grp (z 1))) (sclOf S (grp (z 1))) (z 0) (lane (z 1))
/-- The whole weight's gradient. -/
def dwAll (D Y : Vec Ideal S4096x2048 .bf16) (S : Vec Ideal S1x2048 .f32) : Vec Ideal S4x512x512 .bf16 :=
  fun z => dwBlk (rowsOf D (z 0)) (rowsOf Y (z 0)) (sclOf S (z 0)) (ix3 0 (z 1) (z 2))
/-- The whole scale's gradient. -/
def dscAll (D Y : Vec Ideal S4096x2048 .bf16) (W : Vec Ideal S4x512x512 .bf16) : Vec Ideal S1x2048 .f32 :=
  fun z => dscBlk (rowsOf D (grp (z 1))) (rowsOf Y (grp (z 1))) (matOf W (grp (z 1))) (ix2 0 (lane (z 1)))

/-- The windows' index maps. -/
theorem idx : ∀ t : Fin cfg0.N, win0_0.index t = ![0, t.val] ∧ win0_1.index t = ![0, t.val] ∧ win0_2.index t = ![t.val, 0, 0]
    ∧ win0_3.index t = ![0, t.val] ∧ win0_4.index t = ![0, t.val] ∧ win0_5.index t = ![t.val, 0, 0] ∧ win0_6.index t = ![0, t.val] :=
  (by decide +kernel : ∀ t : Fin grid0.N, _)

/-- A grid point's group. -/
def gOf (t : Fin cfg0.N) : Fin 4 := ⟨t.val, lt_of_lt_of_eq t.isLt (show cfg0.N = 4 from N_0)⟩

theorem blk0 (c : Dev nD) (t : Fin cfg0.N) : iblk m c 0 t = rowsOf (V m c main_v127) (gOf t) := by
  funext z
  obtain ⟨e0, e1, e2, e3, e4, e5, e6⟩ := idx t
  unfold rowsOf col gOf
  blk_ext [iblk, e0]
theorem blk1 (c : Dev nD) (t : Fin cfg0.N) : iblk m c 1 t = rowsOf (V m c main_v128) (gOf t) := by
  funext z
  obtain ⟨e0, e1, e2, e3, e4, e5, e6⟩ := idx t
  unfold rowsOf col gOf
  blk_ext [iblk, e1]
theorem blk2 (c : Dev nD) (t : Fin cfg0.N) : iblk m c 2 t = matOf (V m c main_arg1) (gOf t) := by
  funext z
  obtain ⟨e0, e1, e2, e3, e4, e5, e6⟩ := idx t
  unfold matOf gOf
  blk_ext [iblk, e2]
theorem blk3 (c : Dev nD) (t : Fin cfg0.N) : iblk m c 3 t = sclOf (V m c main_arg2) (gOf t) := by
  funext z
  obtain ⟨e0, e1, e2, e3, e4, e5, e6⟩ := idx t
  unfold sclOf col gOf
  blk_ext [iblk, e3]

theorem grp_col (g : Fin 4) (i : Fin 512) : grp (col g i) = g := Fin.ext (by show (512 * g.val + i.val) / 512 = g.val; omega)
theorem lane_col (g : Fin 4) (i : Fin 512) : lane (col g i) = i := Fin.ext (by show (512 * g.val + i.val) % 512 = i.val; omega)
theorem col_grp (j : Fin 2048) : col (grp j) (lane j) = j := Fin.ext (by show 512 * (j.val / 512) + j.val % 512 = j.val; omega)

/-- The whole gradients, read in a group. -/
theorem duAll_at (Y : Vec Ideal S4096x2048 .bf16) (W : Vec Ideal S4x512x512 .bf16) (S : Vec Ideal S1x2048 .f32) (r : Fin 4096) (g : Fin 4) (i : Fin 512) :
    duAll Y W S (ix2 r (col g i)) = duB (2 ^ g.val) (rowsOf Y g) (matOf W g) (sclOf S g) r i := by
  show duB (2 ^ (grp (col g i)).val) (rowsOf Y (grp (col g i))) (matOf W (grp (col g i))) (sclOf S (grp (col g i))) r (lane (col g i)) = _
  rw [grp_col, lane_col]
theorem dscAll_at (D Y : Vec Ideal S4096x2048 .bf16) (W : Vec Ideal S4x512x512 .bf16) (g : Fin 4) (i : Fin 512) :
    dscAll D Y W (ix2 0 (col g i)) = ∑ t : Fin 4096, rowsOf Y g (ix2 t i) * prod (rowsOf D g) (matOf W g) t i := by
  show (∑ t : Fin 4096, rowsOf Y (grp (col g i)) (ix2 t (lane (col g i))) * prod (rowsOf D (grp (col g i))) (matOf W (grp (col g i))) t (lane (col g i))) = _
  rw [grp_col, lane_col]

theorem arr4 (c : Dev nD) : (poolDats m 0 c).arrAt 4 cfg0.N = duAll (V m c main_v128) (V m c main_arg1) (V m c main_arg2) := by
  refine (poolDats m 0 c).arrAt_eq_of_covers 4 _ (by decide +kernel) fun t hf y => ?_
  blk_simp
  rw [poolAfter4, blk1, blk2, blk3]
  have hz : ((cfg0.win 4).blk t).view.emb y = ix2 (y 0) (col (gOf t) (y 1)) := by
    obtain ⟨e0, e1, e2, e3, e4, e5, e6⟩ := idx t
    unfold gOf col
    blk_ext [e4]
  rw [hz]
  exact (duAll_at (V m c main_v128) (V m c main_arg1) (V m c main_arg2) (y 0) (gOf t) (y 1)).symm
theorem arr5 (c : Dev nD) : (poolDats m 0 c).arrAt 5 cfg0.N = dwAll (V m c main_v127) (V m c main_v128) (V m c main_arg2) := by
  refine (poolDats m 0 c).arrAt_eq_of_covers 5 _ (by decide +kernel) fun t hf y => ?_
  blk_simp
  rw [poolAfter5, blk0, blk1, blk3]
  have hz : ((cfg0.win 5).blk t).view.emb y = ix3 (gOf t) (y 1) (y 2) := by
    obtain ⟨e0, e1, e2, e3, e4, e5, e6⟩ := idx t
    unfold gOf
    blk_ext [e5]
  rw [hz]
  unfold dwAll dwBlk
  rfl
theorem arr6 (c : Dev nD) : (poolDats m 0 c).arrAt 6 cfg0.N = dscAll (V m c main_v127) (V m c main_v128) (V m c main_arg1) := by
  refine (poolDats m 0 c).arrAt_eq_of_covers 6 _ (by decide +kernel) fun t hf y => ?_
  blk_simp
  rw [poolAfter6, blk0, blk1, blk2]
  have hz : ((cfg0.win 6).blk t).view.emb y = ix2 0 (col (gOf t) (y 1)) := by
    obtain ⟨e0, e1, e2, e3, e4, e5, e6⟩ := idx t
    unfold gOf col
    blk_ext [e6]
  rw [hz]
  exact (dscAll_at (V m c main_v127) (V m c main_v128) (V m c main_arg1) (gOf t) (y 1)).symm
end Cert.KernelIdeal.Gen
-- ==== Proof.PoolSums.lean ====
/-
  A running sum from the end, a scatter that adds rows, and the sum of what every window that holds a position gives it.
-/
module
public import proofs.«01_k».proof.Proof.Gen.ReferenceIdeal.Run
public import Idealize.ShloMosaic.Lib.Pointwise
public import Idealize.ShloMosaic.Lib.Routing.OpsPair
public import Idealize.ShloMosaic.PureOps.Ideal.Laws
@[expose] public section
set_option maxRecDepth 16384
noncomputable section
namespace Cert.ReferenceIdeal.Pool
open Idealize.ShloMosaic Idealize.ShloMosaic.TcCoe Idealize.ShloMosaic.Tactic

/-- A fold of additions is the sum. -/
theorem foldl_add {n : ℕ} (f : Fin n → EReal) : (List.finRange n).foldl (fun r k => r + f k) 0 = ∑ k, f k := by
  rw [← List.foldl_map (f := f) (g := fun r y : EReal => r + y), ← List.sum_eq_foldl, ← List.ofFn_eq_map, List.sum_ofFn]

/-- The window's position `k` of 4096. -/
abbrev place (k : Fin (⟨3, ![1, 4096, 1]⟩ : Shape).numel) : (⟨3, ![1, 4096, 1]⟩ : Shape).Idx := (⟨3, ![1, 4096, 1]⟩ : Shape).rowMajor.symm k

/-- The running sum from the end. -/
theorem rev_sum (x : Vec Ideal S1x4096x2048 .f32) (v : Vec Ideal S_ .f32) (hv : ∀ k, v k = 0)
    (h : S1x4096x2048.ReduceWindows (![1, 4096, 1] : Fin 3 → Nat) ![1, 1, 1] ![0, 0, 0] ![0, 4095, 0] S1x4096x2048) (hu : 0 < S_.numel)
    (s : Fin 4096) (j : Fin 2048) :
    Host.reduceWindowAdd (F := Ideal) (φ := .f32) ![1, 4096, 1] ![1, 1, 1] ![0, 0, 0] ![0, 4095, 0] x v h hu (ix3 0 s j)
      = ∑ p : Fin 4096, if s.val ≤ p.val then x (ix3 0 p j) else 0 := by
  have hj := j.isLt
  unfold Host.reduceWindowAdd
  rw [Ideal.hostReduceWindowAdd_def, hv]
  unfold Ideal.hostReduceWindowAdd Host.reduceWindow
  refine (foldl_add _).trans ?_
  refine (Finset.sum_congr rfl fun k _ => ?_).trans ((Equiv.sum_comp (⟨3, ![1, 4096, 1]⟩ : Shape).rowMajor.symm (fun w =>
    if hn : s.val + (w 1).val < 4096 then x (ix3 0 ⟨s.val + (w 1).val, hn⟩ j) else (0 : EReal))).trans ?_)
  · have h0 : (place k 0).val = 0 := Nat.lt_one_iff.1 (place k 0).isLt
    have h2 : (place k 2).val = 0 := Nat.lt_one_iff.1 (place k 2).isLt
    by_cases hn : s.val + (place k 1).val < 4096
    · refine (dif_pos ?_).trans (Eq.trans ?_ (dif_pos hn).symm)
      · intro a
        match a with
        | ⟨0, _⟩ => exact ⟨Nat.zero_le _, by show 0 * 1 + (place k 0).val - 0 < 1; omega⟩
        | ⟨1, _⟩ => exact ⟨Nat.zero_le _, by show s.val * 1 + (place k 1).val - 0 < 4096; omega⟩
        | ⟨2, _⟩ => exact ⟨Nat.zero_le _, by show j.val * 1 + (place k 2).val - 0 < 2048; omega⟩
      · refine congrArg x (funext fun a => Fin.ext ?_)
        match a with
        | ⟨0, _⟩ => show 0 * 1 + (place k 0).val - 0 = 0; omega
        | ⟨1, _⟩ => show s.val * 1 + (place k 1).val - 0 = s.val + (place k 1).val; omega
        | ⟨2, _⟩ => show j.val * 1 + (place k 2).val - 0 = j.val; omega
    · refine (dif_neg ?_).trans (by rw [dif_neg hn])
      intro hin
      have h1 := (hin 1).2
      change s.val * 1 + (place k 1).val - 0 < 4096 at h1
      omega
  rw [sum_idx3]
  simp only [Finset.univ_unique, Finset.sum_singleton, ix3_1]
  show (∑ n : Fin 4096, if hn : s.val + n.val < 4096 then x (ix3 0 ⟨s.val + n.val, hn⟩ j) else (0 : EReal)) = _
  rw [← Finset.sum_filter, Finset.sum_dite]
  rw [Finset.sum_const_zero, add_zero]
  refine Finset.sum_bij' (fun n _ => ⟨s.val + n.1.val, (Finset.mem_filter.1 n.2).2⟩)
    (fun p hp => ⟨⟨p.val - s.val, by omega⟩, Finset.mem_filter.2 ⟨Finset.mem_univ _, by
      have := (Finset.mem_filter.1 hp).2
      show s.val + (p.val - s.val) < 4096
      omega⟩⟩) ?_ ?_ ?_ ?_ ?_
  · intro n _
    exact Finset.mem_filter.2 ⟨Finset.mem_univ _, Nat.le_add_right _ _⟩
  · intro p _
    exact Finset.mem_attach _ _
  · intro n _
    exact Subtype.ext (Fin.ext (Nat.add_sub_cancel_left ..))
  · intro p hp
    exact Fin.ext (Nat.add_sub_cancel' (Finset.mem_filter.1 hp).2)
  · intro n _
    rfl

/-- The scatter adds update row `t` to the row its word names. -/
theorem scatter_rows (x : Vec Ideal S1x4097x512 .f32) (idx : IVec S4096x1 32) (u : Vec Ideal S1x4096x512 .f32) (p : Fin 4097) (i : Fin 512) :
    Host.scatterAdd (F := Ideal) (φ := .f32) scatter_S1x4097x512_S4096x1_S1x4096x512_02_1_1_1 x idx u (ix3 0 p i)
      = x (ix3 0 p i) + ∑ t : Fin 4096, if (idx (ix2 t 0)).toInt = p.val then u (ix3 0 t i) else 0 := by
  show x (ix3 0 p i) + ∑ k ∈ Finset.univ.filter (fun k => scatter_S1x4097x512_S4096x1_S1x4096x512_02_1_1_1.resultIdx? k idx = some (ix3 0 p i)), u k = _
  refine congrArg (x (ix3 0 p i) + ·) ?_
  rw [Finset.sum_filter, sum_idx3]
  simp only [Finset.univ_unique, Finset.sum_singleton]
  refine Finset.sum_congr rfl fun t _ => ?_
  have e : ∀ l : Fin 512, (scatter_S1x4097x512_S4096x1_S1x4096x512_02_1_1_1.resultIdx? (ix3 (default : Fin 1) t l) idx = some (ix3 0 p i))
      ↔ ((idx (ix2 t 0)).toInt = p.val ∧ l = i) := by
    intro l
    rw [Routing.resultIdx?_eq_some]
    have s0 : scatter_S1x4097x512_S4096x1_S1x4096x512_02_1_1_1.start (ix3 (default : Fin 1) t l) idx 0 = 0 := rfl
    have s1 : scatter_S1x4097x512_S4096x1_S1x4096x512_02_1_1_1.start (ix3 (default : Fin 1) t l) idx 1 = (idx (ix2 t 0)).toInt := by
      refine congrArg (fun z => (idx z).toInt) (funext fun a => Fin.ext ?_)
      match a with
      | ⟨0, _⟩ => rfl
      | ⟨1, _⟩ => rfl
    have s2 : scatter_S1x4097x512_S4096x1_S1x4096x512_02_1_1_1.start (ix3 (default : Fin 1) t l) idx 2 = 0 := rfl
    have w0 : scatter_S1x4097x512_S4096x1_S1x4096x512_02_1_1_1.window (ix3 (default : Fin 1) t l) 0 = 0 := rfl
    have w1 : scatter_S1x4097x512_S4096x1_S1x4096x512_02_1_1_1.window (ix3 (default : Fin 1) t l) 1 = 0 := rfl
    have w2 : scatter_S1x4097x512_S4096x1_S1x4096x512_02_1_1_1.window (ix3 (default : Fin 1) t l) 2 = l.val := rfl
    constructor
    · intro h
      have h1 := h 1
      have h2 := h 2
      rw [s1, w1] at h1
      rw [s2, w2] at h2
      change _ = (p.val : ℤ) at h1
      change _ = (i.val : ℤ) at h2
      exact ⟨by omega, Fin.ext (by omega)⟩
    · rintro ⟨h1, rfl⟩ a
      match a with
      | ⟨0, _⟩ => exact (congrArg₂ (fun (b : ℤ) (c : ℕ) => b + (c : ℤ)) s0 w0).trans rfl
      | ⟨1, _⟩ => exact (congrArg₂ (fun (b : ℤ) (c : ℕ) => b + (c : ℤ)) (s1.trans h1) w1).trans (add_zero _)
      | ⟨2, _⟩ => exact (congrArg₂ (fun (b : ℤ) (c : ℕ) => b + (c : ℤ)) s2 w2).trans (zero_add _)
  simp only [e]
  by_cases ht : (idx (ix2 t 0)).toInt = p.val
  · simp only [ht, true_and, if_true, Finset.sum_ite_eq', Finset.mem_univ]
    rfl
  · simp only [ht, false_and, if_false, Finset.sum_const_zero]

/-- Adding each window's quotient to the position after its last and taking it from its first, then summing from the end,
    gives each position the quotients of the windows that hold it. -/
theorem window_real (q : Fin 4096 → ℝ) (lo hi : Fin 4096 → ℕ) (hl : ∀ t, lo t ≤ hi t) (hh : ∀ t, hi t ≤ 4096) (s : Fin 4096) :
    (∑ p : Fin 4096, if s.val ≤ p.val then
      (∑ t, if lo t = p.val + 1 then -q t else 0) + (∑ t, if hi t = p.val + 1 then q t else 0) else 0)
      = ∑ t, if lo t ≤ s.val ∧ s.val < hi t then q t else 0 := by
  have key : ∀ (f : Fin 4096 → ℕ) (a : Fin 4096 → ℝ), (∀ t, f t ≤ 4096) →
      (∑ p : Fin 4096, if s.val ≤ p.val then (∑ t, if f t = p.val + 1 then a t else 0) else 0) = ∑ t, if s.val < f t then a t else 0 := by
    intro f a hf
    have e1 : ∀ p : Fin 4096, (if s.val ≤ p.val then (∑ t, if f t = p.val + 1 then a t else 0) else 0)
        = ∑ t, if s.val ≤ p.val ∧ f t = p.val + 1 then a t else 0 := by
      intro p
      by_cases hp : s.val ≤ p.val
      · simp [hp]
      · simp [hp]
    rw [Finset.sum_congr rfl fun p _ => e1 p, Finset.sum_comm]
    refine Finset.sum_congr rfl fun t _ => ?_
    have := hf t
    by_cases hs : s.val < f t
    · rw [if_pos hs, Finset.sum_eq_single (⟨f t - 1, by omega⟩ : Fin 4096)]
      · exact if_pos ⟨by show s.val ≤ f t - 1; omega, by show f t = f t - 1 + 1; omega⟩
      · intro b _ hb
        exact if_neg fun h => hb (Fin.ext (by show b.val = f t - 1; omega))
      · exact fun h => absurd (Finset.mem_univ _) h
    · rw [if_neg hs]
      exact Finset.sum_eq_zero fun p _ => if_neg fun h => hs (by omega)
  have e : ∀ p : Fin 4096, (if s.val ≤ p.val then
      (∑ t, if lo t = p.val + 1 then -q t else 0) + (∑ t, if hi t = p.val + 1 then q t else 0) else 0)
      = (if s.val ≤ p.val then (∑ t, if lo t = p.val + 1 then -q t else 0) else 0)
        + (if s.val ≤ p.val then (∑ t, if hi t = p.val + 1 then q t else 0) else 0) := by
    intro p
    by_cases hp : s.val ≤ p.val
    · simp only [if_pos hp]
    · simp only [if_neg hp, add_zero]
  rw [Finset.sum_congr rfl fun p _ => e p, Finset.sum_add_distrib, key lo _ (fun t => (hl t).trans (hh t)), key hi _ hh, ← Finset.sum_add_distrib]
  refine Finset.sum_congr rfl fun t _ => ?_
  have := hl t
  by_cases h1 : s.val < lo t
  · rw [if_pos h1, if_pos (by omega), if_neg (by omega)]; exact neg_add_cancel _
  · by_cases h2 : s.val < hi t
    · rw [if_neg h1, if_pos h2, if_pos (by omega), zero_add]
    · rw [if_neg h1, if_neg h2, if_neg (by omega), zero_add]

end Cert.ReferenceIdeal.Pool
-- ==== Proof.PoolRef.lean ====
/-
  The reference's terms read as the gradient's sums: the products, the weight's gradient and the scale's.
-/
module
public import proofs.«01_k».proof.Proof.PoolFrame
public import proofs.«01_k».proof.Proof.PoolSums
@[expose] public section
set_option maxRecDepth 16384
noncomputable section
namespace Cert.ReferenceIdeal.Pool
open Idealize.ShloMosaic Idealize.ShloMosaic.TcCoe Idealize.ShloMosaic.Tactic
open Cert.ReferenceIdeal.Value Cert.ReferenceIdeal.Facts₀ Cert.ReferenceIdeal.Facts
open Cert.KernelIdeal.Gen (row cnt ctD quo prod padded duB dwBlk dscBlk col rowsOf matOf sclOf grp lane col_grp duAll dwAll dscAll duAll_at dscAll_at)
variable (V0 : Valuation τ sig (Elt Ideal))

/-- The cotangent, as a matrix. -/
def yOf : Vec Ideal S4096x2048 .bf16 := fun z => V0 (Proc.devRef .tc main_arg3) (ix3 (0 : Fin 1) (z 0) (z 1))
/-- The weights. -/
def wOf : Vec Ideal S4x512x512 .bf16 := V0 (Proc.devRef .tc main_arg1)
/-- The scales. -/
def sOf : Vec Ideal S1x2048 .f32 := V0 (Proc.devRef .tc main_arg2)
/-- The local means less the input, as a matrix. -/
def dOf : Vec Ideal S4096x2048 .bf16 := fun z => res_main_v128 V0 (ix4 (0 : Fin 1) (z 0) (grp (z 1)) (lane (z 1)))

theorem grp_at (g : Fin 4) (i : Fin 512) : grp (col g i) = g := Fin.ext (by show (512 * g.val + i.val) / 512 = g.val; omega)
theorem lane_at (g : Fin 4) (i : Fin 512) : lane (col g i) = i := Fin.ext (by show (512 * g.val + i.val) % 512 = i.val; omega)

theorem dOf_at (t : Fin 4096) (g : Fin 4) (i : Fin 512) : rowsOf (dOf V0) g (ix2 t i) = res_main_v128 V0 (ix4 (0 : Fin 1) t g i) := by
  show res_main_v128 V0 (ix4 (0 : Fin 1) t (grp (col g i)) (lane (col g i))) = _
  rw [grp_at, lane_at]

/-- Summing two axes of one position each changes nothing. -/
theorem lead_sum (h : S1x1x2048.ReducesTo [0, 1] S2048) (x : S1x1x2048.Idx → EReal) (j : Fin 2048) :
    Ideal.hostReduceAdd h x 0 (ix1 j) = x (ix3 (0 : Fin 1) (0 : Fin 1) j) := by
  unfold Ideal.hostReduceAdd
  rw [zero_add, Finset.sum_filter, sum_idx3, Fin.sum_univ_one, Fin.sum_univ_one]
  have e : ∀ k : Fin 2048, (h.drop (ix3 (0 : Fin 1) (0 : Fin 1) k) = ix1 j) ↔ k = j := by
    intro k
    constructor
    · intro q
      exact congrFun q 0
    · rintro rfl
      funext a
      match a with
      | ⟨0, _⟩ => rfl
  simp only [e, Finset.sum_ite_eq', Finset.mem_univ, if_true]

theorem v143_at (g : Fin 4) (i : Fin 512) (t : Fin 4096) :
    res_main_v143 V0 (ix4 g i (0 : Fin 1) t) = yOf V0 (ix2 t (col g i)) * sOf V0 (ix2 (0 : Fin 1) (col g i)) := by
  unfold res_main_v143 res_main_v135 res_main_v132
  pointwise
  have e : (⟨g.val * 512 + i.val, by omega⟩ : Fin 2048) = col g i := Fin.ext (by show g.val * 512 + i.val = 512 * g.val + i.val; omega)
  rw [e]
  rfl

theorem v145_at (t : Fin 4096) (g : Fin 4) (i : Fin 512) :
    res_main_v145 V0 (ix4 (0 : Fin 1) t g i) = ctD (rowsOf (yOf V0) g) (matOf (wOf V0) g) (sclOf (sOf V0) g) t i := by
  unfold res_main_v145 res_main_v1
  pointwise
  refine Finset.sum_congr (M := EReal) rfl fun j _ => ?_
  exact congrArg (fun a : EReal => a * wOf V0 (ix3 g i j)) (v143_at V0 g j t)

theorem v131_at (t : Fin 4096) (g : Fin 4) (i : Fin 512) :
    res_main_v131 V0 (ix3 (0 : Fin 1) t (col g i)) = prod (rowsOf (dOf V0) g) (matOf (wOf V0) g) t i := by
  unfold res_main_v131 res_main_v1
  pointwise
  have e1 : (⟨(col g i).val / 512, by omega⟩ : Fin 4) = g := grp_at g i
  have e2 : (⟨(col g i).val % 512, by omega⟩ : Fin 512) = i := lane_at g i
  rw [e1, e2]
  refine Finset.sum_congr (M := EReal) rfl fun j _ => ?_
  rw [dOf_at]
  exact mul_comm (wOf V0 (ix3 g j i) : EReal) _

/-- The weight's gradient. -/
theorem dw_eq : (truncf .bf16 (transpose S4x512x512 [0, 2, 1] (Host.dotGeneral (F := Ideal) (φ₁ := .f32) (φ₂ := .f32) dot_S4x512x1x4096_S1x4096x4x512_S4x512x512_23_01_1_3_0_2 none (res_main_v143 V0) (res_main_v128 V0)) transposes_S4x512x512_S4x512x512_0_2_1) bitsLt_bf16_f32 : FVec Ideal S4x512x512 .bf16)
    = dwAll (dOf V0) (yOf V0) (sOf V0) := by
  funext z; idx_vars z
  pointwise
  rw [Fin.sum_univ_one]
  unfold dwAll dwBlk
  refine Finset.sum_congr (M := EReal) rfl fun t _ => ?_
  rw [v143_at]
  refine Eq.trans ?_ (congrArg (fun a : EReal => a * (yOf V0 (ix2 t (col z0 z2)) * sOf V0 (ix2 (0 : Fin 1) (col z0 z2)))) (dOf_at V0 t z0 z1).symm)
  exact mul_comm (yOf V0 (ix2 t (col z0 z2)) * sOf V0 (ix2 (0 : Fin 1) (col z0 z2)) : EReal) _

/-- The scale's gradient. -/
theorem dsc_eq : (broadcastInDim S1x2048 ![1] bcast_S2048_S1x2048_1 (Host.reduceAdd (shapeCast _ (Host.reduceAdd (mulf (res_main_v131 V0) (res_main_v135 V0)) (constant S_ .f32 0x00000000#32) reducesTo_S1x4096x2048_S1x2048_d1 h_S_) shapeCasts_S1x2048_S1x1x2048) (constant S_ .f32 0x00000000#32) reducesTo_S1x1x2048_S2048_d0_1 h_S_) : FVec Ideal S1x2048 .f32)
    = dscAll (dOf V0) (yOf V0) (wOf V0) := by
  funext z; idx_vars z
  obtain rfl : z0 = 0 := Subsingleton.elim _ _
  rw [← col_grp z1, dscAll_at]
  pointwise
  rw [lead_sum]
  pointwise
  refine Finset.sum_congr (M := EReal) rfl fun t _ => ?_
  rw [v131_at]
  exact mul_comm (prod (rowsOf (dOf V0) (grp z1)) (matOf (wOf V0) (grp z1)) t (lane z1) : EReal) _

end Cert.ReferenceIdeal.Pool
-- ==== Proof.PoolBounds.lean ====
/-
  The bounds of the reference's windows, position by position.
-/
module
public import proofs.«01_k».proof.Proof.PoolRef
@[expose] public section
set_option maxRecDepth 16384
noncomputable section
namespace Cert.ReferenceIdeal.Pool
open Idealize.ShloMosaic Idealize.ShloMosaic.TcCoe Idealize.ShloMosaic.Tactic
open Cert.ReferenceIdeal.Value Cert.ReferenceIdeal.Facts₀ Cert.ReferenceIdeal.Facts
open Cert.KernelIdeal.Gen (row cnt ctD quo prod padded duB dwBlk dscBlk col rowsOf matOf sclOf grp lane col_grp duAll dwAll dscAll duAll_at dscAll_at)

/-! ## The windows' bounds -/

/-- A word held between 0 and 4096. -/
def clipV (x : IVec S4096 32) : IVec S4096 32 :=
  minsi (broadcastInDim S4096 ![] bcast_S_S4096 (id (constantI S_ 32 4096#32))) (maxsi (broadcastInDim S4096 ![] bcast_S_S4096 (id (constantI S_ 32 0#32))) x)
/-- Where the windows of half-width `h` begin, and where they end. -/
def loV (h : BitVec 32) : IVec S4096 32 := clipV (subi (iotaInDim S4096 32 0) (broadcastInDim S4096 ![] bcast_S_S4096 (constantI S_ 32 h)))
def hiV (h : BitVec 32) : IVec S4096 32 := clipV (addi (iotaInDim S4096 32 0) (broadcastInDim S4096 ![] bcast_S_S4096 (constantI S_ 32 h)))
/-- Bounds as a gather and a scatter take them. -/
def asIdx (x : IVec S4096 32) : IVec S4096x1 32 :=
  broadcastInDim S4096x1 ![0] bcast_S4096_S4096x1_0 (select (cmpi .slt x (broadcastInDim S4096 ![] bcast_S_S4096 (constantI S_ 32 0#32))) (addi x (broadcastInDim S4096 ![] bcast_S_S4096 (constantI S_ 32 4097#32))) x)
/-- The windows' sizes. -/
def cntV (h : BitVec 32) : FVec Ideal S1x4096x1 .f32 := broadcastInDim S1x4096x1 ![1] bcast_S4096_S1x4096x1_1 (sitofp .f32 (subi (hiV h) (loV h)))

/-- The half-widths. -/
def halves : List ℕ := [1, 2, 4, 8]

theorem lo_at (t : Fin 4096) (h : ℕ) (hh : h ∈ halves) : (asIdx (loV (BitVec.ofNat 32 h)) (ix2 t (0 : Fin 1))).toInt = ((t.val - h : ℕ) : ℤ) := by
  pointwise [asIdx, loV, clipV]
  revert t h
  decide +kernel

theorem hi_at (t : Fin 4096) (h : ℕ) (hh : h ∈ halves) : (asIdx (hiV (BitVec.ofNat 32 h)) (ix2 t (0 : Fin 1))).toInt = ((min (t.val + h) 4096 : ℕ) : ℤ) := by
  pointwise [asIdx, hiV, clipV]
  revert t h
  decide +kernel

theorem cnt_at (t : Fin 4096) (h : ℕ) (hh : h ∈ halves) : cntV (BitVec.ofNat 32 h) (ix3 (0 : Fin 1) t (0 : Fin 1)) = cnt h t.val := by
  have e : (IntOp.subi (hiV (BitVec.ofNat 32 h) (ix1 t)) (loV (BitVec.ofNat 32 h) (ix1 t))).toInt = ((min (t.val + h) 4096 - (t.val - h) : ℕ) : ℤ) := by
    pointwise [hiV, loV, clipV]
    revert t h
    decide +kernel
  have e' : cntV (BitVec.ofNat 32 h) (ix3 (0 : Fin 1) t (0 : Fin 1)) = (((IntOp.subi (hiV (BitVec.ofNat 32 h) (ix1 t)) (loV (BitVec.ofNat 32 h) (ix1 t))).toInt : ℝ) : EReal) := by
    unfold cntV
    pointwise
    rfl
  rw [e', e]
  rfl

end Cert.ReferenceIdeal.Pool
-- ==== Proof.PoolWindow.lean ====
/-
  The input's gradient as the reference computes it: the quotients added where a window ends and
  taken where it begins, and the sum from the end, read as the sum over the windows that hold a position.
-/
module
public import proofs.«01_k».proof.Proof.PoolBounds
@[expose] public section
set_option maxRecDepth 16384
noncomputable section
namespace Cert.ReferenceIdeal.Pool
open Idealize.ShloMosaic Idealize.ShloMosaic.TcCoe Idealize.ShloMosaic.Tactic
open Cert.ReferenceIdeal.Value Cert.ReferenceIdeal.Facts₀ Cert.ReferenceIdeal.Facts
open Cert.KernelIdeal (S4096x512 S1x512x512 S1x512)
open Cert.KernelIdeal.Gen (row cnt ctD quo prod padded duB dwBlk dscBlk col rowsOf matOf sclOf grp lane col_grp duAll dwAll dscAll duAll_at dscAll_at)

/-! ## One group -/

/-- A group's cotangent over its windows' sizes. -/
def quoV (h : BitVec 32) (ct : FVec Ideal S1x4096x512 .f32) : FVec Ideal S1x4096x512 .f32 :=
  Host.divf ct (broadcastInDim S1x4096x512 ![0, 1, 2] bcast_S1x4096x1_S1x4096x512_0_1_2 (cntV h))
/-- That, taken where its window begins and added where it ends. -/
def spread (h : BitVec 32) (ct : FVec Ideal S1x4096x512 .f32) : FVec Ideal S1x4097x512 .f32 :=
  addf (Host.scatterAdd scatter_S1x4097x512_S4096x1_S1x4096x512_02_1_1_1 (broadcastInDim S1x4097x512 ![] bcast_S_S1x4097x512 (constant S_ .f32 0x00000000#32)) (asIdx (loV h)) (Host.negf (quoV h ct)))
    (Host.scatterAdd scatter_S1x4097x512_S4096x1_S1x4096x512_02_1_1_1 (broadcastInDim S1x4097x512 ![] bcast_S_S1x4097x512 (constant S_ .f32 0x00000000#32)) (asIdx (hiV h)) (quoV h ct))

theorem ite_cast (a b : ℕ) (x y : EReal) : (if (a : ℤ) = (b : ℤ) then x else y) = if a = b then x else y :=
  if_congr Nat.cast_inj rfl rfl

theorem quoV_at (h : ℕ) (hh : h ∈ halves) (ct : FVec Ideal S1x4096x512 .f32) (t : Fin 4096) (i : Fin 512) :
    quoV (BitVec.ofNat 32 h) ct (ix3 (0 : Fin 1) t i) = Ideal.div (ct (ix3 (0 : Fin 1) t i)) (cnt h t.val) := by
  rw [← cnt_at t h hh]
  pointwise [quoV]

theorem spread_at (h : ℕ) (hh : h ∈ halves) (ct : FVec Ideal S1x4096x512 .f32) (p : Fin 4097) (i : Fin 512) :
    spread (BitVec.ofNat 32 h) ct (ix3 (0 : Fin 1) p i)
      = (∑ t : Fin 4096, if t.val - h = p.val then -Ideal.div (ct (ix3 (0 : Fin 1) t i)) (cnt h t.val) else 0)
        + ∑ t : Fin 4096, if min (t.val + h) 4096 = p.val then Ideal.div (ct (ix3 (0 : Fin 1) t i)) (cnt h t.val) else 0 := by
  unfold spread
  show (_ : EReal) + _ = _
  rw [scatter_rows, scatter_rows]
  have z : broadcastInDim S1x4097x512 ![] bcast_S_S1x4097x512 (constant (F := Ideal) S_ .f32 0x00000000#32) (ix3 (0 : Fin 1) p i) = 0 := by pointwise
  rw [z, zero_add, zero_add]
  refine congrArg₂ (fun a b : EReal => a + b) ?_ ?_
  · refine Finset.sum_congr (M := EReal) rfl fun t _ => ?_
    rw [lo_at t h hh]
    have n : Host.negf (quoV (BitVec.ofNat 32 h) ct) (ix3 (0 : Fin 1) t i) = -Ideal.div (ct (ix3 (0 : Fin 1) t i)) (cnt h t.val) := by
      rw [← quoV_at h hh]; rfl
    rw [n, ite_cast]
  · refine Finset.sum_congr (M := EReal) rfl fun t _ => ?_
    rw [hi_at t h hh, quoV_at h hh, ite_cast]

/-! ## The whole gradient -/
variable (V0 : Valuation τ sig (Elt Ideal))

/-- The four groups' cotangents. -/
def ctG (g : Fin 4) : FVec Ideal S1x4096x512 .f32 := fun z => res_main_v145 V0 (ix4 (0 : Fin 1) (z 1) g (z 2))

theorem v149_eq : res_main_v149 V0 = ctG V0 0 := by
  funext z; idx_vars z
  unfold res_main_v149
  pointwise [ctG]
theorem v151_eq : res_main_v151 V0 = ctG V0 1 := by
  funext z; idx_vars z
  unfold res_main_v151
  pointwise [ctG]
theorem v153_eq : res_main_v153 V0 = ctG V0 2 := by
  funext z; idx_vars z
  unfold res_main_v153
  pointwise [ctG]
theorem v155_eq : res_main_v155 V0 = ctG V0 3 := by
  funext z; idx_vars z
  unfold res_main_v155
  pointwise [ctG]

/-- Of four blocks of 512 columns set in zeros and added, a column's own block is what is left. -/
theorem own_block (f : Fin 4 → Fin 512 → EReal) (g : Fin 4) (i : Fin 512) (c : Fin 2048) (hc : c.val = 512 * g.val + i.val) :
    ((((if h : 1536 ≤ c.val ∧ c.val - 1536 < 512 then f 3 ⟨c.val - 1536, h.2⟩ else 0)
        + if h : 1024 ≤ c.val ∧ c.val - 1024 < 512 then f 2 ⟨c.val - 1024, h.2⟩ else 0)
        + if h : 512 ≤ c.val ∧ c.val - 512 < 512 then f 1 ⟨c.val - 512, h.2⟩ else 0)
        + if h : c.val < 512 then f 0 ⟨c.val, h⟩ else 0) = f g i := by
  have hi := i.isLt
  have e : ∀ (n : ℕ) (hn : n < 512), n = i.val → (⟨n, hn⟩ : Fin 512) = i := fun _ _ h => Fin.ext h
  have hg : g = 0 ∨ g = 1 ∨ g = 2 ∨ g = 3 := by clear hc; revert g; decide
  rcases hg with rfl | rfl | rfl | rfl
  · replace hc : c.val = 512 * 0 + i.val := hc
    rw [dif_neg (by omega), dif_neg (by omega), dif_neg (by omega), dif_pos (by omega), zero_add, zero_add, zero_add, e _ _ (by omega)]
  · replace hc : c.val = 512 * 1 + i.val := hc
    rw [dif_neg (by omega), dif_neg (by omega), dif_pos (by omega), dif_neg (by omega), zero_add, zero_add, add_zero, e _ _ (by omega)]
  · replace hc : c.val = 512 * 2 + i.val := hc
    rw [dif_neg (by omega), dif_pos (by omega), dif_neg (by omega), dif_neg (by omega), zero_add, add_zero, add_zero, e _ _ (by omega)]
  · replace hc : c.val = 512 * 3 + i.val := hc
    rw [dif_pos (by omega), dif_neg (by omega), dif_neg (by omega), dif_neg (by omega), add_zero, add_zero, add_zero, e _ _ (by omega)]

theorem v205_eq : res_main_v205 V0 = addf (addf (addf
      (pad S1x4097x2048 ![0, 0, 1536] ![0, 0, 0] ![0, 0, 0] (spread 8#32 (ctG V0 3)) (constant S_ .f32 0x00000000#32) pads_S1x4097x512_S1x4097x2048_000_000_153600 h_S_)
      (pad S1x4097x2048 ![0, 0, 1024] ![0, 0, 512] ![0, 0, 0] (spread 4#32 (ctG V0 2)) (constant S_ .f32 0x00000000#32) pads_S1x4097x512_S1x4097x2048_000_000_10245120 h_S_))
      (pad S1x4097x2048 ![0, 0, 512] ![0, 0, 1024] ![0, 0, 0] (spread 2#32 (ctG V0 1)) (constant S_ .f32 0x00000000#32) pads_S1x4097x512_S1x4097x2048_000_000_51210240 h_S_))
      (pad S1x4097x2048 ![0, 0, 0] ![0, 0, 1536] ![0, 0, 0] (spread 1#32 (ctG V0 0)) (constant S_ .f32 0x00000000#32) pads_S1x4097x512_S1x4097x2048_000_000_015360 h_S_) := by
  rw [← v149_eq, ← v151_eq, ← v153_eq, ← v155_eq]
  rfl

theorem v205_at (p : Fin 4097) (g : Fin 4) (i : Fin 512) :
    res_main_v205 V0 (ix3 (0 : Fin 1) p (col g i)) = spread (BitVec.ofNat 32 (2 ^ g.val)) (ctG V0 g) (ix3 (0 : Fin 1) p i) := by
  rw [v205_eq]
  pointwise
  exact own_block (fun g i => spread (BitVec.ofNat 32 (2 ^ g.val)) (ctG V0 g) (ix3 (0 : Fin 1) p i)) g i _ rfl

/-- The cotangents themselves, in their columns. -/
def negs : FVec Ideal S1x4096x2048 .f32 := addf (addf (addf
      (pad S1x4096x2048 ![0, 0, 1536] ![0, 0, 0] ![0, 0, 0] (Host.negf (res_main_v155 V0)) (constant S_ .f32 0x00000000#32) pads_S1x4096x512_S1x4096x2048_000_000_153600 h_S_)
      (pad S1x4096x2048 ![0, 0, 1024] ![0, 0, 512] ![0, 0, 0] (Host.negf (res_main_v153 V0)) (constant S_ .f32 0x00000000#32) pads_S1x4096x512_S1x4096x2048_000_000_10245120 h_S_))
      (pad S1x4096x2048 ![0, 0, 512] ![0, 0, 1024] ![0, 0, 0] (Host.negf (res_main_v151 V0)) (constant S_ .f32 0x00000000#32) pads_S1x4096x512_S1x4096x2048_000_000_51210240 h_S_))
      (pad S1x4096x2048 ![0, 0, 0] ![0, 0, 1536] ![0, 0, 0] (Host.negf (res_main_v149 V0)) (constant S_ .f32 0x00000000#32) pads_S1x4096x512_S1x4096x2048_000_000_015360 h_S_)

/-- A group's cotangent, negated. -/
def negG (g : Fin 4) : FVec Ideal S1x4096x512 .f32 := Host.negf (ctG V0 g)

theorem negs_eq : negs V0 = addf (addf (addf
      (pad S1x4096x2048 ![0, 0, 1536] ![0, 0, 0] ![0, 0, 0] (negG V0 3) (constant S_ .f32 0x00000000#32) pads_S1x4096x512_S1x4096x2048_000_000_153600 h_S_)
      (pad S1x4096x2048 ![0, 0, 1024] ![0, 0, 512] ![0, 0, 0] (negG V0 2) (constant S_ .f32 0x00000000#32) pads_S1x4096x512_S1x4096x2048_000_000_10245120 h_S_))
      (pad S1x4096x2048 ![0, 0, 512] ![0, 0, 1024] ![0, 0, 0] (negG V0 1) (constant S_ .f32 0x00000000#32) pads_S1x4096x512_S1x4096x2048_000_000_51210240 h_S_))
      (pad S1x4096x2048 ![0, 0, 0] ![0, 0, 1536] ![0, 0, 0] (negG V0 0) (constant S_ .f32 0x00000000#32) pads_S1x4096x512_S1x4096x2048_000_000_015360 h_S_) := by
  unfold negs negG
  rw [v149_eq, v151_eq, v153_eq, v155_eq]

theorem negs_at (r : Fin 4096) (g : Fin 4) (i : Fin 512) :
    negs V0 (ix3 (0 : Fin 1) r (col g i)) = -ctG V0 g (ix3 (0 : Fin 1) r i) := by
  rw [negs_eq]
  pointwise
  exact own_block (fun g i => negG V0 g (ix3 (0 : Fin 1) r i)) g i _ rfl

/-! ## Windows -/

/-- The sum of a window's rows, read out of the padded rows. -/
theorem window_rows (h : ℕ) (h1 : 1 ≤ h) (h8 : h ≤ 8) (q : Fin 4096 → EReal) (r : Fin 4096) :
    (∑ o : Fin (2 * h), if hp : 8 ≤ 9 - h + o.val + r.val ∧ 9 - h + o.val + r.val < 4104 then q ⟨9 - h + o.val + r.val - 8, by omega⟩ else 0)
      = ∑ t : Fin 4096, if t.val - h ≤ r.val ∧ r.val < min (t.val + h) 4096 then q t else 0 := by
  have hr := r.isLt
  have a : ∀ o : Fin (2 * h), (if hp : 8 ≤ 9 - h + o.val + r.val ∧ 9 - h + o.val + r.val < 4104 then q ⟨9 - h + o.val + r.val - 8, by omega⟩ else 0)
      = ∑ t : Fin 4096, if t.val + 8 = 9 - h + o.val + r.val then q t else 0 := fun o => by
    split_ifs with hp
    · rw [Finset.sum_eq_single (⟨9 - h + o.val + r.val - 8, by omega⟩ : Fin 4096)]
      · rw [if_pos (by show 9 - h + o.val + r.val - 8 + 8 = _; omega)]
      · intro t _ ht
        rw [if_neg fun e => ht (Fin.ext (by show t.val = 9 - h + o.val + r.val - 8; omega))]
      · intro hn; exact absurd (Finset.mem_univ _) hn
    · refine (Finset.sum_eq_zero fun t _ => ?_).symm
      have := t.isLt
      rw [if_neg (by omega)]
  rw [Finset.sum_congr rfl fun o _ => a o, Finset.sum_comm]
  refine Finset.sum_congr rfl fun t _ => ?_
  have ht := t.isLt
  split_ifs with hc
  · rw [Finset.sum_eq_single (⟨t.val + h - 1 - r.val, by omega⟩ : Fin (2 * h))]
    · rw [if_pos (by show _ = 9 - h + (t.val + h - 1 - r.val) + r.val; omega)]
    · intro o _ ho
      rw [if_neg fun e => ho (Fin.ext (by show o.val = t.val + h - 1 - r.val; omega))]
    · intro hn; exact absurd (Finset.mem_univ _) hn
  · refine Finset.sum_eq_zero fun o _ => ?_
    have := o.isLt
    rw [if_neg (by omega)]

theorem coe_sum {n : ℕ} (f : Fin n → ℝ) : ((∑ t, f t : ℝ) : EReal) = ∑ t, (f t : EReal) :=
  map_sum (⟨⟨Real.toEReal, EReal.coe_zero⟩, EReal.coe_add⟩ : ℝ →+ EReal) f Finset.univ

theorem coe_ite (c : Prop) [Decidable c] (x : ℝ) : ((if c then x else 0 : ℝ) : EReal) = if c then (x : EReal) else 0 := by
  split_ifs <;> rfl

theorem window_ereal (q : Fin 4096 → ℝ) (lo hi : Fin 4096 → ℕ) (hl : ∀ t, lo t ≤ hi t) (hh : ∀ t, hi t ≤ 4096) (s : Fin 4096) :
    (∑ p : Fin 4096, if s.val ≤ p.val then
        (∑ t : Fin 4096, if lo t = p.val + 1 then -(q t : EReal) else 0) + (∑ t : Fin 4096, if hi t = p.val + 1 then (q t : EReal) else 0) else 0)
      = ∑ t : Fin 4096, if lo t ≤ s.val ∧ s.val < hi t then (q t : EReal) else 0 := by
  have w := congrArg Real.toEReal (window_real q lo hi hl hh s)
  simp only [coe_sum, coe_ite, EReal.coe_add, EReal.coe_neg] at w
  exact w

/-! ## One group of finite inputs -/

theorem ctD_real {y : Vec Ideal S4096x512 .bf16} {w : Vec Ideal S1x512x512 .bf16} {s : Vec Ideal S1x512 .f32}
    (hy : ∀ z, ∃ x : ℝ, y z = (x : EReal)) (hw : ∀ z, ∃ x : ℝ, w z = (x : EReal)) (hs : ∀ z, ∃ x : ℝ, s z = (x : EReal))
    (t : Fin 4096) (i : Fin 512) : ∃ x : ℝ, ctD y w s t i = (x : EReal) := by
  choose fy ey using hy
  choose fw ew using hw
  choose fs es using hs
  refine ⟨∑ j : Fin 512, fy (ix2 t j) * fs (ix2 0 j) * fw (ix3 0 i j), ?_⟩
  rw [coe_sum]
  unfold ctD
  exact Finset.sum_congr rfl fun j _ => by rw [ey, es, ew, EReal.coe_mul, EReal.coe_mul]

theorem cnt_pos {h : ℕ} (h1 : 1 ≤ h) (t : Fin 4096) : ((min (t.val + h) 4096 - (t.val - h) : ℕ) : ℝ) ≠ 0 := by
  have := t.isLt
  exact Nat.cast_ne_zero.mpr (by omega)

/-- A group's gradient: the cotangent taken once, and every window that holds the row. -/
theorem du_group (h : ℕ) (hh : h ∈ halves) (y : Vec Ideal S4096x512 .bf16) (w : Vec Ideal S1x512x512 .bf16) (s : Vec Ideal S1x512 .f32)
    (hy : ∀ z, ∃ x : ℝ, y z = (x : EReal)) (hw : ∀ z, ∃ x : ℝ, w z = (x : EReal)) (hs : ∀ z, ∃ x : ℝ, s z = (x : EReal))
    (ct : FVec Ideal S1x4096x512 .f32) (r : Fin 4096) (i : Fin 512) (hct : ∀ t, ct (ix3 (0 : Fin 1) t i) = ctD y w s t i) :
    (-(ct (ix3 (0 : Fin 1) r i)) + ∑ p : Fin 4096, if r.val ≤ p.val then spread (BitVec.ofNat 32 h) ct (ix3 (0 : Fin 1) (⟨p.val + 1, by omega⟩ : Fin 4097) i) else 0 : EReal)
      = duB h y w s r i := by
  have h18 : 1 ≤ h ∧ h ≤ 8 := by
    simp only [halves, List.mem_cons, List.not_mem_nil, or_false] at hh
    omega
  obtain ⟨h1, h8⟩ := h18
  choose c ec using fun t => ctD_real hy hw hs t i
  have hn := fun t => cnt_pos h1 t
  have q1 : ∀ t : Fin 4096, Ideal.div (ctD y w s t i) (cnt h t.val) = ((c t * (1 / ((min (t.val + h) 4096 - (t.val - h) : ℕ) : ℝ)) : ℝ) : EReal) := fun t => by
    rw [ec t]; unfold cnt
    rw [Ideal.div_coe (hn t), EReal.coe_mul]
  have q2 : ∀ t : Fin 4096, quo h y w s t i = ((c t * (1 / ((min (t.val + h) 4096 - (t.val - h) : ℕ) : ℝ)) : ℝ) : EReal) := fun t => by
    unfold quo
    rw [ec t]; unfold cnt
    rw [Ideal.div_coe (hn t), one_mul, EReal.coe_mul]
  have q3 : quo h y w s r i * cnt h r.val = (c r : EReal) := by
    rw [q2 r]; unfold cnt
    rw [← EReal.coe_mul, mul_assoc, one_div, inv_mul_cancel₀ (hn r), mul_one]
  unfold duB
  have e : ∀ o : Fin (2 * h), padded h y w s (9 - h + o.val + r.val) i
      = if hp : 8 ≤ 9 - h + o.val + r.val ∧ 9 - h + o.val + r.val < 4104 then quo h y w s ⟨9 - h + o.val + r.val - 8, by omega⟩ i else 0 := fun _ => rfl
  have e8 : padded h y w s (8 + r.val) i = quo h y w s r i := by
    unfold padded
    have := r.isLt
    rw [dif_pos (by omega)]
    exact congrArg (fun t => quo h y w s t i) (Fin.ext (by show 8 + r.val - 8 = _; omega))
  rw [Finset.sum_congr rfl fun o _ => e o, window_rows h h1 h8 (fun t => quo h y w s t i) r, e8, q3, hct r, ec r]
  have l : ∀ p : Fin 4096, spread (BitVec.ofNat 32 h) ct (ix3 (0 : Fin 1) (⟨p.val + 1, by omega⟩ : Fin 4097) i)
      = (∑ t : Fin 4096, if t.val - h = p.val + 1 then -((c t * (1 / ((min (t.val + h) 4096 - (t.val - h) : ℕ) : ℝ)) : ℝ) : EReal) else 0)
        + ∑ t : Fin 4096, if min (t.val + h) 4096 = p.val + 1 then ((c t * (1 / ((min (t.val + h) 4096 - (t.val - h) : ℕ) : ℝ)) : ℝ) : EReal) else 0 := fun p => by
    rw [spread_at h hh]
    refine congrArg₂ (fun a b : EReal => a + b) ?_ ?_ <;>
      exact Finset.sum_congr rfl fun t _ => by rw [hct t, q1 t]
  rw [Finset.sum_congr (M := EReal) rfl fun p _ => by rw [l p],
    window_ereal _ (fun t => t.val - h) (fun t => min (t.val + h) 4096) (fun t => by have := t.isLt; show t.val - h ≤ min (t.val + h) 4096; omega) (fun t => Nat.min_le_right _ _) r,
    Finset.sum_congr (M := EReal) rfl fun t _ => congrArg (fun a : EReal => if t.val - h ≤ r.val ∧ r.val < min (t.val + h) 4096 then a else 0) (q2 t), sub_eq_add_neg, add_comm]

/-! ## All of it -/

theorem two_pow_halves (g : Fin 4) : 2 ^ g.val ∈ halves := by revert g; decide

/-- The reference's gradient of the input. -/
theorem du_eq (hy : ∀ z, ∃ x : ℝ, yOf V0 z = (x : EReal)) (hw : ∀ z, ∃ x : ℝ, wOf V0 z = (x : EReal)) (hs : ∀ z, ∃ x : ℝ, sOf V0 z = (x : EReal)) :
    truncf .bf16 (shapeCast S4096x2048 (addf (negs V0)
      (Host.reduceWindowAdd ![1, 4096, 1] ![1, 1, 1] ![0, 0, 0] ![0, 4095, 0] (extractStridedSlice S1x4096x2048 ![0, 1, 0] (res_main_v205 V0) slices_S1x4097x2048_S1x4096x2048_0_1_0) (broadcastInDim S_ ![] bcast_S_S_ (constant S_ .f32 0x00000000#32)) reduceWindows_S1x4096x2048_S1x4096x2048_w1s1p0_0_w4096s1p0_4095_w1s1p0_0 h_S_)) shapeCasts_S1x4096x2048_S4096x2048) bitsLt_bf16_f32
      = duAll (yOf V0) (wOf V0) (sOf V0) := by
  funext z; idx_vars z
  rw [← col_grp z1]
  generalize grp z1 = g
  generalize lane z1 = i
  have fin_y : ∀ z, ∃ x : ℝ, rowsOf (yOf V0) g z = (x : EReal) := fun z => hy _
  have fin_w : ∀ z, ∃ x : ℝ, matOf (wOf V0) g z = (x : EReal) := fun z => hw _
  have fin_s : ∀ z, ∃ x : ℝ, sclOf (sOf V0) g z = (x : EReal) := fun z => hs _
  rw [duAll_at, ← du_group _ (two_pow_halves g) _ _ _ fin_y fin_w fin_s (ctG V0 g) z0 i fun t => v145_at V0 t g i]
  pointwise
  refine congrArg₂ (fun a b : EReal => a + b) (negs_at V0 z0 g i) ?_
  rw [rev_sum]
  · refine Finset.sum_congr (M := EReal) rfl fun p _ => ?_
    rw [← v205_at]
    pointwise
    exact congrArg (fun k : Fin 4097 => (if z0.val ≤ p.val then res_main_v205 V0 (ix3 (0 : Fin 1) k (col g i)) else 0 : EReal)) (Fin.ext (Nat.add_comm _ _))
  · intro k
    pointwise

end Cert.ReferenceIdeal.Pool
-- ==== Proof.PoolPrefix.lean ====
/-
  What the launch finds in its arrays: the forward pass that the host runs before it.
-/
module
public import proofs.«01_k».proof.Proof.PoolFrame
public import proofs.«01_k».proof.Proof.PoolWindow
@[expose] public section
set_option maxRecDepth 16384
noncomputable section
namespace Cert.KernelIdeal.Gen
open Idealize.ShloMosaic Idealize.ShloMosaic.TcCoe Idealize.ShloMosaic.Tactic
variable (m : (ℓ : Loc nD τ sig) → Buf (Elt Ideal) ℓ)
variable (m' : (ℓ : Loc Cert.ReferenceIdeal.nD Cert.ReferenceIdeal.τ Cert.ReferenceIdeal.sig) → Buf (Elt Ideal) ℓ)

set_option maxHeartbeats 4000000 in
theorem rows_found (c : Dev nD)
    (h : m' ((c.tc : Thread nD τ).loc Cert.ReferenceIdeal.main_arg3) = m ((c.tc : Thread nD τ).loc main_arg3)) :
    (V m c main_v128 : Vec Ideal S4096x2048 .bf16) = Cert.ReferenceIdeal.Pool.yOf (StableHlo.launchContents m' c) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  rw [show m (c, Proc.devRef .tc main_arg3) = StableHlo.launchContents m' c (Proc.devRef .tc Cert.ReferenceIdeal.main_arg3) from h.symm]
  funext z; idx_vars z
  pointwise [Cert.ReferenceIdeal.Pool.yOf]

set_option maxHeartbeats 4000000 in
theorem means_found (c : Dev nD)
    (h : m' ((c.tc : Thread nD τ).loc Cert.ReferenceIdeal.main_arg0) = m ((c.tc : Thread nD τ).loc main_arg0)) :
    (V m c main_v127 : Vec Ideal S4096x2048 .bf16) = Cert.ReferenceIdeal.Pool.dOf (StableHlo.launchContents m' c) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  dsimp only [Matrix.cons_val]
  have h' : m (c, Proc.devRef .tc main_arg0) = StableHlo.launchContents m' c (Proc.devRef .tc Cert.ReferenceIdeal.main_arg0) := h.symm
  have four : ∀ (a0 a1 a2 a3 b0 b1 b2 b3 : Vec Ideal S1x4096x1x512 .f32), a0 = b0 → a1 = b1 → a2 = b2 → a3 = b3 →
      concatenate S1x4096x4x512 2 [⟨S1x4096x1x512, a0⟩, ⟨S1x4096x1x512, a1⟩, ⟨S1x4096x1x512, a2⟩, ⟨S1x4096x1x512, a3⟩] concatenates_S1x4096x1x512_S1x4096x1x512_S1x4096x1x512_S1x4096x1x512_S1x4096x4x512_d2
        = concatenate S1x4096x4x512 2 [⟨S1x4096x1x512, b0⟩, ⟨S1x4096x1x512, b1⟩, ⟨S1x4096x1x512, b2⟩, ⟨S1x4096x1x512, b3⟩] concatenates_S1x4096x1x512_S1x4096x1x512_S1x4096x1x512_S1x4096x1x512_S1x4096x4x512_d2 := by
    rintro _ _ _ _ _ _ _ _ rfl rfl rfl rfl; rfl
  refine (congrArg (fun X : Vec Ideal S1x4096x4x512 .f32 => (truncf .bf16 (shapeCast S4096x2048 X shapeCasts_S1x4096x4x512_S4096x2048 : FVec Ideal S4096x2048 .f32) bitsLt_bf16_f32 : FVec Ideal S4096x2048 .bf16)) ((four _ _ _ _ _ _ _ _ ?_ ?_ ?_ ?_).trans
    (rfl : _ = Cert.ReferenceIdeal.Value.res_main_v128 (StableHlo.launchContents m' c)))).trans ?_
  all_goals try
    after_results_simp
    simp (config := { beta := false, eta := false, iota := false, proj := false, zeta := false }) only [↓ StableHlo.readResult, ↓ StableHlo.readPieces, -eq_self]
    rw [h']
    rfl
  · funext z; idx_vars z
    pointwise [Cert.ReferenceIdeal.Pool.dOf]
    rfl
end Cert.KernelIdeal.Gen
end
-- ==== Proof.PoolFinite.lean ====
/-
  What the precondition says: the cotangent, the weights and the scales are finite numbers.
-/
module
public import proofs.«01_k».proof.Defs
public import Idealize.ShloMosaic.Lib.Claim
public import Idealize.ShloMosaic.Lib.Pipeline.ValueKit
@[expose] public section
set_option maxRecDepth 16384
noncomputable section
namespace Cert.Pre_finite_cotangent
open Idealize.ShloMosaic Idealize.ShloMosaic.Tactic

theorem facts : Facts := ⟨by decide, by decide, by decide, by decide⟩

/-- A number whose absolute value is below another is finite. -/
theorem finite_of_lt (x a : EReal) (h : BitVec.ofBool (decide (FloatOps.absf (F := Ideal) (φ := .f32) x < a)) = 1#1) : ∃ r : ℝ, x = (r : EReal) := by
  have lt : FloatOps.absf (F := Ideal) (φ := .f32) x < a := by
    by_contra n
    rw [decide_eq_false n] at h
    exact absurd h (by decide)
  have top : FloatOps.absf (F := Ideal) (φ := .f32) x ≠ (⊤ : EReal) := fun e => not_top_lt (e ▸ lt)
  induction x using EReal.rec with
  | bot => exact absurd (show max (⊥ : EReal) (-⊥) = ⊤ by simp) top
  | coe r => exact ⟨r, rfl⟩
  | top => exact absurd (show max (⊤ : EReal) (-⊤) = ⊤ by simp) top

variable [Facts]
variable {u : FVec Ideal S1x4096x2048 .bf16} {w : FVec Ideal S4x512x512 .bf16} {s : FVec Ideal S1x2048 .f32} {y : FVec Ideal S1x4096x2048 .bf16}

theorem finite_w (h : (fn (F := Ideal) u w s y).1 = fun _ => 1#1) (z : S4x512x512.Idx) : ∃ x : ℝ, w z = (x : EReal) := by
  have := congrFun h z
  revert this
  idx_vars z
  pointwise [fn]
  exact finite_of_lt _ _
theorem finite_s (h : (fn (F := Ideal) u w s y).2.1 = fun _ => 1#1) (z : S1x2048.Idx) : ∃ x : ℝ, s z = (x : EReal) := by
  have := congrFun h z
  revert this
  idx_vars z
  pointwise [fn]
  exact finite_of_lt _ _
theorem finite_y (h : (fn (F := Ideal) u w s y).2.2 = fun _ => 1#1) (z : S1x4096x2048.Idx) : ∃ x : ℝ, y z = (x : EReal) := by
  have := congrFun h z
  revert this
  idx_vars z
  pointwise [fn]
  exact finite_of_lt _ _
end Cert.Pre_finite_cotangent
end
-- ==== Proof.Finite.lean ====
/-
  What the preconditions of the two layer normalizations' gradients say: the named arguments are finite numbers.
-/
module
public import proofs.«01_k».proof.Proof.PoolFinite
@[expose] public section
set_option maxRecDepth 16384
noncomputable section
namespace Cert.Pre_finite_gradient
open Idealize.ShloMosaic Idealize.ShloMosaic.Tactic
theorem facts : Facts := ⟨by decide, by decide⟩
variable [Facts]
theorem finite_mm {x0 x1 x2 : FVec Ideal S4096x2048 .f32} {x3 : FVec Ideal S1x2048 .f32} (h : (fn (F := Ideal) x0 x1 x2 x3).1 = fun _ => 1#1) (z : S4096x2048.Idx) : ∃ x : ℝ, x0 z = (x : EReal) := by
  have := congrFun h z
  revert this
  idx_vars z
  pointwise [fn]
  exact Cert.Pre_finite_cotangent.finite_of_lt _ _
theorem finite_sum {x0 x1 x2 : FVec Ideal S4096x2048 .f32} {x3 : FVec Ideal S1x2048 .f32} (h : (fn (F := Ideal) x0 x1 x2 x3).2.1 = fun _ => 1#1) (z : S4096x2048.Idx) : ∃ x : ℝ, x1 z = (x : EReal) := by
  have := congrFun h z
  revert this
  idx_vars z
  pointwise [fn]
  exact Cert.Pre_finite_cotangent.finite_of_lt _ _
theorem finite_scale {x0 x1 x2 : FVec Ideal S4096x2048 .f32} {x3 : FVec Ideal S1x2048 .f32} (h : (fn (F := Ideal) x0 x1 x2 x3).2.2 = fun _ => 1#1) (z : S1x2048.Idx) : ∃ x : ℝ, x3 z = (x : EReal) := by
  have := congrFun h z
  revert this
  idx_vars z
  pointwise [fn]
  exact Cert.Pre_finite_cotangent.finite_of_lt _ _
end Cert.Pre_finite_gradient
namespace Cert.Pre_finite_target
open Idealize.ShloMosaic Idealize.ShloMosaic.Tactic
theorem facts : Facts := ⟨by decide, by decide⟩
variable [Facts]
theorem finite_scale {x0 x1 : FVec Ideal S4096x2048 .f32} {x2 x3 x4 x5 x6 : FVec Ideal S1x2048 .f32} {x7 : FVec Ideal S4096x2048 .f32} (h : (fn (F := Ideal) x0 x1 x2 x3 x4 x5 x6 x7).1 = fun _ => 1#1) (z : S1x2048.Idx) : ∃ x : ℝ, x5 z = (x : EReal) := by
  have := congrFun h z
  revert this
  idx_vars z
  pointwise [fn]
  exact Cert.Pre_finite_cotangent.finite_of_lt _ _
theorem finite_shift {x0 x1 : FVec Ideal S4096x2048 .f32} {x2 x3 x4 x5 x6 : FVec Ideal S1x2048 .f32} {x7 : FVec Ideal S4096x2048 .f32} (h : (fn (F := Ideal) x0 x1 x2 x3 x4 x5 x6 x7).2.1 = fun _ => 1#1) (z : S1x2048.Idx) : ∃ x : ℝ, x6 z = (x : EReal) := by
  have := congrFun h z
  revert this
  idx_vars z
  pointwise [fn]
  exact Cert.Pre_finite_cotangent.finite_of_lt _ _
theorem finite_target {x0 x1 : FVec Ideal S4096x2048 .f32} {x2 x3 x4 x5 x6 : FVec Ideal S1x2048 .f32} {x7 : FVec Ideal S4096x2048 .f32} (h : (fn (F := Ideal) x0 x1 x2 x3 x4 x5 x6 x7).2.2 = fun _ => 1#1) (z : S4096x2048.Idx) : ∃ x : ℝ, x7 z = (x : EReal) := by
  have := congrFun h z
  revert this
  idx_vars z
  pointwise [fn]
  exact Cert.Pre_finite_cotangent.finite_of_lt _ _
end Cert.Pre_finite_target
end
-- ==== Proof.Up.lean ====
/-
  The feed-forward's first half: the squared rectifier of input times weight plus bias, and its slope.
-/
module
public import proofs.«01_k».proof.Proof.Gen.Kernel4Ideal.Value
public import proofs.«01_k».proof.Proof.Gen.Reference4Ideal.Read
public import Idealize.ShloMosaic.Lib.Pipeline.ValueKit
public import Idealize.ShloMosaic.Lib.Pointwise
@[expose] public section
set_option maxRecDepth 16384
noncomputable section
namespace Cert.Kernel4Ideal.Gen
open Idealize.ShloMosaic Idealize.ShloMosaic.TcCoe Idealize.ShloMosaic.Tactic Idealize.SL.Sem

/-- The number two, as the program writes it. -/
def two : EReal := Ideal.ofBits .f32 0x40000000#32

/-- Where the sum is not positive the slope is zero either way. -/
theorem slope_of (p : EReal) : (if 0 < p then two * max p 0 else 0) = two * max p 0 := by
  split
  · rfl
  · rename_i h
    rw [max_eq_right (not_lt.mp h), mul_zero]

/-- The chip that holds column `j`, and the column's place in that chip's block. -/
def chip (j : Fin 8192) : Fin 4 := ⟨j.val / 2048, by omega⟩
def place (j : Fin 8192) : Fin 2048 := ⟨j.val % 2048, by omega⟩

/-- The rectified sum at one position and column. -/
def rect (x : Vec Ideal S4096x2048 .bf16) (w : Vec Ideal S4x2048x2048 .bf16) (b : Vec Ideal S1x8192 .f32) (t : Fin 4096) (j : Fin 8192) : EReal :=
  max (∑ k : Fin 2048, x (ix2 t k) * w (ix3 (chip j) k (place j)) + b (ix2 (0 : Fin 1) j)) 0

def hidden (x : Vec Ideal S4096x2048 .bf16) (w : Vec Ideal S4x2048x2048 .bf16) (b : Vec Ideal S1x8192 .f32) : Vec Ideal S4096x8192 .bf16 :=
  fun z => rect x w b (z 0) (z 1) * rect x w b (z 0) (z 1)
def slope (x : Vec Ideal S4096x2048 .bf16) (w : Vec Ideal S4x2048x2048 .bf16) (b : Vec Ideal S1x8192 .f32) : Vec Ideal S4096x8192 .bf16 :=
  fun z => two * rect x w b (z 0) (z 1)

/-- The same in one block. -/
def rectB (x : Vec Ideal S1024x2048 .bf16) (w : Vec Ideal S1x2048x1024 .bf16) (b : Vec Ideal S1x1024 .f32) (i j : Fin 1024) : EReal :=
  max (∑ k : Fin 2048, x (ix2 i k) * w (ix3 (0 : Fin 1) k j) + b (ix2 (0 : Fin 1) j)) 0

variable (m : (ℓ : Loc nD τ sig) → Buf (Elt Ideal) ℓ)
variable (x : Vec Ideal S1024x2048 .bf16) (w : Vec Ideal S1x2048x1024 .bf16) (b : Vec Ideal S1x1024 .f32)

theorem pay1_at (i j : Fin 1024) : k0_pay1 x w b (ix2 i j) = rectB x w b i j := by
  pointwise [k0_pay1, rectB]

theorem pay2_at (i j : Fin 1024) : k0_pay2 x w b (ix2 i j) = rectB x w b i j * rectB x w b i j := by
  rw [← pay1_at]
  rfl

theorem pay3_at (i j : Fin 1024) : k0_pay3 x w b (ix2 i j) = two * rectB x w b i j := by
  rw [← pay1_at]
  generalize h : k0_pay1 x w b = y
  pointwise [k0_pay3, h, two]

def xBlk (c : Dev nD) (t : Fin cfg0.N) : Vec Ideal S1024x2048 .bf16 := iblk m c 0 t
def wBlk (c : Dev nD) (t : Fin cfg0.N) : Vec Ideal S1x2048x1024 .bf16 := iblk m c 1 t
def bBlk (c : Dev nD) (t : Fin cfg0.N) : Vec Ideal S1x1024 .f32 := iblk m c 2 t

theorem idx : ∀ t : Fin cfg0.N, win0_0.index t = ![t.val / 8, 0] ∧ win0_1.index t = ![t.val % 8 / 2, 0, t.val % 8 % 2]
    ∧ win0_2.index t = ![0, t.val % 8] ∧ win0_3.index t = ![t.val / 8, t.val % 8] ∧ win0_4.index t = ![t.val / 8, t.val % 8] := by decide +kernel

/-- The block at point `t` is the array's at the rows and columns the point writes. -/
theorem rect_eq (c : Dev nD) (t : Fin cfg0.N) (i j : Fin 1024) (i' : Fin 4096) (j' : Fin 8192)
    (hi : i'.val = t.val / 8 * 1024 + i.val) (hj : j'.val = t.val % 8 * 1024 + j.val) :
    rectB (xBlk m c t) (wBlk m c t) (bBlk m c t) i j = rect (V m c main_arg0) (V m c main_arg1) (V m c main_arg2) i' j' := by
  have hN : t.val < 32 := t.isLt
  refine congrArg₂ (fun a b : EReal => max (a + b) 0) (Finset.sum_congr (M := EReal) rfl fun k _ => congrArg₂ (fun a b : EReal => a * b) ?_ ?_) ?_
  · unfold xBlk
    blk_ext [iblk, V, (idx t).1]
  · unfold wBlk
    blk_ext [iblk, V, (idx t).2.1, chip, place]
  · unfold bBlk
    blk_ext [iblk, V, (idx t).2.2.1]

theorem arr3 (c : Dev nD) : ((dats m 0 c).arrAt 3 cfg0.N : Vec Ideal S4096x8192 .bf16) = hidden (V m c main_arg0) (V m c main_arg1) (V m c main_arg2) := by
  refine (dats m 0 c).arrAt_eq_of_covers 3 _ (by decide +kernel) fun t hf y => ?_
  blk_simp
  rw [after0_3]
  frame_out
  idx_vars y
  refine (pay2_at (xBlk m c t) (wBlk m c t) (bBlk m c t) y0 y1).trans ?_
  have e := rect_eq m c t y0 y1 ((win0_3.blk t).view.emb (ix2 y0 y1) 0) ((win0_3.blk t).view.emb (ix2 y0 y1) 1)
    (by blk_simp [(idx t).2.2.2.1]) (by blk_simp [(idx t).2.2.2.1])
  rw [e]
  rfl

theorem arr4 (c : Dev nD) : ((dats m 0 c).arrAt 4 cfg0.N : Vec Ideal S4096x8192 .bf16) = slope (V m c main_arg0) (V m c main_arg1) (V m c main_arg2) := by
  refine (dats m 0 c).arrAt_eq_of_covers 4 _ (by decide +kernel) fun t hf y => ?_
  blk_simp
  rw [after0_4]
  frame_out
  idx_vars y
  refine (pay3_at (xBlk m c t) (wBlk m c t) (bBlk m c t) y0 y1).trans ?_
  have e := rect_eq m c t y0 y1 ((win0_4.blk t).view.emb (ix2 y0 y1) 0) ((win0_4.blk t).view.emb (ix2 y0 y1) 1)
    (by blk_simp [(idx t).2.2.2.2]) (by blk_simp [(idx t).2.2.2.2])
  rw [e]
  rfl

end Cert.Kernel4Ideal.Gen

namespace Cert.Reference4Ideal
open Idealize.ShloMosaic Idealize.ShloMosaic.TcCoe Idealize.ShloMosaic.Tactic Idealize.SL.Sem
open Cert.Reference4Ideal.Read Cert.Kernel4Ideal.Gen

variable (x : Vec Ideal S4096x2048 .bf16) (w : Vec Ideal S4x2048x2048 .bf16) (b : Vec Ideal S1x8192 .f32)

theorem hidden_eq : val_main_v18 (F := Ideal) x w b = hidden x w b := by
  funext z
  idx_vars z
  rw [← val_main_v18_eq]
  pointwise
  rfl

theorem slope_eq : val_main_v19 (F := Ideal) x w b = slope x w b := by
  funext z
  idx_vars z
  rw [← val_main_v19_eq]
  pointwise
  exact slope_of _

end Cert.Reference4Ideal
end
-- ==== Proof.Down.lean ====
/-
  The gradient back through the feed-forward's second half: the cotangent of the sum under the squared rectifier,
  and the bias's gradient, its column sums.
-/
module
public import proofs.«01_k».proof.Proof.Gen.Kernel2Ideal.Value
public import proofs.«01_k».proof.Proof.Gen.Reference2Ideal.Read
public import proofs.«01_k».proof.Proof.Up
public import Idealize.ShloMosaic.Lib.Pipeline.ValueKit
public import Idealize.ShloMosaic.Lib.Pointwise
@[expose] public section
set_option maxRecDepth 16384
noncomputable section
namespace Cert.Kernel2Ideal.Gen
open Idealize.ShloMosaic Idealize.ShloMosaic.TcCoe Idealize.ShloMosaic.Tactic Idealize.SL.Sem
open Cert.Kernel4Ideal.Gen (two slope_of)

/-- The cotangent: that of the output times the transposed weight, times the slope. -/
def dpre (dr : Vec Ideal S4096x2048 .bf16) (w : Vec Ideal S8192x2048 .bf16) (s : Vec Ideal S4096x8192 .bf16) : Vec Ideal S4096x8192 .bf16 :=
  fun z => (∑ k : Fin 2048, dr (ix2 (z 0) k) * w (ix2 (z 1) k)) * s z
/-- Its column sums. -/
def dbias (dr : Vec Ideal S4096x2048 .bf16) (w : Vec Ideal S8192x2048 .bf16) (s : Vec Ideal S4096x8192 .bf16) : Vec Ideal S1x8192 .f32 :=
  fun z => ∑ t : Fin 4096, dpre dr w s (ix2 t (z 1))
/-- The slope of the squared rectifier at input times weight plus bias. -/
def slopeAt (x : Vec Ideal S4096x2048 .bf16) (w : Vec Ideal S2048x8192 .bf16) (b : Vec Ideal S1x8192 .f32) : Vec Ideal S4096x8192 .bf16 :=
  fun z => two * max (∑ k : Fin 2048, x (ix2 (z 0) k) * w (ix2 k (z 1)) + b (ix2 (0 : Fin 1) (z 1))) 0

/-- The cotangent in one block. -/
def dpreB (dr w : Vec Ideal S1024x2048 .bf16) (s : Vec Ideal S1024x1024 .bf16) (i j : Fin 1024) : EReal :=
  (∑ k : Fin 2048, dr (ix2 i k) * w (ix2 j k)) * s (ix2 i j)

variable (m : (ℓ : Loc nD τ sig) → Buf (Elt Ideal) ℓ)
variable (dr w : Vec Ideal S1024x2048 .bf16) (s : Vec Ideal S1024x1024 .bf16)

theorem pay1_at (i j : Fin 1024) : k0_pay1 dr w s (ix2 i j) = dpreB dr w s i j := by
  pointwise [k0_pay1, dpreB]

theorem pay2_at (i j : Fin 1024) : k0_pay2 dr w s (ix2 i j) = dpreB dr w s i j := by
  rw [← pay1_at]
  rfl

theorem pay3_at (j : Fin 1024) : k0_pay3 dr w s (ix2 (0 : Fin 1) j) = ∑ i : Fin 1024, dpreB dr w s i j := by
  simp only [← pay1_at]
  generalize h : k0_pay1 dr w s = y
  pointwise [k0_pay3, h]

theorem pay4_at (acc : Vec Ideal S1x1024 .f32) (j : Fin 1024) :
    k0_pay4 dr w s acc (ix2 (0 : Fin 1) j) = acc (ix2 (0 : Fin 1) j) + ∑ i : Fin 1024, dpreB dr w s i j := by
  rw [← pay3_at]
  generalize h : k0_pay3 dr w s = y
  pointwise [k0_pay4, h]

def rBlk (c : Dev nD) (t : Fin cfg0.N) : Vec Ideal S1024x2048 .bf16 := iblk m c 0 t
def wBlk (c : Dev nD) (t : Fin cfg0.N) : Vec Ideal S1024x2048 .bf16 := iblk m c 1 t
def sBlk (c : Dev nD) (t : Fin cfg0.N) : Vec Ideal S1024x1024 .bf16 := iblk m c 2 t

theorem idx : ∀ t : Fin cfg0.N, win0_0.index t = ![t.val % 4, 0] ∧ win0_1.index t = ![t.val / 4, 0]
    ∧ win0_2.index t = ![t.val % 4, t.val / 4] ∧ win0_3.index t = ![t.val % 4, t.val / 4] ∧ win0_4.index t = ![0, t.val / 4] := by decide +kernel

/-- The block at point `t` is the array's at the rows and columns the point writes. -/
theorem dpre_block (c : Dev nD) (t : Fin cfg0.N) (i j : Fin 1024) (i' : Fin 4096) (j' : Fin 8192)
    (hi : i'.val = t.val % 4 * 1024 + i.val) (hj : j'.val = t.val / 4 * 1024 + j.val) :
    dpreB (rBlk m c t) (wBlk m c t) (sBlk m c t) i j = dpre (V m c main_arg4) (V m c main_arg3) (V m c main_v8) (ix2 i' j') := by
  have hN : t.val < 32 := t.isLt
  refine congrArg₂ (fun a b : EReal => a * b) (Finset.sum_congr (M := EReal) rfl fun k _ => congrArg₂ (fun a b : EReal => a * b) ?_ ?_) ?_
  · unfold rBlk
    blk_ext [iblk, (idx t).1]
  · unfold wBlk
    blk_ext [iblk, (idx t).2.1]
  · unfold sBlk
    blk_ext [iblk, (idx t).2.2.1]

theorem arr3 (c : Dev nD) : ((dats m 0 c).arrAt 3 cfg0.N : Vec Ideal S4096x8192 .bf16) = dpre (V m c main_arg4) (V m c main_arg3) (V m c main_v8) := by
  refine (dats m 0 c).arrAt_eq_of_covers 3 _ (by decide +kernel) fun t hf y => ?_
  have out : (outsAt0 m c t.val t.isLt).1 = k0_pay2 (rBlk m c t) (wBlk m c t) (sBlk m c t) := by
    by_cases h : t.val % 4 = 0
    · rw [outsAt0_A m c t h (by omega)]
      frame_out
      rfl
    · rw [outsAt0_B m c t h (by omega)]
      frame_out
      rfl
  blk_simp
  rw [after0_3, out]
  idx_vars y
  rw [pay2_at, dpre_block m c t y0 y1 ((win0_3.blk t).view.emb (ix2 y0 y1) 0) ((win0_3.blk t).view.emb (ix2 y0 y1) 1)
    (by blk_simp [(idx t).2.2.2.1]) (by blk_simp [(idx t).2.2.2.1])]
  refine congrArg (dpre _ _ _) ?_
  funext a
  fin_cases a <;> rfl

/-- What the bias's block holds when a run of four points ends. -/
theorem sum_run (c : Dev nD) (t : Fin cfg0.N) (hr : t.val % 4 = 3) (z : S1x1024.Idx) :
    (outsAt0 m c t.val t.isLt).2 z = 0 + ∑ s : Fin 4, ∑ i : Fin 1024,
      (fun p : Fin cfg0.N => dpreB (rBlk m c p) (wBlk m c p) (sBlk m c p) i (z 1)) ⟨4 * (t.val / 4) + s.val, Pipeline.run_point_lt_of_flush t hr s⟩ := by
  refine Pipeline.eq_sum_fin_of_reset_step_apply_of_flush (fun n h => (outsAt0 m c n h).2) 4 (fun _ => 0)
    (fun p z => ∑ i : Fin 1024, dpreB (rBlk m c p) (wBlk m c p) (sBlk m c p) i (z 1)) (fun t h z => ?_) (fun t h z => ?_) t hr z
  · show (outsAt0 m c t.val t.isLt).2 z = _
    rw [outsAt0_A m c t h (by omega)]
    frame_out
    idx_vars z
    obtain rfl : z0 = 0 := Subsingleton.elim _ _
    exact (pay3_at (rBlk m c t) (wBlk m c t) (sBlk m c t) z1).trans (zero_add _).symm
  · show (outsAt0 m c t.val t.isLt).2 z = _
    rw [outsAt0_B m c t h (by omega)]
    frame_out
    idx_vars z
    obtain rfl : z0 = 0 := Subsingleton.elim _ _
    exact pay4_at (rBlk m c t) (wBlk m c t) (sBlk m c t) _ z1

theorem arr4 (c : Dev nD) : ((dats m 0 c).arrAt 4 cfg0.N : Vec Ideal S1x8192 .f32) = dbias (V m c main_arg4) (V m c main_arg3) (V m c main_v8) := by
  refine (dats m 0 c).arrAt_eq_of_covers 4 _ (by decide +kernel) fun t hf y => ?_
  have hN : t.val < 32 := t.isLt
  have hr : t.val % 4 = 3 := (flush0_4 t).mp hf
  blk_simp
  rw [after0_4]
  idx_vars y
  obtain rfl : y0 = 0 := Subsingleton.elim _ _
  rw [sum_run m c t hr, zero_add]
  refine Fin.sum_mul_add_congr (fun s k hl => ?_)
  exact dpre_block m c ⟨4 * (t.val / 4) + s.val, Pipeline.run_point_lt_of_flush t hr s⟩ k y1 _ ((win0_4.blk t).view.emb (ix2 0 y1) 1)
    (by show s.val * 1024 + k.val = (4 * (t.val / 4) + s.val) % 4 * 1024 + k.val; omega) (by blk_simp [(idx t).2.2.2.2]; show _ = (4 * (t.val / 4) + s.val) / 4 * 1024 + y1.val; omega)

/-- The slope that the host found. -/
theorem slope_found (c : Dev nD) : (V m c main_v8 : Vec Ideal S4096x8192 .bf16)
    = slopeAt (m ((c : Thread nD τ).loc main_arg0)) (m ((c : Thread nD τ).loc main_arg1)) (m ((c : Thread nD τ).loc main_arg2)) := by
  simp only [V, hostOps0, hostOps0_1, hostOps0_2, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  funext z
  idx_vars z
  pointwise [slopeAt, two]

/-- Both arrays, from the arguments alone. -/
theorem arr3_args (c : Dev nD) : ((dats m 0 c).arrAt 3 cfg0.N : Vec Ideal S4096x8192 .bf16)
    = dpre (m ((c : Thread nD τ).loc main_arg4)) (m ((c : Thread nD τ).loc main_arg3)) (slopeAt (m ((c : Thread nD τ).loc main_arg0)) (m ((c : Thread nD τ).loc main_arg1)) (m ((c : Thread nD τ).loc main_arg2))) := by
  rw [arr3, slope_found, V_main_arg3, V_main_arg4]
theorem arr4_args (c : Dev nD) : ((dats m 0 c).arrAt 4 cfg0.N : Vec Ideal S1x8192 .f32)
    = dbias (m ((c : Thread nD τ).loc main_arg4)) (m ((c : Thread nD τ).loc main_arg3)) (slopeAt (m ((c : Thread nD τ).loc main_arg0)) (m ((c : Thread nD τ).loc main_arg1)) (m ((c : Thread nD τ).loc main_arg2))) := by
  rw [arr4, slope_found, V_main_arg3, V_main_arg4]

end Cert.Kernel2Ideal.Gen

namespace Cert.Reference2Ideal
open Idealize.ShloMosaic Idealize.ShloMosaic.TcCoe Idealize.ShloMosaic.Tactic Idealize.SL.Sem
open Cert.Reference2Ideal.Read Cert.Kernel2Ideal.Gen
open Cert.Kernel4Ideal.Gen (two slope_of)

variable (x : Vec Ideal S4096x2048 .bf16) (w : Vec Ideal S2048x8192 .bf16) (b : Vec Ideal S1x8192 .f32) (v : Vec Ideal S8192x2048 .bf16) (dr : Vec Ideal S4096x2048 .bf16)

/-- Where the sum is not positive the cotangent is zero either way. -/
theorem cut_of (a p : EReal) : (if 0 < p then a * (two * max p 0) else 0) = a * (two * max p 0) := by
  split
  · rfl
  · rename_i h
    rw [max_eq_right (not_lt.mp h), mul_zero, mul_zero]

theorem dpre_eq : val_main_v24 (F := Ideal) x w b v dr = dpre dr v (slopeAt x w b) := by
  funext z
  idx_vars z
  rw [← val_main_v24_eq]
  pointwise
  exact cut_of _ _

theorem db_eq : val_main_v25 (F := Ideal) x w b v dr = dbias dr v (slopeAt x w b) := by
  funext z
  idx_vars z
  rw [val_main_v25_apply, val_main_v23_apply, Fintype.sum_unique, val_main_v22_apply, val_main_v21_apply]
  have h : val_main_v20 (F := Ideal) x w b v dr = dpre dr v (slopeAt x w b) := dpre_eq x w b v dr
  rw [h]
  pointwise [val_main_cst_3, val_main_cst_4]
  refine Finset.sum_congr (M := EReal) rfl fun k _ => congrArg (dpre dr v (slopeAt x w b)) (funext fun a => Fin.ext ?_)
  match a with
  | ⟨0, _⟩ => rfl
  | ⟨1, _⟩ => show 0 * 8192 + z1.val = z1.val; omega

end Cert.Reference2Ideal
end
-- ==== Proof.Wgrad1.lean ====
/-
  The gradient of the feed-forward's first weight: what the kernel leaves in its array is the product of the
  transposed input with the cotangent, in the layout that has one block of columns per chip.
-/
module
public import proofs.«01_k».proof.Proof.Gen.Kernel3Ideal.Value
public import proofs.«01_k».proof.Proof.Gen.Reference3Ideal.Read
public import Idealize.ShloMosaic.Lib.Pipeline.ValueKit
public import Idealize.ShloMosaic.Lib.Pointwise
@[expose] public section
set_option maxRecDepth 16384
noncomputable section
namespace Cert.Kernel3Ideal.Gen
open Idealize.ShloMosaic Idealize.ShloMosaic.TcCoe Idealize.ShloMosaic.Tactic Idealize.SL.Sem

/-- Column 2048 p + j. -/
def wide (p : Fin 4) (j : Fin 2048) : Fin 8192 := ⟨2048 * p.val + j.val, by omega⟩

/-- The weight's gradient: entry (p, i, j) sums, over the positions, the input at i times the cotangent at column
2048 p + j. -/
def gradW (x : Vec Ideal S4096x2048 .bf16) (dy : Vec Ideal S4096x8192 .bf16) : Vec Ideal S4x2048x2048 .bf16 :=
  fun z => ∑ t : Fin 4096, x (ix2 t (z 1)) * dy (ix2 t (wide (z 0) (z 2)))

/-- One step of the sum: the block already held plus the product of two blocks. -/
def step (acc : Vec Ideal S1024x1024 .f32) (x dy : Vec Ideal S2048x1024 .bf16) : Vec Ideal S1024x1024 .f32 :=
  fun z => acc z + ∑ t : Fin 2048, x (ix2 t (z 0)) * dy (ix2 t (z 1))

theorem pay1_eq : k0_pay1 (F := Ideal) = fun _ => 0 := by
  funext z
  idx_vars z
  pointwise [k0_pay1]

theorem pay2_eq (acc : Vec Ideal S1024x1024 .f32) (x dy : Vec Ideal S2048x1024 .bf16) : k0_pay2 acc x dy = step acc x dy := by
  funext z
  idx_vars z
  pointwise [k0_pay2, step]

theorem pay3_at (acc : Vec Ideal S1024x1024 .f32) (i j : Fin 1024) : k0_pay3 acc (ix3 (0 : Fin 1) i j) = acc (ix2 i j) := by
  pointwise [k0_pay3]

variable (m : (ℓ : Loc nD τ sig) → Buf (Elt Ideal) ℓ)

/-- The block of the input, and of the cotangent, that point `t` reads. -/
def xBlk (c : Dev nD) (t : Fin cfg0.N) : Vec Ideal S2048x1024 .bf16 := iblk m c 0 t
def yBlk (c : Dev nD) (t : Fin cfg0.N) : Vec Ideal S2048x1024 .bf16 := iblk m c 1 t

/-- What the scratch holds when a run of two points ends. -/
theorem sum_run (c : Dev nD) (t : Fin cfg0.N) (hr : t.val % 2 = 1) (z : S1024x1024.Idx) :
    (outsAt0 m c t.val t.isLt).2 z = 0 + ∑ s : Fin 2, ∑ k : Fin 2048,
      xBlk m c ⟨2 * (t.val / 2) + s.val, Pipeline.run_point_lt_of_flush t hr s⟩ (ix2 k (z 0))
        * yBlk m c ⟨2 * (t.val / 2) + s.val, Pipeline.run_point_lt_of_flush t hr s⟩ (ix2 k (z 1)) := by
  refine Pipeline.eq_sum_fin_of_reset_step_apply_of_flush (fun n h => (outsAt0 m c n h).2) 2 (fun _ => 0)
    (fun p z => ∑ k : Fin 2048, xBlk m c p (ix2 k (z 0)) * yBlk m c p (ix2 k (z 1))) (fun t h z => ?_) (fun t h z => ?_) t hr z
  · show (outsAt0 m c t.val t.isLt).2 z = _
    rw [outsAt0_A m c t h (by omega)]
    frame_out
    rw [pay2_eq, pay1_eq]
    rfl
  · show (outsAt0 m c t.val t.isLt).2 z = _
    rw [outsAt0_B m c t h (by omega)]
    frame_out
    rw [pay2_eq, (Memref.isWhole_whole cc0_scratch0).read_unread]
    rfl

/-- At such a point the output's block is the scratch. -/
theorem out_run (c : Dev nD) (t : Fin cfg0.N) (hr : t.val % 2 = 1) :
    (outsAt0 m c t.val t.isLt).1 = k0_pay3 (outsAt0 m c t.val t.isLt).2 := by
  rw [outsAt0_B m c t (by omega) hr]
  frame_out

theorem idx : ∀ t : Fin cfg0.N, win0_0.index t = ![t.val % 2, t.val / 16] ∧ win0_1.index t = ![t.val % 2, t.val / 2 % 8]
    ∧ win0_2.index t = ![t.val / 2 % 8 / 2, t.val / 16, t.val / 2 % 2] := by decide +kernel

/-- The array the kernel leaves. -/
theorem arr (c : Dev nD) : ((dats m 0 c).arrAt 2 cfg0.N : Vec Ideal S4x2048x2048 .bf16) = gradW (V m c main_arg0) (V m c main_arg1) := by
  refine (dats m 0 c).arrAt_eq_of_covers 2 _ (by decide +kernel) fun t hf y => ?_
  have hr : t.val % 2 = 1 := (flush0_2 t).mp hf
  blk_simp
  rw [after0_2, out_run m c t hr]
  idx_vars y
  obtain rfl : y0 = 0 := Subsingleton.elim _ _
  rw [pay3_at, sum_run m c t hr, zero_add]
  refine Fin.sum_mul_add_congr (fun s k hl => ?_)
  refine congrArg₂ (fun a b : EReal => a * b) ?_ ?_
  · unfold xBlk
    blk_ext [iblk, V, (idx _).1, (idx t).2.2, wide]
  · unfold yBlk
    blk_ext [iblk, V, (idx _).2.1, (idx t).2.2, wide]

end Cert.Kernel3Ideal.Gen

namespace Cert.Reference3Ideal
open Idealize.ShloMosaic Idealize.ShloMosaic.TcCoe Idealize.ShloMosaic.Tactic Idealize.SL.Sem
open Cert.Reference3Ideal.Read

/-- The reference's array. -/
theorem val_eq (x : Vec Ideal S4096x2048 .bf16) (dy : Vec Ideal S4096x8192 .bf16) :
    val_main_v8 (F := Ideal) x dy = Cert.Kernel3Ideal.Gen.gradW x dy := by
  funext z
  idx_vars z
  rw [← val_main_v8_eq]
  pointwise
  unfold Cert.Kernel3Ideal.Gen.gradW
  refine Finset.sum_congr (M := EReal) rfl fun t _ => ?_
  rw [mul_comm]
  refine congrArg (fun b : EReal => x (ix2 t z1) * b) (congrArg dy (congrArg (ix2 t) (Fin.ext ?_)))
  show z0.val * 2048 + z2.val = 2048 * z0.val + z2.val
  omega

end Cert.Reference3Ideal
end
-- ==== Proof.Wgrad2.lean ====
/-
  The gradient of the feed-forward's second weight: the transposed hidden layer times the cotangent.
-/
module
public import proofs.«01_k».proof.Proof.Gen.Kernel5Ideal.Value
public import proofs.«01_k».proof.Proof.Gen.Reference5Ideal.Read
public import Idealize.ShloMosaic.Lib.Pipeline.ValueKit
public import Idealize.ShloMosaic.Lib.Pointwise
@[expose] public section
set_option maxRecDepth 16384
noncomputable section
namespace Cert.Kernel5Ideal.Gen
open Idealize.ShloMosaic Idealize.ShloMosaic.TcCoe Idealize.ShloMosaic.Tactic Idealize.SL.Sem

/-- The weight's gradient: entry (i, j) sums, over the positions, the hidden layer at i times the cotangent at j. -/
def gradW (h : Vec Ideal S4096x8192 .bf16) (dy : Vec Ideal S4096x2048 .bf16) : Vec Ideal S8192x2048 .bf16 :=
  fun z => ∑ t : Fin 4096, h (ix2 t (z 0)) * dy (ix2 t (z 1))
/-- The hidden layer: the squared rectifier of input times weight plus bias. -/
def hidden (x : Vec Ideal S4096x2048 .bf16) (w : Vec Ideal S2048x8192 .bf16) (b : Vec Ideal S1x8192 .f32) : Vec Ideal S4096x8192 .bf16 :=
  fun z => max (∑ k : Fin 2048, x (ix2 (z 0) k) * w (ix2 k (z 1)) + b (ix2 (0 : Fin 1) (z 1))) 0
    * max (∑ k : Fin 2048, x (ix2 (z 0) k) * w (ix2 k (z 1)) + b (ix2 (0 : Fin 1) (z 1))) 0

theorem pay1_eq : k0_pay1 (F := Ideal) = fun _ => 0 := by
  funext z
  idx_vars z
  pointwise [k0_pay1]

theorem pay2_at (acc : Vec Ideal S1024x1024 .f32) (x dy : Vec Ideal S2048x1024 .bf16) (z : S1024x1024.Idx) :
    k0_pay2 acc x dy z = acc z + ∑ t : Fin 2048, x (ix2 t (z 0)) * dy (ix2 t (z 1)) := by
  idx_vars z
  pointwise [k0_pay2]

theorem pay3_at (acc : Vec Ideal S1024x1024 .f32) (z : S1024x1024.Idx) : k0_pay3 acc z = acc z := by
  idx_vars z
  pointwise [k0_pay3]

variable (m : (ℓ : Loc nD τ sig) → Buf (Elt Ideal) ℓ)

/-- The blocks that point `t` reads. -/
def xBlk (c : Dev nD) (t : Fin cfg0.N) : Vec Ideal S2048x1024 .bf16 := iblk m c 0 t
def yBlk (c : Dev nD) (t : Fin cfg0.N) : Vec Ideal S2048x1024 .bf16 := iblk m c 1 t

/-- What the scratch holds when a run of two points ends. -/
theorem sum_run (c : Dev nD) (t : Fin cfg0.N) (hr : t.val % 2 = 1) (z : S1024x1024.Idx) :
    (outsAt0 m c t.val t.isLt).2 z = 0 + ∑ s : Fin 2, ∑ k : Fin 2048,
      xBlk m c ⟨2 * (t.val / 2) + s.val, Pipeline.run_point_lt_of_flush t hr s⟩ (ix2 k (z 0))
        * yBlk m c ⟨2 * (t.val / 2) + s.val, Pipeline.run_point_lt_of_flush t hr s⟩ (ix2 k (z 1)) := by
  refine Pipeline.eq_sum_fin_of_reset_step_apply_of_flush (fun n h => (outsAt0 m c n h).2) 2 (fun _ => 0)
    (fun p z => ∑ k : Fin 2048, xBlk m c p (ix2 k (z 0)) * yBlk m c p (ix2 k (z 1))) (fun t h z => ?_) (fun t h z => ?_) t hr z
  · show (outsAt0 m c t.val t.isLt).2 z = _
    rw [outsAt0_A m c t h (by omega)]
    frame_out
    rw [pay2_at, pay1_eq]
    rfl
  · show (outsAt0 m c t.val t.isLt).2 z = _
    rw [outsAt0_B m c t h (by omega)]
    frame_out
    rw [pay2_at, (Memref.isWhole_whole cc0_scratch0).read_unread]
    rfl

/-- At such a point the output's block is the scratch. -/
theorem out_run (c : Dev nD) (t : Fin cfg0.N) (hr : t.val % 2 = 1) :
    (outsAt0 m c t.val t.isLt).1 = k0_pay3 (outsAt0 m c t.val t.isLt).2 := by
  rw [outsAt0_B m c t (by omega) hr]
  frame_out

theorem idx : ∀ t : Fin cfg0.N, win0_0.index t = ![t.val % 2, t.val / 4] ∧ win0_1.index t = ![t.val % 2, t.val / 2 % 2]
    ∧ win0_2.index t = ![t.val / 4, t.val / 2 % 2] := by decide +kernel

/-- The array the kernel leaves. -/
theorem arr (c : Dev nD) : ((dats m 0 c).arrAt 2 cfg0.N : Vec Ideal S8192x2048 .bf16) = gradW (V m c main_v7) (V m c main_arg3) := by
  refine (dats m 0 c).arrAt_eq_of_covers 2 _ (by decide +kernel) fun t hf y => ?_
  have hr : t.val % 2 = 1 := (flush0_2 t).mp hf
  blk_simp
  rw [after0_2, out_run m c t hr]
  idx_vars y
  rw [pay3_at, sum_run m c t hr, zero_add]
  refine Fin.sum_mul_add_congr (fun s k hl => ?_)
  refine congrArg₂ (fun a b : EReal => a * b) ?_ ?_
  · unfold xBlk
    blk_ext [iblk, (idx _).1, (idx t).2.2]
  · unfold yBlk
    blk_ext [iblk, (idx _).2.1, (idx t).2.2]

/-- What the host hands the kernel is the hidden layer. -/
theorem hidden_found (c : Dev nD) : (V m c main_v7 : Vec Ideal S4096x8192 .bf16)
    = hidden (m ((c : Thread nD τ).loc main_arg0)) (m ((c : Thread nD τ).loc main_arg1)) (m ((c : Thread nD τ).loc main_arg2)) := by
  simp only [V, hostOps0, hostOps0_1, hostOps0_2, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  funext z
  idx_vars z
  pointwise [hidden]

/-- The array, from the arguments alone. -/
theorem arr_args (c : Dev nD) : ((dats m 0 c).arrAt 2 cfg0.N : Vec Ideal S8192x2048 .bf16)
    = gradW (hidden (m ((c : Thread nD τ).loc main_arg0)) (m ((c : Thread nD τ).loc main_arg1)) (m ((c : Thread nD τ).loc main_arg2))) (m ((c : Thread nD τ).loc main_arg3)) := by
  rw [arr, hidden_found, V_main_arg3]

end Cert.Kernel5Ideal.Gen

namespace Cert.Reference5Ideal
open Idealize.ShloMosaic Idealize.ShloMosaic.TcCoe Idealize.ShloMosaic.Tactic Idealize.SL.Sem
open Cert.Reference5Ideal.Read

open Cert.Kernel5Ideal.Gen

theorem val_eq (x : Vec Ideal S4096x2048 .bf16) (w : Vec Ideal S2048x8192 .bf16) (b : Vec Ideal S1x8192 .f32) (dy : Vec Ideal S4096x2048 .bf16) :
    val_main_v12 (F := Ideal) x w b dy = gradW (hidden x w b) dy := by
  funext z
  idx_vars z
  rw [← val_main_v12_eq]
  pointwise
  exact Finset.sum_congr (M := EReal) rfl fun t _ => mul_comm _ _

end Cert.Reference5Ideal
end
-- ==== Proof.FF2.lean ====
/-
  The feed-forward's second product: the kernel sums four blocks of the hidden layer in a scratch.
-/
module
public import proofs.«01_k».proof.Proof.Gen.Kernel6Ideal.Value
public import proofs.«01_k».proof.Proof.Gen.Reference6Ideal.Read
public import Idealize.ShloMosaic.Lib.Pipeline.ValueKit
public import Idealize.ShloMosaic.Lib.Pointwise
@[expose] public section
set_option maxRecDepth 16384
noncomputable section
namespace Cert.Kernel6Ideal.Gen
open Idealize.ShloMosaic Idealize.ShloMosaic.TcCoe Idealize.ShloMosaic.Tactic Idealize.SL.Sem

/-- The product of the hidden layer with the second weight. -/
def prod (h : Vec Ideal S4096x8192 .bf16) (w : Vec Ideal S8192x2048 .bf16) : Vec Ideal S4096x2048 .f32 :=
  fun z => ∑ k : Fin 8192, h (ix2 (z 0) k) * w (ix2 k (z 1))

theorem pay1_eq : k0_pay1 (F := Ideal) = fun _ => 0 := by
  funext z
  idx_vars z
  pointwise [k0_pay1]

theorem pay2_at (acc : Vec Ideal S1024x1024 .f32) (h : Vec Ideal S1024x2048 .bf16) (w : Vec Ideal S2048x1024 .bf16) (z : S1024x1024.Idx) :
    k0_pay2 acc h w z = acc z + ∑ k : Fin 2048, h (ix2 (z 0) k) * w (ix2 k (z 1)) := by
  idx_vars z
  pointwise [k0_pay2]

variable (m : (ℓ : Loc nD τ sig) → Buf (Elt Ideal) ℓ)

/-- The blocks that point `t` reads. -/
def hBlk (c : Dev nD) (t : Fin cfg0.N) : Vec Ideal S1024x2048 .bf16 := iblk m c 0 t
def wBlk (c : Dev nD) (t : Fin cfg0.N) : Vec Ideal S2048x1024 .bf16 := iblk m c 1 t

/-- What the scratch holds when a run of four points ends. -/
theorem sum_run (c : Dev nD) (t : Fin cfg0.N) (hr : t.val % 4 = 3) (z : S1024x1024.Idx) :
    (outsAt0 m c t.val t.isLt).2 z = 0 + ∑ s : Fin 4, ∑ k : Fin 2048,
      hBlk m c ⟨4 * (t.val / 4) + s.val, Pipeline.run_point_lt_of_flush t hr s⟩ (ix2 (z 0) k)
        * wBlk m c ⟨4 * (t.val / 4) + s.val, Pipeline.run_point_lt_of_flush t hr s⟩ (ix2 k (z 1)) := by
  refine Pipeline.eq_sum_fin_of_reset_step_apply_of_flush (fun n h => (outsAt0 m c n h).2) 4 (fun _ => 0)
    (fun p z => ∑ k : Fin 2048, hBlk m c p (ix2 (z 0) k) * wBlk m c p (ix2 k (z 1))) (fun t h z => ?_) (fun t h z => ?_) t hr z
  · show (outsAt0 m c t.val t.isLt).2 z = _
    rw [outsAt0_A m c t h (by omega)]
    frame_out
    rw [pay2_at, pay1_eq]
    rfl
  · show (outsAt0 m c t.val t.isLt).2 z = _
    by_cases hl : t.val % 4 = 3
    · rw [outsAt0_C m c t h hl]
      frame_out
      rw [pay2_at, (Memref.isWhole_whole cc0_scratch0).read_unread]
      rfl
    · rw [outsAt0_B m c t h hl]
      frame_out
      rw [pay2_at, (Memref.isWhole_whole cc0_scratch0).read_unread]
      rfl

/-- At such a point the output's block is the scratch. -/
theorem out_run (c : Dev nD) (t : Fin cfg0.N) (hr : t.val % 4 = 3) : (outsAt0 m c t.val t.isLt).1 = (outsAt0 m c t.val t.isLt).2 := by
  rw [outsAt0_C m c t (by omega) hr]
  frame_out

theorem idx : ∀ t : Fin cfg0.N, win0_0.index t = ![t.val / 8, t.val % 4] ∧ win0_1.index t = ![t.val % 4, t.val / 4 % 2]
    ∧ win0_2.index t = ![t.val / 8, t.val / 4 % 2] := by decide +kernel

/-- The array the kernel leaves. -/
theorem arr (c : Dev nD) : ((dats m 0 c).arrAt 2 cfg0.N : Vec Ideal S4096x2048 .f32) = prod (V m c main_arg0) (V m c main_arg1) := by
  refine (dats m 0 c).arrAt_eq_of_covers 2 _ (by decide +kernel) fun t hf y => ?_
  have hr : t.val % 4 = 3 := (flush0_2 t).mp hf
  blk_simp
  rw [after0_2, out_run m c t hr]
  idx_vars y
  rw [sum_run m c t hr, zero_add]
  refine Fin.sum_mul_add_congr (fun s k hl => ?_)
  refine congrArg₂ (fun a b : EReal => a * b) ?_ ?_
  · unfold hBlk
    blk_ext [iblk, V, (idx _).1, (idx t).2.2]
  · unfold wBlk
    blk_ext [iblk, V, (idx _).2.1, (idx t).2.2]

end Cert.Kernel6Ideal.Gen

namespace Cert.Reference6Ideal
open Idealize.ShloMosaic Idealize.ShloMosaic.TcCoe Idealize.ShloMosaic.Tactic Idealize.SL.Sem
open Cert.Reference6Ideal.Read

theorem val_eq (h : Vec Ideal S4096x8192 .bf16) (w : Vec Ideal S8192x2048 .bf16) :
    val_main_v2 (F := Ideal) h w = Cert.Kernel6Ideal.Gen.prod h w := by
  funext z
  idx_vars z
  rw [← val_main_v2_eq]
  pointwise
  rfl

end Cert.Reference6Ideal
end
-- ==== Proof.FF1In.lean ====
/-
  The gradient back through the feed-forward's first product: the kernel sums the four chips' blocks of the weight in a scratch.
-/
module
public import proofs.«01_k».proof.Proof.Gen.Kernel7Ideal.Value
public import proofs.«01_k».proof.Proof.Gen.Reference7Ideal.Read
public import Idealize.ShloMosaic.Lib.Pipeline.ValueKit
public import Idealize.ShloMosaic.Lib.Pointwise
@[expose] public section
set_option maxRecDepth 16384
noncomputable section
namespace Cert.Kernel7Ideal.Gen
open Idealize.ShloMosaic Idealize.ShloMosaic.TcCoe Idealize.ShloMosaic.Tactic Idealize.SL.Sem

/-- The cotangent times the transposed weight; column q of the weight is column q mod 2048 of chip q / 2048. -/
def back (d : Vec Ideal S4096x8192 .bf16) (w : Vec Ideal S4x2048x2048 .bf16) : Vec Ideal S4096x2048 .f32 :=
  fun z => ∑ q : Fin 8192, d (ix2 (z 0) q) * w (ix3 (⟨q.val / 2048, by omega⟩ : Fin 4) (z 1) (⟨q.val % 2048, by omega⟩ : Fin 2048))

theorem pay1_eq : k0_pay1 (F := Ideal) = fun _ => 0 := by
  funext z
  idx_vars z
  pointwise [k0_pay1]

theorem pay2_at (acc : Vec Ideal S1024x1024 .f32) (d : Vec Ideal S1024x2048 .bf16) (w : Vec Ideal S1x1024x2048 .bf16) (z : S1024x1024.Idx) :
    k0_pay2 acc d w z = acc z + ∑ k : Fin 2048, d (ix2 (z 0) k) * w (ix3 (0 : Fin 1) (z 1) k) := by
  idx_vars z
  pointwise [k0_pay2]

variable (m : (ℓ : Loc nD τ sig) → Buf (Elt Ideal) ℓ)

/-- The blocks that point `t` reads. -/
def dBlk (c : Dev nD) (t : Fin cfg0.N) : Vec Ideal S1024x2048 .bf16 := iblk m c 0 t
def wBlk (c : Dev nD) (t : Fin cfg0.N) : Vec Ideal S1x1024x2048 .bf16 := iblk m c 1 t

/-- What the scratch holds when a run of four points ends. -/
theorem sum_run (c : Dev nD) (t : Fin cfg0.N) (hr : t.val % 4 = 3) (z : S1024x1024.Idx) :
    (outsAt0 m c t.val t.isLt).2 z = 0 + ∑ s : Fin 4, ∑ k : Fin 2048,
      dBlk m c ⟨4 * (t.val / 4) + s.val, Pipeline.run_point_lt_of_flush t hr s⟩ (ix2 (z 0) k)
        * wBlk m c ⟨4 * (t.val / 4) + s.val, Pipeline.run_point_lt_of_flush t hr s⟩ (ix3 (0 : Fin 1) (z 1) k) := by
  refine Pipeline.eq_sum_fin_of_reset_step_apply_of_flush (fun n h => (outsAt0 m c n h).2) 4 (fun _ => 0)
    (fun p z => ∑ k : Fin 2048, dBlk m c p (ix2 (z 0) k) * wBlk m c p (ix3 (0 : Fin 1) (z 1) k)) (fun t h z => ?_) (fun t h z => ?_) t hr z
  · show (outsAt0 m c t.val t.isLt).2 z = _
    rw [outsAt0_A m c t h (by omega)]
    frame_out
    rw [pay2_at, pay1_eq]
    rfl
  · show (outsAt0 m c t.val t.isLt).2 z = _
    by_cases hl : t.val % 4 = 3
    · rw [outsAt0_C m c t h hl]
      frame_out
      rw [pay2_at, (Memref.isWhole_whole cc0_scratch0).read_unread]
      rfl
    · rw [outsAt0_B m c t h hl]
      frame_out
      rw [pay2_at, (Memref.isWhole_whole cc0_scratch0).read_unread]
      rfl

/-- At such a point the output's block is the scratch. -/
theorem out_run (c : Dev nD) (t : Fin cfg0.N) (hr : t.val % 4 = 3) : (outsAt0 m c t.val t.isLt).1 = (outsAt0 m c t.val t.isLt).2 := by
  rw [outsAt0_C m c t (by omega) hr]
  frame_out

theorem idx : ∀ t : Fin cfg0.N, win0_0.index t = ![t.val / 8, t.val % 4] ∧ win0_1.index t = ![t.val % 4, t.val / 4 % 2, 0]
    ∧ win0_2.index t = ![t.val / 8, t.val / 4 % 2] := by decide +kernel

/-- The array the kernel leaves. -/
theorem arr (c : Dev nD) : ((dats m 0 c).arrAt 2 cfg0.N : Vec Ideal S4096x2048 .f32) = back (V m c main_arg0) (V m c main_arg1) := by
  refine (dats m 0 c).arrAt_eq_of_covers 2 _ (by decide +kernel) fun t hf y => ?_
  have hr : t.val % 4 = 3 := (flush0_2 t).mp hf
  blk_simp
  rw [after0_2, out_run m c t hr]
  idx_vars y
  rw [sum_run m c t hr, zero_add]
  refine Fin.sum_mul_add_congr (fun s k hl => ?_)
  refine congrArg₂ (fun a b : EReal => a * b) ?_ ?_
  · unfold dBlk
    blk_ext [iblk, V, (idx _).1, (idx t).2.2]
  · unfold wBlk
    blk_ext [iblk, V, (idx _).2.1, (idx t).2.2]

end Cert.Kernel7Ideal.Gen

namespace Cert.Reference7Ideal
open Idealize.ShloMosaic Idealize.ShloMosaic.TcCoe Idealize.ShloMosaic.Tactic Idealize.SL.Sem
open Cert.Reference7Ideal.Read

theorem val_eq (d : Vec Ideal S4096x8192 .bf16) (w : Vec Ideal S4x2048x2048 .bf16) :
    val_main_v6 (F := Ideal) d w = Cert.Kernel7Ideal.Gen.back d w := by
  funext z
  idx_vars z
  rw [← val_main_v6_eq]
  pointwise
  rfl

end Cert.Reference7Ideal
end
-- ==== Proof.InGrad.lean ====
/-
  The gradient with respect to the layer's input: back through the first product, plus the residual branch's.
-/
module
public import proofs.«01_k».proof.Proof.Gen.Kernel8Ideal.Value
public import proofs.«01_k».proof.Proof.Gen.Reference8Ideal.Read
public import Idealize.ShloMosaic.Lib.Pipeline.ValueKit
public import Idealize.ShloMosaic.Lib.Pointwise
@[expose] public section
set_option maxRecDepth 16384
noncomputable section
namespace Cert.Kernel8Ideal.Gen
open Idealize.ShloMosaic Idealize.ShloMosaic.TcCoe Idealize.ShloMosaic.Tactic Idealize.SL.Sem

/-- The residual branch's factor, as the program writes it. -/
def alpha : EReal := Ideal.ofBits .f32 0x3F9837F0#32

/-- The cotangent times the transposed weight, plus the factor times the residual's cotangent; column q of the weight is
column q mod 2560 of chip q / 2560. -/
def back (d : Vec Ideal S4096x10240 .bf16) (w : Vec Ideal S4x2048x2560 .bf16) (r : Vec Ideal S4096x2048 .f32) : Vec Ideal S4096x2048 .f32 :=
  fun z => ∑ q : Fin 10240, d (ix2 (z 0) q) * w (ix3 (⟨q.val / 2560, by omega⟩ : Fin 4) (z 1) (⟨q.val % 2560, by omega⟩ : Fin 2560)) + alpha * r z

theorem pay1_eq : k0_pay1 (F := Ideal) = fun _ => 0 := by
  funext z
  idx_vars z
  pointwise [k0_pay1]

theorem pay2_at (acc : Vec Ideal S1024x1024 .f32) (d : Vec Ideal S1024x2560 .bf16) (w : Vec Ideal S1x1024x2560 .bf16) (z : S1024x1024.Idx) :
    k0_pay2 acc d w z = acc z + ∑ k : Fin 2560, d (ix2 (z 0) k) * w (ix3 (0 : Fin 1) (z 1) k) := by
  idx_vars z
  pointwise [k0_pay2]

theorem pay3_at (acc r : Vec Ideal S1024x1024 .f32) (z : S1024x1024.Idx) : k0_pay3 acc r z = acc z + alpha * r z := by
  idx_vars z
  pointwise [k0_pay3, alpha]

variable (m : (ℓ : Loc nD τ sig) → Buf (Elt Ideal) ℓ)

/-- The blocks that point `t` reads. -/
def dBlk (c : Dev nD) (t : Fin cfg0.N) : Vec Ideal S1024x2560 .bf16 := iblk m c 0 t
def wBlk (c : Dev nD) (t : Fin cfg0.N) : Vec Ideal S1x1024x2560 .bf16 := iblk m c 1 t

/-- What the scratch holds when a run of four points ends. -/
theorem sum_run (c : Dev nD) (t : Fin cfg0.N) (hr : t.val % 4 = 3) (z : S1024x1024.Idx) :
    (outsAt0 m c t.val t.isLt).2 z = 0 + ∑ s : Fin 4, ∑ k : Fin 2560,
      dBlk m c ⟨4 * (t.val / 4) + s.val, Pipeline.run_point_lt_of_flush t hr s⟩ (ix2 (z 0) k)
        * wBlk m c ⟨4 * (t.val / 4) + s.val, Pipeline.run_point_lt_of_flush t hr s⟩ (ix3 (0 : Fin 1) (z 1) k) := by
  refine Pipeline.eq_sum_fin_of_reset_step_apply_of_flush (fun n h => (outsAt0 m c n h).2) 4 (fun _ => 0)
    (fun p z => ∑ k : Fin 2560, dBlk m c p (ix2 (z 0) k) * wBlk m c p (ix3 (0 : Fin 1) (z 1) k)) (fun t h z => ?_) (fun t h z => ?_) t hr z
  · show (outsAt0 m c t.val t.isLt).2 z = _
    rw [outsAt0_A m c t h (by omega)]
    frame_out
    rw [pay2_at, pay1_eq]
    rfl
  · show (outsAt0 m c t.val t.isLt).2 z = _
    by_cases hl : t.val % 4 = 3
    · rw [outsAt0_C m c t h hl]
      frame_out
      rw [pay2_at, (Memref.isWhole_whole cc0_scratch0).read_unread]
      rfl
    · rw [outsAt0_B m c t h hl]
      frame_out
      rw [pay2_at, (Memref.isWhole_whole cc0_scratch0).read_unread]
      rfl

def rBlk (c : Dev nD) (t : Fin cfg0.N) : Vec Ideal S1024x1024 .f32 := iblk m c 2 t

/-- At such a point the output's block is the scratch plus the residual branch's block. -/
theorem out_run (c : Dev nD) (t : Fin cfg0.N) (hr : t.val % 4 = 3) :
    (outsAt0 m c t.val t.isLt).1 = k0_pay3 (outsAt0 m c t.val t.isLt).2 (rBlk m c t) := by
  rw [outsAt0_C m c t (by omega) hr]
  frame_out
  rfl

theorem idx : ∀ t : Fin cfg0.N, win0_0.index t = ![t.val / 8, t.val % 4] ∧ win0_1.index t = ![t.val % 4, t.val / 4 % 2, 0]
    ∧ win0_2.index t = ![t.val / 8, t.val / 4 % 2] ∧ win0_3.index t = ![t.val / 8, t.val / 4 % 2] := by decide +kernel

/-- The array the kernel leaves. -/
theorem arr (c : Dev nD) : ((dats m 0 c).arrAt 3 cfg0.N : Vec Ideal S4096x2048 .f32) = back (V m c main_arg0) (V m c main_arg1) (V m c main_arg2) := by
  refine (dats m 0 c).arrAt_eq_of_covers 3 _ (by decide +kernel) fun t hf y => ?_
  have hr : t.val % 4 = 3 := (flush0_3 t).mp hf
  blk_simp
  rw [after0_3, out_run m c t hr]
  idx_vars y
  rw [pay3_at, sum_run m c t hr, zero_add]
  refine congrArg₂ (fun a b : EReal => a + b) (Fin.sum_mul_add_congr (fun s k hl => congrArg₂ (fun a b : EReal => a * b) ?_ ?_)) (congrArg (fun b : EReal => alpha * b) ?_)
  · unfold dBlk
    blk_ext [iblk, V, (idx _).1, (idx t).2.2.2]
  · unfold wBlk
    blk_ext [iblk, V, (idx _).2.1, (idx t).2.2.2]
  · unfold rBlk
    blk_ext [iblk, V, (idx _).2.2.1, (idx t).2.2.2]

end Cert.Kernel8Ideal.Gen

namespace Cert.Reference8Ideal
open Idealize.ShloMosaic Idealize.ShloMosaic.TcCoe Idealize.ShloMosaic.Tactic Idealize.SL.Sem
open Cert.Reference8Ideal.Read

theorem val_eq (d : Vec Ideal S4096x10240 .bf16) (w : Vec Ideal S4x2048x2560 .bf16) (r : Vec Ideal S4096x2048 .f32) :
    val_main_v11 (F := Ideal) d w r = Cert.Kernel8Ideal.Gen.back d w r := by
  funext z
  idx_vars z
  rw [← val_main_v11_eq]
  pointwise
  exact add_comm _ _

end Cert.Reference8Ideal
end
-- ==== Proof.Gate.lean ====
/-
  The gate: half the hyperbolic tangent of half the number, plus a half, is the logistic function, at every extended real.
-/
module
public import Idealize.ShloMosaic.Lib.Pipeline.ValueKit
public import Idealize.ShloMosaic.Lib.Pointwise
@[expose] public section
noncomputable section
namespace Cert.Gate
open Idealize.ShloMosaic

/-- One half, as the program writes it. -/
def half : EReal := Ideal.ofBits .f32 0x3F000000#32

theorem half_eq : half = ((1 / 2 : ℝ) : EReal) := by
  simp [half, Ideal.ofBits, Ideal.ieee, -EReal.coe_mul]
  norm_num

/-- The gate as the kernel computes it. -/
def gate (x : EReal) : EReal := half * Ideal.tanh (half * x) + half

theorem gate_eq (x : EReal) : gate x = Ideal.logistic x := by
  unfold gate
  rw [half_eq]
  induction x with
  | bot =>
    rw [EReal.coe_mul_bot_of_pos (by norm_num), Ideal.tanh_bot, Ideal.logistic_bot]
    rw [show (-1 : EReal) = ((-1 : ℝ) : EReal) from rfl, ← EReal.coe_mul, ← EReal.coe_add]
    norm_num
  | top =>
    rw [EReal.coe_mul_top_of_pos (by norm_num), Ideal.tanh_top, Ideal.logistic_top]
    rw [mul_one, ← EReal.coe_add]
    norm_num
  | coe r =>
    rw [← EReal.coe_mul, Ideal.tanh_coe, Ideal.logistic_coe, ← EReal.coe_mul, ← EReal.coe_add]
    refine congrArg _ ?_
    have h : Real.exp (-r) = Real.exp (-(1 / 2 * r)) * Real.exp (-(1 / 2 * r)) := by
      rw [← Real.exp_add]
      congr 1
      ring
    have hp := Real.exp_pos (1 / 2 * r)
    rw [h, Real.tanh_eq_sinh_div_cosh, Real.sinh_eq, Real.cosh_eq, Real.exp_neg]
    field_simp
    ring

/-- The logistic function as the reference writes it. -/
theorem gate_div (x : EReal) : Ideal.div 1 (1 + Ideal.exp (-x)) = gate x := (gate_eq x).symm

/-- The columns of the first product that hold the two gates. -/
def colA (j : Fin 2048) : Fin 10240 := ⟨6144 + j.val, by omega⟩
def colB (j : Fin 2048) : Fin 10240 := ⟨8192 + j.val, by omega⟩

end Cert.Gate
end
-- ==== Proof.Merge.lean ====
/-
  The gated merge: two products, each summed over two blocks in its own scratch, then weighted by the gates and added.
-/
module
public import proofs.«01_k».proof.Proof.Gen.Kernel10Ideal.Value
public import proofs.«01_k».proof.Proof.Gen.Reference10Ideal.Read
public import proofs.«01_k».proof.Proof.Gate
public import Idealize.ShloMosaic.Lib.Pipeline.ValueKit
public import Idealize.ShloMosaic.Lib.Pointwise
@[expose] public section
set_option maxRecDepth 16384
noncomputable section
namespace Cert.Kernel10Ideal.Gen
open Idealize.ShloMosaic Idealize.ShloMosaic.TcCoe Idealize.ShloMosaic.Tactic Idealize.SL.Sem
open Cert.Gate (half gate colA colB)

/-- One branch's product. -/
def prod (y : Vec Ideal S4096x2048 .bf16) (w : Vec Ideal S2048x2048 .bf16) : Vec Ideal S4096x2048 .bf16 :=
  fun z => ∑ k : Fin 2048, y (ix2 (z 0) k) * w (ix2 k (z 1))
/-- The merge of the two branches' products `a` and `b`. -/
def merge (a b : Vec Ideal S4096x2048 .bf16) (z : Vec Ideal S4096x10240 .bf16) : Vec Ideal S4096x2048 .bf16 :=
  fun y => gate (z (ix2 (y 0) (colA (y 1)))) * a y + gate (z (ix2 (y 0) (colB (y 1)))) * b y

theorem pay1_eq : k0_pay1 (F := Ideal) = fun _ => 0 := by
  funext z
  idx_vars z
  pointwise [k0_pay1]
theorem pay2_eq : k0_pay2 (F := Ideal) = fun _ => 0 := by
  funext z
  idx_vars z
  pointwise [k0_pay2]
theorem pay3_at (acc : Vec Ideal S1024x1024 .f32) (y w : Vec Ideal S1024x1024 .bf16) (z : S1024x1024.Idx) :
    k0_pay3 acc y w z = acc z + ∑ k : Fin 1024, y (ix2 (z 0) k) * w (ix2 k (z 1)) := by
  idx_vars z
  pointwise [k0_pay3]
theorem pay4_at (acc : Vec Ideal S1024x1024 .f32) (y w : Vec Ideal S1024x1024 .bf16) (z : S1024x1024.Idx) :
    k0_pay4 acc y w z = acc z + ∑ k : Fin 1024, y (ix2 (z 0) k) * w (ix2 k (z 1)) := by
  idx_vars z
  pointwise [k0_pay4]
theorem pay5_at (a b : Vec Ideal S1024x1024 .f32) (za zb : Vec Ideal S1024x1024 .bf16) (z : S1024x1024.Idx) :
    k0_pay5 a b za zb z = gate (za z) * a z + gate (zb z) * b z := by
  idx_vars z
  pointwise [k0_pay5, gate, half]
theorem pay6_at (acc : Vec Ideal S1024x1024 .f32) (z : S1024x1024.Idx) : k0_pay6 acc z = acc z := by
  idx_vars z
  pointwise [k0_pay6]
theorem pay7_at (acc : Vec Ideal S1024x1024 .f32) (z : S1024x1024.Idx) : k0_pay7 acc z = acc z := by
  idx_vars z
  pointwise [k0_pay7]

variable (m : (ℓ : Loc nD τ sig) → Buf (Elt Ideal) ℓ)

def ypBlk (c : Dev nD) (t : Fin cfg0.N) : Vec Ideal S1024x1024 .bf16 := iblk m c 0 t
def wpBlk (c : Dev nD) (t : Fin cfg0.N) : Vec Ideal S1024x1024 .bf16 := iblk m c 1 t
def ylBlk (c : Dev nD) (t : Fin cfg0.N) : Vec Ideal S1024x1024 .bf16 := iblk m c 2 t
def wlBlk (c : Dev nD) (t : Fin cfg0.N) : Vec Ideal S1024x1024 .bf16 := iblk m c 3 t
def aBlk (c : Dev nD) (t : Fin cfg0.N) : Vec Ideal S1024x1024 .bf16 := iblk m c 4 t
def bBlk (c : Dev nD) (t : Fin cfg0.N) : Vec Ideal S1024x1024 .bf16 := iblk m c 5 t

/-- What scratch 0 holds when a run of two points ends. -/
theorem pa_run (c : Dev nD) (t : Fin cfg0.N) (hr : t.val % 2 = 1) (z : S1024x1024.Idx) :
    (outsAt0 m c t.val t.isLt).2.2.2.1 z = 0 + ∑ s : Fin 2, ∑ k : Fin 1024,
      ypBlk m c ⟨2 * (t.val / 2) + s.val, Pipeline.run_point_lt_of_flush t hr s⟩ (ix2 (z 0) k)
        * wpBlk m c ⟨2 * (t.val / 2) + s.val, Pipeline.run_point_lt_of_flush t hr s⟩ (ix2 k (z 1)) := by
  refine Pipeline.eq_sum_fin_of_reset_step_apply_of_flush (fun n h => (outsAt0 m c n h).2.2.2.1) 2 (fun _ => 0)
    (fun p z => ∑ k : Fin 1024, ypBlk m c p (ix2 (z 0) k) * wpBlk m c p (ix2 k (z 1))) (fun t h z => ?_) (fun t h z => ?_) t hr z
  · show (outsAt0 m c t.val t.isLt).2.2.2.1 z = _
    rw [outsAt0_A m c t h (by omega)]
    frame_out
    rw [pay3_at, pay1_eq]
    rfl
  · show (outsAt0 m c t.val t.isLt).2.2.2.1 z = _
    rw [outsAt0_B m c t h (by omega)]
    frame_out
    rw [pay3_at, (Memref.isWhole_whole cc0_scratch0).read_unread]
    rfl

/-- What scratch 1 holds when a run of two points ends. -/
theorem pb_run (c : Dev nD) (t : Fin cfg0.N) (hr : t.val % 2 = 1) (z : S1024x1024.Idx) :
    (outsAt0 m c t.val t.isLt).2.2.2.2 z = 0 + ∑ s : Fin 2, ∑ k : Fin 1024,
      ylBlk m c ⟨2 * (t.val / 2) + s.val, Pipeline.run_point_lt_of_flush t hr s⟩ (ix2 (z 0) k)
        * wlBlk m c ⟨2 * (t.val / 2) + s.val, Pipeline.run_point_lt_of_flush t hr s⟩ (ix2 k (z 1)) := by
  refine Pipeline.eq_sum_fin_of_reset_step_apply_of_flush (fun n h => (outsAt0 m c n h).2.2.2.2) 2 (fun _ => 0)
    (fun p z => ∑ k : Fin 1024, ylBlk m c p (ix2 (z 0) k) * wlBlk m c p (ix2 k (z 1))) (fun t h z => ?_) (fun t h z => ?_) t hr z
  · show (outsAt0 m c t.val t.isLt).2.2.2.2 z = _
    rw [outsAt0_A m c t h (by omega)]
    frame_out
    rw [pay4_at, pay2_eq]
    rfl
  · show (outsAt0 m c t.val t.isLt).2.2.2.2 z = _
    rw [outsAt0_B m c t h (by omega)]
    frame_out
    rw [pay4_at, (Memref.isWhole_whole cc0_scratch1).read_unread]
    rfl

/-- At such a point the outputs' blocks are read off the two scratches. -/
theorem m_out (c : Dev nD) (t : Fin cfg0.N) (hr : t.val % 2 = 1) :
    (outsAt0 m c t.val t.isLt).1 = k0_pay5 (outsAt0 m c t.val t.isLt).2.2.2.1 (outsAt0 m c t.val t.isLt).2.2.2.2 (aBlk m c t) (bBlk m c t) := by
  rw [outsAt0_B m c t (by omega) hr]
  frame_out
  rfl
theorem pa_out (c : Dev nD) (t : Fin cfg0.N) (hr : t.val % 2 = 1) :
    (outsAt0 m c t.val t.isLt).2.1 = k0_pay6 (outsAt0 m c t.val t.isLt).2.2.2.1 := by
  rw [outsAt0_B m c t (by omega) hr]
  frame_out
theorem pb_out (c : Dev nD) (t : Fin cfg0.N) (hr : t.val % 2 = 1) :
    (outsAt0 m c t.val t.isLt).2.2.1 = k0_pay7 (outsAt0 m c t.val t.isLt).2.2.2.2 := by
  rw [outsAt0_B m c t (by omega) hr]
  frame_out

theorem idx : ∀ t : Fin cfg0.N, win0_0.index t = ![t.val / 4, t.val % 2] ∧ win0_1.index t = ![t.val % 2, t.val / 2 % 2]
    ∧ win0_2.index t = ![t.val / 4, t.val % 2] ∧ win0_3.index t = ![t.val % 2, t.val / 2 % 2]
    ∧ win0_4.index t = ![t.val / 4, 6 + t.val / 2 % 2] ∧ win0_5.index t = ![t.val / 4, 8 + t.val / 2 % 2]
    ∧ win0_6.index t = ![t.val / 4, t.val / 2 % 2] ∧ win0_7.index t = ![t.val / 4, t.val / 2 % 2]
    ∧ win0_8.index t = ![t.val / 4, t.val / 2 % 2] := by decide +kernel

section blocks
variable (c : Dev nD) (t : Fin cfg0.N) (hr : t.val % 2 = 1) (i j : Fin 1024) (i' : Fin 4096) (j' : Fin 2048)
  (hi : i'.val = t.val / 4 * 1024 + i.val) (hj : j'.val = t.val / 2 % 2 * 1024 + j.val)
include hr hi hj

theorem pa_block : (outsAt0 m c t.val t.isLt).2.2.2.1 (ix2 i j) = prod (V m c main_arg0) (V m c main_arg2) (ix2 i' j') := by
  rw [pa_run m c t hr, zero_add]
  refine Fin.sum_mul_add_congr (fun s k hl => congrArg₂ (fun a b : EReal => a * b) ?_ ?_)
  · unfold ypBlk
    blk_ext [iblk, V, (idx _).1]
  · unfold wpBlk
    blk_ext [iblk, V, (idx _).2.1]
theorem pb_block : (outsAt0 m c t.val t.isLt).2.2.2.2 (ix2 i j) = prod (V m c main_arg1) (V m c main_arg3) (ix2 i' j') := by
  rw [pb_run m c t hr, zero_add]
  refine Fin.sum_mul_add_congr (fun s k hl => congrArg₂ (fun a b : EReal => a * b) ?_ ?_)
  · unfold ylBlk
    blk_ext [iblk, V, (idx _).2.2.1]
  · unfold wlBlk
    blk_ext [iblk, V, (idx _).2.2.2.1]
omit hr in
theorem a_block : aBlk m c t (ix2 i j) = (V m c main_arg4 : Vec Ideal S4096x10240 .bf16) (ix2 i' (colA j')) := by
  unfold aBlk
  blk_ext [iblk, V, (idx t).2.2.2.2.1, colA]
omit hr in
theorem b_block : bBlk m c t (ix2 i j) = (V m c main_arg4 : Vec Ideal S4096x10240 .bf16) (ix2 i' (colB j')) := by
  unfold bBlk
  blk_ext [iblk, V, (idx t).2.2.2.2.2.1, colB]
theorem m_block : k0_pay5 (outsAt0 m c t.val t.isLt).2.2.2.1 (outsAt0 m c t.val t.isLt).2.2.2.2 (aBlk m c t) (bBlk m c t) (ix2 i j)
    = merge (prod (V m c main_arg0) (V m c main_arg2)) (prod (V m c main_arg1) (V m c main_arg3)) (V m c main_arg4) (ix2 i' j') := by
  rw [pay5_at, pa_block m c t hr i j i' j' hi hj, pb_block m c t hr i j i' j' hi hj, a_block m c t i j i' j' hi hj, b_block m c t i j i' j' hi hj]
  rfl
end blocks

theorem arr6 (c : Dev nD) : ((dats m 0 c).arrAt 6 cfg0.N : Vec Ideal S4096x2048 .bf16) = merge (prod (V m c main_arg0) (V m c main_arg2)) (prod (V m c main_arg1) (V m c main_arg3)) (V m c main_arg4) := by
  refine (dats m 0 c).arrAt_eq_of_covers 6 _ (by decide +kernel) fun t hf y => ?_
  have hr : t.val % 2 = 1 := (flush0_6 t).mp hf
  blk_simp
  rw [after0_6, m_out m c t hr]
  idx_vars y
  rw [m_block m c t hr y0 y1 ((win0_6.blk t).view.emb (ix2 y0 y1) 0) ((win0_6.blk t).view.emb (ix2 y0 y1) 1)
    (by blk_simp [(idx t).2.2.2.2.2.2.1]) (by blk_simp [(idx t).2.2.2.2.2.2.1])]
  refine congrArg (merge (prod (V m c main_arg0) (V m c main_arg2)) (prod (V m c main_arg1) (V m c main_arg3)) (V m c main_arg4)) ?_
  funext a
  fin_cases a <;> rfl

theorem arr7 (c : Dev nD) : ((dats m 0 c).arrAt 7 cfg0.N : Vec Ideal S4096x2048 .bf16) = prod (V m c main_arg0) (V m c main_arg2) := by
  refine (dats m 0 c).arrAt_eq_of_covers 7 _ (by decide +kernel) fun t hf y => ?_
  have hr : t.val % 2 = 1 := (flush0_7 t).mp hf
  blk_simp
  rw [after0_7, pa_out m c t hr]
  idx_vars y
  rw [pay6_at, pa_block m c t hr y0 y1 ((win0_7.blk t).view.emb (ix2 y0 y1) 0) ((win0_7.blk t).view.emb (ix2 y0 y1) 1)
    (by blk_simp [(idx t).2.2.2.2.2.2.2.1]) (by blk_simp [(idx t).2.2.2.2.2.2.2.1])]
  refine congrArg (prod (V m c main_arg0) (V m c main_arg2)) ?_
  funext a
  fin_cases a <;> rfl

theorem arr8 (c : Dev nD) : ((dats m 0 c).arrAt 8 cfg0.N : Vec Ideal S4096x2048 .bf16) = prod (V m c main_arg1) (V m c main_arg3) := by
  refine (dats m 0 c).arrAt_eq_of_covers 8 _ (by decide +kernel) fun t hf y => ?_
  have hr : t.val % 2 = 1 := (flush0_8 t).mp hf
  blk_simp
  rw [after0_8, pb_out m c t hr]
  idx_vars y
  rw [pay7_at, pb_block m c t hr y0 y1 ((win0_8.blk t).view.emb (ix2 y0 y1) 0) ((win0_8.blk t).view.emb (ix2 y0 y1) 1)
    (by blk_simp [(idx t).2.2.2.2.2.2.2.2]) (by blk_simp [(idx t).2.2.2.2.2.2.2.2])]
  refine congrArg (prod (V m c main_arg1) (V m c main_arg3)) ?_
  funext a
  fin_cases a <;> rfl

end Cert.Kernel10Ideal.Gen

namespace Cert.Reference10Ideal
open Idealize.ShloMosaic Idealize.ShloMosaic.TcCoe Idealize.ShloMosaic.Tactic Idealize.SL.Sem
open Cert.Reference10Ideal.Read Cert.Kernel10Ideal.Gen
open Cert.Gate (half gate gate_div colA colB)

variable (yp yl : Vec Ideal S4096x2048 .bf16) (wp wl : Vec Ideal S2048x2048 .bf16) (z : Vec Ideal S4096x10240 .bf16)

theorem m_eq : val_main_v25 (F := Ideal) yp yl wp wl z = merge (prod yp wp) (prod yl wl) z := by
  funext y
  idx_vars y
  rw [← val_main_v25_eq]
  pointwise
  exact congrArg₂ (fun a b : EReal => a * _ + b * _) (gate_div _) (gate_div _)

theorem pa_eq : val_main_v26 (F := Ideal) yp wp = prod yp wp := by
  funext y
  idx_vars y
  rw [← val_main_v26_eq]
  pointwise
  rfl

theorem pb_eq : val_main_v27 (F := Ideal) yl wl = prod yl wl := by
  funext y
  idx_vars y
  rw [← val_main_v27_eq]
  pointwise
  rfl

end Cert.Reference10Ideal
end
-- ==== Proof.OutIn.lean ====
/-
  The gradient back through the gated merge: from the output product to both branches and both gates.
-/
module
public import proofs.«01_k».proof.Proof.Gen.Kernel11Ideal.Value
public import proofs.«01_k».proof.Proof.Gen.Reference11Ideal.Read
public import proofs.«01_k».proof.Proof.Gate
public import Idealize.ShloMosaic.Lib.Pipeline.ValueKit
public import Idealize.ShloMosaic.Lib.Pointwise
@[expose] public section
set_option maxRecDepth 16384
noncomputable section
namespace Cert.Kernel11Ideal.Gen
open Idealize.ShloMosaic Idealize.ShloMosaic.TcCoe Idealize.ShloMosaic.Tactic Idealize.SL.Sem
open Cert.Gate (half gate colA colB)

/-- The gradient of the gated sum: the cotangent times the transposed output weight. -/
def dm (dr : Vec Ideal S4096x2048 .bf16) (w : Vec Ideal S2048x2048 .bf16) (i : Fin 4096) (j : Fin 2048) : EReal :=
  ∑ k : Fin 2048, dr (ix2 i k) * w (ix2 j k)
/-- Through one branch: times the gate. -/
def branch (dr : Vec Ideal S4096x2048 .bf16) (w : Vec Ideal S2048x2048 .bf16) (z : Vec Ideal S4096x10240 .bf16) (col : Fin 2048 → Fin 10240) : Vec Ideal S4096x2048 .bf16 :=
  fun y => dm dr w (y 0) (y 1) * gate (z (ix2 (y 0) (col (y 1))))
/-- Through one gate: times the branch, the gate and one less the gate. -/
def through (dr : Vec Ideal S4096x2048 .bf16) (w : Vec Ideal S2048x2048 .bf16) (z : Vec Ideal S4096x10240 .bf16) (p : Vec Ideal S4096x2048 .bf16) (col : Fin 2048 → Fin 10240) : Vec Ideal S4096x2048 .bf16 :=
  fun y => dm dr w (y 0) (y 1) * p y * gate (z (ix2 (y 0) (col (y 1)))) * (1 - gate (z (ix2 (y 0) (col (y 1)))))

/-- The same in one block. -/
def dmB (dr w : Vec Ideal S1024x2048 .bf16) (i j : Fin 1024) : EReal := ∑ k : Fin 2048, dr (ix2 i k) * w (ix2 j k)

theorem pay3_at (dr w : Vec Ideal S1024x2048 .bf16) (i j : Fin 1024) : k0_pay3 dr w (ix2 i j) = dmB dr w i j := by
  pointwise [k0_pay3, dmB]
theorem pay4_at (z : Vec Ideal S1024x1024 .bf16) (i j : Fin 1024) : k0_pay4 z (ix2 i j) = gate (z (ix2 i j)) := by
  pointwise [k0_pay4, gate, half]
theorem pay5_at (z : Vec Ideal S1024x1024 .bf16) (i j : Fin 1024) : k0_pay5 z (ix2 i j) = gate (z (ix2 i j)) := by
  pointwise [k0_pay5, gate, half]
theorem pay6_at (dr w : Vec Ideal S1024x2048 .bf16) (z : Vec Ideal S1024x1024 .bf16) (i j : Fin 1024) :
    k0_pay6 dr w z (ix2 i j) = dmB dr w i j * gate (z (ix2 i j)) := by
  rw [← pay3_at, ← pay4_at]
  rfl
theorem pay7_at (dr w : Vec Ideal S1024x2048 .bf16) (z : Vec Ideal S1024x1024 .bf16) (i j : Fin 1024) :
    k0_pay7 dr w z (ix2 i j) = dmB dr w i j * gate (z (ix2 i j)) := by
  rw [← pay3_at, ← pay5_at]
  rfl
theorem pay1_at (dr w : Vec Ideal S1024x2048 .bf16) (z p : Vec Ideal S1024x1024 .bf16) (i j : Fin 1024) :
    k0_pay1 (k0_pay8 dr w z p) (k0_pay9 z) (ix2 i j) = dmB dr w i j * p (ix2 i j) * gate (z (ix2 i j)) * (1 - gate (z (ix2 i j))) := by
  rw [← pay3_at, ← pay4_at]
  generalize h : k0_pay3 dr w = y
  generalize h' : k0_pay4 z = g
  pointwise [k0_pay1, k0_pay8, k0_pay9, h, h']
theorem pay2_at (dr w : Vec Ideal S1024x2048 .bf16) (z p : Vec Ideal S1024x1024 .bf16) (i j : Fin 1024) :
    k0_pay2 (k0_pay3 dr w) (k0_pay5 z) p (ix2 i j) = dmB dr w i j * p (ix2 i j) * gate (z (ix2 i j)) * (1 - gate (z (ix2 i j))) := by
  rw [← pay3_at, ← pay5_at]
  generalize h : k0_pay3 dr w = y
  generalize h' : k0_pay5 z = g
  pointwise [k0_pay2]

variable (m : (ℓ : Loc nD τ sig) → Buf (Elt Ideal) ℓ)

def rBlk (c : Dev nD) (t : Fin cfg0.N) : Vec Ideal S1024x2048 .bf16 := iblk m c 0 t
def wBlk (c : Dev nD) (t : Fin cfg0.N) : Vec Ideal S1024x2048 .bf16 := iblk m c 1 t
def aBlk (c : Dev nD) (t : Fin cfg0.N) : Vec Ideal S1024x1024 .bf16 := iblk m c 2 t
def bBlk (c : Dev nD) (t : Fin cfg0.N) : Vec Ideal S1024x1024 .bf16 := iblk m c 3 t
def paBlk (c : Dev nD) (t : Fin cfg0.N) : Vec Ideal S1024x1024 .bf16 := iblk m c 4 t
def pbBlk (c : Dev nD) (t : Fin cfg0.N) : Vec Ideal S1024x1024 .bf16 := iblk m c 5 t

theorem idx : ∀ t : Fin cfg0.N, win0_0.index t = ![t.val / 2, 0] ∧ win0_1.index t = ![t.val % 2, 0] ∧ win0_2.index t = ![t.val / 2, 6 + t.val % 2]
    ∧ win0_3.index t = ![t.val / 2, 8 + t.val % 2] ∧ win0_4.index t = ![t.val / 2, t.val % 2] ∧ win0_5.index t = ![t.val / 2, t.val % 2]
    ∧ win0_6.index t = ![t.val / 2, t.val % 2] ∧ win0_7.index t = ![t.val / 2, t.val % 2] ∧ win0_8.index t = ![t.val / 2, t.val % 2]
    ∧ win0_9.index t = ![t.val / 2, t.val % 2] := by decide +kernel

section blocks
variable (c : Dev nD) (t : Fin cfg0.N) (i j : Fin 1024) (i' : Fin 4096) (j' : Fin 2048)
  (hi : i'.val = t.val / 2 * 1024 + i.val) (hj : j'.val = t.val % 2 * 1024 + j.val)
include hi hj

theorem dm_block : dmB (rBlk m c t) (wBlk m c t) i j = dm (V m c main_arg0) (V m c main_arg1) i' j' := by
  refine Finset.sum_congr (M := EReal) rfl fun k _ => congrArg₂ (fun a b : EReal => a * b) ?_ ?_
  · unfold rBlk
    blk_ext [iblk, V, (idx t).1]
  · unfold wBlk
    blk_ext [iblk, V, (idx t).2.1]
theorem a_block : aBlk m c t (ix2 i j) = (V m c main_arg2 : Vec Ideal S4096x10240 .bf16) (ix2 i' (colA j')) := by
  unfold aBlk
  blk_ext [iblk, V, (idx t).2.2.1, colA]
theorem b_block : bBlk m c t (ix2 i j) = (V m c main_arg2 : Vec Ideal S4096x10240 .bf16) (ix2 i' (colB j')) := by
  unfold bBlk
  blk_ext [iblk, V, (idx t).2.2.2.1, colB]
theorem pa_block : paBlk m c t (ix2 i j) = (V m c main_arg3 : Vec Ideal S4096x2048 .bf16) (ix2 i' j') := by
  unfold paBlk
  blk_ext [iblk, V, (idx t).2.2.2.2.1]
theorem pb_block : pbBlk m c t (ix2 i j) = (V m c main_arg4 : Vec Ideal S4096x2048 .bf16) (ix2 i' j') := by
  unfold pbBlk
  blk_ext [iblk, V, (idx t).2.2.2.2.2.1]

theorem branchA_block : dmB (rBlk m c t) (wBlk m c t) i j * gate (aBlk m c t (ix2 i j)) = branch (V m c main_arg0) (V m c main_arg1) (V m c main_arg2) colA (ix2 i' j') := by
  rw [dm_block m c t i j i' j' hi hj, a_block m c t i j i' j' hi hj]
  rfl
theorem branchB_block : dmB (rBlk m c t) (wBlk m c t) i j * gate (bBlk m c t (ix2 i j)) = branch (V m c main_arg0) (V m c main_arg1) (V m c main_arg2) colB (ix2 i' j') := by
  rw [dm_block m c t i j i' j' hi hj, b_block m c t i j i' j' hi hj]
  rfl
theorem throughA_block : dmB (rBlk m c t) (wBlk m c t) i j * paBlk m c t (ix2 i j) * gate (aBlk m c t (ix2 i j)) * (1 - gate (aBlk m c t (ix2 i j)))
    = through (V m c main_arg0) (V m c main_arg1) (V m c main_arg2) (V m c main_arg3) colA (ix2 i' j') := by
  rw [dm_block m c t i j i' j' hi hj, a_block m c t i j i' j' hi hj, pa_block m c t i j i' j' hi hj]
  rfl
theorem throughB_block : dmB (rBlk m c t) (wBlk m c t) i j * pbBlk m c t (ix2 i j) * gate (bBlk m c t (ix2 i j)) * (1 - gate (bBlk m c t (ix2 i j)))
    = through (V m c main_arg0) (V m c main_arg1) (V m c main_arg2) (V m c main_arg4) colB (ix2 i' j') := by
  rw [dm_block m c t i j i' j' hi hj, b_block m c t i j i' j' hi hj, pb_block m c t i j i' j' hi hj]
  rfl
end blocks

theorem arr6 (c : Dev nD) : ((dats m 0 c).arrAt 6 cfg0.N : Vec Ideal S4096x2048 .bf16) = branch (V m c main_arg0) (V m c main_arg1) (V m c main_arg2) colA := by
  refine (dats m 0 c).arrAt_eq_of_covers 6 _ (by decide +kernel) fun t hf y => ?_
  blk_simp
  rw [after0_6]
  frame_out
  idx_vars y
  refine (pay6_at (rBlk m c t) (wBlk m c t) (aBlk m c t) y0 y1).trans ((branchA_block m c t y0 y1 ((win0_6.blk t).view.emb (ix2 y0 y1) 0) ((win0_6.blk t).view.emb (ix2 y0 y1) 1)
    (by blk_simp [(idx t).2.2.2.2.2.2.1]) (by blk_simp [(idx t).2.2.2.2.2.2.1])).trans ?_)
  refine congrArg (branch (V m c main_arg0) (V m c main_arg1) (V m c main_arg2) colA) ?_
  funext a
  fin_cases a <;> rfl

theorem arr7 (c : Dev nD) : ((dats m 0 c).arrAt 7 cfg0.N : Vec Ideal S4096x2048 .bf16) = branch (V m c main_arg0) (V m c main_arg1) (V m c main_arg2) colB := by
  refine (dats m 0 c).arrAt_eq_of_covers 7 _ (by decide +kernel) fun t hf y => ?_
  blk_simp
  rw [after0_7]
  frame_out
  idx_vars y
  refine (pay7_at (rBlk m c t) (wBlk m c t) (bBlk m c t) y0 y1).trans ((branchB_block m c t y0 y1 ((win0_7.blk t).view.emb (ix2 y0 y1) 0) ((win0_7.blk t).view.emb (ix2 y0 y1) 1)
    (by blk_simp [(idx t).2.2.2.2.2.2.2.1]) (by blk_simp [(idx t).2.2.2.2.2.2.2.1])).trans ?_)
  refine congrArg (branch (V m c main_arg0) (V m c main_arg1) (V m c main_arg2) colB) ?_
  funext a
  fin_cases a <;> rfl

theorem arr8 (c : Dev nD) : ((dats m 0 c).arrAt 8 cfg0.N : Vec Ideal S4096x2048 .bf16) = through (V m c main_arg0) (V m c main_arg1) (V m c main_arg2) (V m c main_arg3) colA := by
  refine (dats m 0 c).arrAt_eq_of_covers 8 _ (by decide +kernel) fun t hf y => ?_
  blk_simp
  rw [after0_8]
  frame_out
  idx_vars y
  refine (pay1_at (rBlk m c t) (wBlk m c t) (aBlk m c t) (paBlk m c t) y0 y1).trans ((throughA_block m c t y0 y1 ((win0_8.blk t).view.emb (ix2 y0 y1) 0) ((win0_8.blk t).view.emb (ix2 y0 y1) 1)
    (by blk_simp [(idx t).2.2.2.2.2.2.2.2.1]) (by blk_simp [(idx t).2.2.2.2.2.2.2.2.1])).trans ?_)
  refine congrArg (through (V m c main_arg0) (V m c main_arg1) (V m c main_arg2) (V m c main_arg3) colA) ?_
  funext a
  fin_cases a <;> rfl

theorem arr9 (c : Dev nD) : ((dats m 0 c).arrAt 9 cfg0.N : Vec Ideal S4096x2048 .bf16) = through (V m c main_arg0) (V m c main_arg1) (V m c main_arg2) (V m c main_arg4) colB := by
  refine (dats m 0 c).arrAt_eq_of_covers 9 _ (by decide +kernel) fun t hf y => ?_
  blk_simp
  rw [after0_9]
  frame_out
  idx_vars y
  refine (pay2_at (rBlk m c t) (wBlk m c t) (bBlk m c t) (pbBlk m c t) y0 y1).trans ((throughB_block m c t y0 y1 ((win0_9.blk t).view.emb (ix2 y0 y1) 0) ((win0_9.blk t).view.emb (ix2 y0 y1) 1)
    (by blk_simp [(idx t).2.2.2.2.2.2.2.2.2]) (by blk_simp [(idx t).2.2.2.2.2.2.2.2.2])).trans ?_)
  refine congrArg (through (V m c main_arg0) (V m c main_arg1) (V m c main_arg2) (V m c main_arg4) colB) ?_
  funext a
  fin_cases a <;> rfl

end Cert.Kernel11Ideal.Gen

namespace Cert.Reference11Ideal
open Idealize.ShloMosaic Idealize.ShloMosaic.TcCoe Idealize.ShloMosaic.Tactic Idealize.SL.Sem
open Cert.Reference11Ideal.Read Cert.Kernel11Ideal.Gen
open Cert.Gate (half gate gate_div colA colB)

variable (dr : Vec Ideal S4096x2048 .bf16) (w : Vec Ideal S2048x2048 .bf16) (z : Vec Ideal S4096x10240 .bf16) (pa pb : Vec Ideal S4096x2048 .bf16)

theorem dpa_eq : val_main_v37 (F := Ideal) dr w z = branch dr w z colA := by
  funext y
  idx_vars y
  rw [← val_main_v37_eq]
  pointwise
  exact (mul_comm _ _).trans (congrArg (fun g : EReal => _ * g) (gate_div _))

theorem dpb_eq : val_main_v38 (F := Ideal) dr w z = branch dr w z colB := by
  funext y
  idx_vars y
  rw [← val_main_v38_eq]
  pointwise
  exact (mul_comm _ _).trans (congrArg (fun g : EReal => _ * g) (gate_div _))

theorem dga_eq : val_main_v39 (F := Ideal) dr w z pa = through dr w z pa colA := by
  funext y
  idx_vars y
  rw [← val_main_v39_eq]
  pointwise
  exact (congrArg (fun g : EReal => _ * (g * (1 - g))) (gate_div _)).trans (mul_assoc _ _ _).symm

theorem dgb_eq : val_main_v40 (F := Ideal) dr w z pb = through dr w z pb colB := by
  funext y
  idx_vars y
  rw [← val_main_v40_eq]
  pointwise
  exact (congrArg (fun g : EReal => _ * (g * (1 - g))) (gate_div _)).trans (mul_assoc _ _ _).symm

end Cert.Reference11Ideal
end
-- ==== Proof.UpIn.lean ====
/-
  The gradient back through one product of the merge: the kernel computes each block in one step.
-/
module
public import proofs.«01_k».proof.Proof.Gen.Kernel12Ideal.Value
public import proofs.«01_k».proof.Proof.Gen.Reference12Ideal.Read
public import Idealize.ShloMosaic.Lib.Pipeline.ValueKit
public import Idealize.ShloMosaic.Lib.Pointwise
@[expose] public section
set_option maxRecDepth 16384
noncomputable section
namespace Cert.Kernel12Ideal.Gen
open Idealize.ShloMosaic Idealize.ShloMosaic.TcCoe Idealize.ShloMosaic.Tactic Idealize.SL.Sem

/-- The gradient times the transposed weight. -/
def back (dp : Vec Ideal S4096x2048 .bf16) (w : Vec Ideal S2048x2048 .bf16) : Vec Ideal S4096x2048 .bf16 :=
  fun z => ∑ k : Fin 2048, dp (ix2 (z 0) k) * w (ix2 (z 1) k)

theorem pay1_at (dp w : Vec Ideal S1024x2048 .bf16) (i j : Fin 1024) :
    k0_pay1 dp w (ix2 i j) = ∑ k : Fin 2048, dp (ix2 i k) * w (ix2 j k) := by
  pointwise [k0_pay1]

variable (m : (ℓ : Loc nD τ sig) → Buf (Elt Ideal) ℓ)

def dBlk (c : Dev nD) (t : Fin cfg0.N) : Vec Ideal S1024x2048 .bf16 := iblk m c 0 t
def wBlk (c : Dev nD) (t : Fin cfg0.N) : Vec Ideal S1024x2048 .bf16 := iblk m c 1 t

theorem idx : ∀ t : Fin cfg0.N, win0_0.index t = ![t.val / 2, 0] ∧ win0_1.index t = ![t.val % 2, 0]
    ∧ win0_2.index t = ![t.val / 2, t.val % 2] := by decide +kernel

theorem arr (c : Dev nD) : ((dats m 0 c).arrAt 2 cfg0.N : Vec Ideal S4096x2048 .bf16) = back (V m c main_arg0) (V m c main_arg1) := by
  refine (dats m 0 c).arrAt_eq_of_covers 2 _ (by decide +kernel) fun t hf y => ?_
  blk_simp
  rw [after0_2]
  frame_out
  idx_vars y
  refine (pay1_at (dBlk m c t) (wBlk m c t) y0 y1).trans (Finset.sum_congr (M := EReal) rfl fun k _ => congrArg₂ (fun a b : EReal => a * b) ?_ ?_)
  · unfold dBlk
    blk_ext [iblk, V, (idx t).1, (idx t).2.2]
  · unfold wBlk
    blk_ext [iblk, V, (idx t).2.1, (idx t).2.2]

end Cert.Kernel12Ideal.Gen

namespace Cert.Reference12Ideal
open Idealize.ShloMosaic Idealize.ShloMosaic.TcCoe Idealize.ShloMosaic.Tactic Idealize.SL.Sem
open Cert.Reference12Ideal.Read

theorem val_eq (dp : Vec Ideal S4096x2048 .bf16) (w : Vec Ideal S2048x2048 .bf16) :
    val_main_v5 (F := Ideal) dp w = Cert.Kernel12Ideal.Gen.back dp w := by
  funext z
  idx_vars z
  rw [← val_main_v5_eq]
  pointwise
  rfl

end Cert.Reference12Ideal
end
-- ==== Proof.MixWgrad.lean ====
/-
  The gradients of the three square weights of the merge: the transposed input times the cotangent.
-/
module
public import proofs.«01_k».proof.Proof.Gen.Kernel13Ideal.Value
public import proofs.«01_k».proof.Proof.Gen.Reference13Ideal.Read
public import Idealize.ShloMosaic.Lib.Pipeline.ValueKit
public import Idealize.ShloMosaic.Lib.Pointwise
@[expose] public section
set_option maxRecDepth 16384
noncomputable section
namespace Cert.Kernel13Ideal.Gen
open Idealize.ShloMosaic Idealize.ShloMosaic.TcCoe Idealize.ShloMosaic.Tactic Idealize.SL.Sem

/-- The weight's gradient: entry (i, j) sums, over the positions, the input at i times the cotangent at j. -/
def gradW (x dy : Vec Ideal S4096x2048 .bf16) : Vec Ideal S2048x2048 .bf16 :=
  fun z => ∑ t : Fin 4096, x (ix2 t (z 0)) * dy (ix2 t (z 1))

theorem pay1_eq : k0_pay1 (F := Ideal) = fun _ => 0 := by
  funext z
  idx_vars z
  pointwise [k0_pay1]

theorem pay2_at (acc : Vec Ideal S1024x1024 .f32) (x dy : Vec Ideal S2048x1024 .bf16) (z : S1024x1024.Idx) :
    k0_pay2 acc x dy z = acc z + ∑ t : Fin 2048, x (ix2 t (z 0)) * dy (ix2 t (z 1)) := by
  idx_vars z
  pointwise [k0_pay2]

theorem pay3_at (acc : Vec Ideal S1024x1024 .f32) (z : S1024x1024.Idx) : k0_pay3 acc z = acc z := by
  idx_vars z
  pointwise [k0_pay3]

variable (m : (ℓ : Loc nD τ sig) → Buf (Elt Ideal) ℓ)

/-- The blocks that point `t` reads. -/
def xBlk (c : Dev nD) (t : Fin cfg0.N) : Vec Ideal S2048x1024 .bf16 := iblk m c 0 t
def yBlk (c : Dev nD) (t : Fin cfg0.N) : Vec Ideal S2048x1024 .bf16 := iblk m c 1 t

/-- What the scratch holds when a run of two points ends. -/
theorem sum_run (c : Dev nD) (t : Fin cfg0.N) (hr : t.val % 2 = 1) (z : S1024x1024.Idx) :
    (outsAt0 m c t.val t.isLt).2 z = 0 + ∑ s : Fin 2, ∑ k : Fin 2048,
      xBlk m c ⟨2 * (t.val / 2) + s.val, Pipeline.run_point_lt_of_flush t hr s⟩ (ix2 k (z 0))
        * yBlk m c ⟨2 * (t.val / 2) + s.val, Pipeline.run_point_lt_of_flush t hr s⟩ (ix2 k (z 1)) := by
  refine Pipeline.eq_sum_fin_of_reset_step_apply_of_flush (fun n h => (outsAt0 m c n h).2) 2 (fun _ => 0)
    (fun p z => ∑ k : Fin 2048, xBlk m c p (ix2 k (z 0)) * yBlk m c p (ix2 k (z 1))) (fun t h z => ?_) (fun t h z => ?_) t hr z
  · show (outsAt0 m c t.val t.isLt).2 z = _
    rw [outsAt0_A m c t h (by omega)]
    frame_out
    rw [pay2_at, pay1_eq]
    rfl
  · show (outsAt0 m c t.val t.isLt).2 z = _
    rw [outsAt0_B m c t h (by omega)]
    frame_out
    rw [pay2_at, (Memref.isWhole_whole cc0_scratch0).read_unread]
    rfl

/-- At such a point the output's block is the scratch. -/
theorem out_run (c : Dev nD) (t : Fin cfg0.N) (hr : t.val % 2 = 1) :
    (outsAt0 m c t.val t.isLt).1 = k0_pay3 (outsAt0 m c t.val t.isLt).2 := by
  rw [outsAt0_B m c t (by omega) hr]
  frame_out

theorem idx : ∀ t : Fin cfg0.N, win0_0.index t = ![t.val % 2, t.val / 4] ∧ win0_1.index t = ![t.val % 2, t.val / 2 % 2]
    ∧ win0_2.index t = ![t.val / 4, t.val / 2 % 2] := by decide +kernel

/-- The array the kernel leaves. -/
theorem arr (c : Dev nD) : ((dats m 0 c).arrAt 2 cfg0.N : Vec Ideal S2048x2048 .bf16) = gradW (V m c main_arg0) (V m c main_arg1) := by
  refine (dats m 0 c).arrAt_eq_of_covers 2 _ (by decide +kernel) fun t hf y => ?_
  have hr : t.val % 2 = 1 := (flush0_2 t).mp hf
  blk_simp
  rw [after0_2, out_run m c t hr]
  idx_vars y
  rw [pay3_at, sum_run m c t hr, zero_add]
  refine Fin.sum_mul_add_congr (fun s k hl => ?_)
  refine congrArg₂ (fun a b : EReal => a * b) ?_ ?_
  · unfold xBlk
    blk_ext [iblk, V, (idx _).1, (idx t).2.2]
  · unfold yBlk
    blk_ext [iblk, V, (idx _).2.1, (idx t).2.2]

end Cert.Kernel13Ideal.Gen

namespace Cert.Reference13Ideal
open Idealize.ShloMosaic Idealize.ShloMosaic.TcCoe Idealize.ShloMosaic.Tactic Idealize.SL.Sem
open Cert.Reference13Ideal.Read

theorem val_eq (x dy : Vec Ideal S4096x2048 .bf16) : val_main_v6 (F := Ideal) x dy = Cert.Kernel13Ideal.Gen.gradW x dy := by
  funext z
  idx_vars z
  rw [← val_main_v6_eq]
  pointwise
  exact Finset.sum_congr (M := EReal) rfl fun t _ => mul_comm _ _

end Cert.Reference13Ideal
end
-- ==== Proof.LayerNorm.lean ====
/-
  Layer normalization of one row: the normalized row, its reciprocal deviation, and the gradient back through it. The
  gradient by the chain rule is the one the kernels compute wherever the incoming gradient is finite.
-/
module
public import Idealize.ShloMosaic.Lib.Claim
public import Idealize.ShloMosaic.Lib.Pipeline.ValueKit
public import Idealize.ShloMosaic.Lib.Pointwise
@[expose] public section
set_option maxRecDepth 16384
noncomputable section
namespace Cert.Norm
open Idealize.ShloMosaic

/-- The row's length, the constant under the root, minus a half, and the residual's factor. -/
def wide : EReal := Ideal.ofBits .f32 0x45000000#32
def eps : EReal := Ideal.ofBits .f32 0x3727C5AC#32
def mhalf : EReal := Ideal.ofBits .f32 0xBF000000#32
def alpha : EReal := Ideal.ofBits .f32 0x3F9837F0#32

theorem wide_eq : wide = ((2048 : ℝ) : EReal) := by
  simp [wide, Ideal.ofBits, Ideal.ieee, -EReal.coe_mul]; norm_num
theorem mhalf_eq : mhalf = ((-(1 / 2) : ℝ) : EReal) := by
  simp [mhalf, Ideal.ofBits, Ideal.ieee, -EReal.coe_mul]; norm_num
theorem eps_eq : ∃ e : ℝ, 0 < e ∧ eps = (e : EReal) := by
  refine ⟨_, ?_, by simp [eps, Ideal.ofBits, Ideal.ieee, -EReal.coe_mul]; rfl⟩
  positivity
theorem alpha_eq : ∃ a : ℝ, alpha = (a : EReal) := ⟨_, by simp [alpha, Ideal.ofBits, Ideal.ieee, -EReal.coe_mul]; rfl⟩

def mean (f : Fin 2048 → EReal) : EReal := Ideal.div (∑ k, f k) wide
def cent (f : Fin 2048 → EReal) (j : Fin 2048) : EReal := f j - mean f
def spread (f : Fin 2048 → EReal) : EReal := mean (fun k => cent f k * cent f k) + eps
def rstd (f : Fin 2048 → EReal) : EReal := Ideal.rsqrt (spread f)
def xhat (f : Fin 2048 → EReal) (j : Fin 2048) : EReal := cent f j * rstd f

/-- The gradient as the kernels compute it. -/
def back (dx xh : Fin 2048 → EReal) (rs : EReal) (j : Fin 2048) : EReal :=
  rs * (dx j - mean dx - xh j * mean (fun k => dx k * xh k))

/-- The gradient by the chain rule: through the deviation, through the centered row, through the mean. -/
def pull (f dx : Fin 2048 → EReal) : EReal :=
  Ideal.div ((∑ k, cent f k * dx k) * (mhalf * Ideal.div (rstd f) (spread f))) wide
def part (f dx : Fin 2048 → EReal) (j : Fin 2048) : EReal := dx j * rstd f + cent f j * pull f dx + pull f dx * cent f j
def chain (f dx : Fin 2048 → EReal) (j : Fin 2048) : EReal := part f dx j + Ideal.div (∑ k, -part f dx k) wide

theorem sum_coe {ι : Type} (s : Finset ι) (f : ι → ℝ) : (∑ k ∈ s, (f k : EReal)) = ((∑ k ∈ s, f k : ℝ) : EReal) := by
  classical
  induction s using Finset.induction_on with
  | empty => simp
  | insert a s h ih => rw [Finset.sum_insert h, Finset.sum_insert h, ih, EReal.coe_add]

theorem div_coe (x y : ℝ) (h : y ≠ 0) : Ideal.div (x : EReal) (y : EReal) = ((x / y : ℝ) : EReal) := by
  unfold Ideal.div
  rw [if_neg (by exact_mod_cast h), div_eq_mul_inv, EReal.coe_mul, EReal.coe_inv]

theorem none_div (y : EReal) (h : y ≠ 0) : Ideal.div 0 y = 0 := by
  unfold Ideal.div
  rw [if_neg h, zero_mul]
theorem wide_ne : wide ≠ 0 := by rw [wide_eq]; norm_num

theorem mean_coe (f : Fin 2048 → ℝ) : mean (fun k => (f k : EReal)) = (((∑ k, f k) / 2048 : ℝ) : EReal) := by
  unfold mean
  rw [sum_coe, wide_eq, div_coe _ _ (by norm_num)]

/-! A row with an infinite entry: the reciprocal deviation is zero. -/

theorem sum_bot {ι : Type} (s : Finset ι) (f : ι → EReal) (k : ι) (hk : k ∈ s) (h : f k = ⊥) : ∑ k ∈ s, f k = ⊥ := by
  classical
  rw [← Finset.add_sum_erase s f hk, h, EReal.bot_add]

theorem sum_ne_bot {ι : Type} (s : Finset ι) (f : ι → EReal) (h : ∀ k, f k ≠ ⊥) : ∑ k ∈ s, f k ≠ ⊥ := by
  classical
  induction s using Finset.induction_on with
  | empty => simp
  | insert a s ha ih => rw [Finset.sum_insert ha]; exact fun e => (EReal.add_eq_bot_iff.mp e).elim (h a) ih

theorem sum_top {ι : Type} (s : Finset ι) (f : ι → EReal) (k : ι) (hk : k ∈ s) (h : f k = ⊤) (hb : ∀ k, f k ≠ ⊥) : ∑ k ∈ s, f k = ⊤ := by
  classical
  rw [← Finset.add_sum_erase s f hk, h, EReal.top_add_of_ne_bot (sum_ne_bot _ _ hb)]

theorem div_wide_top : Ideal.div ⊤ wide = ⊤ := by
  unfold Ideal.div
  rw [wide_eq, if_neg (by norm_num), ← EReal.coe_inv, EReal.top_mul_coe_of_pos (by norm_num)]
theorem div_wide_bot : Ideal.div ⊥ wide = ⊥ := by
  unfold Ideal.div
  rw [wide_eq, if_neg (by norm_num), ← EReal.coe_inv, EReal.bot_mul_coe_of_pos (by norm_num)]

theorem sq_cent (f : Fin 2048 → EReal) (k : Fin 2048) (h : f k = ⊤ ∨ f k = ⊥) (j : Fin 2048) : cent f j * cent f j = ⊤ := by
  unfold cent mean
  by_cases hb : ∃ i, f i = ⊥
  · obtain ⟨i, hi⟩ := hb
    rw [sum_bot _ f i (Finset.mem_univ _) hi, div_wide_bot]
    induction f j using EReal.rec <;> simp [sub_eq_add_neg]
  · have hb' : ∀ i, f i ≠ ⊥ := fun i e => hb ⟨i, e⟩
    rw [sum_top _ f k (Finset.mem_univ _) (h.resolve_right (hb' k)) hb', div_wide_top]
    simp [sub_eq_add_neg]

theorem spread_top (f : Fin 2048 → EReal) (k : Fin 2048) (h : f k = ⊤ ∨ f k = ⊥) : spread f = ⊤ := by
  obtain ⟨e, -, he⟩ := eps_eq
  unfold spread mean
  rw [sum_top _ _ k (Finset.mem_univ _) (sq_cent f k h k) (fun j => by rw [sq_cent f k h j]; simp), div_wide_top, he, EReal.top_add_coe]

theorem rstd_zero (f : Fin 2048 → EReal) (k : Fin 2048) (h : f k = ⊤ ∨ f k = ⊥) : rstd f = 0 := by
  unfold rstd
  rw [spread_top f k h]
  rfl

/-! A row of finite numbers. -/

/-- A row is of finite numbers, or has an infinite entry. -/
theorem split (f : Fin 2048 → EReal) : (∃ k, f k = ⊤ ∨ f k = ⊥) ∨ ∃ x : Fin 2048 → ℝ, f = fun k => (x k : EReal) := by
  by_cases h : ∃ k, f k = ⊤ ∨ f k = ⊥
  · exact .inl h
  · refine .inr ⟨fun k => (f k).toReal, funext fun k => (EReal.coe_toReal ?_ ?_).symm⟩
    · exact fun e => h ⟨k, .inl e⟩
    · exact fun e => h ⟨k, .inr e⟩

def rmean (x : Fin 2048 → ℝ) : ℝ := (∑ k, x k) / 2048
def rcent (x : Fin 2048 → ℝ) (j : Fin 2048) : ℝ := x j - rmean x

theorem cent_coe (x : Fin 2048 → ℝ) (j : Fin 2048) : cent (fun k => (x k : EReal)) j = (rcent x j : EReal) := by
  unfold cent
  rw [mean_coe, ← EReal.coe_sub]
  rfl

/-- The spread is a positive number, and the reciprocal deviation the reciprocal of its root. -/
theorem spread_coe (x : Fin 2048 → ℝ) : ∃ s : ℝ, 0 < s ∧ spread (fun k => (x k : EReal)) = (s : EReal) := by
  obtain ⟨e, pos, he⟩ := eps_eq
  refine ⟨rmean (fun k => rcent x k * rcent x k) + e, ?_, ?_⟩
  · have : 0 ≤ rmean (fun k => rcent x k * rcent x k) := div_nonneg (Finset.sum_nonneg fun k _ => mul_self_nonneg _) (by norm_num)
    linarith
  · unfold spread
    simp only [cent_coe, ← EReal.coe_mul]
    rw [mean_coe, he, ← EReal.coe_add]
    rfl

theorem rsqrt_coe (s : ℝ) (h : 0 < s) : Ideal.rsqrt (s : EReal) = (((Real.sqrt s)⁻¹ : ℝ) : EReal) := by
  show (if s < 0 then (⊥ : EReal) else if s = 0 then ⊤ else (((Real.sqrt s)⁻¹ : ℝ) : EReal)) = _
  rw [if_neg (not_lt.mpr h.le), if_neg h.ne']

theorem rstd_real (f : Fin 2048 → EReal) : ∃ r : ℝ, rstd f = (r : EReal) := by
  rcases split f with ⟨k, h⟩ | ⟨x, rfl⟩
  · exact ⟨0, rstd_zero f k h⟩
  · obtain ⟨s, pos, hs⟩ := spread_coe x
    exact ⟨(Real.sqrt s)⁻¹, by unfold rstd; rw [hs, rsqrt_coe s pos]⟩

theorem xhat_real (f : Fin 2048 → EReal) (j : Fin 2048) : ∃ r : ℝ, xhat f j = (r : EReal) := by
  rcases split f with ⟨k, h⟩ | ⟨x, rfl⟩
  · exact ⟨0, by unfold xhat; rw [rstd_zero f k h, mul_zero]; rfl⟩
  · obtain ⟨r, hr⟩ := rstd_real (fun k => (x k : EReal))
    exact ⟨rcent x j * r, by unfold xhat; rw [hr, cent_coe, ← EReal.coe_mul]⟩

theorem rcent_sum (x : Fin 2048 → ℝ) : ∑ k, rcent x k = 0 := by
  unfold rcent rmean
  rw [Finset.sum_sub_distrib, Finset.sum_const, Finset.card_univ, Fintype.card_fin, nsmul_eq_mul]
  push_cast
  ring

/-- The chain rule's gradient is the kernels'. -/
theorem chain_eq (f dx : Fin 2048 → EReal) (h : ∀ k, ∃ x : ℝ, dx k = (x : EReal)) : chain f dx = back dx (xhat f) (rstd f) := by
  funext j
  choose d hd using h
  obtain rfl : dx = fun k => (d k : EReal) := funext hd
  rcases split f with ⟨k, h⟩ | ⟨x, rfl⟩
  · have hp : pull f (fun k => (d k : EReal)) = 0 := by
      unfold pull
      rw [rstd_zero f k h, spread_top f k h, none_div ⊤ (by simp), mul_zero, mul_zero, none_div _ wide_ne]
    have hq : ∀ j, part f (fun k => (d k : EReal)) j = 0 := fun j => by
      unfold part
      rw [hp, rstd_zero f k h]
      simp
    unfold chain back
    rw [rstd_zero f k h, zero_mul]
    simp only [hq, neg_zero, Finset.sum_const_zero]
    rw [none_div _ wide_ne, add_zero]
  · obtain ⟨s, pos, hs⟩ := spread_coe x
    have hr : rstd (fun k => (x k : EReal)) = (((Real.sqrt s)⁻¹ : ℝ) : EReal) := by unfold rstd; rw [hs, rsqrt_coe s pos]
    generalize hq : (Real.sqrt s)⁻¹ = r at hr
    have hrs : r / s = r * r * r := by
      have h2 : Real.sqrt s * Real.sqrt s = s := Real.mul_self_sqrt pos.le
      have h3 : Real.sqrt s ≠ 0 := (Real.sqrt_pos.mpr pos).ne'
      rw [← hq]
      field_simp
      nlinarith [h2]
    have hp : pull (fun k => (x k : EReal)) (fun k => (d k : EReal))
        = (((∑ k, rcent x k * d k) * (-(1 / 2) * (r * r * r)) / 2048 : ℝ) : EReal) := by
      unfold pull
      simp only [cent_coe, ← EReal.coe_mul]
      rw [sum_coe, hr, hs, div_coe _ _ pos.ne', hrs, mhalf_eq, wide_eq, ← EReal.coe_mul, ← EReal.coe_mul, div_coe _ _ (by norm_num)]
    have hpart : ∀ j, part (fun k => (x k : EReal)) (fun k => (d k : EReal)) j
        = ((d j * r + 2 * rcent x j * ((∑ k, rcent x k * d k) * (-(1 / 2) * (r * r * r)) / 2048) : ℝ) : EReal) := fun j => by
      unfold part
      rw [hp, hr, cent_coe, ← EReal.coe_mul, ← EReal.coe_mul, ← EReal.coe_mul, ← EReal.coe_add, ← EReal.coe_add]
      congr 1
      ring
    unfold chain back xhat
    simp only [hpart, cent_coe, hr, ← EReal.coe_mul, ← EReal.coe_neg]
    rw [sum_coe, mean_coe, mean_coe, wide_eq, div_coe _ _ (by norm_num), ← EReal.coe_add, ← EReal.coe_mul, ← EReal.coe_sub, ← EReal.coe_sub, ← EReal.coe_mul]
    congr 1
    have e1 : ∑ k, d k * (rcent x k * r) = r * ∑ k, rcent x k * d k := by
      rw [Finset.mul_sum]
      exact Finset.sum_congr rfl fun k _ => by ring
    generalize hS : ∑ k, rcent x k * d k = S at e1 ⊢
    have e2 : ∑ k, -(d k * r + 2 * rcent x k * (S * (-(1 / 2) * (r * r * r)) / 2048)) = -(r * ∑ k, d k) := by
      rw [Finset.sum_neg_distrib, Finset.sum_add_distrib, ← Finset.sum_mul, ← Finset.sum_mul, ← Finset.mul_sum, rcent_sum]
      ring
    rw [e1, e2]
    ring
end Cert.Norm
end
-- ==== Proof.NormOut.lean ====
/-
  The output projection with the first residual sum and its layer normalization: the normalized row, its scaled and shifted form, and the
  reciprocal deviation.
-/
module
public import proofs.«01_k».proof.Proof.Gen.Kernel14Ideal.Value
public import proofs.«01_k».proof.Proof.Gen.Reference14Ideal.Read
public import proofs.«01_k».proof.Proof.LayerNorm
public import Idealize.ShloMosaic.Lib.Pipeline.ValueKit
public import Idealize.ShloMosaic.Lib.Pointwise
@[expose] public section
set_option maxRecDepth 16384
noncomputable section
namespace Cert.Kernel14Ideal.Gen
open Idealize.ShloMosaic Idealize.ShloMosaic.TcCoe Idealize.ShloMosaic.Tactic Idealize.SL.Sem
open Cert.Norm

/-- Row `i` of the residual sum, of the arrays and of one block. -/
def row (u : Vec Ideal S4096x2048 .bf16) (w : Vec Ideal S2048x2048 .bf16) (x : Vec Ideal S4096x2048 .f32) (b : Vec Ideal S1x2048 .f32) (i : Fin 4096) : Fin 2048 → EReal :=
  fun j => alpha * x (ix2 i j) + ∑ k : Fin 2048, u (ix2 i k) * w (ix2 k j) + b (ix2 (0 : Fin 1) j)
def rowB (u : Vec Ideal S512x2048 .bf16) (w : Vec Ideal S2048x2048 .bf16) (x : Vec Ideal S512x2048 .f32) (b : Vec Ideal S1x2048 .f32) (i : Fin 512) : Fin 2048 → EReal :=
  fun j => alpha * x (ix2 i j) + ∑ k : Fin 2048, u (ix2 i k) * w (ix2 k j) + b (ix2 (0 : Fin 1) j)

def normed (f : Fin 4096 → Fin 2048 → EReal) : Vec Ideal S4096x2048 .f32 := fun z => xhat (f (z 0)) (z 1)
def scaled (f : Fin 4096 → Fin 2048 → EReal) (g h : Vec Ideal S1x2048 .f32) : Vec Ideal S4096x2048 .bf16 :=
  fun z => xhat (f (z 0)) (z 1) * g (ix2 (0 : Fin 1) (z 1)) + h (ix2 (0 : Fin 1) (z 1))
def deviation (f : Fin 4096 → Fin 2048 → EReal) : Vec Ideal S4096x1 .f32 := fun z => rstd (f (z 0))

section Block
variable (u : Vec Ideal S512x2048 .bf16) (w : Vec Ideal S2048x2048 .bf16) (x : Vec Ideal S512x2048 .f32) (b g h : Vec Ideal S1x2048 .f32)
theorem pay1_at (i : Fin 512) (j : Fin 2048) : k0_pay1 u w x b (ix2 i j) = cent (rowB u w x b i) j := by
  pointwise [k0_pay1, cent, mean, rowB, wide, alpha]
theorem pay2_at (i : Fin 512) : k0_pay2 u w x b (ix2 i (0 : Fin 1)) = rstd (rowB u w x b i) := by
  unfold rstd spread mean
  simp only [← pay1_at]
  generalize e : k0_pay1 u w x b = y
  pointwise [k0_pay2, e, wide, eps]
theorem pay3_at (i : Fin 512) (j : Fin 2048) : k0_pay3 u w x b (ix2 i j) = xhat (rowB u w x b i) j := by
  unfold xhat
  rw [← pay1_at, ← pay2_at]
  generalize e : k0_pay1 u w x b = y
  generalize e' : k0_pay2 u w x b = y'
  pointwise [k0_pay3, e, e']
theorem pay4_at (i : Fin 512) (j : Fin 2048) :
    k0_pay4 u w x b g h (ix2 i j) = xhat (rowB u w x b i) j * g (ix2 (0 : Fin 1) j) + h (ix2 (0 : Fin 1) j) := by
  rw [← pay3_at]
  generalize e : k0_pay3 u w x b = y
  pointwise [k0_pay4, e]
end Block

variable (m : (ℓ : Loc nD τ sig) → Buf (Elt Ideal) ℓ)
def blk0 (c : Dev nD) (t : Fin cfg0.N) : Vec Ideal S512x2048 .bf16 := iblk m c 0 t
def blk1 (c : Dev nD) (t : Fin cfg0.N) : Vec Ideal S2048x2048 .bf16 := iblk m c 1 t
def blk2 (c : Dev nD) (t : Fin cfg0.N) : Vec Ideal S512x2048 .f32 := iblk m c 2 t
def blk3 (c : Dev nD) (t : Fin cfg0.N) : Vec Ideal S1x2048 .f32 := iblk m c 3 t
def blk4 (c : Dev nD) (t : Fin cfg0.N) : Vec Ideal S1x2048 .f32 := iblk m c 4 t
def blk5 (c : Dev nD) (t : Fin cfg0.N) : Vec Ideal S1x2048 .f32 := iblk m c 5 t

theorem idx : ∀ t : Fin cfg0.N, (win0_0.index t = ![t.val, 0] ∧ win0_1.index t = ![0, 0] ∧ win0_2.index t = ![t.val, 0] ∧ win0_3.index t = ![0, 0] ∧ win0_4.index t = ![0, 0] ∧ win0_5.index t = ![0, 0])
    ∧ (win0_6.index t = ![t.val, 0] ∧ win0_7.index t = ![t.val, 0] ∧ win0_8.index t = ![t.val, 0]) := by decide +kernel

theorem row_eq (c : Dev nD) (t : Fin cfg0.N) (i : Fin 512) (i' : Fin 4096) (hi : i'.val = t.val * 512 + i.val) :
    rowB (blk0 m c t) (blk1 m c t) (blk2 m c t) (blk3 m c t) i = row (V m c main_arg0) (V m c main_arg1) (V m c main_arg2) (V m c main_arg3) i' := by
  have hN : t.val < 8 := t.isLt
  funext j
  refine congrArg₂ (fun a b : EReal => a + b) (congrArg₂ (fun a b : EReal => a + b) (congrArg (fun a : EReal => alpha * a) ?_)
    (Finset.sum_congr (M := EReal) rfl fun k _ => congrArg₂ (fun a b : EReal => a * b) ?_ ?_)) ?_
  · unfold blk2
    blk_ext [iblk, (idx t).1.2.2.1]
  · unfold blk0
    blk_ext [iblk, (idx t).1.1]
  · unfold blk1
    blk_ext [iblk, (idx t).1.2.1]
  · unfold blk3
    blk_ext [iblk, (idx t).1.2.2.2.1]

theorem arr6 (c : Dev nD) : ((dats m 0 c).arrAt 6 cfg0.N : Vec Ideal S4096x2048 .f32) = normed (row (V m c main_arg0) (V m c main_arg1) (V m c main_arg2) (V m c main_arg3)) := by
  refine (dats m 0 c).arrAt_eq_of_covers 6 _ (by decide +kernel) fun t hf y => ?_
  blk_simp
  rw [after0_6]
  frame_out
  idx_vars y
  refine (pay3_at (blk0 m c t) (blk1 m c t) (blk2 m c t) (blk3 m c t) y0 y1).trans ?_
  exact congrArg₂ (fun (f : Fin 2048 → EReal) (j : Fin 2048) => xhat f j) (row_eq m c t y0 _ (by blk_simp [(idx t).2.1])) (by apply Fin.ext; blk_simp [(idx t).2.1])
theorem arr7 (c : Dev nD) : ((dats m 0 c).arrAt 7 cfg0.N : Vec Ideal S4096x2048 .bf16) = scaled (row (V m c main_arg0) (V m c main_arg1) (V m c main_arg2) (V m c main_arg3)) (V m c main_arg4) (V m c main_arg5) := by
  refine (dats m 0 c).arrAt_eq_of_covers 7 _ (by decide +kernel) fun t hf y => ?_
  blk_simp
  rw [after0_7]
  frame_out
  idx_vars y
  refine (pay4_at (blk0 m c t) (blk1 m c t) (blk2 m c t) (blk3 m c t) (blk4 m c t) (blk5 m c t) y0 y1).trans ?_
  refine congrArg₂ (fun a b : EReal => a + b) (congrArg₂ (fun a b : EReal => a * b) ?_ ?_) ?_
  · exact congrArg₂ (fun (f : Fin 2048 → EReal) (j : Fin 2048) => xhat f j) (row_eq m c t y0 _ (by blk_simp [(idx t).2.2.1])) (by apply Fin.ext; blk_simp [(idx t).2.2.1])
  · unfold blk4
    blk_ext [iblk, (idx t).1.2.2.2.2.1, (idx t).2.2.1]
  · unfold blk5
    blk_ext [iblk, (idx t).1.2.2.2.2.2, (idx t).2.2.1]
theorem arr8 (c : Dev nD) : ((dats m 0 c).arrAt 8 cfg0.N : Vec Ideal S4096x1 .f32) = deviation (row (V m c main_arg0) (V m c main_arg1) (V m c main_arg2) (V m c main_arg3)) := by
  refine (dats m 0 c).arrAt_eq_of_covers 8 _ (by decide +kernel) fun t hf y => ?_
  blk_simp
  rw [after0_8]
  frame_out
  idx_vars y
  obtain rfl : y1 = 0 := Subsingleton.elim _ _
  refine (pay2_at (blk0 m c t) (blk1 m c t) (blk2 m c t) (blk3 m c t) y0).trans ?_
  exact congrArg rstd (row_eq m c t y0 _ (by blk_simp [(idx t).2.2.2]))
/-- The three arrays, from the arguments alone. -/
theorem arr6_args (c : Dev nD) : ((dats m 0 c).arrAt 6 cfg0.N : Vec Ideal S4096x2048 .f32) = normed (row (m ((c : Thread nD τ).loc main_arg0)) (m ((c : Thread nD τ).loc main_arg1)) (m ((c : Thread nD τ).loc main_arg2)) (m ((c : Thread nD τ).loc main_arg3))) := by
  rw [arr6, V_main_arg0, V_main_arg1, V_main_arg2, V_main_arg3]
theorem arr7_args (c : Dev nD) : ((dats m 0 c).arrAt 7 cfg0.N : Vec Ideal S4096x2048 .bf16) = scaled (row (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) := by
  rw [arr7, V_main_arg0, V_main_arg1, V_main_arg2, V_main_arg3, V_main_arg4, V_main_arg5]
theorem arr8_args (c : Dev nD) : ((dats m 0 c).arrAt 8 cfg0.N : Vec Ideal S4096x1 .f32) = deviation (row (m ((c : Thread nD τ).loc main_arg0)) (m ((c : Thread nD τ).loc main_arg1)) (m ((c : Thread nD τ).loc main_arg2)) (m ((c : Thread nD τ).loc main_arg3))) := by
  rw [arr8, V_main_arg0, V_main_arg1, V_main_arg2, V_main_arg3]
end Cert.Kernel14Ideal.Gen

namespace Cert.Reference14Ideal
open Idealize.ShloMosaic Idealize.ShloMosaic.TcCoe Idealize.ShloMosaic.Tactic
open Cert.Reference14Ideal.Read Cert.Kernel14Ideal.Gen Cert.Norm

variable (u : Vec Ideal S4096x2048 .bf16) (w : Vec Ideal S2048x2048 .bf16) (x : Vec Ideal S4096x2048 .f32) (b g h : Vec Ideal S1x2048 .f32)
theorem row_at (i : Fin 4096) (j : Fin 2048) : val_main_v7 (F := Ideal) u w x b (ix2 i j) = row u w x b i j := by
  pointwise [val_main_v7, val_main_v6, val_main_v5, val_main_v4, val_main_v3, val_main_v2, val_main_v1, val_main_v0, val_main_cst, row, alpha]
  exact (add_assoc _ _ _).symm
theorem cent_at (i : Fin 4096) (j : Fin 2048) : val_main_v13 (F := Ideal) u w x b (ix2 i j) = cent (row u w x b i) j := by
  unfold cent mean
  simp only [← row_at]
  generalize e : val_main_v7 (F := Ideal) u w x b = y
  pointwise [val_main_v13, val_main_v12, val_main_v11, val_main_v10, val_main_v9, val_main_v8, val_main_cst_0, val_main_cst_1, e, wide]
theorem rstd_at (i : Fin 4096) : val_main_v21 (F := Ideal) u w x b (ix2 i (0 : Fin 1)) = rstd (row u w x b i) := by
  unfold rstd spread mean
  simp only [← cent_at]
  generalize e : val_main_v13 (F := Ideal) u w x b = y
  pointwise [val_main_v21, val_main_v20, val_main_v19, val_main_v18, val_main_v17, val_main_v16, val_main_v15, val_main_v14, val_main_cst_2, val_main_cst_3, val_main_cst_4, e, wide, eps]
theorem xhat_at (i : Fin 4096) (j : Fin 2048) : val_main_v23 (F := Ideal) u w x b (ix2 i j) = xhat (row u w x b i) j := by
  unfold xhat
  rw [← cent_at, ← rstd_at]
  generalize e : val_main_v13 (F := Ideal) u w x b = y
  generalize e' : val_main_v21 (F := Ideal) u w x b = y'
  pointwise [val_main_v23, val_main_v22, e, e']
theorem normed_eq : val_main_v23 (F := Ideal) u w x b = normed (row u w x b) := by
  funext z
  idx_vars z
  exact xhat_at u w x b z0 z1
theorem deviation_eq : val_main_v21 (F := Ideal) u w x b = deviation (row u w x b) := by
  funext z
  idx_vars z
  obtain rfl : z1 = 0 := Subsingleton.elim _ _
  exact rstd_at u w x b z0
theorem scaled_eq : val_main_v30 (F := Ideal) u w x b g h = scaled (row u w x b) g h := by
  funext z
  idx_vars z
  show _ = xhat (row u w x b z0) z1 * g (ix2 (0 : Fin 1) z1) + h (ix2 (0 : Fin 1) z1)
  rw [← xhat_at]
  change _ = val_main_v25 (F := Ideal) u w x b (ix2 z0 z1) * _ + _
  generalize e : val_main_v25 (F := Ideal) u w x b = y
  pointwise [val_main_v30, val_main_v29, val_main_v28, val_main_v27, val_main_v26, e]
end Cert.Reference14Ideal
end
-- ==== Proof.NormBack.lean ====
/-
  The kernel of the gradient back through the first layer normalization, from the two gradients that reach its output: the gradient of the
  sum that was normalized, in both precisions, and the column sums that are the gradients of the scale, of the shift and of the bias.
-/
module
public import proofs.«01_k».proof.Proof.Gen.Kernel15Ideal.Value
public import proofs.«01_k».proof.Proof.LayerNorm
public import Idealize.ShloMosaic.Lib.Pipeline.ValueKit
public import Idealize.ShloMosaic.Lib.Pointwise
@[expose] public section
set_option maxRecDepth 16384
noncomputable section
namespace Cert.Kernel15Ideal.Gen
open Idealize.ShloMosaic Idealize.ShloMosaic.TcCoe Idealize.ShloMosaic.Tactic Idealize.SL.Sem
open Cert.Norm

/-- What one row needs: the two gradients, the normalized row, the reciprocal deviation and the scale. -/
structure Pt where
  a : Fin 2048 → EReal
  s : Fin 2048 → EReal
  x : Fin 2048 → EReal
  rs : EReal
  g : Fin 2048 → EReal
/-- The gradient of the output, that of the normalized row, and that of the sum. -/
def Pt.dy (p : Pt) : Fin 2048 → EReal := fun k => p.a k + alpha * p.s k
def Pt.dx (p : Pt) : Fin 2048 → EReal := fun k => p.dy k * p.g k
def Pt.dr (p : Pt) : Fin 2048 → EReal := back p.dx p.x p.rs

def pt (a s x : Vec Ideal S4096x2048 .f32) (r : Vec Ideal S4096x1 .f32) (g : Vec Ideal S1x2048 .f32) (i : Fin 4096) : Pt :=
  ⟨fun k => a (ix2 i k), fun k => s (ix2 i k), fun k => x (ix2 i k), r (ix2 i (0 : Fin 1)), fun k => g (ix2 (0 : Fin 1) k)⟩
def ptB (a s x : Vec Ideal S256x2048 .f32) (r : Vec Ideal S256x1 .f32) (g : Vec Ideal S1x2048 .f32) (i : Fin 256) : Pt :=
  ⟨fun k => a (ix2 i k), fun k => s (ix2 i k), fun k => x (ix2 i k), r (ix2 i (0 : Fin 1)), fun k => g (ix2 (0 : Fin 1) k)⟩
/-- The same from the row before it is normalized. -/
def ptN (a s r : Vec Ideal S4096x2048 .f32) (g : Vec Ideal S1x2048 .f32) (i : Fin 4096) : Pt :=
  ⟨fun k => a (ix2 i k), fun k => s (ix2 i k), fun k => xhat (fun k => r (ix2 i k)) k, rstd (fun k => r (ix2 i k)), fun k => g (ix2 (0 : Fin 1) k)⟩

def dsum (p : Fin 4096 → Pt) : Vec Ideal S4096x2048 .f32 := fun z => (p (z 0)).dr (z 1)
def dsumH (p : Fin 4096 → Pt) : Vec Ideal S4096x2048 .bf16 := fun z => (p (z 0)).dr (z 1)
def dscale (p : Fin 4096 → Pt) : Vec Ideal S1x2048 .f32 := fun z => ∑ i : Fin 4096, (p i).dy (z 1) * (p i).x (z 1)
def dshift (p : Fin 4096 → Pt) : Vec Ideal S1x2048 .f32 := fun z => ∑ i : Fin 4096, (p i).dy (z 1)
def dbias (p : Fin 4096 → Pt) : Vec Ideal S1x2048 .f32 := fun z => ∑ i : Fin 4096, (p i).dr (z 1)

section Block
variable (a s x : Vec Ideal S256x2048 .f32) (r : Vec Ideal S256x1 .f32) (g : Vec Ideal S1x2048 .f32)

theorem pay7_at (i : Fin 256) (j : Fin 2048) : k0_pay7 a s (ix2 i j) = (ptB a s x r g i).dy j := by
  pointwise [k0_pay7, Pt.dy, ptB, alpha]
theorem pay8_at (i : Fin 256) (j : Fin 2048) : k0_pay8 a x s g r (ix2 i j) = (ptB a s x r g i).dr j := by
  unfold Pt.dr back mean Pt.dx
  simp only [← pay7_at]
  generalize h : k0_pay7 a s = y
  pointwise [k0_pay8, k0_pay6, h, wide, ptB]
theorem pay9_at (i : Fin 256) (j : Fin 2048) : k0_pay9 a x s g r (ix2 i j) = (ptB a s x r g i).dr j := by
  rw [← pay8_at]
  rfl
theorem pay10_at (j : Fin 2048) : k0_pay10 a x s (ix2 (0 : Fin 1) j) = ∑ i : Fin 256, (ptB a s x r g i).dy j * (ptB a s x r g i).x j := by
  simp only [← pay7_at]
  generalize h : k0_pay7 a s = y
  pointwise [k0_pay10, k0_pay6, h, ptB]
end Block

theorem pay1_at (v acc : Vec Ideal S1x2048 .f32) (j : Fin 2048) : k0_pay1 v acc (ix2 (0 : Fin 1) j) = acc (ix2 (0 : Fin 1) j) + v (ix2 (0 : Fin 1) j) := by
  pointwise [k0_pay1]
theorem pay2_at (v : Vec Ideal S256x2048 .f32) (j : Fin 2048) : k0_pay2 (F := Ideal) v (ix2 (0 : Fin 1) j) = ∑ i : Fin 256, v (ix2 i j) := by
  pointwise [k0_pay2]
theorem pay3_at (v : Vec Ideal S256x2048 .f32) (acc : Vec Ideal S1x2048 .f32) (j : Fin 2048) :
    k0_pay3 v acc (ix2 (0 : Fin 1) j) = acc (ix2 (0 : Fin 1) j) + ∑ i : Fin 256, v (ix2 i j) := by
  pointwise [k0_pay3, k0_pay2]
theorem pay4_at (v : Vec Ideal S256x2048 .f32) (j : Fin 2048) : k0_pay4 (F := Ideal) v (ix2 (0 : Fin 1) j) = ∑ i : Fin 256, v (ix2 i j) := by
  pointwise [k0_pay4]
theorem pay5_at (v : Vec Ideal S256x2048 .f32) (acc : Vec Ideal S1x2048 .f32) (j : Fin 2048) :
    k0_pay5 v acc (ix2 (0 : Fin 1) j) = acc (ix2 (0 : Fin 1) j) + ∑ i : Fin 256, v (ix2 i j) := by
  pointwise [k0_pay5, k0_pay4]

variable (m : (ℓ : Loc nD τ sig) → Buf (Elt Ideal) ℓ)

def blk0 (c : Dev nD) (t : Fin cfg0.N) : Vec Ideal S256x2048 .f32 := iblk m c 0 t
def blk1 (c : Dev nD) (t : Fin cfg0.N) : Vec Ideal S256x2048 .f32 := iblk m c 1 t
def blk2 (c : Dev nD) (t : Fin cfg0.N) : Vec Ideal S256x2048 .f32 := iblk m c 2 t
def blk3 (c : Dev nD) (t : Fin cfg0.N) : Vec Ideal S256x1 .f32 := iblk m c 3 t
def blk4 (c : Dev nD) (t : Fin cfg0.N) : Vec Ideal S1x2048 .f32 := iblk m c 4 t
/-- Row `i` of the blocks at point `t`, and of the arrays. -/
def at_ (c : Dev nD) (t : Fin cfg0.N) (i : Fin 256) : Pt := ptB (blk0 m c t) (blk1 m c t) (blk2 m c t) (blk3 m c t) (blk4 m c t) i
def pts (c : Dev nD) : Fin 4096 → Pt :=
  pt (V m c main_arg0) (V m c main_arg1) (V m c main_v15) (V m c main_v13) (V m c main_arg3)

theorem idx : ∀ t : Fin cfg0.N, (win0_0.index t = ![t.val, 0] ∧ win0_1.index t = ![t.val, 0] ∧ win0_2.index t = ![t.val, 0] ∧ win0_3.index t = ![t.val, 0] ∧ win0_4.index t = ![0, 0])
    ∧ (win0_5.index t = ![t.val, 0] ∧ win0_6.index t = ![t.val, 0])
    ∧ (win0_7.index t = ![0, 0] ∧ win0_8.index t = ![0, 0] ∧ win0_9.index t = ![0, 0]) := by decide +kernel

theorem pt_ext {p q : Pt} (h0 : ∀ k, p.a k = q.a k) (h1 : ∀ k, p.s k = q.s k) (h2 : ∀ k, p.x k = q.x k) (h3 : p.rs = q.rs)
    (h4 : ∀ k, p.g k = q.g k) : p = q := by
  cases p; cases q
  simp only [Pt.mk.injEq]
  exact ⟨funext h0, funext h1, funext h2, h3, funext h4⟩

theorem at_eq (c : Dev nD) (t : Fin cfg0.N) (i : Fin 256) (i' : Fin 4096) (hi : i'.val = t.val * 256 + i.val) : at_ m c t i = pts m c i' := by
  have hN : t.val < 16 := t.isLt
  refine pt_ext (fun k => ?_) (fun k => ?_) (fun k => ?_) ?_ (fun k => ?_) <;> dsimp only [at_, ptB, pts, pt]
  · unfold blk0
    blk_ext [iblk, (idx t).1.1]
  · unfold blk1
    blk_ext [iblk, (idx t).1.2.1]
  · unfold blk2
    blk_ext [iblk, (idx t).1.2.2.1]
  · unfold blk3
    blk_ext [iblk, (idx t).1.2.2.2.1]
  · unfold blk4
    blk_ext [iblk, (idx t).1.2.2.2.2]

theorem arr5 (c : Dev nD) : ((dats m 0 c).arrAt 5 cfg0.N : Vec Ideal S4096x2048 .f32) = dsum (pts m c) := by
  refine (dats m 0 c).arrAt_eq_of_covers 5 _ (by decide +kernel) fun t hf y => ?_
  have hN : t.val < 16 := t.isLt
  have out : (outsAt0 m c t.val t.isLt).1 = k0_pay8 (blk0 m c t) (blk2 m c t) (blk1 m c t) (blk4 m c t) (blk3 m c t) := by
    by_cases h : t.val % 16 = 0
    · rw [outsAt0_A m c t h (by omega) h (by omega) h (by omega)]
      frame_out
      rfl
    · rw [outsAt0_B m c t h (by omega) h (by omega) h (by omega)]
      frame_out
      rfl
  blk_simp
  rw [after0_5, out]
  idx_vars y
  rw [pay8_at]
  exact congrArg₂ Pt.dr (at_eq m c t y0 _ (by blk_simp [(idx t).2.1.1])) (by apply Fin.ext; blk_simp [(idx t).2.1.1])

theorem arr6 (c : Dev nD) : ((dats m 0 c).arrAt 6 cfg0.N : Vec Ideal S4096x2048 .bf16) = dsumH (pts m c) := by
  refine (dats m 0 c).arrAt_eq_of_covers 6 _ (by decide +kernel) fun t hf y => ?_
  have hN : t.val < 16 := t.isLt
  have out : (outsAt0 m c t.val t.isLt).2.1 = k0_pay9 (blk0 m c t) (blk2 m c t) (blk1 m c t) (blk4 m c t) (blk3 m c t) := by
    by_cases h : t.val % 16 = 0
    · rw [outsAt0_A m c t h (by omega) h (by omega) h (by omega)]
      frame_out
      rfl
    · rw [outsAt0_B m c t h (by omega) h (by omega) h (by omega)]
      frame_out
      rfl
  blk_simp
  rw [after0_6, out]
  idx_vars y
  rw [pay9_at]
  exact congrArg₂ Pt.dr (at_eq m c t y0 _ (by blk_simp [(idx t).2.1.2])) (by apply Fin.ext; blk_simp [(idx t).2.1.2])

/-- What the block of the scale holds after the last point. -/
theorem run7 (c : Dev nD) (t : Fin cfg0.N) (hr : t.val % 16 = 15) (z : S1x2048.Idx) :
    (outsAt0 m c t.val t.isLt).2.2.1 z = 0 + ∑ s : Fin 16, ∑ i : Fin 256,
      (fun p : Fin cfg0.N => (at_ m c p i).dy (z 1) * (at_ m c p i).x (z 1)) ⟨16 * (t.val / 16) + s.val, Pipeline.run_point_lt_of_flush t hr s⟩ := by
  refine Pipeline.eq_sum_fin_of_reset_step_apply_of_flush (fun n h => (outsAt0 m c n h).2.2.1) 16 (fun _ => 0)
    (fun p z => ∑ i : Fin 256, (at_ m c p i).dy (z 1) * (at_ m c p i).x (z 1)) (fun t h z => ?_) (fun t h z => ?_) t hr z
  · show (outsAt0 m c t.val t.isLt).2.2.1 z = _
    have hN : t.val < 16 := t.isLt
    rw [outsAt0_A m c t h (by omega) h (by omega) h (by omega)]
    frame_out
    idx_vars z
    obtain rfl : z0 = 0 := Subsingleton.elim _ _
    exact (pay10_at (blk0 m c t) (blk1 m c t) (blk2 m c t) (blk3 m c t) (blk4 m c t) z1).trans (zero_add _).symm
  · show (outsAt0 m c t.val t.isLt).2.2.1 z = _
    have hN : t.val < 16 := t.isLt
    rw [outsAt0_B m c t h (by omega) h (by omega) h (by omega)]
    frame_out
    idx_vars z
    obtain rfl : z0 = 0 := Subsingleton.elim _ _
    exact (pay1_at _ _ z1).trans (congrArg (_ + ·) (pay10_at (blk0 m c t) (blk1 m c t) (blk2 m c t) (blk3 m c t) (blk4 m c t) z1))

theorem arr7 (c : Dev nD) : ((dats m 0 c).arrAt 7 cfg0.N : Vec Ideal S1x2048 .f32) = dscale (pts m c) := by
  refine (dats m 0 c).arrAt_eq_of_covers 7 _ (by decide +kernel) fun t hf y => ?_
  have hN : t.val < 16 := t.isLt
  have hr : t.val % 16 = 15 := (flush0_7 t).mp hf
  blk_simp
  rw [after0_7]
  idx_vars y
  obtain rfl : y0 = 0 := Subsingleton.elim _ _
  rw [run7 m c t hr, zero_add]
  refine Fin.sum_mul_add_congr (fun s k hl => ?_)
  have e := at_eq m c ⟨16 * (t.val / 16) + s.val, Pipeline.run_point_lt_of_flush t hr s⟩ k ⟨s.val * 256 + k.val, hl⟩
    (by show s.val * 256 + k.val = (16 * (t.val / 16) + s.val) * 256 + k.val; omega)
  exact congrArg₂ (fun (p : Pt) (j : Fin 2048) => p.dy j * p.x j) e (by apply Fin.ext; blk_simp [(idx t).2.2.1])

/-- What the block of the shift holds after the last point. -/
theorem run8 (c : Dev nD) (t : Fin cfg0.N) (hr : t.val % 16 = 15) (z : S1x2048.Idx) :
    (outsAt0 m c t.val t.isLt).2.2.2.1 z = 0 + ∑ s : Fin 16, ∑ i : Fin 256,
      (fun p : Fin cfg0.N => (at_ m c p i).dy (z 1)) ⟨16 * (t.val / 16) + s.val, Pipeline.run_point_lt_of_flush t hr s⟩ := by
  refine Pipeline.eq_sum_fin_of_reset_step_apply_of_flush (fun n h => (outsAt0 m c n h).2.2.2.1) 16 (fun _ => 0)
    (fun p z => ∑ i : Fin 256, (at_ m c p i).dy (z 1)) (fun t h z => ?_) (fun t h z => ?_) t hr z
  · show (outsAt0 m c t.val t.isLt).2.2.2.1 z = _
    have hN : t.val < 16 := t.isLt
    rw [outsAt0_A m c t h (by omega) h (by omega) h (by omega)]
    frame_out
    idx_vars z
    obtain rfl : z0 = 0 := Subsingleton.elim _ _
    exact (((pay2_at _ z1).trans (Finset.sum_congr rfl fun i _ => pay7_at (blk0 m c t) (blk1 m c t) (blk2 m c t) (blk3 m c t) (blk4 m c t) i z1))).trans (zero_add _).symm
  · show (outsAt0 m c t.val t.isLt).2.2.2.1 z = _
    have hN : t.val < 16 := t.isLt
    rw [outsAt0_B m c t h (by omega) h (by omega) h (by omega)]
    frame_out
    idx_vars z
    obtain rfl : z0 = 0 := Subsingleton.elim _ _
    exact (pay3_at _ _ z1).trans (congrArg (_ + ·) (Finset.sum_congr rfl fun i _ => pay7_at (blk0 m c t) (blk1 m c t) (blk2 m c t) (blk3 m c t) (blk4 m c t) i z1))

theorem arr8 (c : Dev nD) : ((dats m 0 c).arrAt 8 cfg0.N : Vec Ideal S1x2048 .f32) = dshift (pts m c) := by
  refine (dats m 0 c).arrAt_eq_of_covers 8 _ (by decide +kernel) fun t hf y => ?_
  have hN : t.val < 16 := t.isLt
  have hr : t.val % 16 = 15 := (flush0_8 t).mp hf
  blk_simp
  rw [after0_8]
  idx_vars y
  obtain rfl : y0 = 0 := Subsingleton.elim _ _
  rw [run8 m c t hr, zero_add]
  refine Fin.sum_mul_add_congr (fun s k hl => ?_)
  have e := at_eq m c ⟨16 * (t.val / 16) + s.val, Pipeline.run_point_lt_of_flush t hr s⟩ k ⟨s.val * 256 + k.val, hl⟩
    (by show s.val * 256 + k.val = (16 * (t.val / 16) + s.val) * 256 + k.val; omega)
  exact congrArg₂ (fun (p : Pt) (j : Fin 2048) => p.dy j) e (by apply Fin.ext; blk_simp [(idx t).2.2.2.1])

/-- What the block of the bias holds after the last point. -/
theorem run9 (c : Dev nD) (t : Fin cfg0.N) (hr : t.val % 16 = 15) (z : S1x2048.Idx) :
    (outsAt0 m c t.val t.isLt).2.2.2.2 z = 0 + ∑ s : Fin 16, ∑ i : Fin 256,
      (fun p : Fin cfg0.N => (at_ m c p i).dr (z 1)) ⟨16 * (t.val / 16) + s.val, Pipeline.run_point_lt_of_flush t hr s⟩ := by
  refine Pipeline.eq_sum_fin_of_reset_step_apply_of_flush (fun n h => (outsAt0 m c n h).2.2.2.2) 16 (fun _ => 0)
    (fun p z => ∑ i : Fin 256, (at_ m c p i).dr (z 1)) (fun t h z => ?_) (fun t h z => ?_) t hr z
  · show (outsAt0 m c t.val t.isLt).2.2.2.2 z = _
    have hN : t.val < 16 := t.isLt
    rw [outsAt0_A m c t h (by omega) h (by omega) h (by omega)]
    frame_out
    idx_vars z
    obtain rfl : z0 = 0 := Subsingleton.elim _ _
    exact (((pay4_at _ z1).trans (Finset.sum_congr rfl fun i _ => pay8_at (blk0 m c t) (blk1 m c t) (blk2 m c t) (blk3 m c t) (blk4 m c t) i z1))).trans (zero_add _).symm
  · show (outsAt0 m c t.val t.isLt).2.2.2.2 z = _
    have hN : t.val < 16 := t.isLt
    rw [outsAt0_B m c t h (by omega) h (by omega) h (by omega)]
    frame_out
    idx_vars z
    obtain rfl : z0 = 0 := Subsingleton.elim _ _
    exact (pay5_at _ _ z1).trans (congrArg (_ + ·) (Finset.sum_congr rfl fun i _ => pay8_at (blk0 m c t) (blk1 m c t) (blk2 m c t) (blk3 m c t) (blk4 m c t) i z1))

theorem arr9 (c : Dev nD) : ((dats m 0 c).arrAt 9 cfg0.N : Vec Ideal S1x2048 .f32) = dbias (pts m c) := by
  refine (dats m 0 c).arrAt_eq_of_covers 9 _ (by decide +kernel) fun t hf y => ?_
  have hN : t.val < 16 := t.isLt
  have hr : t.val % 16 = 15 := (flush0_9 t).mp hf
  blk_simp
  rw [after0_9]
  idx_vars y
  obtain rfl : y0 = 0 := Subsingleton.elim _ _
  rw [run9 m c t hr, zero_add]
  refine Fin.sum_mul_add_congr (fun s k hl => ?_)
  have e := at_eq m c ⟨16 * (t.val / 16) + s.val, Pipeline.run_point_lt_of_flush t hr s⟩ k ⟨s.val * 256 + k.val, hl⟩
    (by show s.val * 256 + k.val = (16 * (t.val / 16) + s.val) * 256 + k.val; omega)
  exact congrArg₂ (fun (p : Pt) (j : Fin 2048) => p.dr j) e (by apply Fin.ext; blk_simp [(idx t).2.2.2.2])

/-- What the host finds: the normalized row, and the reciprocal deviation. -/
theorem xhat_found (c : Dev nD) (i : Fin 4096) (j : Fin 2048) :
    (V m c main_v15 : Vec Ideal S4096x2048 .f32) (ix2 i j) = xhat (fun k => ((m ((c.tc : Thread nD τ).loc main_arg2)) : Vec Ideal S4096x2048 .f32) (ix2 i k)) j := by
  simp only [V, hostOps0, List.flatten_cons, List.flatten_nil, List.append_nil, List.cons_append, List.nil_append]
  after_results_simp
  pointwise [xhat, cent, mean, rstd, spread, wide, eps]
theorem rstd_found (c : Dev nD) (i : Fin 4096) :
    (V m c main_v13 : Vec Ideal S4096x1 .f32) (ix2 i (0 : Fin 1)) = rstd (fun k => ((m ((c.tc : Thread nD τ).loc main_arg2)) : Vec Ideal S4096x2048 .f32) (ix2 i k)) := by
  simp only [V, hostOps0, List.flatten_cons, List.flatten_nil, List.append_nil, List.cons_append, List.nil_append]
  after_results_simp
  pointwise [cent, mean, rstd, spread, wide, eps]

/-- The same values over the arguments. -/
theorem pts_eq (c : Dev nD) : pts m c = ptN (m ((c.tc : Thread nD τ).loc main_arg0)) (m ((c.tc : Thread nD τ).loc main_arg1)) (m ((c.tc : Thread nD τ).loc main_arg2)) (m ((c.tc : Thread nD τ).loc main_arg3)) := by
  funext i
  unfold pts
  rw [V_main_arg0, V_main_arg1, V_main_arg3]
  exact pt_ext (fun _ => rfl) (fun _ => rfl) (fun k => xhat_found m c i k) (rstd_found m c i) (fun _ => rfl)

end Cert.Kernel15Ideal.Gen
end
-- ==== Proof.NormBackRef.lean ====
/-
  The gradient back through the first layer normalization, as the reference finds it.
-/
module
public import proofs.«01_k».proof.Proof.Gen.Reference15Ideal.Read
public import proofs.«01_k».proof.Proof.NormBack
@[expose] public section
set_option maxRecDepth 16384
noncomputable section
namespace Cert.Reference15Ideal.Read
open Idealize.ShloMosaic Idealize.ShloMosaic.TcCoe Idealize.ShloMosaic.Tactic
open Cert.Norm Cert.Kernel15Ideal.Gen

variable (a s r : Vec Ideal S4096x2048 .f32) (g : Vec Ideal S1x2048 .f32)

/-- Row `i` of what is normalized. -/
def row (i : Fin 4096) : Fin 2048 → EReal := fun k => r (ix2 i k)

theorem cent_at (i : Fin 4096) (j : Fin 2048) : val_main_v8 (F := Ideal) r (ix2 i j) = cent (row r i) j := by
  pointwise [val_main_v8, val_main_v7, val_main_v6, val_main_v5, val_main_v4, val_main_v3, val_main_v2, val_main_v1, val_main_v0, val_main_cst, val_main_cst_0, val_main_cst_1, cent, mean, row, wide]
theorem spread_at (i : Fin 4096) : val_main_v15 (F := Ideal) r (ix2 i (0 : Fin 1)) = spread (row r i) := by
  unfold spread mean
  simp only [← cent_at]
  generalize h : val_main_v8 (F := Ideal) r = y
  pointwise [val_main_v15, val_main_v14, val_main_v13, val_main_v12, val_main_v11, val_main_v10, val_main_v9, val_main_cst_2, val_main_cst_3, val_main_cst_4, h, wide, eps]
theorem rstd_at (i : Fin 4096) : val_main_v16 (F := Ideal) r (ix2 i (0 : Fin 1)) = rstd (row r i) := by
  unfold rstd
  rw [← spread_at]
  rfl
theorem xhat_at (i : Fin 4096) (j : Fin 2048) : val_main_v21 (F := Ideal) r (ix2 i j) = xhat (row r i) j := by
  unfold xhat
  rw [← cent_at, ← rstd_at]
  generalize h : val_main_v8 (F := Ideal) r = y
  generalize h' : val_main_v16 (F := Ideal) r = y'
  pointwise [val_main_v21, val_main_v20, h, h']
theorem dy_at (i : Fin 4096) (j : Fin 2048) : val_main_v30 (F := Ideal) a s (ix2 i j) = (ptN a s r g i).dy j := by
  pointwise [val_main_v30, val_main_v29, val_main_v28, val_main_cst_7, Pt.dy, ptN, alpha]
theorem dx_at (i : Fin 4096) (j : Fin 2048) : val_main_v38 (F := Ideal) a s g (ix2 i j) = (ptN a s r g i).dx j := by
  unfold Pt.dx
  rw [← dy_at]
  generalize h : val_main_v30 (F := Ideal) a s = y
  pointwise [val_main_v38, val_main_v37, val_main_v31, h, ptN]
theorem pull_at (i : Fin 4096) : val_main_v47 (F := Ideal) a s r g (ix1 i) = pull (row r i) (ptN a s r g i).dx := by
  unfold pull
  simp only [← dx_at, ← cent_at, ← rstd_at, ← spread_at]
  generalize h : val_main_v38 (F := Ideal) a s g = y
  generalize h1 : val_main_v8 (F := Ideal) r = y1
  generalize h2 : val_main_v16 (F := Ideal) r = y2
  generalize h3 : val_main_v15 (F := Ideal) r = y3
  pointwise [val_main_v47, val_main_v46, val_main_v45, val_main_v44, val_main_v41, val_main_v40, val_main_v39, val_main_v19, val_main_v18, val_main_v17, val_main_cst_5, val_main_cst_10, val_main_cst_11, val_main_cst_12, h, h1, h2, h3, wide, mhalf]
  exact Fin.sum_univ_one _
theorem part_at (i : Fin 4096) (j : Fin 2048) : val_main_v52 (F := Ideal) a s r g (ix2 i j) = part (row r i) (ptN a s r g i).dx j := by
  unfold part
  rw [← pull_at, ← dx_at, ← cent_at, ← rstd_at]
  generalize h : val_main_v38 (F := Ideal) a s g = y
  generalize h1 : val_main_v8 (F := Ideal) r = y1
  generalize h2 : val_main_v16 (F := Ideal) r = y2
  generalize h3 : val_main_v47 (F := Ideal) a s r g = y3
  pointwise [val_main_v52, val_main_v51, val_main_v50, val_main_v49, val_main_v48, val_main_v43, val_main_v42, h, h1, h2, h3]
theorem chain_at (i : Fin 4096) (j : Fin 2048) : val_main_v60 (F := Ideal) a s r g (ix2 i j) = chain (row r i) (ptN a s r g i).dx j := by
  unfold chain
  simp only [← part_at]
  generalize h : val_main_v52 (F := Ideal) a s r g = y
  pointwise [val_main_v60, val_main_v59, val_main_v58, val_main_v57, val_main_v56, val_main_v55, val_main_v54, val_main_v53, val_main_cst_13, val_main_cst_14, val_main_cst_15, h, wide]
  rw [Fin.sum_univ_one]

/-- The gradient of the scale and of the shift, of the sum in both precisions, and of the bias. -/
theorem scale_eq : val_main_v36 (F := Ideal) a s r = dscale (ptN a s r g) := by
  funext z
  idx_vars z
  show _ = ∑ i : Fin 4096, (ptN a s r g i).dy z1 * xhat (row r i) z1
  simp only [← dy_at, ← xhat_at]
  generalize h : val_main_v30 (F := Ideal) a s = y
  generalize h' : val_main_v21 (F := Ideal) r = y'
  pointwise [val_main_v36, val_main_v35, val_main_v34, val_main_v31, val_main_cst_9, h, h']
  exact Finset.sum_congr rfl fun k _ => mul_comm _ _
theorem shift_eq (r : Vec Ideal S4096x2048 .f32) (g : Vec Ideal S1x2048 .f32) : val_main_v33 (F := Ideal) a s = dshift (ptN a s r g) := by
  funext z
  idx_vars z
  show _ = ∑ i : Fin 4096, (ptN a s r g i).dy z1
  simp only [← dy_at]
  generalize h : val_main_v30 (F := Ideal) a s = y
  pointwise [val_main_v33, val_main_v32, val_main_cst_8, h]

section Finite
variable (ha : ∀ z, ∃ x : ℝ, a z = (x : EReal)) (hs : ∀ z, ∃ x : ℝ, s z = (x : EReal)) (hg : ∀ z, ∃ x : ℝ, g z = (x : EReal))
include ha hs hg
/-- The gradient of the normalized row is finite. -/
theorem dx_real (i : Fin 4096) (k : Fin 2048) : ∃ y : ℝ, (ptN a s r g i).dx k = (y : EReal) := by
  obtain ⟨u, eu⟩ := ha (ix2 i k)
  obtain ⟨v, ev⟩ := hs (ix2 i k)
  obtain ⟨w, ew⟩ := hg (ix2 (0 : Fin 1) k)
  obtain ⟨q, eq⟩ := alpha_eq
  refine ⟨(u + q * v) * w, ?_⟩
  show (a (ix2 i k) + alpha * s (ix2 i k)) * g (ix2 (0 : Fin 1) k) = _
  rw [eu, ev, ew, eq]
  norm_cast
theorem sum_at (i : Fin 4096) (j : Fin 2048) : val_main_v60 (F := Ideal) a s r g (ix2 i j) = (ptN a s r g i).dr j := by
  rw [chain_at, chain_eq _ _ (dx_real a s r g ha hs hg i)]
  rfl
theorem dsum_eq : val_main_v60 (F := Ideal) a s r g = dsum (ptN a s r g) := by
  funext z
  idx_vars z
  exact sum_at a s r g ha hs hg z0 z1
theorem dsumH_eq : val_main_v63 (F := Ideal) a s r g = dsumH (ptN a s r g) := by
  funext z
  idx_vars z
  exact sum_at a s r g ha hs hg z0 z1
theorem bias_eq : val_main_v62 (F := Ideal) a s r g = dbias (ptN a s r g) := by
  funext z
  idx_vars z
  show _ = ∑ i : Fin 4096, (ptN a s r g i).dr z1
  simp only [← sum_at a s r g ha hs hg]
  generalize h : val_main_v60 (F := Ideal) a s r g = y
  pointwise [val_main_v62, val_main_v61, val_main_cst_16, h]
end Finite
end Cert.Reference15Ideal.Read
end
-- ==== Proof.NormLoss.lean ====
/-
  The kernel of the loss and of the gradient back through the last layer normalization: the gradient of the sum that was normalized, and
  its column sums, those of the scale and of the shift, and the loss, all collected over the row blocks.
-/
module
public import proofs.«01_k».proof.Proof.Gen.Kernel16Ideal.Value
public import proofs.«01_k».proof.Proof.LayerNorm
public import proofs.«01_k».proof.Proof.Gate
public import Idealize.ShloMosaic.Lib.Pipeline.ValueKit
public import Idealize.ShloMosaic.Lib.Pointwise
@[expose] public section
set_option maxRecDepth 16384
noncomputable section
namespace Cert.Kernel16Ideal.Gen
open Idealize.ShloMosaic Idealize.ShloMosaic.TcCoe Idealize.ShloMosaic.Tactic Idealize.SL.Sem
open Cert.Norm
open Cert.Gate (half half_eq)

/-- One over the row's length. -/
def inv : EReal := Ideal.ofBits .f32 0x3A000000#32

theorem half_mul_sum {n : ℕ} (f : Fin n → EReal) : half * ∑ k, f k = ∑ k, half * f k := by
  have aux : ∀ s : Finset (Fin n), half * ∑ k ∈ s, f k = ∑ k ∈ s, half * f k := fun s => by
    classical
    induction s using Finset.induction_on with
    | empty => simp
    | insert a s h ih =>
      rw [Finset.sum_insert h, Finset.sum_insert h, ← ih]
      exact EReal.left_distrib_of_nonneg_of_ne_top (by rw [half_eq]; exact_mod_cast (by norm_num : (0 : ℝ) ≤ 1 / 2)) (by rw [half_eq]; exact EReal.coe_ne_top _) _ _
  exact aux _

/-- What one row needs: the summand, the row normalized before with its scale and shift, the bias, the scale and the shift,
    and the target. -/
structure Pt where
  a : Fin 2048 → EReal
  x : Fin 2048 → EReal
  g : Fin 2048 → EReal
  b : Fin 2048 → EReal
  f : Fin 2048 → EReal
  g2 : Fin 2048 → EReal
  b2 : Fin 2048 → EReal
  t : Fin 2048 → EReal
/-- The sum to be normalized. -/
def Pt.r (p : Pt) : Fin 2048 → EReal := fun k => alpha * (p.x k * p.g k + p.b k) + p.a k + p.f k
/-- The error, the gradient of the output, that of the normalized row, that of the sum, and the mean squared error. -/
def Pt.err (p : Pt) : Fin 2048 → EReal := fun k => xhat p.r k * p.g2 k + p.b2 k - p.t k
def Pt.dy (p : Pt) : Fin 2048 → EReal := fun k => p.err k * inv
def Pt.dx (p : Pt) : Fin 2048 → EReal := fun k => p.dy k * p.g2 k
def Pt.dr (p : Pt) : Fin 2048 → EReal := back p.dx (xhat p.r) (rstd p.r)
def Pt.loss (p : Pt) : EReal := mean (fun k => p.err k * p.err k)

def pt (a x : Vec Ideal S4096x2048 .f32) (g b f g2 b2 : Vec Ideal S1x2048 .f32) (t : Vec Ideal S4096x2048 .f32) (i : Fin 4096) : Pt :=
  ⟨fun k => a (ix2 i k), fun k => x (ix2 i k), fun k => g (ix2 (0 : Fin 1) k), fun k => b (ix2 (0 : Fin 1) k), fun k => f (ix2 (0 : Fin 1) k),
    fun k => g2 (ix2 (0 : Fin 1) k), fun k => b2 (ix2 (0 : Fin 1) k), fun k => t (ix2 i k)⟩
def ptB (a x : Vec Ideal S256x2048 .f32) (g b f g2 b2 : Vec Ideal S1x2048 .f32) (t : Vec Ideal S256x2048 .f32) (i : Fin 256) : Pt :=
  ⟨fun k => a (ix2 i k), fun k => x (ix2 i k), fun k => g (ix2 (0 : Fin 1) k), fun k => b (ix2 (0 : Fin 1) k), fun k => f (ix2 (0 : Fin 1) k),
    fun k => g2 (ix2 (0 : Fin 1) k), fun k => b2 (ix2 (0 : Fin 1) k), fun k => t (ix2 i k)⟩

def dsum (p : Fin 4096 → Pt) : Vec Ideal S4096x2048 .f32 := fun z => (p (z 0)).dr (z 1)
def dsumH (p : Fin 4096 → Pt) : Vec Ideal S4096x2048 .bf16 := fun z => (p (z 0)).dr (z 1)
def dscale (p : Fin 4096 → Pt) : Vec Ideal S1x2048 .f32 := fun z => ∑ i : Fin 4096, (p i).dy (z 1) * xhat (p i).r (z 1)
def dshift (p : Fin 4096 → Pt) : Vec Ideal S1x2048 .f32 := fun z => ∑ i : Fin 4096, (p i).dy (z 1)
def dbias (p : Fin 4096 → Pt) : Vec Ideal S1x2048 .f32 := fun z => ∑ i : Fin 4096, (p i).dr (z 1)
def loss (p : Fin 4096 → Pt) : Vec Ideal S1x128 .f32 := fun _ => ∑ i : Fin 4096, half * (p i).loss

section Block
variable (a x : Vec Ideal S256x2048 .f32) (g b f g2 b2 : Vec Ideal S1x2048 .f32) (t : Vec Ideal S256x2048 .f32)

theorem pay8_at (i : Fin 256) (j : Fin 2048) : k0_pay8 a x g b f (ix2 i j) = cent (ptB a x g b f g2 b2 t i).r j := by
  pointwise [k0_pay8, cent, mean, Pt.r, ptB, wide, alpha]
theorem pay9_at (i : Fin 256) : k0_pay9 a x g b f (ix2 i (0 : Fin 1)) = rstd (ptB a x g b f g2 b2 t i).r := by
  unfold rstd spread mean
  simp only [← pay8_at]
  generalize h : k0_pay8 a x g b f = y
  pointwise [k0_pay9, h, wide, eps]
theorem pay10_at (i : Fin 256) (j : Fin 2048) : k0_pay10 a x g b f (ix2 i j) = xhat (ptB a x g b f g2 b2 t i).r j := by
  unfold xhat
  rw [← pay8_at, ← pay9_at]
  generalize h : k0_pay8 a x g b f = y
  generalize h9 : k0_pay9 a x g b f = y9
  pointwise [k0_pay10, h, h9]
theorem pay12_at (i : Fin 256) (j : Fin 2048) : k0_pay12 (k0_pay11 a x g b f g2 b2) t (ix2 i j) = (ptB a x g b f g2 b2 t i).err j := by
  unfold Pt.err
  rw [← pay10_at]
  generalize h : k0_pay10 a x g b f = y
  pointwise [k0_pay12, k0_pay11, h, ptB]
theorem pay13_at : k0_pay13 (k0_pay11 a x g b f g2 b2) t (ix2 (0 : Fin 1) (0 : Fin 1)) = ∑ i : Fin 256, half * (ptB a x g b f g2 b2 t i).loss := by
  rw [← half_mul_sum]
  unfold Pt.loss mean
  simp only [← pay12_at]
  generalize k0_pay11 a x g b f g2 b2 = y11
  generalize h : k0_pay12 y11 t = y
  pointwise [k0_pay13, h, wide, half]
theorem pay14_at (i : Fin 256) (j : Fin 2048) : k0_pay14 (k0_pay11 a x g b f g2 b2) t (ix2 i j) = (ptB a x g b f g2 b2 t i).dy j := by
  unfold Pt.dy
  rw [← pay12_at]
  generalize k0_pay11 a x g b f g2 b2 = y11
  generalize h : k0_pay12 y11 t = y
  pointwise [k0_pay14, h, inv]
theorem pay15_at (i : Fin 256) (j : Fin 2048) :
    k0_pay15 (k0_pay9 a x g b f) (k0_pay10 a x g b f) g2 (k0_pay11 a x g b f g2 b2) t (ix2 i j) = (ptB a x g b f g2 b2 t i).dr j := by
  unfold Pt.dr back mean Pt.dx
  simp only [← pay14_at, ← pay10_at, ← pay9_at]
  generalize k0_pay9 a x g b f = y9
  generalize k0_pay10 a x g b f = y10
  generalize k0_pay11 a x g b f g2 b2 = y11
  generalize h : k0_pay14 y11 t = y
  pointwise [k0_pay15, h, wide, ptB]
theorem pay16_at (i : Fin 256) (j : Fin 2048) :
    k0_pay16 (k0_pay9 a x g b f) (k0_pay10 a x g b f) g2 (k0_pay11 a x g b f g2 b2) t (ix2 i j) = (ptB a x g b f g2 b2 t i).dr j := by
  rw [← pay15_at]
  rfl
theorem pay17_at (j : Fin 2048) :
    k0_pay17 (k0_pay10 a x g b f) (k0_pay11 a x g b f g2 b2) t (ix2 (0 : Fin 1) j)
      = ∑ i : Fin 256, (ptB a x g b f g2 b2 t i).dy j * xhat (ptB a x g b f g2 b2 t i).r j := by
  simp only [← pay14_at, ← pay10_at]
  generalize k0_pay10 a x g b f = y10
  generalize k0_pay11 a x g b f g2 b2 = y11
  generalize h : k0_pay14 y11 t = y
  pointwise [k0_pay17, h]
end Block

theorem pay1_at (v acc : Vec Ideal S1x2048 .f32) (j : Fin 2048) : k0_pay1 v acc (ix2 (0 : Fin 1) j) = acc (ix2 (0 : Fin 1) j) + v (ix2 (0 : Fin 1) j) := by
  pointwise [k0_pay1]
theorem pay2_at (v : Vec Ideal S256x2048 .f32) (j : Fin 2048) : k0_pay2 (F := Ideal) v (ix2 (0 : Fin 1) j) = ∑ i : Fin 256, v (ix2 i j) := by
  pointwise [k0_pay2]
theorem pay3_at (v : Vec Ideal S256x2048 .f32) (acc : Vec Ideal S1x2048 .f32) (j : Fin 2048) :
    k0_pay3 v acc (ix2 (0 : Fin 1) j) = acc (ix2 (0 : Fin 1) j) + ∑ i : Fin 256, v (ix2 i j) := by
  pointwise [k0_pay3, k0_pay2]
theorem pay4_at (v : Vec Ideal S256x2048 .f32) (j : Fin 2048) : k0_pay4 (F := Ideal) v (ix2 (0 : Fin 1) j) = ∑ i : Fin 256, v (ix2 i j) := by
  pointwise [k0_pay4]
theorem pay5_at (v : Vec Ideal S256x2048 .f32) (acc : Vec Ideal S1x2048 .f32) (j : Fin 2048) :
    k0_pay5 v acc (ix2 (0 : Fin 1) j) = acc (ix2 (0 : Fin 1) j) + ∑ i : Fin 256, v (ix2 i j) := by
  pointwise [k0_pay5, k0_pay4]
theorem pay6_at (v : Vec Ideal S1x1 .f32) (j : Fin 128) : k0_pay6 (F := Ideal) v (ix2 (0 : Fin 1) j) = v (ix2 (0 : Fin 1) (0 : Fin 1)) := by
  pointwise [k0_pay6]
theorem pay7_at (v : Vec Ideal S1x1 .f32) (acc : Vec Ideal S1x128 .f32) (j : Fin 128) :
    k0_pay7 v acc (ix2 (0 : Fin 1) j) = acc (ix2 (0 : Fin 1) j) + v (ix2 (0 : Fin 1) (0 : Fin 1)) := by
  pointwise [k0_pay7, k0_pay6]

variable (m : (ℓ : Loc nD τ sig) → Buf (Elt Ideal) ℓ)

def blk0 (c : Dev nD) (t : Fin cfg0.N) : Vec Ideal S256x2048 .f32 := iblk m c 0 t
def blk1 (c : Dev nD) (t : Fin cfg0.N) : Vec Ideal S256x2048 .f32 := iblk m c 1 t
def blk2 (c : Dev nD) (t : Fin cfg0.N) : Vec Ideal S1x2048 .f32 := iblk m c 2 t
def blk3 (c : Dev nD) (t : Fin cfg0.N) : Vec Ideal S1x2048 .f32 := iblk m c 3 t
def blk4 (c : Dev nD) (t : Fin cfg0.N) : Vec Ideal S1x2048 .f32 := iblk m c 4 t
def blk5 (c : Dev nD) (t : Fin cfg0.N) : Vec Ideal S1x2048 .f32 := iblk m c 5 t
def blk6 (c : Dev nD) (t : Fin cfg0.N) : Vec Ideal S1x2048 .f32 := iblk m c 6 t
def blk7 (c : Dev nD) (t : Fin cfg0.N) : Vec Ideal S256x2048 .f32 := iblk m c 7 t
/-- Row `i` of the blocks at point `t`, and of the arrays. -/
def at_ (c : Dev nD) (t : Fin cfg0.N) (i : Fin 256) : Pt :=
  ptB (blk0 m c t) (blk1 m c t) (blk2 m c t) (blk3 m c t) (blk4 m c t) (blk5 m c t) (blk6 m c t) (blk7 m c t) i
def pts (c : Dev nD) : Fin 4096 → Pt :=
  pt (V m c main_arg0) (V m c main_arg1) (V m c main_arg2) (V m c main_arg3) (V m c main_arg4) (V m c main_arg5) (V m c main_arg6) (V m c main_arg7)

/-- The same values over the arguments. -/
theorem pts_eq (c : Dev nD) : pts m c = pt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold pts
  rw [V_main_arg0, V_main_arg1, V_main_arg2, V_main_arg3, V_main_arg4, V_main_arg5, V_main_arg6, V_main_arg7]

theorem idx : ∀ t : Fin cfg0.N, (win0_0.index t = ![t.val, 0] ∧ win0_1.index t = ![t.val, 0] ∧ win0_7.index t = ![t.val, 0])
    ∧ (win0_2.index t = ![0, 0] ∧ win0_3.index t = ![0, 0] ∧ win0_4.index t = ![0, 0] ∧ win0_5.index t = ![0, 0] ∧ win0_6.index t = ![0, 0])
    ∧ (win0_8.index t = ![t.val, 0] ∧ win0_9.index t = ![t.val, 0])
    ∧ (win0_10.index t = ![0, 0] ∧ win0_11.index t = ![0, 0] ∧ win0_12.index t = ![0, 0] ∧ win0_13.index t = ![0, 0]) := by decide +kernel

theorem pt_ext {p q : Pt} (h0 : ∀ k, p.a k = q.a k) (h1 : ∀ k, p.x k = q.x k) (h2 : ∀ k, p.g k = q.g k) (h3 : ∀ k, p.b k = q.b k)
    (h4 : ∀ k, p.f k = q.f k) (h5 : ∀ k, p.g2 k = q.g2 k) (h6 : ∀ k, p.b2 k = q.b2 k) (h7 : ∀ k, p.t k = q.t k) : p = q := by
  cases p; cases q
  simp only [Pt.mk.injEq]
  exact ⟨funext h0, funext h1, funext h2, funext h3, funext h4, funext h5, funext h6, funext h7⟩

theorem at_eq (c : Dev nD) (t : Fin cfg0.N) (i : Fin 256) (i' : Fin 4096) (hi : i'.val = t.val * 256 + i.val) : at_ m c t i = pts m c i' := by
  have hN : t.val < 16 := t.isLt
  refine pt_ext (fun k => ?_) (fun k => ?_) (fun k => ?_) (fun k => ?_) (fun k => ?_) (fun k => ?_) (fun k => ?_) (fun k => ?_) <;> dsimp only [at_, ptB, pts, pt]
  · unfold blk0
    blk_ext [iblk, (idx t).1.1]
  · unfold blk1
    blk_ext [iblk, (idx t).1.2.1]
  · unfold blk2
    blk_ext [iblk, (idx t).2.1.1]
  · unfold blk3
    blk_ext [iblk, (idx t).2.1.2.1]
  · unfold blk4
    blk_ext [iblk, (idx t).2.1.2.2.1]
  · unfold blk5
    blk_ext [iblk, (idx t).2.1.2.2.2.1]
  · unfold blk6
    blk_ext [iblk, (idx t).2.1.2.2.2.2]
  · unfold blk7
    blk_ext [iblk, (idx t).1.2.2]

theorem arr8 (c : Dev nD) : ((dats m 0 c).arrAt 8 cfg0.N : Vec Ideal S4096x2048 .f32) = dsum (pts m c) := by
  refine (dats m 0 c).arrAt_eq_of_covers 8 _ (by decide +kernel) fun t hf y => ?_
  have hN : t.val < 16 := t.isLt
  have out : (outsAt0 m c t.val t.isLt).1 = k0_pay15 (k0_pay9 (blk0 m c t) (blk1 m c t) (blk2 m c t) (blk3 m c t) (blk4 m c t))
      (k0_pay10 (blk0 m c t) (blk1 m c t) (blk2 m c t) (blk3 m c t) (blk4 m c t)) (blk5 m c t)
      (k0_pay11 (blk0 m c t) (blk1 m c t) (blk2 m c t) (blk3 m c t) (blk4 m c t) (blk5 m c t) (blk6 m c t)) (blk7 m c t) := by
    by_cases h : t.val % 16 = 0
    · rw [outsAt0_A m c t h (by omega) h (by omega) h (by omega) h (by omega)]
      frame_out
      rfl
    · rw [outsAt0_B m c t h (by omega) h (by omega) h (by omega) h (by omega)]
      frame_out
      rfl
  blk_simp
  rw [after0_8, out]
  idx_vars y
  rw [pay15_at]
  exact congrArg₂ Pt.dr (at_eq m c t y0 _ (by blk_simp [(idx t).2.2.1.1])) (by apply Fin.ext; blk_simp [(idx t).2.2.1.1])

theorem arr9 (c : Dev nD) : ((dats m 0 c).arrAt 9 cfg0.N : Vec Ideal S4096x2048 .bf16) = dsumH (pts m c) := by
  refine (dats m 0 c).arrAt_eq_of_covers 9 _ (by decide +kernel) fun t hf y => ?_
  have hN : t.val < 16 := t.isLt
  have out : (outsAt0 m c t.val t.isLt).2.1 = k0_pay16 (k0_pay9 (blk0 m c t) (blk1 m c t) (blk2 m c t) (blk3 m c t) (blk4 m c t))
      (k0_pay10 (blk0 m c t) (blk1 m c t) (blk2 m c t) (blk3 m c t) (blk4 m c t)) (blk5 m c t)
      (k0_pay11 (blk0 m c t) (blk1 m c t) (blk2 m c t) (blk3 m c t) (blk4 m c t) (blk5 m c t) (blk6 m c t)) (blk7 m c t) := by
    by_cases h : t.val % 16 = 0
    · rw [outsAt0_A m c t h (by omega) h (by omega) h (by omega) h (by omega)]
      frame_out
      rfl
    · rw [outsAt0_B m c t h (by omega) h (by omega) h (by omega) h (by omega)]
      frame_out
      rfl
  blk_simp
  rw [after0_9, out]
  idx_vars y
  rw [pay16_at]
  exact congrArg₂ Pt.dr (at_eq m c t y0 _ (by blk_simp [(idx t).2.2.1.2])) (by apply Fin.ext; blk_simp [(idx t).2.2.1.2])

/-- What the block of the scale holds after the last point. -/
theorem run10 (c : Dev nD) (t : Fin cfg0.N) (hr : t.val % 16 = 15) (z : S1x2048.Idx) :
    (outsAt0 m c t.val t.isLt).2.2.1 z = 0 + ∑ s : Fin 16, ∑ i : Fin 256,
      (fun p : Fin cfg0.N => (at_ m c p i).dy (z 1) * xhat (at_ m c p i).r (z 1)) ⟨16 * (t.val / 16) + s.val, Pipeline.run_point_lt_of_flush t hr s⟩ := by
  refine Pipeline.eq_sum_fin_of_reset_step_apply_of_flush (fun n h => (outsAt0 m c n h).2.2.1) 16 (fun _ => 0)
    (fun p z => ∑ i : Fin 256, (at_ m c p i).dy (z 1) * xhat (at_ m c p i).r (z 1)) (fun t h z => ?_) (fun t h z => ?_) t hr z
  · show (outsAt0 m c t.val t.isLt).2.2.1 z = _
    have hN : t.val < 16 := t.isLt
    rw [outsAt0_A m c t h (by omega) h (by omega) h (by omega) h (by omega)]
    frame_out
    idx_vars z
    obtain rfl : z0 = 0 := Subsingleton.elim _ _
    exact (pay17_at (blk0 m c t) (blk1 m c t) (blk2 m c t) (blk3 m c t) (blk4 m c t) (blk5 m c t) (blk6 m c t) (blk7 m c t) z1).trans (zero_add _).symm
  · show (outsAt0 m c t.val t.isLt).2.2.1 z = _
    have hN : t.val < 16 := t.isLt
    rw [outsAt0_B m c t h (by omega) h (by omega) h (by omega) h (by omega)]
    frame_out
    idx_vars z
    obtain rfl : z0 = 0 := Subsingleton.elim _ _
    exact (pay1_at _ _ z1).trans (congrArg (_ + ·) (pay17_at (blk0 m c t) (blk1 m c t) (blk2 m c t) (blk3 m c t) (blk4 m c t) (blk5 m c t) (blk6 m c t) (blk7 m c t) z1))

theorem arr10 (c : Dev nD) : ((dats m 0 c).arrAt 10 cfg0.N : Vec Ideal S1x2048 .f32) = dscale (pts m c) := by
  refine (dats m 0 c).arrAt_eq_of_covers 10 _ (by decide +kernel) fun t hf y => ?_
  have hN : t.val < 16 := t.isLt
  have hr : t.val % 16 = 15 := (flush0_10 t).mp hf
  blk_simp
  rw [after0_10]
  idx_vars y
  obtain rfl : y0 = 0 := Subsingleton.elim _ _
  rw [run10 m c t hr, zero_add]
  refine Fin.sum_mul_add_congr (fun s k hl => ?_)
  have e := at_eq m c ⟨16 * (t.val / 16) + s.val, Pipeline.run_point_lt_of_flush t hr s⟩ k ⟨s.val * 256 + k.val, hl⟩
    (by show s.val * 256 + k.val = (16 * (t.val / 16) + s.val) * 256 + k.val; omega)
  exact congrArg₂ (fun (p : Pt) (j : Fin 2048) => p.dy j * xhat p.r j) e (by apply Fin.ext; blk_simp [(idx t).2.2.2.1])

/-- What the block of the shift holds after the last point. -/
theorem run11 (c : Dev nD) (t : Fin cfg0.N) (hr : t.val % 16 = 15) (z : S1x2048.Idx) :
    (outsAt0 m c t.val t.isLt).2.2.2.1 z = 0 + ∑ s : Fin 16, ∑ i : Fin 256,
      (fun p : Fin cfg0.N => (at_ m c p i).dy (z 1)) ⟨16 * (t.val / 16) + s.val, Pipeline.run_point_lt_of_flush t hr s⟩ := by
  refine Pipeline.eq_sum_fin_of_reset_step_apply_of_flush (fun n h => (outsAt0 m c n h).2.2.2.1) 16 (fun _ => 0)
    (fun p z => ∑ i : Fin 256, (at_ m c p i).dy (z 1)) (fun t h z => ?_) (fun t h z => ?_) t hr z
  · show (outsAt0 m c t.val t.isLt).2.2.2.1 z = _
    have hN : t.val < 16 := t.isLt
    rw [outsAt0_A m c t h (by omega) h (by omega) h (by omega) h (by omega)]
    frame_out
    idx_vars z
    obtain rfl : z0 = 0 := Subsingleton.elim _ _
    exact ((pay2_at _ z1).trans (Finset.sum_congr rfl fun i _ => pay14_at (blk0 m c t) (blk1 m c t) (blk2 m c t) (blk3 m c t) (blk4 m c t) (blk5 m c t) (blk6 m c t) (blk7 m c t) i z1)).trans (zero_add _).symm
  · show (outsAt0 m c t.val t.isLt).2.2.2.1 z = _
    have hN : t.val < 16 := t.isLt
    rw [outsAt0_B m c t h (by omega) h (by omega) h (by omega) h (by omega)]
    frame_out
    idx_vars z
    obtain rfl : z0 = 0 := Subsingleton.elim _ _
    exact (pay3_at _ _ z1).trans (congrArg (_ + ·) (Finset.sum_congr rfl fun i _ => pay14_at (blk0 m c t) (blk1 m c t) (blk2 m c t) (blk3 m c t) (blk4 m c t) (blk5 m c t) (blk6 m c t) (blk7 m c t) i z1))

theorem arr11 (c : Dev nD) : ((dats m 0 c).arrAt 11 cfg0.N : Vec Ideal S1x2048 .f32) = dshift (pts m c) := by
  refine (dats m 0 c).arrAt_eq_of_covers 11 _ (by decide +kernel) fun t hf y => ?_
  have hN : t.val < 16 := t.isLt
  have hr : t.val % 16 = 15 := (flush0_11 t).mp hf
  blk_simp
  rw [after0_11]
  idx_vars y
  obtain rfl : y0 = 0 := Subsingleton.elim _ _
  rw [run11 m c t hr, zero_add]
  refine Fin.sum_mul_add_congr (fun s k hl => ?_)
  have e := at_eq m c ⟨16 * (t.val / 16) + s.val, Pipeline.run_point_lt_of_flush t hr s⟩ k ⟨s.val * 256 + k.val, hl⟩
    (by show s.val * 256 + k.val = (16 * (t.val / 16) + s.val) * 256 + k.val; omega)
  exact congrArg₂ (fun (p : Pt) (j : Fin 2048) => p.dy j) e (by apply Fin.ext; blk_simp [(idx t).2.2.2.2.1])

/-- What the block of the bias holds after the last point. -/
theorem run12 (c : Dev nD) (t : Fin cfg0.N) (hr : t.val % 16 = 15) (z : S1x2048.Idx) :
    (outsAt0 m c t.val t.isLt).2.2.2.2.1 z = 0 + ∑ s : Fin 16, ∑ i : Fin 256,
      (fun p : Fin cfg0.N => (at_ m c p i).dr (z 1)) ⟨16 * (t.val / 16) + s.val, Pipeline.run_point_lt_of_flush t hr s⟩ := by
  refine Pipeline.eq_sum_fin_of_reset_step_apply_of_flush (fun n h => (outsAt0 m c n h).2.2.2.2.1) 16 (fun _ => 0)
    (fun p z => ∑ i : Fin 256, (at_ m c p i).dr (z 1)) (fun t h z => ?_) (fun t h z => ?_) t hr z
  · show (outsAt0 m c t.val t.isLt).2.2.2.2.1 z = _
    have hN : t.val < 16 := t.isLt
    rw [outsAt0_A m c t h (by omega) h (by omega) h (by omega) h (by omega)]
    frame_out
    idx_vars z
    obtain rfl : z0 = 0 := Subsingleton.elim _ _
    exact ((pay4_at _ z1).trans (Finset.sum_congr rfl fun i _ => pay15_at (blk0 m c t) (blk1 m c t) (blk2 m c t) (blk3 m c t) (blk4 m c t) (blk5 m c t) (blk6 m c t) (blk7 m c t) i z1)).trans (zero_add _).symm
  · show (outsAt0 m c t.val t.isLt).2.2.2.2.1 z = _
    have hN : t.val < 16 := t.isLt
    rw [outsAt0_B m c t h (by omega) h (by omega) h (by omega) h (by omega)]
    frame_out
    idx_vars z
    obtain rfl : z0 = 0 := Subsingleton.elim _ _
    exact (pay5_at _ _ z1).trans (congrArg (_ + ·) (Finset.sum_congr rfl fun i _ => pay15_at (blk0 m c t) (blk1 m c t) (blk2 m c t) (blk3 m c t) (blk4 m c t) (blk5 m c t) (blk6 m c t) (blk7 m c t) i z1))

theorem arr12 (c : Dev nD) : ((dats m 0 c).arrAt 12 cfg0.N : Vec Ideal S1x2048 .f32) = dbias (pts m c) := by
  refine (dats m 0 c).arrAt_eq_of_covers 12 _ (by decide +kernel) fun t hf y => ?_
  have hN : t.val < 16 := t.isLt
  have hr : t.val % 16 = 15 := (flush0_12 t).mp hf
  blk_simp
  rw [after0_12]
  idx_vars y
  obtain rfl : y0 = 0 := Subsingleton.elim _ _
  rw [run12 m c t hr, zero_add]
  refine Fin.sum_mul_add_congr (fun s k hl => ?_)
  have e := at_eq m c ⟨16 * (t.val / 16) + s.val, Pipeline.run_point_lt_of_flush t hr s⟩ k ⟨s.val * 256 + k.val, hl⟩
    (by show s.val * 256 + k.val = (16 * (t.val / 16) + s.val) * 256 + k.val; omega)
  exact congrArg₂ (fun (p : Pt) (j : Fin 2048) => p.dr j) e (by apply Fin.ext; blk_simp [(idx t).2.2.2.2.2.1])

/-- What the block of the loss holds after the last point. -/
theorem run13 (c : Dev nD) (t : Fin cfg0.N) (hr : t.val % 16 = 15) (z : S1x128.Idx) :
    (outsAt0 m c t.val t.isLt).2.2.2.2.2 z = 0 + ∑ s : Fin 16, ∑ i : Fin 256,
      (fun p : Fin cfg0.N => half * (at_ m c p i).loss) ⟨16 * (t.val / 16) + s.val, Pipeline.run_point_lt_of_flush t hr s⟩ := by
  refine Pipeline.eq_sum_fin_of_reset_step_apply_of_flush (fun n h => (outsAt0 m c n h).2.2.2.2.2) 16 (fun _ => 0)
    (fun p z => ∑ i : Fin 256, half * (at_ m c p i).loss) (fun t h z => ?_) (fun t h z => ?_) t hr z
  · show (outsAt0 m c t.val t.isLt).2.2.2.2.2 z = _
    have hN : t.val < 16 := t.isLt
    rw [outsAt0_A m c t h (by omega) h (by omega) h (by omega) h (by omega)]
    frame_out
    idx_vars z
    obtain rfl : z0 = 0 := Subsingleton.elim _ _
    exact ((pay6_at _ z1).trans (pay13_at (blk0 m c t) (blk1 m c t) (blk2 m c t) (blk3 m c t) (blk4 m c t) (blk5 m c t) (blk6 m c t) (blk7 m c t))).trans (zero_add _).symm
  · show (outsAt0 m c t.val t.isLt).2.2.2.2.2 z = _
    have hN : t.val < 16 := t.isLt
    rw [outsAt0_B m c t h (by omega) h (by omega) h (by omega) h (by omega)]
    frame_out
    idx_vars z
    obtain rfl : z0 = 0 := Subsingleton.elim _ _
    exact (pay7_at _ _ z1).trans (congrArg (_ + ·) (pay13_at (blk0 m c t) (blk1 m c t) (blk2 m c t) (blk3 m c t) (blk4 m c t) (blk5 m c t) (blk6 m c t) (blk7 m c t)))

theorem arr13 (c : Dev nD) : ((dats m 0 c).arrAt 13 cfg0.N : Vec Ideal S1x128 .f32) = loss (pts m c) := by
  refine (dats m 0 c).arrAt_eq_of_covers 13 _ (by decide +kernel) fun t hf y => ?_
  have hN : t.val < 16 := t.isLt
  have hr : t.val % 16 = 15 := (flush0_13 t).mp hf
  blk_simp
  rw [after0_13]
  idx_vars y
  obtain rfl : y0 = 0 := Subsingleton.elim _ _
  rw [run13 m c t hr, zero_add]
  refine Fin.sum_mul_add_congr (fun s k hl => ?_)
  have e := at_eq m c ⟨16 * (t.val / 16) + s.val, Pipeline.run_point_lt_of_flush t hr s⟩ k ⟨s.val * 256 + k.val, hl⟩
    (by show s.val * 256 + k.val = (16 * (t.val / 16) + s.val) * 256 + k.val; omega)
  exact congrArg (fun p : Pt => half * p.loss) e

end Cert.Kernel16Ideal.Gen
end
-- ==== Proof.NormLossRef.lean ====
/-
  The loss and the gradient back through the last layer normalization, as the reference finds them.
-/
module
public import proofs.«01_k».proof.Proof.Gen.Reference16Ideal.Read
public import proofs.«01_k».proof.Proof.NormLoss
@[expose] public section
set_option maxRecDepth 16384
noncomputable section
namespace Cert.Reference16Ideal.Read
open Idealize.ShloMosaic Idealize.ShloMosaic.TcCoe Idealize.ShloMosaic.Tactic
open Cert.Norm Cert.Kernel16Ideal.Gen
open Cert.Gate (half half_eq)

variable (a x : Vec Ideal S4096x2048 .f32) (g b f g2 b2 : Vec Ideal S1x2048 .f32) (t : Vec Ideal S4096x2048 .f32)

/-- Half a row's share of the mean, twice the error, is the error's share of the mean. -/
theorem err_const (e : EReal) : Ideal.div (Ideal.ofBits .f32 0x3F000000#32) (Ideal.ofBits .f32 0x45000000#32) * (Ideal.ofBits .f32 0x40000000#32 * e) = e * Ideal.ofBits .f32 0x3A000000#32 := by
  have h1 : Ideal.ofBits .f32 0x3F000000#32 = ((1 / 2 : ℝ) : EReal) := half_eq
  have h2 : Ideal.ofBits .f32 0x45000000#32 = ((2048 : ℝ) : EReal) := wide_eq
  have h3 : Ideal.ofBits .f32 0x40000000#32 = ((2 : ℝ) : EReal) := by simp [Ideal.ofBits, Ideal.ieee, -EReal.coe_mul]; norm_num
  have h4 : Ideal.ofBits .f32 0x3A000000#32 = ((1 / 2048 : ℝ) : EReal) := by simp [Ideal.ofBits, Ideal.ieee, -EReal.coe_mul]; norm_num
  rw [h1, h2, h3, h4, div_coe _ _ (by norm_num), ← mul_assoc, ← EReal.coe_mul, mul_comm]
  norm_num
theorem r_at (i : Fin 4096) (j : Fin 2048) : val_main_v16 (F := Ideal) a x g b f (ix2 i j) = (pt a x g b f g2 b2 t i).r j := by
  pointwise [val_main_v16, val_main_v15, val_main_v14, val_main_v13, val_main_v12, val_main_v11, val_main_v10, val_main_v9, val_main_v8, val_main_v7, val_main_v6, val_main_v5, val_main_v4, val_main_v3, val_main_v2, val_main_cst, Pt.r, pt, alpha]
  exact (add_assoc _ _ _).symm
theorem cent_at (i : Fin 4096) (j : Fin 2048) : val_main_v22 (F := Ideal) a x g b f (ix2 i j) = cent (pt a x g b f g2 b2 t i).r j := by
  unfold cent mean
  simp only [← r_at]
  generalize h : val_main_v16 (F := Ideal) a x g b f = y
  pointwise [val_main_v22, val_main_v21, val_main_v20, val_main_v19, val_main_v18, val_main_v17, val_main_cst_0, val_main_cst_1, h, wide]
theorem spread_at (i : Fin 4096) : val_main_v29 (F := Ideal) a x g b f (ix2 i (0 : Fin 1)) = spread (pt a x g b f g2 b2 t i).r := by
  unfold spread mean
  simp only [← cent_at]
  generalize h : val_main_v22 (F := Ideal) a x g b f = y
  pointwise [val_main_v29, val_main_v28, val_main_v27, val_main_v26, val_main_v25, val_main_v24, val_main_v23, val_main_cst_2, val_main_cst_3, val_main_cst_4, h, wide, eps]
theorem rstd_at (i : Fin 4096) : val_main_v30 (F := Ideal) a x g b f (ix2 i (0 : Fin 1)) = rstd (pt a x g b f g2 b2 t i).r := by
  unfold rstd
  rw [← spread_at]
  rfl
theorem xhat_at (i : Fin 4096) (j : Fin 2048) : val_main_v35 (F := Ideal) a x g b f (ix2 i j) = xhat (pt a x g b f g2 b2 t i).r j := by
  unfold xhat
  rw [← cent_at, ← rstd_at]
  generalize h : val_main_v22 (F := Ideal) a x g b f = y
  generalize h' : val_main_v30 (F := Ideal) a x g b f = y'
  pointwise [val_main_v35, val_main_v34, h, h']
theorem err_at (i : Fin 4096) (j : Fin 2048) : val_main_v42 (F := Ideal) a x g b f g2 b2 t (ix2 i j) = (pt a x g b f g2 b2 t i).err j := by
  unfold Pt.err
  rw [← xhat_at]
  generalize h : val_main_v35 (F := Ideal) a x g b f = y
  pointwise [val_main_v42, val_main_v41, val_main_v40, val_main_v39, val_main_v38, val_main_v37, val_main_v36, val_main_v1, val_main_v0, h, pt]
theorem dy_at (i : Fin 4096) (j : Fin 2048) : val_main_v56 (F := Ideal) a x g b f g2 b2 t (ix2 i j) = (pt a x g b f g2 b2 t i).dy j := by
  unfold Pt.dy
  rw [← err_at]
  generalize h : val_main_v42 (F := Ideal) a x g b f g2 b2 t = y
  pointwise [val_main_v56, val_main_v55, val_main_v54, val_main_v53, val_main_v52, val_main_v51, val_main_v45, val_main_v44, val_main_cst_6, val_main_cst_11, val_main_cst_12, val_main_cst_13, h, Cert.Kernel16Ideal.Gen.inv]
  exact err_const _
theorem dx_at (i : Fin 4096) (j : Fin 2048) : val_main_v64 (F := Ideal) a x g b f g2 b2 t (ix2 i j) = (pt a x g b f g2 b2 t i).dx j := by
  unfold Pt.dx
  rw [← dy_at]
  generalize h : val_main_v56 (F := Ideal) a x g b f g2 b2 t = y
  pointwise [val_main_v64, val_main_v63, val_main_v36, val_main_v0, h, pt]
theorem pull_at (i : Fin 4096) : val_main_v74 (F := Ideal) a x g b f g2 b2 t (ix1 i) = pull (pt a x g b f g2 b2 t i).r (pt a x g b f g2 b2 t i).dx := by
  unfold pull
  simp only [← dx_at, ← cent_at, ← rstd_at, ← spread_at]
  generalize h : val_main_v64 (F := Ideal) a x g b f g2 b2 t = y
  generalize h1 : val_main_v22 (F := Ideal) a x g b f = y1
  generalize h2 : val_main_v30 (F := Ideal) a x g b f = y2
  generalize h3 : val_main_v29 (F := Ideal) a x g b f = y3
  pointwise [val_main_v74, val_main_v73, val_main_v72, val_main_v71, val_main_v68, val_main_v67, val_main_v66, val_main_v33, val_main_v32, val_main_v31, val_main_cst_5, val_main_cst_18, val_main_cst_19, val_main_cst_20, h, h1, h2, h3, wide, mhalf]
  exact Fin.sum_univ_one _
theorem part_at (i : Fin 4096) (j : Fin 2048) : val_main_v79 (F := Ideal) a x g b f g2 b2 t (ix2 i j) = part (pt a x g b f g2 b2 t i).r (pt a x g b f g2 b2 t i).dx j := by
  unfold part
  rw [← pull_at, ← dx_at, ← cent_at, ← rstd_at]
  generalize h : val_main_v64 (F := Ideal) a x g b f g2 b2 t = y
  generalize h1 : val_main_v22 (F := Ideal) a x g b f = y1
  generalize h2 : val_main_v30 (F := Ideal) a x g b f = y2
  generalize h3 : val_main_v74 (F := Ideal) a x g b f g2 b2 t = y3
  pointwise [val_main_v79, val_main_v78, val_main_v77, val_main_v76, val_main_v75, val_main_v70, val_main_v69, h, h1, h2, h3]
theorem chain_at (i : Fin 4096) (j : Fin 2048) : val_main_v87 (F := Ideal) a x g b f g2 b2 t (ix2 i j) = chain (pt a x g b f g2 b2 t i).r (pt a x g b f g2 b2 t i).dx j := by
  unfold chain
  simp only [← part_at]
  generalize h : val_main_v79 (F := Ideal) a x g b f g2 b2 t = y
  pointwise [val_main_v87, val_main_v86, val_main_v85, val_main_v84, val_main_v83, val_main_v82, val_main_v81, val_main_v80, val_main_cst_21, val_main_cst_22, val_main_cst_23, h, wide]
  rw [Fin.sum_univ_one]

/-- The gradient of the sum, of the scale, of the shift and of the bias, and the loss. -/
theorem scale_eq : val_main_v92 (F := Ideal) a x g b f g2 b2 t = dscale (pt a x g b f g2 b2 t) := by
  funext z
  idx_vars z
  show _ = ∑ i : Fin 4096, (pt a x g b f g2 b2 t i).dy z1 * xhat (pt a x g b f g2 b2 t i).r z1
  simp only [← dy_at, ← xhat_at]
  generalize h : val_main_v56 (F := Ideal) a x g b f g2 b2 t = y
  generalize h' : val_main_v35 (F := Ideal) a x g b f = y'
  pointwise [val_main_v92, val_main_v65, val_main_v62, val_main_v61, val_main_v60, val_main_cst_16, val_main_cst_17, h, h']
  exact (Fin.sum_univ_one _).trans (Finset.sum_congr rfl fun k _ => mul_comm _ _)
theorem shift_eq : val_main_v93 (F := Ideal) a x g b f g2 b2 t = dshift (pt a x g b f g2 b2 t) := by
  funext z
  idx_vars z
  show _ = ∑ i : Fin 4096, (pt a x g b f g2 b2 t i).dy z1
  simp only [← dy_at]
  generalize h : val_main_v56 (F := Ideal) a x g b f g2 b2 t = y
  pointwise [val_main_v93, val_main_v59, val_main_v58, val_main_v57, val_main_cst_14, val_main_cst_15, h]
  exact Fin.sum_univ_one _
theorem loss_eq : val_main_v95 (F := Ideal) a x g b f g2 b2 t = loss (pt a x g b f g2 b2 t) := by
  funext z
  idx_vars z
  unfold loss Pt.loss mean
  rw [← half_mul_sum]
  simp only [← err_at]
  generalize h : val_main_v42 (F := Ideal) a x g b f g2 b2 t = y
  pointwise [val_main_v95, val_main_v50, val_main_v49, val_main_v48, val_main_v47, val_main_v46, val_main_v43, val_main_cst_7, val_main_cst_8, val_main_cst_9, val_main_cst_10, h, half, wide]

section Finite
variable (hg : ∀ z, ∃ x : ℝ, g2 z = (x : EReal)) (hb : ∀ z, ∃ x : ℝ, b2 z = (x : EReal)) (ht : ∀ z, ∃ x : ℝ, t z = (x : EReal))
include hg hb ht
/-- The gradient of the normalized row is finite. -/
theorem dx_real (i : Fin 4096) (k : Fin 2048) : ∃ y : ℝ, (pt a x g b f g2 b2 t i).dx k = (y : EReal) := by
  obtain ⟨h, eh⟩ := xhat_real (pt a x g b f g2 b2 t i).r k
  obtain ⟨u, eu⟩ := hg (ix2 (0 : Fin 1) k)
  obtain ⟨v, ev⟩ := hb (ix2 (0 : Fin 1) k)
  obtain ⟨w, ew⟩ := ht (ix2 i k)
  obtain ⟨q, eq⟩ : ∃ q : ℝ, Cert.Kernel16Ideal.Gen.inv = (q : EReal) := ⟨_, by simp [Cert.Kernel16Ideal.Gen.inv, Ideal.ofBits, Ideal.ieee, -EReal.coe_mul]; rfl⟩
  refine ⟨(h * u + v - w) * q * u, ?_⟩
  show (xhat (pt a x g b f g2 b2 t i).r k * g2 (ix2 (0 : Fin 1) k) + b2 (ix2 (0 : Fin 1) k) - t (ix2 i k)) * Cert.Kernel16Ideal.Gen.inv * g2 (ix2 (0 : Fin 1) k) = _
  rw [eh, eu, ev, ew, eq]
  norm_cast
theorem sum_at (i : Fin 4096) (j : Fin 2048) : val_main_v87 (F := Ideal) a x g b f g2 b2 t (ix2 i j) = (pt a x g b f g2 b2 t i).dr j := by
  rw [chain_at, chain_eq _ _ (dx_real a x g b f g2 b2 t hg hb ht i)]
  rfl
theorem dsum_eq : val_main_v87 (F := Ideal) a x g b f g2 b2 t = dsum (pt a x g b f g2 b2 t) := by
  funext z
  idx_vars z
  exact sum_at a x g b f g2 b2 t hg hb ht z0 z1
theorem dsumH_eq : val_main_v91 (F := Ideal) a x g b f g2 b2 t = dsumH (pt a x g b f g2 b2 t) := by
  funext z
  idx_vars z
  exact sum_at a x g b f g2 b2 t hg hb ht z0 z1
theorem bias_eq : val_main_v94 (F := Ideal) a x g b f g2 b2 t = dbias (pt a x g b f g2 b2 t) := by
  funext z
  idx_vars z
  show _ = ∑ i : Fin 4096, (pt a x g b f g2 b2 t i).dr z1
  simp only [← sum_at a x g b f g2 b2 t hg hb ht]
  generalize h : val_main_v87 (F := Ideal) a x g b f g2 b2 t = y
  pointwise [val_main_v94, val_main_v90, val_main_v89, val_main_v88, val_main_cst_24, val_main_cst_25, h]
  exact Fin.sum_univ_one _
end Finite
end Cert.Reference16Ideal.Read
end
-- ==== Proof.lean ====
/-
  The proof of the claims: both programs and the reference end with their arguments unchanged, and the kernel's
  three gradients are the reference's.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.BitsFrame
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Gen.ReferenceIdeal.Read
public import proofs.«01_k».proof.Proof.PoolPrefix
public import proofs.«01_k».proof.Proof.PoolFinite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Finite
public import proofs.«01_k».proof.Proof.Down
public import proofs.«01_k».proof.Proof.Wgrad1
public import proofs.«01_k».proof.Proof.Up
public import proofs.«01_k».proof.Proof.Wgrad2
public import proofs.«01_k».proof.Proof.FF2
public import proofs.«01_k».proof.Proof.FF1In
public import proofs.«01_k».proof.Proof.InGrad
public import proofs.«01_k».proof.Proof.Merge
public import proofs.«01_k».proof.Proof.OutIn
public import proofs.«01_k».proof.Proof.UpIn
public import proofs.«01_k».proof.Proof.MixWgrad
public import proofs.«01_k».proof.Proof.NormOut
public import proofs.«01_k».proof.Proof.NormBackRef
public import proofs.«01_k».proof.Proof.NormLossRef
public import Idealize.ShloMosaic.Adequacy
public import Idealize.ShloMosaic.Init

@[expose] public section

noncomputable section

namespace Cert.Proof

open Idealize.ShloMosaic Idealize.SL.Sem

/-- The reference ends with its arguments unchanged, and it declares no semaphore. -/
theorem frame_reference : Cert.quiescent_ReferenceIdeal := fun m ρ _ =>
  (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ)

section Gradients
open Cert.KernelIdeal (S4096x2048 S4x512x512 S1x2048)
open Cert.KernelIdeal.Gen (duAll dwAll dscAll)
open Cert.ReferenceIdeal.Pool (yOf wOf sOf dOf)

/-- The kernel's run: its three arrays, its arguments unchanged, every counter at zero. -/
theorem run_kernel (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r =>
      (∀ c : Dev Cert.KernelIdeal.nD,
        ((r.2.mem ((c.tc : Thread Cert.KernelIdeal.nD Cert.KernelIdeal.τ).loc Cert.KernelIdeal.main_v129_0) : Vec Ideal S4096x2048 .bf16) = duAll (Cert.KernelIdeal.Gen.V m c Cert.KernelIdeal.main_v128) (Cert.KernelIdeal.Gen.V m c Cert.KernelIdeal.main_arg1) (Cert.KernelIdeal.Gen.V m c Cert.KernelIdeal.main_arg2)
        ∧ (r.2.mem ((c.tc : Thread Cert.KernelIdeal.nD Cert.KernelIdeal.τ).loc Cert.KernelIdeal.main_v129_1) : Vec Ideal S4x512x512 .bf16) = dwAll (Cert.KernelIdeal.Gen.V m c Cert.KernelIdeal.main_v127) (Cert.KernelIdeal.Gen.V m c Cert.KernelIdeal.main_v128) (Cert.KernelIdeal.Gen.V m c Cert.KernelIdeal.main_arg2)
        ∧ (r.2.mem ((c.tc : Thread Cert.KernelIdeal.nD Cert.KernelIdeal.τ).loc Cert.KernelIdeal.main_v129_2) : Vec Ideal S1x2048 .f32) = dscAll (Cert.KernelIdeal.Gen.V m c Cert.KernelIdeal.main_v127) (Cert.KernelIdeal.Gen.V m c Cert.KernelIdeal.main_v128) (Cert.KernelIdeal.Gen.V m c Cert.KernelIdeal.main_arg1))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0) ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1) ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2) ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) := by
  refine (θ_run _ _ _).mono (fun r h => ⟨fun c => ⟨⟨?_, ?_, ?_⟩, ?_, ?_, ?_, ?_⟩, h.2⟩) (Cert.KernelIdeal.Gen.pool_launch m ρ)
  · exact ((h.1 c).1 4).trans (Cert.KernelIdeal.Gen.arr4 m c)
  · exact ((h.1 c).1 5).trans (Cert.KernelIdeal.Gen.arr5 m c)
  · exact ((h.1 c).1 6).trans (Cert.KernelIdeal.Gen.arr6 m c)
  · exact ((h.1 c).2 Cert.KernelIdeal.main_arg0 (Pipeline.mem_restRefs_of Cert.KernelIdeal.main_arg0 (by decide) (by decide))).trans (Cert.KernelIdeal.Gen.V_main_arg0 m c)
  · exact ((h.1 c).1 2).trans (((Cert.KernelIdeal.Gen.poolDats m 0 c).arrAt_in 2 rfl _).trans ((Cert.KernelIdeal.Gen.poolA_eq m c 2).trans (Cert.KernelIdeal.Gen.V_main_arg1 m c)))
  · exact ((h.1 c).1 3).trans (((Cert.KernelIdeal.Gen.poolDats m 0 c).arrAt_in 3 rfl _).trans ((Cert.KernelIdeal.Gen.poolA_eq m c 3).trans (Cert.KernelIdeal.Gen.V_main_arg2 m c)))
  · exact ((h.1 c).2 Cert.KernelIdeal.main_arg3 (Pipeline.mem_restRefs_of Cert.KernelIdeal.main_arg3 (by decide) (by decide))).trans (Cert.KernelIdeal.Gen.V_main_arg3 m c)

theorem frame_kernel : Cert.quiescent_KernelIdeal := fun m ρ _ =>
  (θ_run Cert.KernelIdeal.defs _ _).mono (fun _ h => ⟨fun c => (h.1 c).2, h.2⟩) (run_kernel m ρ)

attribute [local instance] Cert.Pre_finite_cotangent.facts

theorem algebraic : Cert.algebraic_KernelIdeal_ReferenceIdeal_pre_finite_cotangent := by
  intro m g m' g' hpre hag
  refine ⟨fun c => duAll (yOf (StableHlo.launchContents m' c)) (wOf (StableHlo.launchContents m' c)) (sOf (StableHlo.launchContents m' c)),
    fun c => dwAll (dOf (StableHlo.launchContents m' c)) (yOf (StableHlo.launchContents m' c)) (sOf (StableHlo.launchContents m' c)),
    fun c => dscAll (dOf (StableHlo.launchContents m' c)) (yOf (StableHlo.launchContents m' c)) (wOf (StableHlo.launchContents m' c)), ?_, ?_⟩
  · refine (θ_run _ _ _).mono (fun r h c => ?_) (run_kernel m g)
    obtain ⟨h0, h1, h2, h3⟩ := hag c
    obtain ⟨⟨e0, e1, e2⟩, args⟩ := h.1 c
    have ey := Cert.KernelIdeal.Gen.rows_found m m' c h3
    have ed := Cert.KernelIdeal.Gen.means_found m m' c h0
    have ew : (Cert.KernelIdeal.Gen.V m c Cert.KernelIdeal.main_arg1 : Vec Ideal S4x512x512 .bf16) = wOf (StableHlo.launchContents m' c) :=
      (Cert.KernelIdeal.Gen.V_main_arg1 m c).trans h1.symm
    have es : (Cert.KernelIdeal.Gen.V m c Cert.KernelIdeal.main_arg2 : Vec Ideal S1x2048 .f32) = sOf (StableHlo.launchContents m' c) :=
      (Cert.KernelIdeal.Gen.V_main_arg2 m c).trans h2.symm
    rw [ey, ew, es] at e0
    rw [ed, ey, es] at e1
    rw [ed, ey, ew] at e2
    exact ⟨e0, e1, e2, args⟩
  · refine (θ_run _ _ _).mono (fun r h c => ?_) (Cert.ReferenceIdeal.Value.run (F := Ideal) m' g')
    obtain ⟨h0, h1, h2, h3⟩ := hag c
    obtain ⟨fw, fs, fy⟩ := hpre c
    obtain ⟨r0, r1, r2, args⟩ := h c
    refine ⟨r0.trans (Cert.ReferenceIdeal.Pool.du_eq _ (fun z => ?_) (fun z => ?_) (fun z => ?_)), r1.trans (Cert.ReferenceIdeal.Pool.dw_eq _), r2.trans (Cert.ReferenceIdeal.Pool.dsc_eq _), args⟩
    · obtain ⟨x, hx⟩ := Cert.Pre_finite_cotangent.finite_y fy (ix3 (0 : Fin 1) (z 0) (z 1))
      exact ⟨x, (congrFun h3 _).trans hx⟩
    · obtain ⟨x, hx⟩ := Cert.Pre_finite_cotangent.finite_w fw z
      exact ⟨x, (congrFun h1 _).trans hx⟩
    · obtain ⟨x, hx⟩ := Cert.Pre_finite_cotangent.finite_s fs z
      exact ⟨x, (congrFun h2 _).trans hx⟩
end Gradients

attribute [local instance] Cert.Pre_finite_gradient.facts Cert.Pre_finite_target.facts

theorem frame_reference2 : Cert.quiescent_Reference2Ideal := fun m ρ _ =>
  (θ_run Cert.Reference2Ideal.defs _ _).mono
    (fun r h => ⟨fun c => (h c).2.2, Idealize.ShloMosaic.sem_eq_zero_of_no_sems (by decide) r.2⟩)
    (Cert.Reference2Ideal.Value.run (F := Ideal) m ρ)

/-- The cotangent under the squared rectifier, and the bias's gradient. -/
theorem algebraic2 : Cert.algebraic_Kernel2Ideal_Reference2Ideal := by
  intro m g m' g' _ hag
  refine ⟨fun c => (Cert.Kernel2Ideal.Gen.dats m 0 c).arrAt 3 Cert.Kernel2Ideal.cfg0.N, fun c => (Cert.Kernel2Ideal.Gen.dats m 0 c).arrAt 4 Cert.Kernel2Ideal.cfg0.N, Cert.Kernel2Ideal.Value.run_blocks m g,
    (θ_run _ _ _).mono (fun r h c => ?_) (Cert.Reference2Ideal.Value.run (F := Ideal) m' g')⟩
  obtain ⟨h0, h1, h2, h3, h4⟩ := hag c
  refine ⟨(h c).1.trans ((Cert.Reference2Ideal.Read.val_main_v24_eq _ _ _ _ _).trans ?_), (h c).2.1.trans ((Cert.Reference2Ideal.Read.val_main_v25_eq _ _ _ _ _).trans ?_), (h c).2.2⟩
  · rw [h0, h1, h2, h3, h4, Cert.Reference2Ideal.dpre_eq]
    exact (Cert.Kernel2Ideal.Gen.arr3_args m c).symm
  · rw [h0, h1, h2, h3, h4, Cert.Reference2Ideal.db_eq]
    exact (Cert.Kernel2Ideal.Gen.arr4_args m c).symm

theorem frame_reference3 : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- The gradient of the feed-forward's first weight. -/
theorem algebraic3 : Cert.algebraic_Kernel3Ideal_Reference3Ideal := by
  intro m g m' g' _ hag
  refine ⟨fun c => (Cert.Kernel3Ideal.Gen.dats m 0 c).arrAt 2 Cert.Kernel3Ideal.cfg0.N, Cert.Kernel3Ideal.Value.run_blocks m g,
    (θ_run _ _ _).mono (fun r h c => ?_) (Cert.Reference3Ideal.Value.run (F := Ideal) m' g')⟩
  obtain ⟨h0, h1⟩ := hag c
  refine ⟨(h c).1.trans ((Cert.Reference3Ideal.Read.val_main_v8_eq _ _).trans ?_), (h c).2⟩
  rw [h0, h1, Cert.Reference3Ideal.val_eq]
  exact (Cert.Kernel3Ideal.Gen.arr m c).symm

theorem frame_reference4 : Cert.quiescent_Reference4Ideal := fun m ρ _ =>
  (θ_run Cert.Reference4Ideal.defs _ _).mono
    (fun r h => ⟨fun c => (h c).2.2, Idealize.ShloMosaic.sem_eq_zero_of_no_sems (by decide) r.2⟩)
    (Cert.Reference4Ideal.Value.run (F := Ideal) m ρ)

/-- The squared rectifier and its slope. -/
theorem algebraic4 : Cert.algebraic_Kernel4Ideal_Reference4Ideal := by
  intro m g m' g' _ hag
  refine ⟨fun c => (Cert.Kernel4Ideal.Gen.dats m 0 c).arrAt 3 Cert.Kernel4Ideal.cfg0.N, fun c => (Cert.Kernel4Ideal.Gen.dats m 0 c).arrAt 4 Cert.Kernel4Ideal.cfg0.N, Cert.Kernel4Ideal.Value.run_blocks m g,
    (θ_run _ _ _).mono (fun r h c => ?_) (Cert.Reference4Ideal.Value.run (F := Ideal) m' g')⟩
  obtain ⟨h0, h1, h2⟩ := hag c
  refine ⟨(h c).1.trans ((Cert.Reference4Ideal.Read.val_main_v18_eq _ _ _).trans ?_), (h c).2.1.trans ((Cert.Reference4Ideal.Read.val_main_v19_eq _ _ _).trans ?_), (h c).2.2⟩
  · rw [h0, h1, h2, Cert.Reference4Ideal.hidden_eq]
    exact (Cert.Kernel4Ideal.Gen.arr3 m c).symm
  · rw [h0, h1, h2, Cert.Reference4Ideal.slope_eq]
    exact (Cert.Kernel4Ideal.Gen.arr4 m c).symm

theorem frame_reference5 : Cert.quiescent_Reference5Ideal := fun m ρ _ =>
  (θ_run Cert.Reference5Ideal.defs _ _).mono
    (fun r h => ⟨fun c => (h c).2, Idealize.ShloMosaic.sem_eq_zero_of_no_sems (by decide) r.2⟩)
    (Cert.Reference5Ideal.Value.run (F := Ideal) m ρ)

/-- The gradient of the feed-forward's second weight. -/
theorem algebraic5 : Cert.algebraic_Kernel5Ideal_Reference5Ideal := by
  intro m g m' g' _ hag
  refine ⟨fun c => (Cert.Kernel5Ideal.Gen.dats m 0 c).arrAt 2 Cert.Kernel5Ideal.cfg0.N, Cert.Kernel5Ideal.Value.run_blocks m g,
    (θ_run _ _ _).mono (fun r h c => ?_) (Cert.Reference5Ideal.Value.run (F := Ideal) m' g')⟩
  obtain ⟨h0, h1, h2, h3⟩ := hag c
  refine ⟨(h c).1.trans ((Cert.Reference5Ideal.Read.val_main_v12_eq _ _ _ _).trans ?_), (h c).2⟩
  rw [h0, h1, h2, h3, Cert.Reference5Ideal.val_eq]
  exact (Cert.Kernel5Ideal.Gen.arr_args m c).symm

theorem frame_reference6 : Cert.quiescent_Reference6Ideal := fun m ρ _ =>
  (θ_run Cert.Reference6Ideal.defs _ _).mono
    (fun r h => ⟨fun c => (h c).2, Idealize.ShloMosaic.sem_eq_zero_of_no_sems (by decide) r.2⟩)
    (Cert.Reference6Ideal.Value.run (F := Ideal) m ρ)

/-- The feed-forward's second product. -/
theorem algebraic6 : Cert.algebraic_Kernel6Ideal_Reference6Ideal := by
  intro m g m' g' _ hag
  refine ⟨fun c => (Cert.Kernel6Ideal.Gen.dats m 0 c).arrAt 2 Cert.Kernel6Ideal.cfg0.N, Cert.Kernel6Ideal.Value.run_blocks m g,
    (θ_run _ _ _).mono (fun r h c => ?_) (Cert.Reference6Ideal.Value.run (F := Ideal) m' g')⟩
  obtain ⟨h0, h1⟩ := hag c
  refine ⟨(h c).1.trans ((Cert.Reference6Ideal.Read.val_main_v2_eq _ _).trans ?_), (h c).2⟩
  rw [h0, h1, Cert.Reference6Ideal.val_eq]
  exact (Cert.Kernel6Ideal.Gen.arr m c).symm

theorem frame_reference7 : Cert.quiescent_Reference7Ideal := fun m ρ _ =>
  (θ_run Cert.Reference7Ideal.defs _ _).mono
    (fun r h => ⟨fun c => (h c).2, Idealize.ShloMosaic.sem_eq_zero_of_no_sems (by decide) r.2⟩)
    (Cert.Reference7Ideal.Value.run (F := Ideal) m ρ)

/-- The gradient back through the feed-forward's first product. -/
theorem algebraic7 : Cert.algebraic_Kernel7Ideal_Reference7Ideal := by
  intro m g m' g' _ hag
  refine ⟨fun c => (Cert.Kernel7Ideal.Gen.dats m 0 c).arrAt 2 Cert.Kernel7Ideal.cfg0.N, Cert.Kernel7Ideal.Value.run_blocks m g,
    (θ_run _ _ _).mono (fun r h c => ?_) (Cert.Reference7Ideal.Value.run (F := Ideal) m' g')⟩
  obtain ⟨h0, h1⟩ := hag c
  refine ⟨(h c).1.trans ((Cert.Reference7Ideal.Read.val_main_v6_eq _ _).trans ?_), (h c).2⟩
  rw [h0, h1, Cert.Reference7Ideal.val_eq]
  exact (Cert.Kernel7Ideal.Gen.arr m c).symm

theorem frame_reference8 : Cert.quiescent_Reference8Ideal := fun m ρ _ =>
  (θ_run Cert.Reference8Ideal.defs _ _).mono
    (fun r h => ⟨fun c => (h c).2, Idealize.ShloMosaic.sem_eq_zero_of_no_sems (by decide) r.2⟩)
    (Cert.Reference8Ideal.Value.run (F := Ideal) m ρ)

/-- The gradient with respect to the layer's input. -/
theorem algebraic8 : Cert.algebraic_Kernel8Ideal_Reference8Ideal := by
  intro m g m' g' _ hag
  refine ⟨fun c => (Cert.Kernel8Ideal.Gen.dats m 0 c).arrAt 3 Cert.Kernel8Ideal.cfg0.N, Cert.Kernel8Ideal.Value.run_blocks m g,
    (θ_run _ _ _).mono (fun r h c => ?_) (Cert.Reference8Ideal.Value.run (F := Ideal) m' g')⟩
  obtain ⟨h0, h1, h2⟩ := hag c
  refine ⟨(h c).1.trans ((Cert.Reference8Ideal.Read.val_main_v11_eq _ _ _).trans ?_), (h c).2⟩
  rw [h0, h1, h2, Cert.Reference8Ideal.val_eq]
  exact (Cert.Kernel8Ideal.Gen.arr m c).symm

theorem frame_reference10 : Cert.quiescent_Reference10Ideal := fun m ρ _ =>
  (θ_run Cert.Reference10Ideal.defs _ _).mono
    (fun r h => ⟨fun c => (h c).2.2.2, Idealize.ShloMosaic.sem_eq_zero_of_no_sems (by decide) r.2⟩)
    (Cert.Reference10Ideal.Value.run (F := Ideal) m ρ)

/-- The gated merge and the two products it saves. -/
theorem algebraic10 : Cert.algebraic_Kernel10Ideal_Reference10Ideal := by
  intro m g m' g' _ hag
  refine ⟨fun c => (Cert.Kernel10Ideal.Gen.dats m 0 c).arrAt 6 Cert.Kernel10Ideal.cfg0.N, fun c => (Cert.Kernel10Ideal.Gen.dats m 0 c).arrAt 7 Cert.Kernel10Ideal.cfg0.N, fun c => (Cert.Kernel10Ideal.Gen.dats m 0 c).arrAt 8 Cert.Kernel10Ideal.cfg0.N, Cert.Kernel10Ideal.Value.run_blocks m g,
    (θ_run _ _ _).mono (fun r h c => ?_) (Cert.Reference10Ideal.Value.run (F := Ideal) m' g')⟩
  obtain ⟨h0, h1, h2, h3, h4⟩ := hag c
  refine ⟨(h c).1.trans ((Cert.Reference10Ideal.Read.val_main_v25_eq _ _ _ _ _).trans ?_), (h c).2.1.trans ((Cert.Reference10Ideal.Read.val_main_v26_eq _ _).trans ?_), (h c).2.2.1.trans ((Cert.Reference10Ideal.Read.val_main_v27_eq _ _).trans ?_), (h c).2.2.2⟩
  · rw [h0, h1, h2, h3, h4, Cert.Reference10Ideal.m_eq]
    exact (Cert.Kernel10Ideal.Gen.arr6 m c).symm
  · rw [h0, h2, Cert.Reference10Ideal.pa_eq]
    exact (Cert.Kernel10Ideal.Gen.arr7 m c).symm
  · rw [h1, h3, Cert.Reference10Ideal.pb_eq]
    exact (Cert.Kernel10Ideal.Gen.arr8 m c).symm

theorem frame_reference11 : Cert.quiescent_Reference11Ideal := fun m ρ _ =>
  (θ_run Cert.Reference11Ideal.defs _ _).mono
    (fun r h => ⟨fun c => (h c).2.2.2.2, Idealize.ShloMosaic.sem_eq_zero_of_no_sems (by decide) r.2⟩)
    (Cert.Reference11Ideal.Value.run (F := Ideal) m ρ)

/-- The gradient back through the gated merge, to both branches and both gates. -/
theorem algebraic11 : Cert.algebraic_Kernel11Ideal_Reference11Ideal := by
  intro m g m' g' _ hag
  refine ⟨fun c => (Cert.Kernel11Ideal.Gen.dats m 0 c).arrAt 6 Cert.Kernel11Ideal.cfg0.N, fun c => (Cert.Kernel11Ideal.Gen.dats m 0 c).arrAt 7 Cert.Kernel11Ideal.cfg0.N, fun c => (Cert.Kernel11Ideal.Gen.dats m 0 c).arrAt 8 Cert.Kernel11Ideal.cfg0.N, fun c => (Cert.Kernel11Ideal.Gen.dats m 0 c).arrAt 9 Cert.Kernel11Ideal.cfg0.N, Cert.Kernel11Ideal.Value.run_blocks m g,
    (θ_run _ _ _).mono (fun r h c => ?_) (Cert.Reference11Ideal.Value.run (F := Ideal) m' g')⟩
  obtain ⟨h0, h1, h2, h3, h4⟩ := hag c
  refine ⟨(h c).1.trans ((Cert.Reference11Ideal.Read.val_main_v37_eq _ _ _).trans ?_), (h c).2.1.trans ((Cert.Reference11Ideal.Read.val_main_v38_eq _ _ _).trans ?_), (h c).2.2.1.trans ((Cert.Reference11Ideal.Read.val_main_v39_eq _ _ _ _).trans ?_), (h c).2.2.2.1.trans ((Cert.Reference11Ideal.Read.val_main_v40_eq _ _ _ _).trans ?_), (h c).2.2.2.2⟩
  · rw [h0, h1, h2, Cert.Reference11Ideal.dpa_eq]
    exact (Cert.Kernel11Ideal.Gen.arr6 m c).symm
  · rw [h0, h1, h2, Cert.Reference11Ideal.dpb_eq]
    exact (Cert.Kernel11Ideal.Gen.arr7 m c).symm
  · rw [h0, h1, h2, h3, Cert.Reference11Ideal.dga_eq]
    exact (Cert.Kernel11Ideal.Gen.arr8 m c).symm
  · rw [h0, h1, h2, h4, Cert.Reference11Ideal.dgb_eq]
    exact (Cert.Kernel11Ideal.Gen.arr9 m c).symm

theorem frame_reference12 : Cert.quiescent_Reference12Ideal := fun m ρ _ =>
  (θ_run Cert.Reference12Ideal.defs _ _).mono
    (fun r h => ⟨fun c => (h c).2, Idealize.ShloMosaic.sem_eq_zero_of_no_sems (by decide) r.2⟩)
    (Cert.Reference12Ideal.Value.run (F := Ideal) m ρ)

/-- The gradient back through one product of the merge. -/
theorem algebraic12 : Cert.algebraic_Kernel12Ideal_Reference12Ideal := by
  intro m g m' g' _ hag
  refine ⟨fun c => (Cert.Kernel12Ideal.Gen.dats m 0 c).arrAt 2 Cert.Kernel12Ideal.cfg0.N, Cert.Kernel12Ideal.Value.run_blocks m g,
    (θ_run _ _ _).mono (fun r h c => ?_) (Cert.Reference12Ideal.Value.run (F := Ideal) m' g')⟩
  obtain ⟨h0, h1⟩ := hag c
  refine ⟨(h c).1.trans ((Cert.Reference12Ideal.Read.val_main_v5_eq _ _).trans ?_), (h c).2⟩
  rw [h0, h1, Cert.Reference12Ideal.val_eq]
  exact (Cert.Kernel12Ideal.Gen.arr m c).symm

theorem frame_reference13 : Cert.quiescent_Reference13Ideal := fun m ρ _ =>
  (θ_run Cert.Reference13Ideal.defs _ _).mono
    (fun r h => ⟨fun c => (h c).2, Idealize.ShloMosaic.sem_eq_zero_of_no_sems (by decide) r.2⟩)
    (Cert.Reference13Ideal.Value.run (F := Ideal) m ρ)

/-- The gradient of a square weight. -/
theorem algebraic13 : Cert.algebraic_Kernel13Ideal_Reference13Ideal := by
  intro m g m' g' _ hag
  refine ⟨fun c => (Cert.Kernel13Ideal.Gen.dats m 0 c).arrAt 2 Cert.Kernel13Ideal.cfg0.N, Cert.Kernel13Ideal.Value.run_blocks m g,
    (θ_run _ _ _).mono (fun r h c => ?_) (Cert.Reference13Ideal.Value.run (F := Ideal) m' g')⟩
  obtain ⟨h0, h1⟩ := hag c
  refine ⟨(h c).1.trans ((Cert.Reference13Ideal.Read.val_main_v6_eq _ _).trans ?_), (h c).2⟩
  rw [h0, h1, Cert.Reference13Ideal.val_eq]
  exact (Cert.Kernel13Ideal.Gen.arr m c).symm

theorem frame_reference14 : Cert.quiescent_Reference14Ideal := fun m ρ _ =>
  (θ_run Cert.Reference14Ideal.defs _ _).mono
    (fun r h => ⟨fun c => (h c).2.2.2, Idealize.ShloMosaic.sem_eq_zero_of_no_sems (by decide) r.2⟩)
    (Cert.Reference14Ideal.Value.run (F := Ideal) m ρ)

/-- The output projection with the first normalization. -/
theorem algebraic14 : Cert.algebraic_Kernel14Ideal_Reference14Ideal := by
  intro m g m' g' _ hag
  refine ⟨fun c => (Cert.Kernel14Ideal.Gen.dats m 0 c).arrAt 6 Cert.Kernel14Ideal.cfg0.N, fun c => (Cert.Kernel14Ideal.Gen.dats m 0 c).arrAt 7 Cert.Kernel14Ideal.cfg0.N, fun c => (Cert.Kernel14Ideal.Gen.dats m 0 c).arrAt 8 Cert.Kernel14Ideal.cfg0.N, Cert.Kernel14Ideal.Value.run_blocks m g,
    (θ_run _ _ _).mono (fun r h c => ?_) (Cert.Reference14Ideal.Value.run (F := Ideal) m' g')⟩
  obtain ⟨h0, h1, h2, h3, h4, h5⟩ := hag c
  refine ⟨(h c).1.trans ((Cert.Reference14Ideal.Read.val_main_v23_eq m' c).trans ?_), (h c).2.1.trans ((Cert.Reference14Ideal.Read.val_main_v30_eq m' c).trans ?_), (h c).2.2.1.trans ((Cert.Reference14Ideal.Read.val_main_v21_eq _ _ _ _).trans ?_), (h c).2.2.2⟩
  · rw [h0, h1, h2, h3, Cert.Reference14Ideal.normed_eq]
    exact (Cert.Kernel14Ideal.Gen.arr6_args m c).symm
  · rw [h0, h1, h2, h3, h4, h5, Cert.Reference14Ideal.scaled_eq]
    exact (Cert.Kernel14Ideal.Gen.arr7_args m c).symm
  · rw [h0, h1, h2, h3, Cert.Reference14Ideal.deviation_eq]
    exact (Cert.Kernel14Ideal.Gen.arr8_args m c).symm

theorem frame_reference15 : Cert.quiescent_Reference15Ideal := fun m ρ _ =>
  (θ_run Cert.Reference15Ideal.defs _ _).mono
    (fun r h => ⟨fun c => (h c).2.2.2.2.2, Idealize.ShloMosaic.sem_eq_zero_of_no_sems (by decide) r.2⟩)
    (Cert.Reference15Ideal.Value.run (F := Ideal) m ρ)

/-- The gradient back through the first normalization. -/
theorem algebraic15 : Cert.algebraic_Kernel15Ideal_Reference15Ideal_pre_finite_gradient := by
  intro m g m' g' hpre hag
  refine ⟨fun c => (Cert.Kernel15Ideal.Gen.dats m 0 c).arrAt 5 Cert.Kernel15Ideal.cfg0.N, fun c => (Cert.Kernel15Ideal.Gen.dats m 0 c).arrAt 6 Cert.Kernel15Ideal.cfg0.N, fun c => (Cert.Kernel15Ideal.Gen.dats m 0 c).arrAt 7 Cert.Kernel15Ideal.cfg0.N, fun c => (Cert.Kernel15Ideal.Gen.dats m 0 c).arrAt 8 Cert.Kernel15Ideal.cfg0.N, fun c => (Cert.Kernel15Ideal.Gen.dats m 0 c).arrAt 9 Cert.Kernel15Ideal.cfg0.N, Cert.Kernel15Ideal.Value.run_blocks m g,
    (θ_run _ _ _).mono (fun r h c => ?_) (Cert.Reference15Ideal.Value.run (F := Ideal) m' g')⟩
  obtain ⟨h0, h1, h2, h3⟩ := hag c
  obtain ⟨f0, f1, f2⟩ := hpre c
  refine ⟨(h c).1.trans ((Cert.Reference15Ideal.Read.val_main_v60_eq m' c).trans ?_), (h c).2.1.trans ((Cert.Reference15Ideal.Read.val_main_v63_eq m' c).trans ?_), (h c).2.2.1.trans ((Cert.Reference15Ideal.Read.val_main_v36_eq _ _ _ ).trans ?_), (h c).2.2.2.1.trans ((Cert.Reference15Ideal.Read.val_main_v33_eq _ _ ).trans ?_), (h c).2.2.2.2.1.trans ((Cert.Reference15Ideal.Read.val_main_v62_eq m' c).trans ?_), (h c).2.2.2.2.2⟩
  · show Cert.Reference15Ideal.Read.val_main_v60 (F := Ideal) (m' ((c.tc : Thread Cert.Reference15Ideal.nD Cert.Reference15Ideal.τ).loc Cert.Reference15Ideal.main_arg0)) (m' ((c.tc : Thread Cert.Reference15Ideal.nD Cert.Reference15Ideal.τ).loc Cert.Reference15Ideal.main_arg1)) (m' ((c.tc : Thread Cert.Reference15Ideal.nD Cert.Reference15Ideal.τ).loc Cert.Reference15Ideal.main_arg2)) (m' ((c.tc : Thread Cert.Reference15Ideal.nD Cert.Reference15Ideal.τ).loc Cert.Reference15Ideal.main_arg3)) = _
    rw [h0, h1, h2, h3]
    refine (Cert.Reference15Ideal.Read.dsum_eq (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (Cert.Pre_finite_gradient.finite_mm f0) (Cert.Pre_finite_gradient.finite_sum f1) (Cert.Pre_finite_gradient.finite_scale f2)).trans ?_
    rw [← Cert.Kernel15Ideal.Gen.pts_eq m c]
    exact (Cert.Kernel15Ideal.Gen.arr5 m c).symm
  · show Cert.Reference15Ideal.Read.val_main_v63 (F := Ideal) (m' ((c.tc : Thread Cert.Reference15Ideal.nD Cert.Reference15Ideal.τ).loc Cert.Reference15Ideal.main_arg0)) (m' ((c.tc : Thread Cert.Reference15Ideal.nD Cert.Reference15Ideal.τ).loc Cert.Reference15Ideal.main_arg1)) (m' ((c.tc : Thread Cert.Reference15Ideal.nD Cert.Reference15Ideal.τ).loc Cert.Reference15Ideal.main_arg2)) (m' ((c.tc : Thread Cert.Reference15Ideal.nD Cert.Reference15Ideal.τ).loc Cert.Reference15Ideal.main_arg3)) = _
    rw [h0, h1, h2, h3]
    refine (Cert.Reference15Ideal.Read.dsumH_eq (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (Cert.Pre_finite_gradient.finite_mm f0) (Cert.Pre_finite_gradient.finite_sum f1) (Cert.Pre_finite_gradient.finite_scale f2)).trans ?_
    rw [← Cert.Kernel15Ideal.Gen.pts_eq m c]
    exact (Cert.Kernel15Ideal.Gen.arr6 m c).symm
  · show Cert.Reference15Ideal.Read.val_main_v36 (F := Ideal) (m' ((c.tc : Thread Cert.Reference15Ideal.nD Cert.Reference15Ideal.τ).loc Cert.Reference15Ideal.main_arg0)) (m' ((c.tc : Thread Cert.Reference15Ideal.nD Cert.Reference15Ideal.τ).loc Cert.Reference15Ideal.main_arg1)) (m' ((c.tc : Thread Cert.Reference15Ideal.nD Cert.Reference15Ideal.τ).loc Cert.Reference15Ideal.main_arg2)) = _
    rw [h0, h1, h2]
    refine (Cert.Reference15Ideal.Read.scale_eq (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) ).trans ?_
    rw [← Cert.Kernel15Ideal.Gen.pts_eq m c]
    exact (Cert.Kernel15Ideal.Gen.arr7 m c).symm
  · show Cert.Reference15Ideal.Read.val_main_v33 (F := Ideal) (m' ((c.tc : Thread Cert.Reference15Ideal.nD Cert.Reference15Ideal.τ).loc Cert.Reference15Ideal.main_arg0)) (m' ((c.tc : Thread Cert.Reference15Ideal.nD Cert.Reference15Ideal.τ).loc Cert.Reference15Ideal.main_arg1)) = _
    rw [h0, h1]
    refine (Cert.Reference15Ideal.Read.shift_eq (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) ).trans ?_
    rw [← Cert.Kernel15Ideal.Gen.pts_eq m c]
    exact (Cert.Kernel15Ideal.Gen.arr8 m c).symm
  · show Cert.Reference15Ideal.Read.val_main_v62 (F := Ideal) (m' ((c.tc : Thread Cert.Reference15Ideal.nD Cert.Reference15Ideal.τ).loc Cert.Reference15Ideal.main_arg0)) (m' ((c.tc : Thread Cert.Reference15Ideal.nD Cert.Reference15Ideal.τ).loc Cert.Reference15Ideal.main_arg1)) (m' ((c.tc : Thread Cert.Reference15Ideal.nD Cert.Reference15Ideal.τ).loc Cert.Reference15Ideal.main_arg2)) (m' ((c.tc : Thread Cert.Reference15Ideal.nD Cert.Reference15Ideal.τ).loc Cert.Reference15Ideal.main_arg3)) = _
    rw [h0, h1, h2, h3]
    refine (Cert.Reference15Ideal.Read.bias_eq (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (Cert.Pre_finite_gradient.finite_mm f0) (Cert.Pre_finite_gradient.finite_sum f1) (Cert.Pre_finite_gradient.finite_scale f2)).trans ?_
    rw [← Cert.Kernel15Ideal.Gen.pts_eq m c]
    exact (Cert.Kernel15Ideal.Gen.arr9 m c).symm

theorem frame_reference16 : Cert.quiescent_Reference16Ideal := fun m ρ _ =>
  (θ_run Cert.Reference16Ideal.defs _ _).mono
    (fun r h => ⟨fun c => (h c).2.2.2.2.2.2, Idealize.ShloMosaic.sem_eq_zero_of_no_sems (by decide) r.2⟩)
    (Cert.Reference16Ideal.Value.run (F := Ideal) m ρ)

/-- The loss, and the gradient back through the last normalization. -/
theorem algebraic16 : Cert.algebraic_Kernel16Ideal_Reference16Ideal_pre_finite_target := by
  intro m g m' g' hpre hag
  refine ⟨fun c => (Cert.Kernel16Ideal.Gen.dats m 0 c).arrAt 8 Cert.Kernel16Ideal.cfg0.N, fun c => (Cert.Kernel16Ideal.Gen.dats m 0 c).arrAt 9 Cert.Kernel16Ideal.cfg0.N, fun c => (Cert.Kernel16Ideal.Gen.dats m 0 c).arrAt 10 Cert.Kernel16Ideal.cfg0.N, fun c => (Cert.Kernel16Ideal.Gen.dats m 0 c).arrAt 11 Cert.Kernel16Ideal.cfg0.N, fun c => (Cert.Kernel16Ideal.Gen.dats m 0 c).arrAt 12 Cert.Kernel16Ideal.cfg0.N, fun c => (Cert.Kernel16Ideal.Gen.dats m 0 c).arrAt 13 Cert.Kernel16Ideal.cfg0.N, Cert.Kernel16Ideal.Value.run_blocks m g,
    (θ_run _ _ _).mono (fun r h c => ?_) (Cert.Reference16Ideal.Value.run (F := Ideal) m' g')⟩
  obtain ⟨h0, h1, h2, h3, h4, h5, h6, h7⟩ := hag c
  obtain ⟨f0, f1, f2⟩ := hpre c
  refine ⟨(h c).1.trans ((Cert.Reference16Ideal.Read.val_main_v87_eq (StableHlo.launchContents m' c)).trans ?_), (h c).2.1.trans ((Cert.Reference16Ideal.Read.val_main_v91_eq (StableHlo.launchContents m' c)).trans ?_), (h c).2.2.1.trans ((Cert.Reference16Ideal.Read.val_main_v92_eq (StableHlo.launchContents m' c)).trans ?_), (h c).2.2.2.1.trans ((Cert.Reference16Ideal.Read.val_main_v93_eq (StableHlo.launchContents m' c)).trans ?_), (h c).2.2.2.2.1.trans ((Cert.Reference16Ideal.Read.val_main_v94_eq (StableHlo.launchContents m' c)).trans ?_), (h c).2.2.2.2.2.1.trans ((Cert.Reference16Ideal.Read.val_main_v95_eq (StableHlo.launchContents m' c)).trans ?_), (h c).2.2.2.2.2.2⟩
  · show Cert.Reference16Ideal.Read.val_main_v87 (F := Ideal) (m' ((c.tc : Thread Cert.Reference16Ideal.nD Cert.Reference16Ideal.τ).loc Cert.Reference16Ideal.main_arg0)) (m' ((c.tc : Thread Cert.Reference16Ideal.nD Cert.Reference16Ideal.τ).loc Cert.Reference16Ideal.main_arg1)) (m' ((c.tc : Thread Cert.Reference16Ideal.nD Cert.Reference16Ideal.τ).loc Cert.Reference16Ideal.main_arg2)) (m' ((c.tc : Thread Cert.Reference16Ideal.nD Cert.Reference16Ideal.τ).loc Cert.Reference16Ideal.main_arg3)) (m' ((c.tc : Thread Cert.Reference16Ideal.nD Cert.Reference16Ideal.τ).loc Cert.Reference16Ideal.main_arg4)) (m' ((c.tc : Thread Cert.Reference16Ideal.nD Cert.Reference16Ideal.τ).loc Cert.Reference16Ideal.main_arg5)) (m' ((c.tc : Thread Cert.Reference16Ideal.nD Cert.Reference16Ideal.τ).loc Cert.Reference16Ideal.main_arg6)) (m' ((c.tc : Thread Cert.Reference16Ideal.nD Cert.Reference16Ideal.τ).loc Cert.Reference16Ideal.main_arg7)) = _
    rw [h0, h1, h2, h3, h4, h5, h6, h7]
    refine (Cert.Reference16Ideal.Read.dsum_eq (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4)) (m ((c.tc : Thread Cert.Kernel16Ideal.nD Cert.Kernel16Ideal.τ).loc Cert.Kernel16Ideal.main_arg5)) (m ((c.tc : Thread Cert.Kernel16Ideal.nD Cert.Kernel16Ideal.τ).loc Cert.Kernel16Ideal.main_arg6)) (m ((c.tc : Thread Cert.Kernel16Ideal.nD Cert.Kernel16Ideal.τ).loc Cert.Kernel16Ideal.main_arg7)) (Cert.Pre_finite_target.finite_scale f0) (Cert.Pre_finite_target.finite_shift f1) (Cert.Pre_finite_target.finite_target f2)).trans ?_
    rw [← Cert.Kernel16Ideal.Gen.pts_eq m c]
    exact (Cert.Kernel16Ideal.Gen.arr8 m c).symm
  · show Cert.Reference16Ideal.Read.val_main_v91 (F := Ideal) (m' ((c.tc : Thread Cert.Reference16Ideal.nD Cert.Reference16Ideal.τ).loc Cert.Reference16Ideal.main_arg0)) (m' ((c.tc : Thread Cert.Reference16Ideal.nD Cert.Reference16Ideal.τ).loc Cert.Reference16Ideal.main_arg1)) (m' ((c.tc : Thread Cert.Reference16Ideal.nD Cert.Reference16Ideal.τ).loc Cert.Reference16Ideal.main_arg2)) (m' ((c.tc : Thread Cert.Reference16Ideal.nD Cert.Reference16Ideal.τ).loc Cert.Reference16Ideal.main_arg3)) (m' ((c.tc : Thread Cert.Reference16Ideal.nD Cert.Reference16Ideal.τ).loc Cert.Reference16Ideal.main_arg4)) (m' ((c.tc : Thread Cert.Reference16Ideal.nD Cert.Reference16Ideal.τ).loc Cert.Reference16Ideal.main_arg5)) (m' ((c.tc : Thread Cert.Reference16Ideal.nD Cert.Reference16Ideal.τ).loc Cert.Reference16Ideal.main_arg6)) (m' ((c.tc : Thread Cert.Reference16Ideal.nD Cert.Reference16Ideal.τ).loc Cert.Reference16Ideal.main_arg7)) = _
    rw [h0, h1, h2, h3, h4, h5, h6, h7]
    refine (Cert.Reference16Ideal.Read.dsumH_eq (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4)) (m ((c.tc : Thread Cert.Kernel16Ideal.nD Cert.Kernel16Ideal.τ).loc Cert.Kernel16Ideal.main_arg5)) (m ((c.tc : Thread Cert.Kernel16Ideal.nD Cert.Kernel16Ideal.τ).loc Cert.Kernel16Ideal.main_arg6)) (m ((c.tc : Thread Cert.Kernel16Ideal.nD Cert.Kernel16Ideal.τ).loc Cert.Kernel16Ideal.main_arg7)) (Cert.Pre_finite_target.finite_scale f0) (Cert.Pre_finite_target.finite_shift f1) (Cert.Pre_finite_target.finite_target f2)).trans ?_
    rw [← Cert.Kernel16Ideal.Gen.pts_eq m c]
    exact (Cert.Kernel16Ideal.Gen.arr9 m c).symm
  · show Cert.Reference16Ideal.Read.val_main_v92 (F := Ideal) (m' ((c.tc : Thread Cert.Reference16Ideal.nD Cert.Reference16Ideal.τ).loc Cert.Reference16Ideal.main_arg0)) (m' ((c.tc : Thread Cert.Reference16Ideal.nD Cert.Reference16Ideal.τ).loc Cert.Reference16Ideal.main_arg1)) (m' ((c.tc : Thread Cert.Reference16Ideal.nD Cert.Reference16Ideal.τ).loc Cert.Reference16Ideal.main_arg2)) (m' ((c.tc : Thread Cert.Reference16Ideal.nD Cert.Reference16Ideal.τ).loc Cert.Reference16Ideal.main_arg3)) (m' ((c.tc : Thread Cert.Reference16Ideal.nD Cert.Reference16Ideal.τ).loc Cert.Reference16Ideal.main_arg4)) (m' ((c.tc : Thread Cert.Reference16Ideal.nD Cert.Reference16Ideal.τ).loc Cert.Reference16Ideal.main_arg5)) (m' ((c.tc : Thread Cert.Reference16Ideal.nD Cert.Reference16Ideal.τ).loc Cert.Reference16Ideal.main_arg6)) (m' ((c.tc : Thread Cert.Reference16Ideal.nD Cert.Reference16Ideal.τ).loc Cert.Reference16Ideal.main_arg7)) = _
    rw [h0, h1, h2, h3, h4, h5, h6, h7]
    refine (Cert.Reference16Ideal.Read.scale_eq (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4)) (m ((c.tc : Thread Cert.Kernel16Ideal.nD Cert.Kernel16Ideal.τ).loc Cert.Kernel16Ideal.main_arg5)) (m ((c.tc : Thread Cert.Kernel16Ideal.nD Cert.Kernel16Ideal.τ).loc Cert.Kernel16Ideal.main_arg6)) (m ((c.tc : Thread Cert.Kernel16Ideal.nD Cert.Kernel16Ideal.τ).loc Cert.Kernel16Ideal.main_arg7)) ).trans ?_
    rw [← Cert.Kernel16Ideal.Gen.pts_eq m c]
    exact (Cert.Kernel16Ideal.Gen.arr10 m c).symm
  · show Cert.Reference16Ideal.Read.val_main_v93 (F := Ideal) (m' ((c.tc : Thread Cert.Reference16Ideal.nD Cert.Reference16Ideal.τ).loc Cert.Reference16Ideal.main_arg0)) (m' ((c.tc : Thread Cert.Reference16Ideal.nD Cert.Reference16Ideal.τ).loc Cert.Reference16Ideal.main_arg1)) (m' ((c.tc : Thread Cert.Reference16Ideal.nD Cert.Reference16Ideal.τ).loc Cert.Reference16Ideal.main_arg2)) (m' ((c.tc : Thread Cert.Reference16Ideal.nD Cert.Reference16Ideal.τ).loc Cert.Reference16Ideal.main_arg3)) (m' ((c.tc : Thread Cert.Reference16Ideal.nD Cert.Reference16Ideal.τ).loc Cert.Reference16Ideal.main_arg4)) (m' ((c.tc : Thread Cert.Reference16Ideal.nD Cert.Reference16Ideal.τ).loc Cert.Reference16Ideal.main_arg5)) (m' ((c.tc : Thread Cert.Reference16Ideal.nD Cert.Reference16Ideal.τ).loc Cert.Reference16Ideal.main_arg6)) (m' ((c.tc : Thread Cert.Reference16Ideal.nD Cert.Reference16Ideal.τ).loc Cert.Reference16Ideal.main_arg7)) = _
    rw [h0, h1, h2, h3, h4, h5, h6, h7]
    refine (Cert.Reference16Ideal.Read.shift_eq (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4)) (m ((c.tc : Thread Cert.Kernel16Ideal.nD Cert.Kernel16Ideal.τ).loc Cert.Kernel16Ideal.main_arg5)) (m ((c.tc : Thread Cert.Kernel16Ideal.nD Cert.Kernel16Ideal.τ).loc Cert.Kernel16Ideal.main_arg6)) (m ((c.tc : Thread Cert.Kernel16Ideal.nD Cert.Kernel16Ideal.τ).loc Cert.Kernel16Ideal.main_arg7)) ).trans ?_
    rw [← Cert.Kernel16Ideal.Gen.pts_eq m c]
    exact (Cert.Kernel16Ideal.Gen.arr11 m c).symm
  · show Cert.Reference16Ideal.Read.val_main_v94 (F := Ideal) (m' ((c.tc : Thread Cert.Reference16Ideal.nD Cert.Reference16Ideal.τ).loc Cert.Reference16Ideal.main_arg0)) (m' ((c.tc : Thread Cert.Reference16Ideal.nD Cert.Reference16Ideal.τ).loc Cert.Reference16Ideal.main_arg1)) (m' ((c.tc : Thread Cert.Reference16Ideal.nD Cert.Reference16Ideal.τ).loc Cert.Reference16Ideal.main_arg2)) (m' ((c.tc : Thread Cert.Reference16Ideal.nD Cert.Reference16Ideal.τ).loc Cert.Reference16Ideal.main_arg3)) (m' ((c.tc : Thread Cert.Reference16Ideal.nD Cert.Reference16Ideal.τ).loc Cert.Reference16Ideal.main_arg4)) (m' ((c.tc : Thread Cert.Reference16Ideal.nD Cert.Reference16Ideal.τ).loc Cert.Reference16Ideal.main_arg5)) (m' ((c.tc : Thread Cert.Reference16Ideal.nD Cert.Reference16Ideal.τ).loc Cert.Reference16Ideal.main_arg6)) (m' ((c.tc : Thread Cert.Reference16Ideal.nD Cert.Reference16Ideal.τ).loc Cert.Reference16Ideal.main_arg7)) = _
    rw [h0, h1, h2, h3, h4, h5, h6, h7]
    refine (Cert.Reference16Ideal.Read.bias_eq (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4)) (m ((c.tc : Thread Cert.Kernel16Ideal.nD Cert.Kernel16Ideal.τ).loc Cert.Kernel16Ideal.main_arg5)) (m ((c.tc : Thread Cert.Kernel16Ideal.nD Cert.Kernel16Ideal.τ).loc Cert.Kernel16Ideal.main_arg6)) (m ((c.tc : Thread Cert.Kernel16Ideal.nD Cert.Kernel16Ideal.τ).loc Cert.Kernel16Ideal.main_arg7)) (Cert.Pre_finite_target.finite_scale f0) (Cert.Pre_finite_target.finite_shift f1) (Cert.Pre_finite_target.finite_target f2)).trans ?_
    rw [← Cert.Kernel16Ideal.Gen.pts_eq m c]
    exact (Cert.Kernel16Ideal.Gen.arr12 m c).symm
  · show Cert.Reference16Ideal.Read.val_main_v95 (F := Ideal) (m' ((c.tc : Thread Cert.Reference16Ideal.nD Cert.Reference16Ideal.τ).loc Cert.Reference16Ideal.main_arg0)) (m' ((c.tc : Thread Cert.Reference16Ideal.nD Cert.Reference16Ideal.τ).loc Cert.Reference16Ideal.main_arg1)) (m' ((c.tc : Thread Cert.Reference16Ideal.nD Cert.Reference16Ideal.τ).loc Cert.Reference16Ideal.main_arg2)) (m' ((c.tc : Thread Cert.Reference16Ideal.nD Cert.Reference16Ideal.τ).loc Cert.Reference16Ideal.main_arg3)) (m' ((c.tc : Thread Cert.Reference16Ideal.nD Cert.Reference16Ideal.τ).loc Cert.Reference16Ideal.main_arg4)) (m' ((c.tc : Thread Cert.Reference16Ideal.nD Cert.Reference16Ideal.τ).loc Cert.Reference16Ideal.main_arg5)) (m' ((c.tc : Thread Cert.Reference16Ideal.nD Cert.Reference16Ideal.τ).loc Cert.Reference16Ideal.main_arg6)) (m' ((c.tc : Thread Cert.Reference16Ideal.nD Cert.Reference16Ideal.τ).loc Cert.Reference16Ideal.main_arg7)) = _
    rw [h0, h1, h2, h3, h4, h5, h6, h7]
    refine (Cert.Reference16Ideal.Read.loss_eq (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4)) (m ((c.tc : Thread Cert.Kernel16Ideal.nD Cert.Kernel16Ideal.τ).loc Cert.Kernel16Ideal.main_arg5)) (m ((c.tc : Thread Cert.Kernel16Ideal.nD Cert.Kernel16Ideal.τ).loc Cert.Kernel16Ideal.main_arg6)) (m ((c.tc : Thread Cert.Kernel16Ideal.nD Cert.Kernel16Ideal.τ).loc Cert.Kernel16Ideal.main_arg7)) ).trans ?_
    rw [← Cert.Kernel16Ideal.Gen.pts_eq m c]
    exact (Cert.Kernel16Ideal.Gen.arr13 m c).symm

/-- Every claim: of the pooling's backward call first, then of the others in the order of the programs. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Pre_finite_cotangent.facts, Cert.Pre_finite_gradient.facts, Cert.Pre_finite_target.facts,
  fun m ρ _ => Cert.Kernel.Gen.frame m ρ, frame_kernel, fun m ρ _ => frame_kernel m ρ trivial,
  frame_reference, fun m ρ _ => frame_reference m ρ trivial,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel10.Gen.frame m ρ, fun m ρ _ => Cert.Kernel10Ideal.Gen.frame m ρ, frame_reference10,
  fun m ρ _ => Cert.Kernel11.Gen.frame m ρ, fun m ρ _ => Cert.Kernel11Ideal.Gen.frame m ρ, frame_reference11,
  fun m ρ _ => Cert.Kernel12.Gen.frame m ρ, fun m ρ _ => Cert.Kernel12Ideal.Gen.frame m ρ, frame_reference12,
  fun m ρ _ => Cert.Kernel13.Gen.frame m ρ, fun m ρ _ => Cert.Kernel13Ideal.Gen.frame m ρ, frame_reference13,
  fun m ρ _ => Cert.Kernel14.Gen.frame m ρ, fun m ρ _ => Cert.Kernel14Ideal.Gen.frame m ρ, frame_reference14,
  fun m ρ _ => Cert.Kernel15.Gen.frame m ρ, fun m ρ _ => Cert.Kernel15Ideal.Gen.frame m ρ, fun m ρ _ => Cert.Kernel15Ideal.Gen.frame m ρ, frame_reference15, fun m ρ _ => frame_reference15 m ρ trivial,
  fun m ρ _ => Cert.Kernel16.Gen.frame m ρ, fun m ρ _ => Cert.Kernel16Ideal.Gen.frame m ρ, fun m ρ _ => Cert.Kernel16Ideal.Gen.frame m ρ, frame_reference16, fun m ρ _ => frame_reference16 m ρ trivial,
  trivial, algebraic, trivial, algebraic2, trivial, algebraic3, trivial, algebraic4, trivial, algebraic5, trivial, algebraic6, trivial, algebraic7, trivial, algebraic8, trivial, algebraic10, trivial, algebraic11, trivial, algebraic12, trivial, algebraic13, trivial, algebraic14, trivial, algebraic15, trivial, algebraic16⟩

end Cert.Proof

end
